-- ==== Defs.lean ====
def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5))).1 = (fun _ => 1#1)
    ∧ (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5))).2.1 = (fun _ => 1#1)
    ∧ (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5))).2.2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5))).1 = (fun _ => 1#1)
    ∧ (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5))).2.1 = (fun _ => 1#1)
    ∧ (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5))).2.2 = (fun _ => 1#1)

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnARefIdeal (m : (ℓ : Loc Cert.FfnARefIdeal.nD Cert.FfnARefIdeal.τ Cert.FfnARefIdeal.sig) → Buf (Elt Ideal) ℓ) : Prop :=
  True

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBRefIdeal (m : (ℓ : Loc Cert.FfnBRefIdeal.nD Cert.FfnBRefIdeal.τ Cert.FfnBRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9))).1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9))).2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9))).2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9))).2.2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9))).2.2.2.2.1 = (fun _ => 1#1)
    ∧ (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5)) (m ((c.tc : Thread Cert.MlaIdeal.nD Cert.MlaIdeal.τ).loc Cert.MlaIdeal.main_arg6)) (m ((c.tc : Thread Cert.MlaIdeal.nD Cert.MlaIdeal.τ).loc Cert.MlaIdeal.main_arg7)) (m ((c.tc : Thread Cert.MlaIdeal.nD Cert.MlaIdeal.τ).loc Cert.MlaIdeal.main_arg8)) (m ((c.tc : Thread Cert.MlaIdeal.nD Cert.MlaIdeal.τ).loc Cert.MlaIdeal.main_arg9))).2.2.2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9))).2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9))).2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9))).2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9))).2.2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9))).2.2.2.2.2 = (fun _ => 1#1)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4)
      ∧ r.2.mem ((c.tc : Thread Cert.Gqa.nD Cert.Gqa.τ).loc Cert.Gqa.main_arg5) = m ((c.tc : Thread Cert.Gqa.nD Cert.Gqa.τ).loc Cert.Gqa.main_arg5))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
      ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
      ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4)
      ∧ r.2.mem ((c.tc : Thread Cert.GqaRefIdeal.nD Cert.GqaRefIdeal.τ).loc Cert.GqaRefIdeal.main_arg5) = m ((c.tc : Thread Cert.GqaRefIdeal.nD Cert.GqaRefIdeal.τ).loc Cert.GqaRefIdeal.main_arg5))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4)
      ∧ r.2.mem ((c.tc : Thread Cert.GqaRefIdeal.nD Cert.GqaRefIdeal.τ).loc Cert.GqaRefIdeal.main_arg5) = m ((c.tc : Thread Cert.GqaRefIdeal.nD Cert.GqaRefIdeal.τ).loc Cert.GqaRefIdeal.main_arg5))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5)
      ∧ r.2.mem ((c.tc : Thread Cert.FfnLast.nD Cert.FfnLast.τ).loc Cert.FfnLast.main_arg6) = m ((c.tc : Thread Cert.FfnLast.nD Cert.FfnLast.τ).loc Cert.FfnLast.main_arg6)
      ∧ r.2.mem ((c.tc : Thread Cert.FfnLast.nD Cert.FfnLast.τ).loc Cert.FfnLast.main_arg7) = m ((c.tc : Thread Cert.FfnLast.nD Cert.FfnLast.τ).loc Cert.FfnLast.main_arg7)
      ∧ r.2.mem ((c.tc : Thread Cert.FfnLast.nD Cert.FfnLast.τ).loc Cert.FfnLast.main_arg8) = m ((c.tc : Thread Cert.FfnLast.nD Cert.FfnLast.τ).loc Cert.FfnLast.main_arg8))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)
      ∧ r.2.mem ((c.tc : Thread Cert.FfnLastIdeal.nD Cert.FfnLastIdeal.τ).loc Cert.FfnLastIdeal.main_arg6) = m ((c.tc : Thread Cert.FfnLastIdeal.nD Cert.FfnLastIdeal.τ).loc Cert.FfnLastIdeal.main_arg6)
      ∧ r.2.mem ((c.tc : Thread Cert.FfnLastIdeal.nD Cert.FfnLastIdeal.τ).loc Cert.FfnLastIdeal.main_arg7) = m ((c.tc : Thread Cert.FfnLastIdeal.nD Cert.FfnLastIdeal.τ).loc Cert.FfnLastIdeal.main_arg7)
      ∧ r.2.mem ((c.tc : Thread Cert.FfnLastIdeal.nD Cert.FfnLastIdeal.τ).loc Cert.FfnLastIdeal.main_arg8) = m ((c.tc : Thread Cert.FfnLastIdeal.nD Cert.FfnLastIdeal.τ).loc Cert.FfnLastIdeal.main_arg8))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5)
      ∧ r.2.mem ((c.tc : Thread Cert.FfnLastRefIdeal.nD Cert.FfnLastRefIdeal.τ).loc Cert.FfnLastRefIdeal.main_arg6) = m ((c.tc : Thread Cert.FfnLastRefIdeal.nD Cert.FfnLastRefIdeal.τ).loc Cert.FfnLastRefIdeal.main_arg6)
      ∧ r.2.mem ((c.tc : Thread Cert.FfnLastRefIdeal.nD Cert.FfnLastRefIdeal.τ).loc Cert.FfnLastRefIdeal.main_arg7) = m ((c.tc : Thread Cert.FfnLastRefIdeal.nD Cert.FfnLastRefIdeal.τ).loc Cert.FfnLastRefIdeal.main_arg7)
      ∧ r.2.mem ((c.tc : Thread Cert.FfnLastRefIdeal.nD Cert.FfnLastRefIdeal.τ).loc Cert.FfnLastRefIdeal.main_arg8) = m ((c.tc : Thread Cert.FfnLastRefIdeal.nD Cert.FfnLastRefIdeal.τ).loc Cert.FfnLastRefIdeal.main_arg8))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3)
      ∧ r.2.mem ((c.tc : Thread Cert.FfnA.nD Cert.FfnA.τ).loc Cert.FfnA.main_arg4) = m ((c.tc : Thread Cert.FfnA.nD Cert.FfnA.τ).loc Cert.FfnA.main_arg4)
      ∧ r.2.mem ((c.tc : Thread Cert.FfnA.nD Cert.FfnA.τ).loc Cert.FfnA.main_arg5) = m ((c.tc : Thread Cert.FfnA.nD Cert.FfnA.τ).loc Cert.FfnA.main_arg5)
      ∧ r.2.mem ((c.tc : Thread Cert.FfnA.nD Cert.FfnA.τ).loc Cert.FfnA.main_arg6) = m ((c.tc : Thread Cert.FfnA.nD Cert.FfnA.τ).loc Cert.FfnA.main_arg6))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
      ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
      ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3)
      ∧ r.2.mem ((c.tc : Thread Cert.FfnARefIdeal.nD Cert.FfnARefIdeal.τ).loc Cert.FfnARefIdeal.main_arg4) = m ((c.tc : Thread Cert.FfnARefIdeal.nD Cert.FfnARefIdeal.τ).loc Cert.FfnARefIdeal.main_arg4)
      ∧ r.2.mem ((c.tc : Thread Cert.FfnARefIdeal.nD Cert.FfnARefIdeal.τ).loc Cert.FfnARefIdeal.main_arg5) = m ((c.tc : Thread Cert.FfnARefIdeal.nD Cert.FfnARefIdeal.τ).loc Cert.FfnARefIdeal.main_arg5)
      ∧ r.2.mem ((c.tc : Thread Cert.FfnARefIdeal.nD Cert.FfnARefIdeal.τ).loc Cert.FfnARefIdeal.main_arg6) = m ((c.tc : Thread Cert.FfnARefIdeal.nD Cert.FfnARefIdeal.τ).loc Cert.FfnARefIdeal.main_arg6))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4)
      ∧ r.2.mem ((c.tc : Thread Cert.FfnB.nD Cert.FfnB.τ).loc Cert.FfnB.main_arg5) = m ((c.tc : Thread Cert.FfnB.nD Cert.FfnB.τ).loc Cert.FfnB.main_arg5)
      ∧ r.2.mem ((c.tc : Thread Cert.FfnB.nD Cert.FfnB.τ).loc Cert.FfnB.main_arg6) = m ((c.tc : Thread Cert.FfnB.nD Cert.FfnB.τ).loc Cert.FfnB.main_arg6)
      ∧ r.2.mem ((c.tc : Thread Cert.FfnB.nD Cert.FfnB.τ).loc Cert.FfnB.main_arg7) = m ((c.tc : Thread Cert.FfnB.nD Cert.FfnB.τ).loc Cert.FfnB.main_arg7)
      ∧ r.2.mem ((c.tc : Thread Cert.FfnB.nD Cert.FfnB.τ).loc Cert.FfnB.main_arg8) = m ((c.tc : Thread Cert.FfnB.nD Cert.FfnB.τ).loc Cert.FfnB.main_arg8)
      ∧ r.2.mem ((c.tc : Thread Cert.FfnB.nD Cert.FfnB.τ).loc Cert.FfnB.main_arg9) = m ((c.tc : Thread Cert.FfnB.nD Cert.FfnB.τ).loc Cert.FfnB.main_arg9))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
      ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6)
      ∧ r.2.mem ((c.tc : Thread Cert.FfnBIdeal.nD Cert.FfnBIdeal.τ).loc Cert.FfnBIdeal.main_arg7) = m ((c.tc : Thread Cert.FfnBIdeal.nD Cert.FfnBIdeal.τ).loc Cert.FfnBIdeal.main_arg7)
      ∧ r.2.mem ((c.tc : Thread Cert.FfnBIdeal.nD Cert.FfnBIdeal.τ).loc Cert.FfnBIdeal.main_arg8) = m ((c.tc : Thread Cert.FfnBIdeal.nD Cert.FfnBIdeal.τ).loc Cert.FfnBIdeal.main_arg8)
      ∧ r.2.mem ((c.tc : Thread Cert.FfnBIdeal.nD Cert.FfnBIdeal.τ).loc Cert.FfnBIdeal.main_arg9) = m ((c.tc : Thread Cert.FfnBIdeal.nD Cert.FfnBIdeal.τ).loc Cert.FfnBIdeal.main_arg9))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5)
      ∧ r.2.mem ((c.tc : Thread Cert.FfnBRefIdeal.nD Cert.FfnBRefIdeal.τ).loc Cert.FfnBRefIdeal.main_arg6) = m ((c.tc : Thread Cert.FfnBRefIdeal.nD Cert.FfnBRefIdeal.τ).loc Cert.FfnBRefIdeal.main_arg6)
      ∧ r.2.mem ((c.tc : Thread Cert.FfnBRefIdeal.nD Cert.FfnBRefIdeal.τ).loc Cert.FfnBRefIdeal.main_arg7) = m ((c.tc : Thread Cert.FfnBRefIdeal.nD Cert.FfnBRefIdeal.τ).loc Cert.FfnBRefIdeal.main_arg7)
      ∧ r.2.mem ((c.tc : Thread Cert.FfnBRefIdeal.nD Cert.FfnBRefIdeal.τ).loc Cert.FfnBRefIdeal.main_arg8) = m ((c.tc : Thread Cert.FfnBRefIdeal.nD Cert.FfnBRefIdeal.τ).loc Cert.FfnBRefIdeal.main_arg8)
      ∧ r.2.mem ((c.tc : Thread Cert.FfnBRefIdeal.nD Cert.FfnBRefIdeal.τ).loc Cert.FfnBRefIdeal.main_arg9) = m ((c.tc : Thread Cert.FfnBRefIdeal.nD Cert.FfnBRefIdeal.τ).loc Cert.FfnBRefIdeal.main_arg9))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5)
      ∧ r.2.mem ((c.tc : Thread Cert.FfnFirst.nD Cert.FfnFirst.τ).loc Cert.FfnFirst.main_arg6) = m ((c.tc : Thread Cert.FfnFirst.nD Cert.FfnFirst.τ).loc Cert.FfnFirst.main_arg6))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
      ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5)
      ∧ r.2.mem ((c.tc : Thread Cert.FfnFirstRefIdeal.nD Cert.FfnFirstRefIdeal.τ).loc Cert.FfnFirstRefIdeal.main_arg6) = m ((c.tc : Thread Cert.FfnFirstRefIdeal.nD Cert.FfnFirstRefIdeal.τ).loc Cert.FfnFirstRefIdeal.main_arg6))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5)
      ∧ r.2.mem ((c.tc : Thread Cert.Mla.nD Cert.Mla.τ).loc Cert.Mla.main_arg6) = m ((c.tc : Thread Cert.Mla.nD Cert.Mla.τ).loc Cert.Mla.main_arg6)
      ∧ r.2.mem ((c.tc : Thread Cert.Mla.nD Cert.Mla.τ).loc Cert.Mla.main_arg7) = m ((c.tc : Thread Cert.Mla.nD Cert.Mla.τ).loc Cert.Mla.main_arg7)
      ∧ r.2.mem ((c.tc : Thread Cert.Mla.nD Cert.Mla.τ).loc Cert.Mla.main_arg8) = m ((c.tc : Thread Cert.Mla.nD Cert.Mla.τ).loc Cert.Mla.main_arg8)
      ∧ r.2.mem ((c.tc : Thread Cert.Mla.nD Cert.Mla.τ).loc Cert.Mla.main_arg9) = m ((c.tc : Thread Cert.Mla.nD Cert.Mla.τ).loc Cert.Mla.main_arg9))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
      ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
      ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
      ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
      ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9))
      ∧ r.2.sem = fun _ => 0)

def preserves_Gqa_GqaIdeal : Prop :=
  IdealRules.named_const.Statement Cert.GqaIdeal.κ "qscale" .f32 0x3E0293EE#32 (((11863283 / 134217728) * (Real.log 2)⁻¹ : ℝ) : EReal)

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)
      ∧ m' ((c.tc : Thread Cert.GqaRefIdeal.nD Cert.GqaRefIdeal.τ).loc Cert.GqaRefIdeal.main_arg5) = m ((c.tc : Thread Cert.GqaIdeal.nD Cert.GqaIdeal.τ).loc Cert.GqaIdeal.main_arg5)) →
    ∃ (v0 : (c : Dev Cert.GqaIdeal.nD) → Buf (Elt Ideal) ((c.tc : Thread Cert.GqaIdeal.nD Cert.GqaIdeal.τ).loc Cert.GqaIdeal.main_v17)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v17) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
          ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v22) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4)
          ∧ r.2.mem ((c.tc : Thread Cert.GqaRefIdeal.nD Cert.GqaRefIdeal.τ).loc Cert.GqaRefIdeal.main_arg5) = m' ((c.tc : Thread Cert.GqaRefIdeal.nD Cert.GqaRefIdeal.τ).loc Cert.GqaRefIdeal.main_arg5))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)
      ∧ m' ((c.tc : Thread Cert.FfnLastRefIdeal.nD Cert.FfnLastRefIdeal.τ).loc Cert.FfnLastRefIdeal.main_arg6) = m ((c.tc : Thread Cert.FfnLastIdeal.nD Cert.FfnLastIdeal.τ).loc Cert.FfnLastIdeal.main_arg6)
      ∧ m' ((c.tc : Thread Cert.FfnLastRefIdeal.nD Cert.FfnLastRefIdeal.τ).loc Cert.FfnLastRefIdeal.main_arg7) = m ((c.tc : Thread Cert.FfnLastIdeal.nD Cert.FfnLastIdeal.τ).loc Cert.FfnLastIdeal.main_arg7)
      ∧ m' ((c.tc : Thread Cert.FfnLastRefIdeal.nD Cert.FfnLastRefIdeal.τ).loc Cert.FfnLastRefIdeal.main_arg8) = m ((c.tc : Thread Cert.FfnLastIdeal.nD Cert.FfnLastIdeal.τ).loc Cert.FfnLastIdeal.main_arg8)) →
    ∃ (v0 : (c : Dev Cert.FfnLastIdeal.nD) → Buf (Elt Ideal) ((c.tc : Thread Cert.FfnLastIdeal.nD Cert.FfnLastIdeal.τ).loc Cert.FfnLastIdeal.main_v16)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v16) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)
          ∧ r.2.mem ((c.tc : Thread Cert.FfnLastIdeal.nD Cert.FfnLastIdeal.τ).loc Cert.FfnLastIdeal.main_arg6) = m ((c.tc : Thread Cert.FfnLastIdeal.nD Cert.FfnLastIdeal.τ).loc Cert.FfnLastIdeal.main_arg6)
          ∧ r.2.mem ((c.tc : Thread Cert.FfnLastIdeal.nD Cert.FfnLastIdeal.τ).loc Cert.FfnLastIdeal.main_arg7) = m ((c.tc : Thread Cert.FfnLastIdeal.nD Cert.FfnLastIdeal.τ).loc Cert.FfnLastIdeal.main_arg7)
          ∧ r.2.mem ((c.tc : Thread Cert.FfnLastIdeal.nD Cert.FfnLastIdeal.τ).loc Cert.FfnLastIdeal.main_arg8) = m ((c.tc : Thread Cert.FfnLastIdeal.nD Cert.FfnLastIdeal.τ).loc Cert.FfnLastIdeal.main_arg8))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v81) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5)
          ∧ r.2.mem ((c.tc : Thread Cert.FfnLastRefIdeal.nD Cert.FfnLastRefIdeal.τ).loc Cert.FfnLastRefIdeal.main_arg6) = m' ((c.tc : Thread Cert.FfnLastRefIdeal.nD Cert.FfnLastRefIdeal.τ).loc Cert.FfnLastRefIdeal.main_arg6)
          ∧ r.2.mem ((c.tc : Thread Cert.FfnLastRefIdeal.nD Cert.FfnLastRefIdeal.τ).loc Cert.FfnLastRefIdeal.main_arg7) = m' ((c.tc : Thread Cert.FfnLastRefIdeal.nD Cert.FfnLastRefIdeal.τ).loc Cert.FfnLastRefIdeal.main_arg7)
          ∧ r.2.mem ((c.tc : Thread Cert.FfnLastRefIdeal.nD Cert.FfnLastRefIdeal.τ).loc Cert.FfnLastRefIdeal.main_arg8) = m' ((c.tc : Thread Cert.FfnLastRefIdeal.nD Cert.FfnLastRefIdeal.τ).loc Cert.FfnLastRefIdeal.main_arg8))

def preserves_FfnA_FfnAIdeal : Prop :=
  True

def algebraic_FfnAIdeal_FfnARefIdeal [hFfnAIdeal : Cert.FfnAIdeal.Facts] [hFfnARefIdeal : Cert.FfnARefIdeal.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)
      ∧ m' ((c.tc : Thread Cert.FfnARefIdeal.nD Cert.FfnARefIdeal.τ).loc Cert.FfnARefIdeal.main_arg3) = m ((c.tc : Thread Cert.FfnAIdeal.nD Cert.FfnAIdeal.τ).loc Cert.FfnAIdeal.main_arg3)
      ∧ m' ((c.tc : Thread Cert.FfnARefIdeal.nD Cert.FfnARefIdeal.τ).loc Cert.FfnARefIdeal.main_arg4) = m ((c.tc : Thread Cert.FfnAIdeal.nD Cert.FfnAIdeal.τ).loc Cert.FfnAIdeal.main_arg4)
      ∧ m' ((c.tc : Thread Cert.FfnARefIdeal.nD Cert.FfnARefIdeal.τ).loc Cert.FfnARefIdeal.main_arg5) = m ((c.tc : Thread Cert.FfnAIdeal.nD Cert.FfnAIdeal.τ).loc Cert.FfnAIdeal.main_arg5)
      ∧ m' ((c.tc : Thread Cert.FfnARefIdeal.nD Cert.FfnARefIdeal.τ).loc Cert.FfnARefIdeal.main_arg6) = m ((c.tc : Thread Cert.FfnAIdeal.nD Cert.FfnAIdeal.τ).loc Cert.FfnAIdeal.main_arg6)) →
    ∃ (v0 : (c : Dev Cert.FfnAIdeal.nD) → Buf (Elt Ideal) ((c.tc : Thread Cert.FfnAIdeal.nD Cert.FfnAIdeal.τ).loc Cert.FfnAIdeal.main_v12)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v12) = v0 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
          ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4)
          ∧ r.2.mem ((c.tc : Thread Cert.FfnAIdeal.nD Cert.FfnAIdeal.τ).loc Cert.FfnAIdeal.main_arg5) = m ((c.tc : Thread Cert.FfnAIdeal.nD Cert.FfnAIdeal.τ).loc Cert.FfnAIdeal.main_arg5)
          ∧ r.2.mem ((c.tc : Thread Cert.FfnAIdeal.nD Cert.FfnAIdeal.τ).loc Cert.FfnAIdeal.main_arg6) = m ((c.tc : Thread Cert.FfnAIdeal.nD Cert.FfnAIdeal.τ).loc Cert.FfnAIdeal.main_arg6))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v121) = v0 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2)
          ∧ r.2.mem ((c.tc : Thread Cert.FfnARefIdeal.nD Cert.FfnARefIdeal.τ).loc Cert.FfnARefIdeal.main_arg3) = m' ((c.tc : Thread Cert.FfnARefIdeal.nD Cert.FfnARefIdeal.τ).loc Cert.FfnARefIdeal.main_arg3)
          ∧ r.2.mem ((c.tc : Thread Cert.FfnARefIdeal.nD Cert.FfnARefIdeal.τ).loc Cert.FfnARefIdeal.main_arg4) = m' ((c.tc : Thread Cert.FfnARefIdeal.nD Cert.FfnARefIdeal.τ).loc Cert.FfnARefIdeal.main_arg4)
          ∧ r.2.mem ((c.tc : Thread Cert.FfnARefIdeal.nD Cert.FfnARefIdeal.τ).loc Cert.FfnARefIdeal.main_arg5) = m' ((c.tc : Thread Cert.FfnARefIdeal.nD Cert.FfnARefIdeal.τ).loc Cert.FfnARefIdeal.main_arg5)
          ∧ r.2.mem ((c.tc : Thread Cert.FfnARefIdeal.nD Cert.FfnARefIdeal.τ).loc Cert.FfnARefIdeal.main_arg6) = m' ((c.tc : Thread Cert.FfnARefIdeal.nD Cert.FfnARefIdeal.τ).loc Cert.FfnARefIdeal.main_arg6))

def preserves_FfnB_FfnBIdeal : Prop :=
  True

def algebraic_FfnBIdeal_FfnBRefIdeal [hFfnBIdeal : Cert.FfnBIdeal.Facts] [hFfnBRefIdeal : Cert.FfnBRefIdeal.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)
      ∧ m' ((c.tc : Thread Cert.FfnBRefIdeal.nD Cert.FfnBRefIdeal.τ).loc Cert.FfnBRefIdeal.main_arg3) = m ((c.tc : Thread Cert.FfnBIdeal.nD Cert.FfnBIdeal.τ).loc Cert.FfnBIdeal.main_arg3)
      ∧ m' ((c.tc : Thread Cert.FfnBRefIdeal.nD Cert.FfnBRefIdeal.τ).loc Cert.FfnBRefIdeal.main_arg4) = m ((c.tc : Thread Cert.FfnBIdeal.nD Cert.FfnBIdeal.τ).loc Cert.FfnBIdeal.main_arg4)
      ∧ m' ((c.tc : Thread Cert.FfnBRefIdeal.nD Cert.FfnBRefIdeal.τ).loc Cert.FfnBRefIdeal.main_arg5) = m ((c.tc : Thread Cert.FfnBIdeal.nD Cert.FfnBIdeal.τ).loc Cert.FfnBIdeal.main_arg5)
      ∧ m' ((c.tc : Thread Cert.FfnBRefIdeal.nD Cert.FfnBRefIdeal.τ).loc Cert.FfnBRefIdeal.main_arg6) = m ((c.tc : Thread Cert.FfnBIdeal.nD Cert.FfnBIdeal.τ).loc Cert.FfnBIdeal.main_arg6)
      ∧ m' ((c.tc : Thread Cert.FfnBRefIdeal.nD Cert.FfnBRefIdeal.τ).loc Cert.FfnBRefIdeal.main_arg7) = m ((c.tc : Thread Cert.FfnBIdeal.nD Cert.FfnBIdeal.τ).loc Cert.FfnBIdeal.main_arg7)
      ∧ m' ((c.tc : Thread Cert.FfnBRefIdeal.nD Cert.FfnBRefIdeal.τ).loc Cert.FfnBRefIdeal.main_arg8) = m ((c.tc : Thread Cert.FfnBIdeal.nD Cert.FfnBIdeal.τ).loc Cert.FfnBIdeal.main_arg8)
      ∧ m' ((c.tc : Thread Cert.FfnBRefIdeal.nD Cert.FfnBRefIdeal.τ).loc Cert.FfnBRefIdeal.main_arg9) = m ((c.tc : Thread Cert.FfnBIdeal.nD Cert.FfnBIdeal.τ).loc Cert.FfnBIdeal.main_arg9)) →
    ∃ (v0 : (c : Dev Cert.FfnBIdeal.nD) → Buf (Elt Ideal) ((c.tc : Thread Cert.FfnBIdeal.nD Cert.FfnBIdeal.τ).loc Cert.FfnBIdeal.main_v19)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v19) = v0 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
          ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5)
          ∧ r.2.mem ((c.tc : Thread Cert.FfnBIdeal.nD Cert.FfnBIdeal.τ).loc Cert.FfnBIdeal.main_arg6) = m ((c.tc : Thread Cert.FfnBIdeal.nD Cert.FfnBIdeal.τ).loc Cert.FfnBIdeal.main_arg6)
          ∧ r.2.mem ((c.tc : Thread Cert.FfnBIdeal.nD Cert.FfnBIdeal.τ).loc Cert.FfnBIdeal.main_arg7) = m ((c.tc : Thread Cert.FfnBIdeal.nD Cert.FfnBIdeal.τ).loc Cert.FfnBIdeal.main_arg7)
          ∧ r.2.mem ((c.tc : Thread Cert.FfnBIdeal.nD Cert.FfnBIdeal.τ).loc Cert.FfnBIdeal.main_arg8) = m ((c.tc : Thread Cert.FfnBIdeal.nD Cert.FfnBIdeal.τ).loc Cert.FfnBIdeal.main_arg8)
          ∧ r.2.mem ((c.tc : Thread Cert.FfnBIdeal.nD Cert.FfnBIdeal.τ).loc Cert.FfnBIdeal.main_arg9) = m ((c.tc : Thread Cert.FfnBIdeal.nD Cert.FfnBIdeal.τ).loc Cert.FfnBIdeal.main_arg9))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v168) = v0 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2)
          ∧ r.2.mem ((c.tc : Thread Cert.FfnBRefIdeal.nD Cert.FfnBRefIdeal.τ).loc Cert.FfnBRefIdeal.main_arg3) = m' ((c.tc : Thread Cert.FfnBRefIdeal.nD Cert.FfnBRefIdeal.τ).loc Cert.FfnBRefIdeal.main_arg3)
          ∧ r.2.mem ((c.tc : Thread Cert.FfnBRefIdeal.nD Cert.FfnBRefIdeal.τ).loc Cert.FfnBRefIdeal.main_arg4) = m' ((c.tc : Thread Cert.FfnBRefIdeal.nD Cert.FfnBRefIdeal.τ).loc Cert.FfnBRefIdeal.main_arg4)
          ∧ r.2.mem ((c.tc : Thread Cert.FfnBRefIdeal.nD Cert.FfnBRefIdeal.τ).loc Cert.FfnBRefIdeal.main_arg5) = m' ((c.tc : Thread Cert.FfnBRefIdeal.nD Cert.FfnBRefIdeal.τ).loc Cert.FfnBRefIdeal.main_arg5)
          ∧ r.2.mem ((c.tc : Thread Cert.FfnBRefIdeal.nD Cert.FfnBRefIdeal.τ).loc Cert.FfnBRefIdeal.main_arg6) = m' ((c.tc : Thread Cert.FfnBRefIdeal.nD Cert.FfnBRefIdeal.τ).loc Cert.FfnBRefIdeal.main_arg6)
          ∧ r.2.mem ((c.tc : Thread Cert.FfnBRefIdeal.nD Cert.FfnBRefIdeal.τ).loc Cert.FfnBRefIdeal.main_arg7) = m' ((c.tc : Thread Cert.FfnBRefIdeal.nD Cert.FfnBRefIdeal.τ).loc Cert.FfnBRefIdeal.main_arg7)
          ∧ r.2.mem ((c.tc : Thread Cert.FfnBRefIdeal.nD Cert.FfnBRefIdeal.τ).loc Cert.FfnBRefIdeal.main_arg8) = m' ((c.tc : Thread Cert.FfnBRefIdeal.nD Cert.FfnBRefIdeal.τ).loc Cert.FfnBRefIdeal.main_arg8)
          ∧ r.2.mem ((c.tc : Thread Cert.FfnBRefIdeal.nD Cert.FfnBRefIdeal.τ).loc Cert.FfnBRefIdeal.main_arg9) = m' ((c.tc : Thread Cert.FfnBRefIdeal.nD Cert.FfnBRefIdeal.τ).loc Cert.FfnBRefIdeal.main_arg9))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)
      ∧ m' ((c.tc : Thread Cert.FfnFirstRefIdeal.nD Cert.FfnFirstRefIdeal.τ).loc Cert.FfnFirstRefIdeal.main_arg6) = m ((c.tc : Thread Cert.FfnFirstIdeal.nD Cert.FfnFirstIdeal.τ).loc Cert.FfnFirstIdeal.main_arg6)) →
    ∃ (v0 : (c : Dev Cert.FfnFirstIdeal.nD) → Buf (Elt Ideal) ((c.tc : Thread Cert.FfnFirstIdeal.nD Cert.FfnFirstIdeal.τ).loc Cert.FfnFirstIdeal.main_v11)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v11) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
          ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v121) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5)
          ∧ r.2.mem ((c.tc : Thread Cert.FfnFirstRefIdeal.nD Cert.FfnFirstRefIdeal.τ).loc Cert.FfnFirstRefIdeal.main_arg6) = m' ((c.tc : Thread Cert.FfnFirstRefIdeal.nD Cert.FfnFirstRefIdeal.τ).loc Cert.FfnFirstRefIdeal.main_arg6))

def preserves_Mla_MlaIdeal : Prop :=
  IdealRules.named_const.Statement Cert.MlaIdeal.κ "qscale" .f32 0x3E16C740#32 (((3424635 / 33554432) * (Real.log 2)⁻¹ : ℝ) : EReal)

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)
      ∧ m' ((c.tc : Thread Cert.MlaRefIdeal.nD Cert.MlaRefIdeal.τ).loc Cert.MlaRefIdeal.main_arg6) = m ((c.tc : Thread Cert.MlaIdeal.nD Cert.MlaIdeal.τ).loc Cert.MlaIdeal.main_arg6)
      ∧ m' ((c.tc : Thread Cert.MlaRefIdeal.nD Cert.MlaRefIdeal.τ).loc Cert.MlaRefIdeal.main_arg7) = m ((c.tc : Thread Cert.MlaIdeal.nD Cert.MlaIdeal.τ).loc Cert.MlaIdeal.main_arg7)
      ∧ m' ((c.tc : Thread Cert.MlaRefIdeal.nD Cert.MlaRefIdeal.τ).loc Cert.MlaRefIdeal.main_arg8) = m ((c.tc : Thread Cert.MlaIdeal.nD Cert.MlaIdeal.τ).loc Cert.MlaIdeal.main_arg8)
      ∧ m' ((c.tc : Thread Cert.MlaRefIdeal.nD Cert.MlaRefIdeal.τ).loc Cert.MlaRefIdeal.main_arg9) = m ((c.tc : Thread Cert.MlaIdeal.nD Cert.MlaIdeal.τ).loc Cert.MlaIdeal.main_arg9)) →
    ∃ (v0 : (c : Dev Cert.MlaIdeal.nD) → Buf (Elt Ideal) ((c.tc : Thread Cert.MlaIdeal.nD Cert.MlaIdeal.τ).loc Cert.MlaIdeal.main_v45)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v45) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5)
          ∧ r.2.mem ((c.tc : Thread Cert.MlaIdeal.nD Cert.MlaIdeal.τ).loc Cert.MlaIdeal.main_arg6) = m ((c.tc : Thread Cert.MlaIdeal.nD Cert.MlaIdeal.τ).loc Cert.MlaIdeal.main_arg6)
          ∧ r.2.mem ((c.tc : Thread Cert.MlaIdeal.nD Cert.MlaIdeal.τ).loc Cert.MlaIdeal.main_arg7) = m ((c.tc : Thread Cert.MlaIdeal.nD Cert.MlaIdeal.τ).loc Cert.MlaIdeal.main_arg7)
          ∧ r.2.mem ((c.tc : Thread Cert.MlaIdeal.nD Cert.MlaIdeal.τ).loc Cert.MlaIdeal.main_arg8) = m ((c.tc : Thread Cert.MlaIdeal.nD Cert.MlaIdeal.τ).loc Cert.MlaIdeal.main_arg8)
          ∧ r.2.mem ((c.tc : Thread Cert.MlaIdeal.nD Cert.MlaIdeal.τ).loc Cert.MlaIdeal.main_arg9) = m ((c.tc : Thread Cert.MlaIdeal.nD Cert.MlaIdeal.τ).loc Cert.MlaIdeal.main_arg9))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v24) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7)
          ∧ r.2.mem ((c.tc : Thread Cert.MlaRefIdeal.nD Cert.MlaRefIdeal.τ).loc Cert.MlaRefIdeal.main_arg8) = m' ((c.tc : Thread Cert.MlaRefIdeal.nD Cert.MlaRefIdeal.τ).loc Cert.MlaRefIdeal.main_arg8)
          ∧ r.2.mem ((c.tc : Thread Cert.MlaRefIdeal.nD Cert.MlaRefIdeal.τ).loc Cert.MlaRefIdeal.main_arg9) = m' ((c.tc : Thread Cert.MlaRefIdeal.nD Cert.MlaRefIdeal.τ).loc Cert.MlaRefIdeal.main_arg9))

def Claim : Prop :=
  ∃ (hGqa : Cert.Gqa.Facts) (hGqaIdeal : Cert.GqaIdeal.Facts) (hGqaRefIdeal : Cert.GqaRefIdeal.Facts) (hFfnLast : Cert.FfnLast.Facts) (hFfnLastIdeal : Cert.FfnLastIdeal.Facts) (hFfnLastRefIdeal : Cert.FfnLastRefIdeal.Facts) (hFfnA : Cert.FfnA.Facts) (hFfnAIdeal : Cert.FfnAIdeal.Facts) (hFfnARefIdeal : Cert.FfnARefIdeal.Facts) (hFfnB : Cert.FfnB.Facts) (hFfnBIdeal : Cert.FfnBIdeal.Facts) (hFfnBRefIdeal : Cert.FfnBRefIdeal.Facts) (hFfnFirst : Cert.FfnFirst.Facts) (hFfnFirstIdeal : Cert.FfnFirstIdeal.Facts) (hFfnFirstRefIdeal : Cert.FfnFirstRefIdeal.Facts) (hMla : Cert.Mla.Facts) (hMlaIdeal : Cert.MlaIdeal.Facts) (hMlaRefIdeal : Cert.MlaRefIdeal.Facts) (hPre_gqa_finite : Cert.Pre_gqa_finite.Facts) (hPre_mla_finite : Cert.Pre_mla_finite.Facts),
    quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_FfnA (hFfnA := hFfnA)
    ∧ quiescent_FfnAIdeal (hFfnAIdeal := hFfnAIdeal)
    ∧ quiescent_FfnARefIdeal (hFfnARefIdeal := hFfnARefIdeal)
    ∧ quiescent_FfnB (hFfnB := hFfnB)
    ∧ quiescent_FfnBIdeal (hFfnBIdeal := hFfnBIdeal)
    ∧ quiescent_FfnBRefIdeal (hFfnBRefIdeal := hFfnBRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_FfnLast_FfnLastIdeal
    ∧ algebraic_FfnLastIdeal_FfnLastRefIdeal (hFfnLastIdeal := hFfnLastIdeal) (hFfnLastRefIdeal := hFfnLastRefIdeal)
    ∧ preserves_FfnA_FfnAIdeal
    ∧ algebraic_FfnAIdeal_FfnARefIdeal (hFfnAIdeal := hFfnAIdeal) (hFfnARefIdeal := hFfnARefIdeal)
    ∧ preserves_FfnB_FfnBIdeal
    ∧ algebraic_FfnBIdeal_FfnBRefIdeal (hFfnBIdeal := hFfnBIdeal) (hFfnBRefIdeal := hFfnBRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_Mla_MlaIdeal
    ∧ algebraic_MlaIdeal_MlaRefIdeal_pre_mla_finite (hMlaIdeal := hMlaIdeal) (hMlaRefIdeal := hMlaRefIdeal) (hPre_mla_finite := hPre_mla_finite)
-- ==== Pre_gqa_finite.lean ====
abbrev S8x4096x2x4x128 : Shape := ⟨5, ![8, 4096, 2, 4, 128]⟩
abbrev S8x256x2x4x128 : Shape := ⟨5, ![8, 256, 2, 4, 128]⟩
abbrev S8x4096x2x128 : Shape := ⟨4, ![8, 4096, 2, 128]⟩
abbrev S8x256x2x128 : Shape := ⟨4, ![8, 256, 2, 128]⟩
abbrev S_ : Shape := ⟨0, ![]⟩

class Facts : Prop where
  bcast_S_S8x4096x2x4x128 : S_.BroadcastsInDim S8x4096x2x4x128 (![] : Fin 0 → Fin S8x4096x2x4x128.rank)
  bcast_S_S8x4096x2x128 : S_.BroadcastsInDim S8x4096x2x128 (![] : Fin 0 → Fin S8x4096x2x128.rank)
  bcast_S_S8x256x2x128 : S_.BroadcastsInDim S8x256x2x128 (![] : Fin 0 → Fin S8x256x2x128.rank)

variable [Facts]

def fn {F : FTy → Type} [FloatOps F] (main_arg0 : FVec F S8x4096x2x4x128 .f32) (main_arg1 : FVec F S8x256x2x4x128 .f32) (main_arg2 : FVec F S8x4096x2x128 .f32) (main_arg3 : FVec F S8x256x2x128 .f32) (main_arg4 : FVec F S8x4096x2x128 .f32) (main_arg5 : FVec F S8x256x2x128 .f32) : IVec S8x4096x2x4x128 1 × IVec S8x4096x2x128 1 × IVec S8x256x2x128 1 :=
  let main_v0 : FVec F S8x4096x2x4x128 .f32 := Host.absf main_arg0
  let main_cst : FVec F S_ .f32 := constant S_ .f32 0x7F800000#32
  let main_v1 : FVec F S8x4096x2x4x128 .f32 := broadcastInDim S8x4096x2x4x128 ![] bcast_S_S8x4096x2x4x128 main_cst
  let main_v2 : IVec S8x4096x2x4x128 1 := cmpf .olt main_v0 main_v1
  let main_v3 : FVec F S8x4096x2x128 .f32 := Host.absf main_arg2
  let main_cst_0 : FVec F S_ .f32 := constant S_ .f32 0x7F800000#32
  let main_v4 : FVec F S8x4096x2x128 .f32 := broadcastInDim S8x4096x2x128 ![] bcast_S_S8x4096x2x128 main_cst_0
  let main_v5 : IVec S8x4096x2x128 1 := cmpf .olt main_v3 main_v4
  let main_v6 : FVec F S8x256x2x128 .f32 := Host.absf main_arg3
  let main_cst_1 : FVec F S_ .f32 := constant S_ .f32 0x7F800000#32
  let main_v7 : FVec F S8x256x2x128 .f32 := broadcastInDim S8x256x2x128 ![] bcast_S_S8x256x2x128 main_cst_1
  let main_v8 : IVec S8x256x2x128 1 := cmpf .olt main_v6 main_v7
  (main_v2, main_v5, main_v8)
-- ==== Pre_mla_finite.lean ====
abbrev S8x4096x16x64 : Shape := ⟨4, ![8, 4096, 16, 64]⟩
abbrev S8x256x16x64 : Shape := ⟨4, ![8, 256, 16, 64]⟩
abbrev S8x4096x16x32 : Shape := ⟨4, ![8, 4096, 16, 32]⟩
abbrev S8x256x16x32 : Shape := ⟨4, ![8, 256, 16, 32]⟩
abbrev S8x4096x32 : Shape := ⟨3, ![8, 4096, 32]⟩
abbrev S8x256x32 : Shape := ⟨3, ![8, 256, 32]⟩
abbrev S_ : Shape := ⟨0, ![]⟩

class Facts : Prop where
  bcast_S_S8x4096x16x64 : S_.BroadcastsInDim S8x4096x16x64 (![] : Fin 0 → Fin S8x4096x16x64.rank)
  bcast_S_S8x4096x16x32 : S_.BroadcastsInDim S8x4096x16x32 (![] : Fin 0 → Fin S8x4096x16x32.rank)
  bcast_S_S8x256x16x64 : S_.BroadcastsInDim S8x256x16x64 (![] : Fin 0 → Fin S8x256x16x64.rank)
  bcast_S_S8x4096x32 : S_.BroadcastsInDim S8x4096x32 (![] : Fin 0 → Fin S8x4096x32.rank)
  bcast_S_S8x256x32 : S_.BroadcastsInDim S8x256x32 (![] : Fin 0 → Fin S8x256x32.rank)

variable [Facts]

def fn {F : FTy → Type} [FloatOps F] (main_arg0 : FVec F S8x4096x16x64 .f32) (main_arg1 : FVec F S8x256x16x64 .f32) (main_arg2 : FVec F S8x4096x16x32 .f32) (main_arg3 : FVec F S8x256x16x32 .f32) (main_arg4 : FVec F S8x4096x16x64 .f32) (main_arg5 : FVec F S8x256x16x64 .f32) (main_arg6 : FVec F S8x4096x32 .f32) (main_arg7 : FVec F S8x256x32 .f32) (main_arg8 : FVec F S8x4096x16x64 .f32) (main_arg9 : FVec F S8x256x16x64 .f32) : IVec S8x4096x16x64 1 × IVec S8x4096x16x32 1 × IVec S8x4096x16x64 1 × IVec S8x256x16x64 1 × IVec S8x4096x32 1 × IVec S8x256x32 1 :=
  let main_v0 : FVec F S8x4096x16x64 .f32 := Host.absf main_arg0
  let main_cst : FVec F S_ .f32 := constant S_ .f32 0x7F800000#32
  let main_v1 : FVec F S8x4096x16x64 .f32 := broadcastInDim S8x4096x16x64 ![] bcast_S_S8x4096x16x64 main_cst
  let main_v2 : IVec S8x4096x16x64 1 := cmpf .olt main_v0 main_v1
  let main_v3 : FVec F S8x4096x16x32 .f32 := Host.absf main_arg2
  let main_cst_0 : FVec F S_ .f32 := constant S_ .f32 0x7F800000#32
  let main_v4 : FVec F S8x4096x16x32 .f32 := broadcastInDim S8x4096x16x32 ![] bcast_S_S8x4096x16x32 main_cst_0
  let main_v5 : IVec S8x4096x16x32 1 := cmpf .olt main_v3 main_v4
  let main_v6 : FVec F S8x4096x16x64 .f32 := Host.absf main_arg4
  let main_cst_1 : FVec F S_ .f32 := constant S_ .f32 0x7F800000#32
  let main_v7 : FVec F S8x4096x16x64 .f32 := broadcastInDim S8x4096x16x64 ![] bcast_S_S8x4096x16x64 main_cst_1
  let main_v8 : IVec S8x4096x16x64 1 := cmpf .olt main_v6 main_v7
  let main_v9 : FVec F S8x256x16x64 .f32 := Host.absf main_arg5
  let main_cst_2 : FVec F S_ .f32 := constant S_ .f32 0x7F800000#32
  let main_v10 : FVec F S8x256x16x64 .f32 := broadcastInDim S8x256x16x64 ![] bcast_S_S8x256x16x64 main_cst_2
  let main_v11 : IVec S8x256x16x64 1 := cmpf .olt main_v9 main_v10
  let main_v12 : FVec F S8x4096x32 .f32 := Host.absf main_arg6
  let main_cst_3 : FVec F S_ .f32 := constant S_ .f32 0x7F800000#32
  let main_v13 : FVec F S8x4096x32 .f32 := broadcastInDim S8x4096x32 ![] bcast_S_S8x4096x32 main_cst_3
  let main_v14 : IVec S8x4096x32 1 := cmpf .olt main_v12 main_v13
  let main_v15 : FVec F S8x256x32 .f32 := Host.absf main_arg7
  let main_cst_4 : FVec F S_ .f32 := constant S_ .f32 0x7F800000#32
  let main_v16 : FVec F S8x256x32 .f32 := broadcastInDim S8x256x32 ![] bcast_S_S8x256x32 main_cst_4
  let main_v17 : IVec S8x256x32 1 := cmpf .olt main_v15 main_v16
  (main_v2, main_v5, main_v8, main_v11, main_v14, main_v17)
-- ==== Gqa.lean ====
abbrev S8x4096x2x4x128 : Shape := ⟨5, ![8, 4096, 2, 4, 128]⟩
abbrev S8x256x2x4x128 : Shape := ⟨5, ![8, 256, 2, 4, 128]⟩
abbrev S8x4096x2x128 : Shape := ⟨4, ![8, 4096, 2, 128]⟩
abbrev S8x256x2x128 : Shape := ⟨4, ![8, 256, 2, 128]⟩
abbrev S32768x8x128 : Shape := ⟨3, ![32768, 8, 128]⟩
abbrev S8x32768x128 : Shape := ⟨3, ![8, 32768, 128]⟩
abbrev S2048x8x128 : Shape := ⟨3, ![2048, 8, 128]⟩
abbrev S8x2048x128 : Shape := ⟨3, ![8, 2048, 128]⟩
abbrev S8x34816x128 : Shape := ⟨3, ![8, 34816, 128]⟩
abbrev S32768x2x128 : Shape := ⟨3, ![32768, 2, 128]⟩
abbrev S2x32768x128 : Shape := ⟨3, ![2, 32768, 128]⟩
abbrev S2048x2x128 : Shape := ⟨3, ![2048, 2, 128]⟩
abbrev S2x2048x128 : Shape := ⟨3, ![2, 2048, 128]⟩
abbrev S2x34816x128 : Shape := ⟨3, ![2, 34816, 128]⟩
abbrev S4x512x128 : Shape := ⟨3, ![4, 512, 128]⟩
abbrev S1x256x128 : Shape := ⟨3, ![1, 256, 128]⟩
abbrev S1x4096x128 : Shape := ⟨3, ![1, 4096, 128]⟩
abbrev S256x128 : Shape := ⟨2, ![256, 128]⟩
abbrev S1024x128 : Shape := ⟨2, ![1024, 128]⟩
abbrev S1024x256 : Shape := ⟨2, ![1024, 256]⟩
abbrev S1x512x128 : Shape := ⟨3, ![1, 512, 128]⟩
abbrev S512x128 : Shape := ⟨2, ![512, 128]⟩
abbrev S1024x512 : Shape := ⟨2, ![1024, 512]⟩
abbrev S1024 : Shape := ⟨1, ![1024]⟩
abbrev S1024x1 : Shape := ⟨2, ![1024, 1]⟩
abbrev S256x256 : Shape := ⟨2, ![256, 256]⟩
abbrev S512x256 : Shape := ⟨2, ![512, 256]⟩

abbrev nBuf : Space → Nat
  | .hbm => 24
  | .vmem => 12
  | .smem => 0
  | _ => 0

abbrev bufTy : (tb : Table) → Fin (tcTables nBuf tb) → BufTy
  | .hbm, ⟨0, _⟩ => ⟨S8x4096x2x4x128, .f32⟩
  | .hbm, ⟨1, _⟩ => ⟨S8x256x2x4x128, .f32⟩
  | .hbm, ⟨2, _⟩ => ⟨S8x4096x2x128, .f32⟩
  | .hbm, ⟨3, _⟩ => ⟨S8x256x2x128, .f32⟩
  | .hbm, ⟨4, _⟩ => ⟨S8x4096x2x128, .f32⟩
  | .hbm, ⟨5, _⟩ => ⟨S8x256x2x128, .f32⟩
  | .hbm, ⟨6, _⟩ => ⟨S32768x8x128, .f32⟩
  | .hbm, ⟨7, _⟩ => ⟨S8x32768x128, .f32⟩
  | .hbm, ⟨8, _⟩ => ⟨S2048x8x128, .f32⟩
  | .hbm, ⟨9, _⟩ => ⟨S8x2048x128, .f32⟩
  | .hbm, ⟨10, _⟩ => ⟨S8x34816x128, .f32⟩
  | .hbm, ⟨11, _⟩ => ⟨S32768x2x128, .f32⟩
  | .hbm, ⟨12, _⟩ => ⟨S2x32768x128, .f32⟩
  | .hbm, ⟨13, _⟩ => ⟨S2048x2x128, .f32⟩
  | .hbm, ⟨14, _⟩ => ⟨S2x2048x128, .f32⟩
  | .hbm, ⟨15, _⟩ => ⟨S2x34816x128, .f32⟩
  | .hbm, ⟨16, _⟩ => ⟨S2x34816x128, .bf16⟩
  | .hbm, ⟨17, _⟩ => ⟨S32768x2x128, .f32⟩
  | .hbm, ⟨18, _⟩ => ⟨S2x32768x128, .f32⟩
  | .hbm, ⟨19, _⟩ => ⟨S2048x2x128, .f32⟩
  | .hbm, ⟨20, _⟩ => ⟨S2x2048x128, .f32⟩
  | .hbm, ⟨21, _⟩ => ⟨S2x34816x128, .f32⟩
  | .hbm, ⟨22, _⟩ => ⟨S2x34816x128, .bf16⟩
  | .hbm, ⟨23, _⟩ => ⟨S8x32768x128, .bf16⟩
  | .local _ .vmem, ⟨0, _⟩ => ⟨S4x512x128, .f32⟩
  | .local _ .vmem, ⟨1, _⟩ => ⟨S4x512x128, .f32⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S4x512x128, .bf16⟩
  | .local _ .vmem, ⟨11, _⟩ => ⟨S4x512x128, .bf16⟩
  | _, _ => ⟨S8x4096x2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  let c0_i32_0 : BitVec 32 := 0#32
  ![arg1.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  let c0_i32_0 : BitVec 32 := 0#32
  ![arg1.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GqaIdeal.lean ====
variable {F : FTy → Type} [FloatOps F] [Named F]
def κ : String → Option EReal := fun
  | "qscale" => some (((11863283 / 134217728) * (Real.log 2)⁻¹ : ℝ) : EReal)
  | _ => none
-- ==== GqaRefIdeal.lean ====
abbrev S8x4096x2x4x128 : Shape := ⟨5, ![8, 4096, 2, 4, 128]⟩
abbrev S8x256x2x4x128 : Shape := ⟨5, ![8, 256, 2, 4, 128]⟩
abbrev S8x4096x2x128 : Shape := ⟨4, ![8, 4096, 2, 128]⟩
abbrev S8x256x2x128 : Shape := ⟨4, ![8, 256, 2, 128]⟩
abbrev S8x4352x2x128 : Shape := ⟨4, ![8, 4352, 2, 128]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩
abbrev S8x4096x1024 : Shape := ⟨3, ![8, 4096, 1024]⟩
abbrev S32768x8x128 : Shape := ⟨3, ![32768, 8, 128]⟩
abbrev S8x32768x128 : Shape := ⟨3, ![8, 32768, 128]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x2x4x128, .f32⟩
  | .hbm, ⟨1, _⟩ => ⟨S8x256x2x4x128, .f32⟩
  | .hbm, ⟨2, _⟩ => ⟨S8x4096x2x128, .f32⟩
  | .hbm, ⟨3, _⟩ => ⟨S8x256x2x128, .f32⟩
  | .hbm, ⟨4, _⟩ => ⟨S8x4096x2x128, .f32⟩
  | .hbm, ⟨5, _⟩ => ⟨S8x256x2x128, .f32⟩
  | .hbm, ⟨6, _⟩ => ⟨S8x4352x2x128, .f32⟩
  | .hbm, ⟨7, _⟩ => ⟨S8x4352x2x128, .f32⟩
  | .hbm, ⟨8, _⟩ => ⟨S8x2x4352x4096x4, .f32⟩
  | .hbm, ⟨9, _⟩ => ⟨S8x2x4x4096x4352, .f32⟩
  | .hbm, ⟨10, _⟩ => ⟨S_, .f32⟩
  | .hbm, ⟨11, _⟩ => ⟨S8x2x4x4096x4352, .f32⟩
  | .hbm, ⟨12, _⟩ => ⟨S8x2x4x4096x4352, .f32⟩
  | .hbm, ⟨13, _⟩ => ⟨S_, .f32⟩
  | .hbm, ⟨14, _⟩ => ⟨S8x2x4x4096, .f32⟩
  | .hbm, ⟨15, _⟩ => ⟨S_, .f32⟩
  | .hbm, ⟨16, _⟩ => ⟨S8x2x4x4096, .f32⟩
  | .hbm, ⟨17, _⟩ => ⟨S8x2x4x4096, .f32⟩
  | .hbm, ⟨18, _⟩ => ⟨S8x2x4x4096x1, .f32⟩
  | .hbm, ⟨19, _⟩ => ⟨S8x2x4x4096x4352, .f32⟩
  | .hbm, ⟨20, _⟩ => ⟨S8x2x4x4096x4352, .f32⟩
  | .hbm, ⟨21, _⟩ => ⟨S8x2x4x4096x4352, .f32⟩
  | .hbm, ⟨22, _⟩ => ⟨S_, .f32⟩
  | .hbm, ⟨23, _⟩ => ⟨S8x2x4x4096, .f32⟩
  | .hbm, ⟨24, _⟩ => ⟨S8x2x4x4096x1, .f32⟩
  | .hbm, ⟨25, _⟩ => ⟨S8x2x4x4096x4352, .f32⟩
  | .hbm, ⟨26, _⟩ => ⟨S8x2x4x4096x4352, .f32⟩
  | .hbm, ⟨27, _⟩ => ⟨S8x2x128x4x4096, .f32⟩
  | .hbm, ⟨28, _⟩ => ⟨S8x4096x2x4x128, .f32⟩
  | .hbm, ⟨29, _⟩ => ⟨S8x4096x1024, .f32⟩
  | .hbm, ⟨30, _⟩ => ⟨S32768x8x128, .f32⟩
  | .hbm, ⟨31, _⟩ => ⟨S8x32768x128, .f32⟩
  | .hbm, ⟨32, _⟩ => ⟨S8x32768x128, .bf16⟩
  | _, _ => ⟨S8x4096x2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== FfnLast.lean ====
abbrev S8x4096x1024 : Shape := ⟨3, ![8, 4096, 1024]⟩
abbrev S8x256x1024 : Shape := ⟨3, ![8, 256, 1024]⟩
abbrev S8x9x1024 : Shape := ⟨3, ![8, 9, 1024]⟩
abbrev S9x1024 : Shape := ⟨2, ![9, 1024]⟩
abbrev S6x1024 : Shape := ⟨2, ![6, 1024]⟩
abbrev S4x2x1024x5632 : Shape := ⟨4, ![4, 2, 1024, 5632]⟩
abbrev S4x2x2816x1024 : Shape := ⟨4, ![4, 2, 2816, 1024]⟩
abbrev S1024x1024 : Shape := ⟨2, ![1024, 1024]⟩
abbrev S32768x1024 : Shape := ⟨2, ![32768, 1024]⟩
abbrev S2048x1024 : Shape := ⟨2, ![2048, 1024]⟩
abbrev S34816x1024 : Shape := ⟨2, ![34816, 1024]⟩
abbrev S32768x8x128 : Shape := ⟨3, ![32768, 8, 128]⟩
abbrev S8x32768x128 : Shape := ⟨3, ![8, 32768, 128]⟩
abbrev S8x9216 : Shape := ⟨2, ![8, 9216]⟩
abbrev S1x9216 : Shape := ⟨2, ![1, 9216]⟩
abbrev S9x9216 : Shape := ⟨2, ![9, 9216]⟩
abbrev S_ : Shape := ⟨0, ![]⟩
abbrev S16x9216 : Shape := ⟨2, ![16, 9216]⟩
abbrev S16x1x9216 : Shape := ⟨3, ![16, 1, 9216]⟩
abbrev S2x1024 : Shape := ⟨2, ![2, 1024]⟩
abbrev S8x1024 : Shape := ⟨2, ![8, 1024]⟩
abbrev S1x1x9216 : Shape := ⟨3, ![1, 1, 9216]⟩
abbrev S1x1x1024x5632 : Shape := ⟨4, ![1, 1, 1024, 5632]⟩
abbrev S1x1x2816x1024 : Shape := ⟨4, ![1, 1, 2816, 1024]⟩
abbrev S8x1024x128 : Shape := ⟨3, ![8, 1024, 128]⟩
abbrev S512x1024 : Shape := ⟨2, ![512, 1024]⟩
abbrev S1x512x128 : Shape := ⟨3, ![1, 512, 128]⟩
abbrev S512x128 : Shape := ⟨2, ![512, 128]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 29
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x9x1024, .f32⟩
  | .hbm, ⟨3, _⟩ => ⟨S9x1024, .f32⟩
  | .hbm, ⟨4, _⟩ => ⟨S6x1024, .f32⟩
  | .hbm, ⟨5, _⟩ => ⟨S4x2x1024x5632, .f32⟩
  | .hbm, ⟨6, _⟩ => ⟨S4x2x2816x1024, .f32⟩
  | .hbm, ⟨7, _⟩ => ⟨S8x4096x1024, .f32⟩
  | .hbm, ⟨8, _⟩ => ⟨S1024x1024, .f32⟩
  | .hbm, ⟨9, _⟩ => ⟨S32768x1024, .f32⟩
  | .hbm, ⟨10, _⟩ => ⟨S2048x1024, .f32⟩
  | .hbm, ⟨11, _⟩ => ⟨S34816x1024, .f32⟩
  | .hbm, ⟨12, _⟩ => ⟨S32768x8x128, .f32⟩
  | .hbm, ⟨13, _⟩ => ⟨S8x32768x128, .f32⟩
  | .hbm, ⟨14, _⟩ => ⟨S8x32768x128, .bf16⟩
  | .hbm, ⟨15, _⟩ => ⟨S8x9216, .f32⟩
  | .hbm, ⟨16, _⟩ => ⟨S1x9216, .f32⟩
  | .hbm, ⟨17, _⟩ => ⟨S9x9216, .f32⟩
  | .hbm, ⟨18, _⟩ => ⟨S_, .i32⟩
  | .hbm, ⟨19, _⟩ => ⟨S_, .f32⟩
  | .hbm, ⟨20, _⟩ => ⟨S16x9216, .f32⟩
  | .hbm, ⟨21, _⟩ => ⟨S16x1x9216, .f32⟩
  | .hbm, ⟨22, _⟩ => ⟨S_, .f32⟩
  | .hbm, ⟨23, _⟩ => ⟨S2x1024, .f32⟩
  | .hbm, ⟨24, _⟩ => ⟨S8x1024, .f32⟩
  | .hbm, ⟨25, _⟩ => ⟨S4x2x1024x5632, .bf16⟩
  | .hbm, ⟨26, _⟩ => ⟨S4x2x2816x1024, .bf16⟩
  | .hbm, ⟨27, _⟩ => ⟨S1024x1024, .bf16⟩
  | .hbm, ⟨28, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x9216, .f32⟩
  | .local _ .vmem, ⟨3, _⟩ => ⟨S1x1x9216, .f32⟩
  | .local _ .vmem, ⟨4, _⟩ => ⟨S8x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S8x1024x128, .bf16⟩
  | .local _ .vmem, ⟨8, _⟩ => ⟨S8x1024x128, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_4 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnLastRefIdeal.lean ====
abbrev S8x4096x1024 : Shape := ⟨3, ![8, 4096, 1024]⟩
abbrev S8x256x1024 : Shape := ⟨3, ![8, 256, 1024]⟩
abbrev S8x9x1024 : Shape := ⟨3, ![8, 9, 1024]⟩
abbrev S9x1024 : Shape := ⟨2, ![9, 1024]⟩
abbrev S6x1024 : Shape := ⟨2, ![6, 1024]⟩
abbrev S4x2x1024x5632 : Shape := ⟨4, ![4, 2, 1024, 5632]⟩
abbrev S4x2x2816x1024 : Shape := ⟨4, ![4, 2, 2816, 1024]⟩
abbrev S1024x1024 : Shape := ⟨2, ![1024, 1024]⟩
abbrev S8x1x9x1024 : Shape := ⟨4, ![8, 1, 9, 1024]⟩
abbrev S1x1024 : Shape := ⟨2, ![1, 1024]⟩
abbrev S1024 : Shape := ⟨1, ![1024]⟩
abbrev S8x1x1x1024 : Shape := ⟨4, ![8, 1, 1, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 111
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x9x1024, .f32⟩
  | .hbm, ⟨3, _⟩ => ⟨S9x1024, .f32⟩
  | .hbm, ⟨4, _⟩ => ⟨S6x1024, .f32⟩
  | .hbm, ⟨5, _⟩ => ⟨S4x2x1024x5632, .f32⟩
  | .hbm, ⟨6, _⟩ => ⟨S4x2x2816x1024, .f32⟩
  | .hbm, ⟨7, _⟩ => ⟨S8x4096x1024, .f32⟩
  | .hbm, ⟨8, _⟩ => ⟨S1024x1024, .f32⟩
  | .hbm, ⟨9, _⟩ => ⟨S8x1x9x1024, .f32⟩
  | .hbm, ⟨10, _⟩ => ⟨S8x4096x1024, .f32⟩
  | .hbm, ⟨11, _⟩ => ⟨S1x1024, .f32⟩
  | .hbm, ⟨12, _⟩ => ⟨S1024, .f32⟩
  | .hbm, ⟨13, _⟩ => ⟨S8x1x1x1024, .f32⟩
  | .hbm, ⟨14, _⟩ => ⟨S8x1x1024, .f32⟩
  | .hbm, ⟨15, _⟩ => ⟨S_, .f32⟩
  | .hbm, ⟨16, _⟩ => ⟨S8x1x1024, .f32⟩
  | .hbm, ⟨17, _⟩ => ⟨S8x1x1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S1024, .f32⟩
  | .hbm, ⟨41, _⟩ => ⟨S1x1x1024x5632, .f32⟩
  | .hbm, ⟨42, _⟩ => ⟨S1024x5632, .f32⟩
  | .hbm, ⟨43, _⟩ => ⟨S1x1x2816x1024, .f32⟩
  | .hbm, ⟨44, _⟩ => ⟨S2816x1024, .f32⟩
  | .hbm, ⟨45, _⟩ => ⟨S8x4096x1024, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x4096x1, .f32⟩
  | .hbm, ⟨56, _⟩ => ⟨S8x4096x1024, .f32⟩
  | .hbm, ⟨57, _⟩ => ⟨S8x4096x1024, .f32⟩
  | .hbm, ⟨58, _⟩ => ⟨S1x1x1024, .f32⟩
  | .hbm, ⟨59, _⟩ => ⟨S8x4096x1024, .f32⟩
  | .hbm, ⟨60, _⟩ => ⟨S8x4096x1024, .f32⟩
  | .hbm, ⟨61, _⟩ => ⟨S8x1x1x1024, .f32⟩
  | .hbm, ⟨62, _⟩ => ⟨S8x1x1024, .f32⟩
  | .hbm, ⟨63, _⟩ => ⟨S_, .f32⟩
  | .hbm, ⟨64, _⟩ => ⟨S8x1x1024, .f32⟩
  | .hbm, ⟨65, _⟩ => ⟨S8x1x1024, .f32⟩
  | .hbm, ⟨66, _⟩ => ⟨S8x4096x1024, .f32⟩
  | .hbm, ⟨67, _⟩ => ⟨S8x4096x1024, .f32⟩
  | .hbm, ⟨68, _⟩ => ⟨S8x1x1x1024, .f32⟩
  | .hbm, ⟨69, _⟩ => ⟨S8x1x1024, .f32⟩
  | .hbm, ⟨70, _⟩ => ⟨S8x4096x1024, .f32⟩
  | .hbm, ⟨71, _⟩ => ⟨S8x4096x1024, .f32⟩
  | .hbm, ⟨72, _⟩ => ⟨S8x4096x5632, .f32⟩
  | .hbm, ⟨73, _⟩ => ⟨S8x4096x2816, .f32⟩
  | .hbm, ⟨74, _⟩ => ⟨S8x4096x2816, .f32⟩
  | .hbm, ⟨75, _⟩ => ⟨S8x4096x2816, .f32⟩
  | .hbm, ⟨76, _⟩ => ⟨S8x4096x2816, .f32⟩
  | .hbm, ⟨77, _⟩ => ⟨S_, .f32⟩
  | .hbm, ⟨78, _⟩ => ⟨S8x4096x2816, .f32⟩
  | .hbm, ⟨79, _⟩ => ⟨S8x4096x2816, .f32⟩
  | .hbm, ⟨80, _⟩ => ⟨S_, .f32⟩
  | .hbm, ⟨81, _⟩ => ⟨S8x4096x2816, .f32⟩
  | .hbm, ⟨82, _⟩ => ⟨S8x4096x2816, .f32⟩
  | .hbm, ⟨83, _⟩ => ⟨S8x4096x2816, .f32⟩
  | .hbm, ⟨84, _⟩ => ⟨S8x4096x2816, .f32⟩
  | .hbm, ⟨85, _⟩ => ⟨S8x4096x1024, .f32⟩
  | .hbm, ⟨86, _⟩ => ⟨S8x1x1x1024, .f32⟩
  | .hbm, ⟨87, _⟩ => ⟨S8x1x1024, .f32⟩
  | .hbm, ⟨88, _⟩ => ⟨S_, .f32⟩
  | .hbm, ⟨89, _⟩ => ⟨S8x1x1024, .f32⟩
  | .hbm, ⟨90, _⟩ => ⟨S8x1x1024, .f32⟩
  | .hbm, ⟨91, _⟩ => ⟨S8x4096x1024, .f32⟩
  | .hbm, ⟨92, _⟩ => ⟨S_, .f32⟩
  | .hbm, ⟨93, _⟩ => ⟨S8x4096, .f32⟩
  | .hbm, ⟨94, _⟩ => ⟨S8x4096x1, .f32⟩
  | .hbm, ⟨95, _⟩ => ⟨S_, .f32⟩
  | .hbm, ⟨96, _⟩ => ⟨S8x4096x1, .f32⟩
  | .hbm, ⟨97, _⟩ => ⟨S8x4096x1, .f32⟩
  | .hbm, ⟨98, _⟩ => ⟨S_, .f32⟩
  | .hbm, ⟨99, _⟩ => ⟨S8x4096x1, .f32⟩
  | .hbm, ⟨100, _⟩ => ⟨S8x4096x1, .f32⟩
  | .hbm, ⟨101, _⟩ => ⟨S8x4096x1, .f32⟩
  | .hbm, ⟨102, _⟩ => ⟨S8x4096x1024, .f32⟩
  | .hbm, ⟨103, _⟩ => ⟨S8x4096x1024, .f32⟩
  | .hbm, ⟨104, _⟩ => ⟨S1x1x1024, .f32⟩
  | .hbm, ⟨105, _⟩ => ⟨S8x4096x1024, .f32⟩
  | .hbm, ⟨106, _⟩ => ⟨S8x4096x1024, .f32⟩
  | .hbm, ⟨107, _⟩ => ⟨S8x4096x1024, .f32⟩
  | .hbm, ⟨108, _⟩ => ⟨S8x4096x1024, .f32⟩
  | .hbm, ⟨109, _⟩ => ⟨S8x4096x1024, .f32⟩
  | .hbm, ⟨110, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_7 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_8 : Ref sig .tc := ⟨.hbm, 92, rfl⟩
abbrev main_v66 : Ref sig .tc := ⟨.hbm, 93, rfl⟩
abbrev main_v67 : Ref sig .tc := ⟨.hbm, 94, rfl⟩
abbrev main_cst_9 : Ref sig .tc := ⟨.hbm, 95, rfl⟩
abbrev main_v68 : Ref sig .tc := ⟨.hbm, 96, rfl⟩
abbrev main_v69 : Ref sig .tc := ⟨.hbm, 97, rfl⟩
abbrev main_cst_10 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]
-- ==== FfnA.lean ====
abbrev S8x4096x1024 : Shape := ⟨3, ![8, 4096, 1024]⟩
abbrev S8x256x1024 : Shape := ⟨3, ![8, 256, 1024]⟩
abbrev S8x9x1024 : Shape := ⟨3, ![8, 9, 1024]⟩
abbrev S9x1024 : Shape := ⟨2, ![9, 1024]⟩
abbrev S6x1024 : Shape := ⟨2, ![6, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S2048x1024 : Shape := ⟨2, ![2048, 1024]⟩
abbrev S34816x1024 : Shape := ⟨2, ![34816, 1024]⟩
abbrev S8x9216 : Shape := ⟨2, ![8, 9216]⟩
abbrev S1x9216 : Shape := ⟨2, ![1, 9216]⟩
abbrev S9x9216 : Shape := ⟨2, ![9, 9216]⟩
abbrev S_ : Shape := ⟨0, ![]⟩
abbrev S16x9216 : Shape := ⟨2, ![16, 9216]⟩
abbrev S16x1x9216 : Shape := ⟨3, ![16, 1, 9216]⟩
abbrev S2x1024 : Shape := ⟨2, ![2, 1024]⟩
abbrev S8x1024 : Shape := ⟨2, ![8, 1024]⟩
abbrev S1024x1024 : Shape := ⟨2, ![1024, 1024]⟩
abbrev S1x1x9216 : Shape := ⟨3, ![1, 1, 9216]⟩
abbrev S1x1x1024x5632 : Shape := ⟨4, ![1, 1, 1024, 5632]⟩
abbrev S1x1x2816x1024 : Shape := ⟨4, ![1, 1, 2816, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 23
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x9x1024, .f32⟩
  | .hbm, ⟨3, _⟩ => ⟨S9x1024, .f32⟩
  | .hbm, ⟨4, _⟩ => ⟨S6x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S2048x1024, .f32⟩
  | .hbm, ⟨9, _⟩ => ⟨S34816x1024, .f32⟩
  | .hbm, ⟨10, _⟩ => ⟨S8x9216, .f32⟩
  | .hbm, ⟨11, _⟩ => ⟨S1x9216, .f32⟩
  | .hbm, ⟨12, _⟩ => ⟨S9x9216, .f32⟩
  | .hbm, ⟨13, _⟩ => ⟨S_, .i32⟩
  | .hbm, ⟨14, _⟩ => ⟨S_, .f32⟩
  | .hbm, ⟨15, _⟩ => ⟨S16x9216, .f32⟩
  | .hbm, ⟨16, _⟩ => ⟨S16x1x9216, .f32⟩
  | .hbm, ⟨17, _⟩ => ⟨S_, .f32⟩
  | .hbm, ⟨18, _⟩ => ⟨S2x1024, .f32⟩
  | .hbm, ⟨19, _⟩ => ⟨S8x1024, .f32⟩
  | .hbm, ⟨20, _⟩ => ⟨S4x2x1024x5632, .bf16⟩
  | .hbm, ⟨21, _⟩ => ⟨S4x2x2816x1024, .bf16⟩
  | .hbm, ⟨22, _⟩ => ⟨S34816x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x9216, .f32⟩
  | .local _ .vmem, ⟨3, _⟩ => ⟨S1x1x9216, .f32⟩
  | .local _ .vmem, ⟨4, _⟩ => ⟨S8x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnARefIdeal.lean ====
abbrev S8x4096x1024 : Shape := ⟨3, ![8, 4096, 1024]⟩
abbrev S8x256x1024 : Shape := ⟨3, ![8, 256, 1024]⟩
abbrev S8x9x1024 : Shape := ⟨3, ![8, 9, 1024]⟩
abbrev S9x1024 : Shape := ⟨2, ![9, 1024]⟩
abbrev S6x1024 : Shape := ⟨2, ![6, 1024]⟩
abbrev S4x2x1024x5632 : Shape := ⟨4, ![4, 2, 1024, 5632]⟩
abbrev S4x2x2816x1024 : Shape := ⟨4, ![4, 2, 2816, 1024]⟩
abbrev S8x1x9x1024 : Shape := ⟨4, ![8, 1, 9, 1024]⟩
abbrev S1x1024 : Shape := ⟨2, ![1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x4096x5632 : Shape := ⟨3, ![8, 4096, 5632]⟩
abbrev S8x4096x2816 : Shape := ⟨3, ![8, 4096, 2816]⟩
abbrev S1x9x1024 : Shape := ⟨3, ![1, 9, 1024]⟩
abbrev S8x256 : Shape := ⟨2, ![8, 256]⟩
abbrev S8x256x1 : Shape := ⟨3, ![8, 256, 1]⟩
abbrev S8x256x5632 : Shape := ⟨3, ![8, 256, 5632]⟩
abbrev S8x256x2816 : Shape := ⟨3, ![8, 256, 2816]⟩
abbrev S32768x1024 : Shape := ⟨2, ![32768, 1024]⟩
abbrev S2048x1024 : Shape := ⟨2, ![2048, 1024]⟩
abbrev S34816x1024 : Shape := ⟨2, ![34816, 1024]⟩

abbrev nBuf : Space → Nat
  | .hbm => 161
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x9x1024, .f32⟩
  | 3 => ⟨S9x1024, .f32⟩
  | 4 => ⟨S6x1024, .f32⟩
  | 5 => ⟨S4x2x1024x5632, .f32⟩
  | 6 => ⟨S4x2x2816x1024, .f32⟩
  | 7 => ⟨S8x1x9x1024, .f32⟩
  | 8 => ⟨S1x1024, .f32⟩
  | 9 => ⟨S1024, .f32⟩
  | 10 => ⟨S1x1024, .f32⟩
  | 11 => ⟨S1024, .f32⟩
  | 12 => ⟨S1x1x1024x5632, .f32⟩
  | 13 => ⟨S1024x5632, .f32⟩
  | 14 => ⟨S1x1x2816x1024, .f32⟩
  | 15 => ⟨S2816x1024, .f32⟩
  | 16 => ⟨S8x4096x1024, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x1, .f32⟩
  | 27 => ⟨S8x4096x1024, .f32⟩
  | 28 => ⟨S8x4096x1024, .f32⟩
  | 29 => ⟨S1x1x1024, .f32⟩
  | 30 => ⟨S8x4096x1024, .f32⟩
  | 31 => ⟨S8x4096x1024, .f32⟩
  | 32 => ⟨S8x1x1x1024, .f32⟩
  | 33 => ⟨S8x1x1024, .f32⟩
  | 34 => ⟨S_, .f32⟩
  | 35 => ⟨S8x1x1024, .f32⟩
  | 36 => ⟨S8x1x1024, .f32⟩
  | 37 => ⟨S8x4096x1024, .f32⟩
  | 38 => ⟨S8x4096x1024, .f32⟩
  | 39 => ⟨S8x1x1x1024, .f32⟩
  | 40 => ⟨S8x1x1024, .f32⟩
  | 41 => ⟨S8x4096x1024, .f32⟩
  | 42 => ⟨S8x4096x1024, .f32⟩
  | 43 => ⟨S8x4096x5632, .f32⟩
  | 44 => ⟨S8x4096x2816, .f32⟩
  | 45 => ⟨S8x4096x2816, .f32⟩
  | 46 => ⟨S8x4096x2816, .f32⟩
  | 47 => ⟨S8x4096x2816, .f32⟩
  | 48 => ⟨S_, .f32⟩
  | 49 => ⟨S8x4096x2816, .f32⟩
  | 50 => ⟨S8x4096x2816, .f32⟩
  | 51 => ⟨S_, .f32⟩
  | 52 => ⟨S8x4096x2816, .f32⟩
  | 53 => ⟨S8x4096x2816, .f32⟩
  | 54 => ⟨S8x4096x2816, .f32⟩
  | 55 => ⟨S8x4096x2816, .f32⟩
  | 56 => ⟨S8x4096x1024, .f32⟩
  | 57 => ⟨S8x1x1x1024, .f32⟩
  | 58 => ⟨S8x1x1024, .f32⟩
  | 59 => ⟨S_, .f32⟩
  | 60 => ⟨S8x1x1024, .f32⟩
  | 61 => ⟨S8x1x1024, .f32⟩
  | 62 => ⟨S8x4096x1024, .f32⟩
  | 63 => ⟨S_, .f32⟩
  | 64 => ⟨S8x4096, .f32⟩
  | 65 => ⟨S8x4096x1, .f32⟩
  | 66 => ⟨S_, .f32⟩
  | 67 => ⟨S8x4096x1, .f32⟩
  | 68 => ⟨S8x4096x1, .f32⟩
  | 69 => ⟨S_, .f32⟩
  | 70 => ⟨S8x4096x1, .f32⟩
  | 71 => ⟨S8x4096x1, .f32⟩
  | 72 => ⟨S8x4096x1, .f32⟩
  | 73 => ⟨S8x4096x1024, .f32⟩
  | 74 => ⟨S8x4096x1024, .f32⟩
  | 75 => ⟨S1x1x1024, .f32⟩
  | 76 => ⟨S8x4096x1024, .f32⟩
  | 77 => ⟨S8x4096x1024, .f32⟩
  | 78 => ⟨S8x4096x1024, .f32⟩
  | 79 => ⟨S8x4096x1024, .f32⟩
  | 80 => ⟨S8x4096x1024, .f32⟩
  | 81 => ⟨S1x9x1024, .f32⟩
  | 82 => ⟨S1x1024, .f32⟩
  | 83 => ⟨S1024, .f32⟩
  | 84 => ⟨S1x1024, .f32⟩
  | 85 => ⟨S1024, .f32⟩
  | 86 => ⟨S1x1x1024x5632, .f32⟩
  | 87 => ⟨S1024x5632, .f32⟩
  | 88 => ⟨S1x1x2816x1024, .f32⟩
  | 89 => ⟨S2816x1024, .f32⟩
  | 90 => ⟨S8x256x1024, .f32⟩
  | 91 => ⟨S_, .f32⟩
  | 92 => ⟨S8x256, .f32⟩
  | 93 => ⟨S8x256x1, .f32⟩
  | 94 => ⟨S_, .f32⟩
  | 95 => ⟨S8x256x1, .f32⟩
  | 96 => ⟨S8x256x1, .f32⟩
  | 97 => ⟨S_, .f32⟩
  | 98 => ⟨S8x256x1, .f32⟩
  | 99 => ⟨S8x256x1, .f32⟩
  | 100 => ⟨S8x256x1, .f32⟩
  | 101 => ⟨S8x256x1024, .f32⟩
  | 102 => ⟨S8x256x1024, .f32⟩
  | 103 => ⟨S1x1x1024, .f32⟩
  | 104 => ⟨S8x256x1024, .f32⟩
  | 105 => ⟨S8x256x1024, .f32⟩
  | 106 => ⟨S1x1x1024, .f32⟩
  | 107 => ⟨S1x1024, .f32⟩
  | 108 => ⟨S_, .f32⟩
  | 109 => ⟨S1x1024, .f32⟩
  | 110 => ⟨S1x1024, .f32⟩
  | 111 => ⟨S1x1x1024, .f32⟩
  | 112 => ⟨S8x256x1024, .f32⟩
  | 113 => ⟨S8x256x1024, .f32⟩
  | 114 => ⟨S1x1x1024, .f32⟩
  | 115 => ⟨S1x1024, .f32⟩
  | 116 => ⟨S1x1x1024, .f32⟩
  | 117 => ⟨S8x256x1024, .f32⟩
  | 118 => ⟨S8x256x1024, .f32⟩
  | 119 => ⟨S8x256x5632, .f32⟩
  | 120 => ⟨S8x256x2816, .f32⟩
  | 121 => ⟨S8x256x2816, .f32⟩
  | 122 => ⟨S8x256x2816, .f32⟩
  | 123 => ⟨S8x256x2816, .f32⟩
  | 124 => ⟨S_, .f32⟩
  | 125 => ⟨S8x256x2816, .f32⟩
  | 126 => ⟨S8x256x2816, .f32⟩
  | 127 => ⟨S_, .f32⟩
  | _ => ⟨S8x4096x1024, .f32⟩

abbrev hbmTy0_1 (i : Nat) : BufTy := match i % 128 with
  | 0 => ⟨S8x256x2816, .f32⟩
  | 1 => ⟨S8x256x2816, .f32⟩
  | 2 => ⟨S8x256x2816, .f32⟩
  | 3 => ⟨S8x256x2816, .f32⟩
  | 4 => ⟨S8x256x1024, .f32⟩
  | 5 => ⟨S1x1x1024, .f32⟩
  | 6 => ⟨S1x1024, .f32⟩
  | 7 => ⟨S_, .f32⟩
  | 8 => ⟨S1x1024, .f32⟩
  | 9 => ⟨S1x1024, .f32⟩
  | 10 => ⟨S8x256x1024, .f32⟩
  | 11 => ⟨S_, .f32⟩
  | 12 => ⟨S8x256, .f32⟩
  | 13 => ⟨S8x256x1, .f32⟩
  | 14 => ⟨S_, .f32⟩
  | 15 => ⟨S8x256x1, .f32⟩
  | 16 => ⟨S8x256x1, .f32⟩
  | 17 => ⟨S_, .f32⟩
  | 18 => ⟨S8x256x1, .f32⟩
  | 19 => ⟨S8x256x1, .f32⟩
  | 20 => ⟨S8x256x1, .f32⟩
  | 21 => ⟨S8x256x1024, .f32⟩
  | 22 => ⟨S8x256x1024, .f32⟩
  | 23 => ⟨S1x1x1024, .f32⟩
  | 24 => ⟨S8x256x1024, .f32⟩
  | 25 => ⟨S8x256x1024, .f32⟩
  | 26 => ⟨S1x1x1024, .f32⟩
  | 27 => ⟨S8x256x1024, .f32⟩
  | 28 => ⟨S8x256x1024, .f32⟩
  | 29 => ⟨S8x256x1024, .f32⟩
  | 30 => ⟨S32768x1024, .f32⟩
  | 31 => ⟨S2048x1024, .f32⟩
  | 32 => ⟨S34816x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_cst_9 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_10 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_call1_v0 : Ref sig .tc := ⟨.hbm, 122, rfl⟩
abbrev main_call1_v1 : Ref sig .tc := ⟨.hbm, 123, rfl⟩
abbrev main_call1_cst : Ref sig .tc := ⟨.hbm, 124, rfl⟩
abbrev main_call1_v2 : Ref sig .tc := ⟨.hbm, 125, rfl⟩
abbrev main_call1_v3 : Ref sig .tc := ⟨.hbm, 126, rfl⟩
abbrev main_call1_cst_0 : Ref sig .tc := ⟨.hbm, 127, rfl⟩
abbrev main_call1_v4 : Ref sig .tc := ⟨.hbm, 128, rfl⟩
abbrev main_call1_v5 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_11 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_12 : Ref sig .tc := ⟨.hbm, 139, rfl⟩
abbrev main_v103 : Ref sig .tc := ⟨.hbm, 140, rfl⟩
abbrev main_v104 : Ref sig .tc := ⟨.hbm, 141, rfl⟩
abbrev main_cst_13 : Ref sig .tc := ⟨.hbm, 142, rfl⟩
abbrev main_v105 : Ref sig .tc := ⟨.hbm, 143, rfl⟩
abbrev main_v106 : Ref sig .tc := ⟨.hbm, 144, rfl⟩
abbrev main_cst_14 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩

abbrev nD : Nat := 1
abbrev τ : Topo := Topo.v7x

variable {F : FTy → Type} [FloatOps F]
-- ==== FfnB.lean ====
abbrev S8x4096x1024 : Shape := ⟨3, ![8, 4096, 1024]⟩
abbrev S8x256x1024 : Shape := ⟨3, ![8, 256, 1024]⟩
abbrev S8x9x1024 : Shape := ⟨3, ![8, 9, 1024]⟩
abbrev S9x1024 : Shape := ⟨2, ![9, 1024]⟩
abbrev S6x1024 : Shape := ⟨2, ![6, 1024]⟩
abbrev S4x2x1024x5632 : Shape := ⟨4, ![4, 2, 1024, 5632]⟩
abbrev S4x2x2816x1024 : Shape := ⟨4, ![4, 2, 2816, 1024]⟩
abbrev S1024x1024 : Shape := ⟨2, ![1024, 1024]⟩
abbrev S32768x1024 : Shape := ⟨2, ![32768, 1024]⟩
abbrev S2048x1024 : Shape := ⟨2, ![2048, 1024]⟩
abbrev S34816x1024 : Shape := ⟨2, ![34816, 1024]⟩
abbrev S32768x8x128 : Shape := ⟨3, ![32768, 8, 128]⟩
abbrev S8x32768x128 : Shape := ⟨3, ![8, 32768, 128]⟩
abbrev S2048x8x128 : Shape := ⟨3, ![2048, 8, 128]⟩
abbrev S8x2048x128 : Shape := ⟨3, ![8, 2048, 128]⟩
abbrev S8x9216 : Shape := ⟨2, ![8, 9216]⟩
abbrev S1x9216 : Shape := ⟨2, ![1, 9216]⟩
abbrev S9x9216 : Shape := ⟨2, ![9, 9216]⟩
abbrev S_ : Shape := ⟨0, ![]⟩
abbrev S16x9216 : Shape := ⟨2, ![16, 9216]⟩
abbrev S16x1x9216 : Shape := ⟨3, ![16, 1, 9216]⟩
abbrev S2x1024 : Shape := ⟨2, ![2, 1024]⟩
abbrev S8x1024 : Shape := ⟨2, ![8, 1024]⟩
abbrev S1x1x9216 : Shape := ⟨3, ![1, 1, 9216]⟩
abbrev S1x1x1024x5632 : Shape := ⟨4, ![1, 1, 1024, 5632]⟩
abbrev S1x1x2816x1024 : Shape := ⟨4, ![1, 1, 2816, 1024]⟩
abbrev S8x1024x128 : Shape := ⟨3, ![8, 1024, 128]⟩
abbrev S512x1024 : Shape := ⟨2, ![512, 1024]⟩
abbrev S1x512x128 : Shape := ⟨3, ![1, 512, 128]⟩
abbrev S512x128 : Shape := ⟨2, ![512, 128]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 33
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x9x1024, .f32⟩
  | .hbm, ⟨3, _⟩ => ⟨S9x1024, .f32⟩
  | .hbm, ⟨4, _⟩ => ⟨S6x1024, .f32⟩
  | .hbm, ⟨5, _⟩ => ⟨S4x2x1024x5632, .f32⟩
  | .hbm, ⟨6, _⟩ => ⟨S4x2x2816x1024, .f32⟩
  | .hbm, ⟨7, _⟩ => ⟨S8x4096x1024, .f32⟩
  | .hbm, ⟨8, _⟩ => ⟨S8x256x1024, .f32⟩
  | .hbm, ⟨9, _⟩ => ⟨S1024x1024, .f32⟩
  | .hbm, ⟨10, _⟩ => ⟨S32768x1024, .f32⟩
  | .hbm, ⟨11, _⟩ => ⟨S2048x1024, .f32⟩
  | .hbm, ⟨12, _⟩ => ⟨S34816x1024, .f32⟩
  | .hbm, ⟨13, _⟩ => ⟨S32768x8x128, .f32⟩
  | .hbm, ⟨14, _⟩ => ⟨S8x32768x128, .f32⟩
  | .hbm, ⟨15, _⟩ => ⟨S8x32768x128, .bf16⟩
  | .hbm, ⟨16, _⟩ => ⟨S2048x8x128, .f32⟩
  | .hbm, ⟨17, _⟩ => ⟨S8x2048x128, .f32⟩
  | .hbm, ⟨18, _⟩ => ⟨S8x2048x128, .bf16⟩
  | .hbm, ⟨19, _⟩ => ⟨S8x9216, .f32⟩
  | .hbm, ⟨20, _⟩ => ⟨S1x9216, .f32⟩
  | .hbm, ⟨21, _⟩ => ⟨S9x9216, .f32⟩
  | .hbm, ⟨22, _⟩ => ⟨S_, .i32⟩
  | .hbm, ⟨23, _⟩ => ⟨S_, .f32⟩
  | .hbm, ⟨24, _⟩ => ⟨S16x9216, .f32⟩
  | .hbm, ⟨25, _⟩ => ⟨S16x1x9216, .f32⟩
  | .hbm, ⟨26, _⟩ => ⟨S_, .f32⟩
  | .hbm, ⟨27, _⟩ => ⟨S2x1024, .f32⟩
  | .hbm, ⟨28, _⟩ => ⟨S8x1024, .f32⟩
  | .hbm, ⟨29, _⟩ => ⟨S4x2x1024x5632, .bf16⟩
  | .hbm, ⟨30, _⟩ => ⟨S4x2x2816x1024, .bf16⟩
  | .hbm, ⟨31, _⟩ => ⟨S1024x1024, .bf16⟩
  | .hbm, ⟨32, _⟩ => ⟨S34816x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x9216, .f32⟩
  | .local _ .vmem, ⟨3, _⟩ => ⟨S1x1x9216, .f32⟩
  | .local _ .vmem, ⟨4, _⟩ => ⟨S8x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S8x1024x128, .bf16⟩
  | .local _ .vmem, ⟨8, _⟩ => ⟨S8x1024x128, .bf16⟩
  | .local _ .vmem, ⟨9, _⟩ => ⟨S8x1024x128, .bf16⟩
  | .local _ .vmem, ⟨10, _⟩ => ⟨S8x1024x128, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnBRefIdeal.lean ====
abbrev S8x4096x1024 : Shape := ⟨3, ![8, 4096, 1024]⟩
abbrev S8x256x1024 : Shape := ⟨3, ![8, 256, 1024]⟩
abbrev S8x9x1024 : Shape := ⟨3, ![8, 9, 1024]⟩
abbrev S9x1024 : Shape := ⟨2, ![9, 1024]⟩
abbrev S6x1024 : Shape := ⟨2, ![6, 1024]⟩
abbrev S4x2x1024x5632 : Shape := ⟨4, ![4, 2, 1024, 5632]⟩
abbrev S4x2x2816x1024 : Shape := ⟨4, ![4, 2, 2816, 1024]⟩
abbrev S1024x1024 : Shape := ⟨2, ![1024, 1024]⟩
abbrev S8x1x9x1024 : Shape := ⟨4, ![8, 1, 9, 1024]⟩
abbrev S1x9x1024 : Shape := ⟨3, ![1, 9, 1024]⟩
abbrev S1x1024 : Shape := ⟨2, ![1, 1024]⟩
abbrev S1024 : Shape := ⟨1, ![1024]⟩
abbrev S8x1x1x1024 : Shape := ⟨4, ![8, 1, 1, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x4096x5632 : Shape := ⟨3, ![8, 4096, 5632]⟩
abbrev S8x4096x2816 : Shape := ⟨3, ![8, 4096, 2816]⟩
abbrev S8x256 : Shape := ⟨2, ![8, 256]⟩
abbrev S8x256x1 : Shape := ⟨3, ![8, 256, 1]⟩
abbrev S8x256x5632 : Shape := ⟨3, ![8, 256, 5632]⟩
abbrev S8x256x2816 : Shape := ⟨3, ![8, 256, 2816]⟩
abbrev S32768x1024 : Shape := ⟨2, ![32768, 1024]⟩
abbrev S2048x1024 : Shape := ⟨2, ![2048, 1024]⟩
abbrev S34816x1024 : Shape := ⟨2, ![34816, 1024]⟩

abbrev nBuf : Space → Nat
  | .hbm => 219
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x9x1024, .f32⟩
  | 3 => ⟨S9x1024, .f32⟩
  | 4 => ⟨S6x1024, .f32⟩
  | 5 => ⟨S4x2x1024x5632, .f32⟩
  | 6 => ⟨S4x2x2816x1024, .f32⟩
  | 7 => ⟨S8x4096x1024, .f32⟩
  | 8 => ⟨S8x256x1024, .f32⟩
  | 9 => ⟨S1024x1024, .f32⟩
  | 10 => ⟨S8x1x9x1024, .f32⟩
  | 11 => ⟨S1x9x1024, .f32⟩
  | 12 => ⟨S8x4096x1024, .f32⟩
  | 13 => ⟨S8x256x1024, .f32⟩
  | 14 => ⟨S1x1024, .f32⟩
  | 15 => ⟨S1024, .f32⟩
  | 16 => ⟨S8x1x1x1024, .f32⟩
  | 17 => ⟨S8x1x1024, .f32⟩
  | 18 => ⟨S_, .f32⟩
  | 19 => ⟨S8x1x1024, .f32⟩
  | 20 => ⟨S8x1x1024, .f32⟩
  | 21 => ⟨S8x4096x1024, .f32⟩
  | 22 => ⟨S_, .f32⟩
  | 23 => ⟨S8x4096, .f32⟩
  | 24 => ⟨S8x4096x1, .f32⟩
  | 25 => ⟨S_, .f32⟩
  | 26 => ⟨S8x4096x1, .f32⟩
  | 27 => ⟨S8x4096x1, .f32⟩
  | 28 => ⟨S_, .f32⟩
  | 29 => ⟨S8x4096x1, .f32⟩
  | 30 => ⟨S8x4096x1, .f32⟩
  | 31 => ⟨S8x4096x1, .f32⟩
  | 32 => ⟨S8x4096x1024, .f32⟩
  | 33 => ⟨S8x4096x1024, .f32⟩
  | 34 => ⟨S1x1x1024, .f32⟩
  | 35 => ⟨S8x4096x1024, .f32⟩
  | 36 => ⟨S8x4096x1024, .f32⟩
  | 37 => ⟨S8x4096x1024, .f32⟩
  | 38 => ⟨S8x4096x1024, .f32⟩
  | 39 => ⟨S8x4096x1024, .f32⟩
  | 40 => ⟨S1x1024, .f32⟩
  | 41 => ⟨S1024, .f32⟩
  | 42 => ⟨S1x1024, .f32⟩
  | 43 => ⟨S1024, .f32⟩
  | 44 => ⟨S1x1x1024x5632, .f32⟩
  | 45 => ⟨S1024x5632, .f32⟩
  | 46 => ⟨S1x1x2816x1024, .f32⟩
  | 47 => ⟨S2816x1024, .f32⟩
  | 48 => ⟨S8x4096x1024, .f32⟩
  | 49 => ⟨S_, .f32⟩
  | 50 => ⟨S8x4096, .f32⟩
  | 51 => ⟨S8x4096x1, .f32⟩
  | 52 => ⟨S_, .f32⟩
  | 53 => ⟨S8x4096x1, .f32⟩
  | 54 => ⟨S8x4096x1, .f32⟩
  | 55 => ⟨S_, .f32⟩
  | 56 => ⟨S8x4096x1, .f32⟩
  | 57 => ⟨S8x4096x1, .f32⟩
  | 58 => ⟨S8x4096x1, .f32⟩
  | 59 => ⟨S8x4096x1024, .f32⟩
  | 60 => ⟨S8x4096x1024, .f32⟩
  | 61 => ⟨S1x1x1024, .f32⟩
  | 62 => ⟨S8x4096x1024, .f32⟩
  | 63 => ⟨S8x4096x1024, .f32⟩
  | 64 => ⟨S8x1x1x1024, .f32⟩
  | 65 => ⟨S8x1x1024, .f32⟩
  | 66 => ⟨S_, .f32⟩
  | 67 => ⟨S8x1x1024, .f32⟩
  | 68 => ⟨S8x1x1024, .f32⟩
  | 69 => ⟨S8x4096x1024, .f32⟩
  | 70 => ⟨S8x4096x1024, .f32⟩
  | 71 => ⟨S8x1x1x1024, .f32⟩
  | 72 => ⟨S8x1x1024, .f32⟩
  | 73 => ⟨S8x4096x1024, .f32⟩
  | 74 => ⟨S8x4096x1024, .f32⟩
  | 75 => ⟨S8x4096x5632, .f32⟩
  | 76 => ⟨S8x4096x2816, .f32⟩
  | 77 => ⟨S8x4096x2816, .f32⟩
  | 78 => ⟨S8x4096x2816, .f32⟩
  | 79 => ⟨S8x4096x2816, .f32⟩
  | 80 => ⟨S_, .f32⟩
  | 81 => ⟨S8x4096x2816, .f32⟩
  | 82 => ⟨S8x4096x2816, .f32⟩
  | 83 => ⟨S_, .f32⟩
  | 84 => ⟨S8x4096x2816, .f32⟩
  | 85 => ⟨S8x4096x2816, .f32⟩
  | 86 => ⟨S8x4096x2816, .f32⟩
  | 87 => ⟨S8x4096x2816, .f32⟩
  | 88 => ⟨S8x4096x1024, .f32⟩
  | 89 => ⟨S8x1x1x1024, .f32⟩
  | 90 => ⟨S8x1x1024, .f32⟩
  | 91 => ⟨S_, .f32⟩
  | 92 => ⟨S8x1x1024, .f32⟩
  | 93 => ⟨S8x1x1024, .f32⟩
  | 94 => ⟨S8x4096x1024, .f32⟩
  | 95 => ⟨S_, .f32⟩
  | 96 => ⟨S8x4096, .f32⟩
  | 97 => ⟨S8x4096x1, .f32⟩
  | 98 => ⟨S_, .f32⟩
  | 99 => ⟨S8x4096x1, .f32⟩
  | 100 => ⟨S8x4096x1, .f32⟩
  | 101 => ⟨S_, .f32⟩
  | 102 => ⟨S8x4096x1, .f32⟩
  | 103 => ⟨S8x4096x1, .f32⟩
  | 104 => ⟨S8x4096x1, .f32⟩
  | 105 => ⟨S8x4096x1024, .f32⟩
  | 106 => ⟨S8x4096x1024, .f32⟩
  | 107 => ⟨S1x1x1024, .f32⟩
  | 108 => ⟨S8x4096x1024, .f32⟩
  | 109 => ⟨S8x4096x1024, .f32⟩
  | 110 => ⟨S8x4096x1024, .f32⟩
  | 111 => ⟨S8x4096x1024, .f32⟩
  | 112 => ⟨S8x4096x1024, .f32⟩
  | 113 => ⟨S1x1024, .f32⟩
  | 114 => ⟨S1024, .f32⟩
  | 115 => ⟨S1x1x1024, .f32⟩
  | 116 => ⟨S1x1024, .f32⟩
  | 117 => ⟨S_, .f32⟩
  | 118 => ⟨S1x1024, .f32⟩
  | 119 => ⟨S1x1024, .f32⟩
  | 120 => ⟨S8x256x1024, .f32⟩
  | 121 => ⟨S_, .f32⟩
  | 122 => ⟨S8x256, .f32⟩
  | 123 => ⟨S8x256x1, .f32⟩
  | 124 => ⟨S_, .f32⟩
  | 125 => ⟨S8x256x1, .f32⟩
  | 126 => ⟨S8x256x1, .f32⟩
  | 127 => ⟨S_, .f32⟩
  | _ => ⟨S8x4096x1024, .f32⟩

abbrev hbmTy0_1 (i : Nat) : BufTy := match i % 128 with
  | 0 => ⟨S8x256x1, .f32⟩
  | 1 => ⟨S8x256x1, .f32⟩
  | 2 => ⟨S8x256x1, .f32⟩
  | 3 => ⟨S8x256x1024, .f32⟩
  | 4 => ⟨S8x256x1024, .f32⟩
  | 5 => ⟨S1x1x1024, .f32⟩
  | 6 => ⟨S8x256x1024, .f32⟩
  | 7 => ⟨S8x256x1024, .f32⟩
  | 8 => ⟨S1x1x1024, .f32⟩
  | 9 => ⟨S8x256x1024, .f32⟩
  | 10 => ⟨S8x256x1024, .f32⟩
  | 11 => ⟨S8x256x1024, .f32⟩
  | 12 => ⟨S1x1024, .f32⟩
  | 13 => ⟨S1024, .f32⟩
  | 14 => ⟨S1x1024, .f32⟩
  | 15 => ⟨S1024, .f32⟩
  | 16 => ⟨S1x1x1024x5632, .f32⟩
  | 17 => ⟨S1024x5632, .f32⟩
  | 18 => ⟨S1x1x2816x1024, .f32⟩
  | 19 => ⟨S2816x1024, .f32⟩
  | 20 => ⟨S8x256x1024, .f32⟩
  | 21 => ⟨S_, .f32⟩
  | 22 => ⟨S8x256, .f32⟩
  | 23 => ⟨S8x256x1, .f32⟩
  | 24 => ⟨S_, .f32⟩
  | 25 => ⟨S8x256x1, .f32⟩
  | 26 => ⟨S8x256x1, .f32⟩
  | 27 => ⟨S_, .f32⟩
  | 28 => ⟨S8x256x1, .f32⟩
  | 29 => ⟨S8x256x1, .f32⟩
  | 30 => ⟨S8x256x1, .f32⟩
  | 31 => ⟨S8x256x1024, .f32⟩
  | 32 => ⟨S8x256x1024, .f32⟩
  | 33 => ⟨S1x1x1024, .f32⟩
  | 34 => ⟨S8x256x1024, .f32⟩
  | 35 => ⟨S8x256x1024, .f32⟩
  | 36 => ⟨S1x1x1024, .f32⟩
  | 37 => ⟨S1x1024, .f32⟩
  | 38 => ⟨S_, .f32⟩
  | 39 => ⟨S1x1024, .f32⟩
  | 40 => ⟨S1x1024, .f32⟩
  | 41 => ⟨S1x1x1024, .f32⟩
  | 42 => ⟨S8x256x1024, .f32⟩
  | 43 => ⟨S8x256x1024, .f32⟩
  | 44 => ⟨S1x1x1024, .f32⟩
  | 45 => ⟨S1x1024, .f32⟩
  | 46 => ⟨S1x1x1024, .f32⟩
  | 47 => ⟨S8x256x1024, .f32⟩
  | 48 => ⟨S8x256x1024, .f32⟩
  | 49 => ⟨S8x256x5632, .f32⟩
  | 50 => ⟨S8x256x2816, .f32⟩
  | 51 => ⟨S8x256x2816, .f32⟩
  | 52 => ⟨S8x256x2816, .f32⟩
  | 53 => ⟨S8x256x2816, .f32⟩
  | 54 => ⟨S_, .f32⟩
  | 55 => ⟨S8x256x2816, .f32⟩
  | 56 => ⟨S8x256x2816, .f32⟩
  | 57 => ⟨S_, .f32⟩
  | 58 => ⟨S8x256x2816, .f32⟩
  | 59 => ⟨S8x256x2816, .f32⟩
  | 60 => ⟨S8x256x2816, .f32⟩
  | 61 => ⟨S8x256x2816, .f32⟩
  | 62 => ⟨S8x256x1024, .f32⟩
  | 63 => ⟨S1x1x1024, .f32⟩
  | 64 => ⟨S1x1024, .f32⟩
  | 65 => ⟨S_, .f32⟩
  | 66 => ⟨S1x1024, .f32⟩
  | 67 => ⟨S1x1024, .f32⟩
  | 68 => ⟨S8x256x1024, .f32⟩
  | 69 => ⟨S_, .f32⟩
  | 70 => ⟨S8x256, .f32⟩
  | 71 => ⟨S8x256x1, .f32⟩
  | 72 => ⟨S_, .f32⟩
  | 73 => ⟨S8x256x1, .f32⟩
  | 74 => ⟨S8x256x1, .f32⟩
  | 75 => ⟨S_, .f32⟩
  | 76 => ⟨S8x256x1, .f32⟩
  | 77 => ⟨S8x256x1, .f32⟩
  | 78 => ⟨S8x256x1, .f32⟩
  | 79 => ⟨S8x256x1024, .f32⟩
  | 80 => ⟨S8x256x1024, .f32⟩
  | 81 => ⟨S1x1x1024, .f32⟩
  | 82 => ⟨S8x256x1024, .f32⟩
  | 83 => ⟨S8x256x1024, .f32⟩
  | 84 => ⟨S1x1x1024, .f32⟩
  | 85 => ⟨S8x256x1024, .f32⟩
  | 86 => ⟨S8x256x1024, .f32⟩
  | 87 => ⟨S8x256x1024, .f32⟩
  | 88 => ⟨S32768x1024, .f32⟩
  | 89 => ⟨S2048x1024, .f32⟩
  | 90 => ⟨S34816x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_7 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_8 : Ref sig .tc := ⟨.hbm, 95, rfl⟩
abbrev main_v68 : Ref sig .tc := ⟨.hbm, 96, rfl⟩
abbrev main_v69 : Ref sig .tc := ⟨.hbm, 97, rfl⟩
abbrev main_cst_9 : Ref sig .tc := ⟨.hbm, 98, rfl⟩
abbrev main_v70 : Ref sig .tc := ⟨.hbm, 99, rfl⟩
abbrev main_v71 : Ref sig .tc := ⟨.hbm, 100, rfl⟩
abbrev main_cst_10 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_11 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_12 : Ref sig .tc := ⟨.hbm, 121, rfl⟩
abbrev main_v90 : Ref sig .tc := ⟨.hbm, 122, rfl⟩
abbrev main_v91 : Ref sig .tc := ⟨.hbm, 123, rfl⟩
abbrev main_cst_13 : Ref sig .tc := ⟨.hbm, 124, rfl⟩
abbrev main_v92 : Ref sig .tc := ⟨.hbm, 125, rfl⟩
abbrev main_v93 : Ref sig .tc := ⟨.hbm, 126, rfl⟩
abbrev main_cst_14 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_15 : Ref sig .tc := ⟨.hbm, 149, rfl⟩
abbrev main_v115 : Ref sig .tc := ⟨.hbm, 150, rfl⟩
abbrev main_v116 : Ref sig .tc := ⟨.hbm, 151, rfl⟩
abbrev main_cst_16 : Ref sig .tc := ⟨.hbm, 152, rfl⟩
abbrev main_v117 : Ref sig .tc := ⟨.hbm, 153, rfl⟩
abbrev main_v118 : Ref sig .tc := ⟨.hbm, 154, rfl⟩
abbrev main_cst_17 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_18 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_call1_v0 : Ref sig .tc := ⟨.hbm, 180, rfl⟩
abbrev main_call1_v1 : Ref sig .tc := ⟨.hbm, 181, rfl⟩
abbrev main_call1_cst : Ref sig .tc := ⟨.hbm, 182, rfl⟩
abbrev main_call1_v2 : Ref sig .tc := ⟨.hbm, 183, rfl⟩
abbrev main_call1_v3 : Ref sig .tc := ⟨.hbm, 184, rfl⟩
abbrev main_call1_cst_0 : Ref sig .tc := ⟨.hbm, 185, rfl⟩
abbrev main_call1_v4 : Ref sig .tc := ⟨.hbm, 186, rfl⟩
abbrev main_call1_v5 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_19 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_20 : Ref sig .tc := ⟨.hbm, 197, rfl⟩
abbrev main_v150 : Ref sig .tc := ⟨.hbm, 198, rfl⟩
abbrev main_v151 : Ref sig .tc := ⟨.hbm, 199, rfl⟩
abbrev main_cst_21 : Ref sig .tc := ⟨.hbm, 200, rfl⟩
abbrev main_v152 : Ref sig .tc := ⟨.hbm, 201, rfl⟩
abbrev main_v153 : Ref sig .tc := ⟨.hbm, 202, rfl⟩
abbrev main_cst_22 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩

abbrev nD : Nat := 1
abbrev τ : Topo := Topo.v7x

variable {F : FTy → Type} [FloatOps F]
-- ==== FfnFirst.lean ====
abbrev S8x4096x1024 : Shape := ⟨3, ![8, 4096, 1024]⟩
abbrev S8x256x1024 : Shape := ⟨3, ![8, 256, 1024]⟩
abbrev S8x9x1024 : Shape := ⟨3, ![8, 9, 1024]⟩
abbrev S9x1024 : Shape := ⟨2, ![9, 1024]⟩
abbrev S6x1024 : Shape := ⟨2, ![6, 1024]⟩
abbrev S4x2x1024x5632 : Shape := ⟨4, ![4, 2, 1024, 5632]⟩
abbrev S4x2x2816x1024 : Shape := ⟨4, ![4, 2, 2816, 1024]⟩
abbrev S32768x1024 : Shape := ⟨2, ![32768, 1024]⟩
abbrev S2048x1024 : Shape := ⟨2, ![2048, 1024]⟩
abbrev S8x9216 : Shape := ⟨2, ![8, 9216]⟩
abbrev S1x9216 : Shape := ⟨2, ![1, 9216]⟩
abbrev S9x9216 : Shape := ⟨2, ![9, 9216]⟩
abbrev S_ : Shape := ⟨0, ![]⟩
abbrev S16x9216 : Shape := ⟨2, ![16, 9216]⟩
abbrev S16x1x9216 : Shape := ⟨3, ![16, 1, 9216]⟩
abbrev S2x1024 : Shape := ⟨2, ![2, 1024]⟩
abbrev S8x1024 : Shape := ⟨2, ![8, 1024]⟩
abbrev S34816x1024 : Shape := ⟨2, ![34816, 1024]⟩
abbrev S1024x1024 : Shape := ⟨2, ![1024, 1024]⟩
abbrev S1x1x9216 : Shape := ⟨3, ![1, 1, 9216]⟩
abbrev S1x1x1024x5632 : Shape := ⟨4, ![1, 1, 1024, 5632]⟩
abbrev S1x1x2816x1024 : Shape := ⟨4, ![1, 1, 2816, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1x1x1024 : Shape := ⟨3, ![1, 1, 1024]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 22
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x9x1024, .f32⟩
  | .hbm, ⟨3, _⟩ => ⟨S9x1024, .f32⟩
  | .hbm, ⟨4, _⟩ => ⟨S6x1024, .f32⟩
  | .hbm, ⟨5, _⟩ => ⟨S4x2x1024x5632, .f32⟩
  | .hbm, ⟨6, _⟩ => ⟨S4x2x2816x1024, .f32⟩
  | .hbm, ⟨7, _⟩ => ⟨S32768x1024, .f32⟩
  | .hbm, ⟨8, _⟩ => ⟨S2048x1024, .f32⟩
  | .hbm, ⟨9, _⟩ => ⟨S8x9216, .f32⟩
  | .hbm, ⟨10, _⟩ => ⟨S1x9216, .f32⟩
  | .hbm, ⟨11, _⟩ => ⟨S9x9216, .f32⟩
  | .hbm, ⟨12, _⟩ => ⟨S_, .i32⟩
  | .hbm, ⟨13, _⟩ => ⟨S_, .f32⟩
  | .hbm, ⟨14, _⟩ => ⟨S16x9216, .f32⟩
  | .hbm, ⟨15, _⟩ => ⟨S16x1x9216, .f32⟩
  | .hbm, ⟨16, _⟩ => ⟨S_, .f32⟩
  | .hbm, ⟨17, _⟩ => ⟨S2x1024, .f32⟩
  | .hbm, ⟨18, _⟩ => ⟨S8x1024, .f32⟩
  | .hbm, ⟨19, _⟩ => ⟨S4x2x1024x5632, .bf16⟩
  | .hbm, ⟨20, _⟩ => ⟨S4x2x2816x1024, .bf16⟩
  | .hbm, ⟨21, _⟩ => ⟨S34816x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x9216, .f32⟩
  | .local _ .vmem, ⟨5, _⟩ => ⟨S1x1x9216, .f32⟩
  | .local _ .vmem, ⟨6, _⟩ => ⟨S8x1024, .f32⟩
  | .local _ .vmem, ⟨7, _⟩ => ⟨S1x1x1024x5632, .bf16⟩
  | .local _ .vmem, ⟨8, _⟩ => ⟨S1x1x2816x1024, .bf16⟩
  | .local _ .vmem, ⟨9, _⟩ => ⟨S1024x1024, .f32⟩
  | .local _ .vmem, ⟨10, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.select v0 v17 c8_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x9216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFirstRefIdeal.lean ====
abbrev S8x4096x1024 : Shape := ⟨3, ![8, 4096, 1024]⟩
abbrev S8x256x1024 : Shape := ⟨3, ![8, 256, 1024]⟩
abbrev S8x9x1024 : Shape := ⟨3, ![8, 9, 1024]⟩
abbrev S9x1024 : Shape := ⟨2, ![9, 1024]⟩
abbrev S6x1024 : Shape := ⟨2, ![6, 1024]⟩
abbrev S4x2x1024x5632 : Shape := ⟨4, ![4, 2, 1024, 5632]⟩
abbrev S4x2x2816x1024 : Shape := ⟨4, ![4, 2, 2816, 1024]⟩
abbrev S8x1x9x1024 : Shape := ⟨4, ![8, 1, 9, 1024]⟩
abbrev S1x1024 : Shape := ⟨2, ![1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x4096x5632 : Shape := ⟨3, ![8, 4096, 5632]⟩
abbrev S8x4096x2816 : Shape := ⟨3, ![8, 4096, 2816]⟩
abbrev S1x9x1024 : Shape := ⟨3, ![1, 9, 1024]⟩
abbrev S8x256 : Shape := ⟨2, ![8, 256]⟩
abbrev S8x256x1 : Shape := ⟨3, ![8, 256, 1]⟩
abbrev S8x256x5632 : Shape := ⟨3, ![8, 256, 5632]⟩
abbrev S8x256x2816 : Shape := ⟨3, ![8, 256, 2816]⟩
abbrev S32768x1024 : Shape := ⟨2, ![32768, 1024]⟩
abbrev S2048x1024 : Shape := ⟨2, ![2048, 1024]⟩
abbrev S34816x1024 : Shape := ⟨2, ![34816, 1024]⟩

abbrev nBuf : Space → Nat
  | .hbm => 161
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x9x1024, .f32⟩
  | 3 => ⟨S9x1024, .f32⟩
  | 4 => ⟨S6x1024, .f32⟩
  | 5 => ⟨S4x2x1024x5632, .f32⟩
  | 6 => ⟨S4x2x2816x1024, .f32⟩
  | 7 => ⟨S8x1x9x1024, .f32⟩
  | 8 => ⟨S1x1024, .f32⟩
  | 9 => ⟨S1024, .f32⟩
  | 10 => ⟨S1x1024, .f32⟩
  | 11 => ⟨S1024, .f32⟩
  | 12 => ⟨S1x1x1024x5632, .f32⟩
  | 13 => ⟨S1024x5632, .f32⟩
  | 14 => ⟨S1x1x2816x1024, .f32⟩
  | 15 => ⟨S2816x1024, .f32⟩
  | 16 => ⟨S8x4096x1024, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x1, .f32⟩
  | 27 => ⟨S8x4096x1024, .f32⟩
  | 28 => ⟨S8x4096x1024, .f32⟩
  | 29 => ⟨S1x1x1024, .f32⟩
  | 30 => ⟨S8x4096x1024, .f32⟩
  | 31 => ⟨S8x4096x1024, .f32⟩
  | 32 => ⟨S8x1x1x1024, .f32⟩
  | 33 => ⟨S8x1x1024, .f32⟩
  | 34 => ⟨S_, .f32⟩
  | 35 => ⟨S8x1x1024, .f32⟩
  | 36 => ⟨S8x1x1024, .f32⟩
  | 37 => ⟨S8x4096x1024, .f32⟩
  | 38 => ⟨S8x4096x1024, .f32⟩
  | 39 => ⟨S8x1x1x1024, .f32⟩
  | 40 => ⟨S8x1x1024, .f32⟩
  | 41 => ⟨S8x4096x1024, .f32⟩
  | 42 => ⟨S8x4096x1024, .f32⟩
  | 43 => ⟨S8x4096x5632, .f32⟩
  | 44 => ⟨S8x4096x2816, .f32⟩
  | 45 => ⟨S8x4096x2816, .f32⟩
  | 46 => ⟨S8x4096x2816, .f32⟩
  | 47 => ⟨S8x4096x2816, .f32⟩
  | 48 => ⟨S_, .f32⟩
  | 49 => ⟨S8x4096x2816, .f32⟩
  | 50 => ⟨S8x4096x2816, .f32⟩
  | 51 => ⟨S_, .f32⟩
  | 52 => ⟨S8x4096x2816, .f32⟩
  | 53 => ⟨S8x4096x2816, .f32⟩
  | 54 => ⟨S8x4096x2816, .f32⟩
  | 55 => ⟨S8x4096x2816, .f32⟩
  | 56 => ⟨S8x4096x1024, .f32⟩
  | 57 => ⟨S8x1x1x1024, .f32⟩
  | 58 => ⟨S8x1x1024, .f32⟩
  | 59 => ⟨S_, .f32⟩
  | 60 => ⟨S8x1x1024, .f32⟩
  | 61 => ⟨S8x1x1024, .f32⟩
  | 62 => ⟨S8x4096x1024, .f32⟩
  | 63 => ⟨S_, .f32⟩
  | 64 => ⟨S8x4096, .f32⟩
  | 65 => ⟨S8x4096x1, .f32⟩
  | 66 => ⟨S_, .f32⟩
  | 67 => ⟨S8x4096x1, .f32⟩
  | 68 => ⟨S8x4096x1, .f32⟩
  | 69 => ⟨S_, .f32⟩
  | 70 => ⟨S8x4096x1, .f32⟩
  | 71 => ⟨S8x4096x1, .f32⟩
  | 72 => ⟨S8x4096x1, .f32⟩
  | 73 => ⟨S8x4096x1024, .f32⟩
  | 74 => ⟨S8x4096x1024, .f32⟩
  | 75 => ⟨S1x1x1024, .f32⟩
  | 76 => ⟨S8x4096x1024, .f32⟩
  | 77 => ⟨S8x4096x1024, .f32⟩
  | 78 => ⟨S8x4096x1024, .f32⟩
  | 79 => ⟨S8x4096x1024, .f32⟩
  | 80 => ⟨S8x4096x1024, .f32⟩
  | 81 => ⟨S1x9x1024, .f32⟩
  | 82 => ⟨S1x1024, .f32⟩
  | 83 => ⟨S1024, .f32⟩
  | 84 => ⟨S1x1024, .f32⟩
  | 85 => ⟨S1024, .f32⟩
  | 86 => ⟨S1x1x1024x5632, .f32⟩
  | 87 => ⟨S1024x5632, .f32⟩
  | 88 => ⟨S1x1x2816x1024, .f32⟩
  | 89 => ⟨S2816x1024, .f32⟩
  | 90 => ⟨S8x256x1024, .f32⟩
  | 91 => ⟨S_, .f32⟩
  | 92 => ⟨S8x256, .f32⟩
  | 93 => ⟨S8x256x1, .f32⟩
  | 94 => ⟨S_, .f32⟩
  | 95 => ⟨S8x256x1, .f32⟩
  | 96 => ⟨S8x256x1, .f32⟩
  | 97 => ⟨S_, .f32⟩
  | 98 => ⟨S8x256x1, .f32⟩
  | 99 => ⟨S8x256x1, .f32⟩
  | 100 => ⟨S8x256x1, .f32⟩
  | 101 => ⟨S8x256x1024, .f32⟩
  | 102 => ⟨S8x256x1024, .f32⟩
  | 103 => ⟨S1x1x1024, .f32⟩
  | 104 => ⟨S8x256x1024, .f32⟩
  | 105 => ⟨S8x256x1024, .f32⟩
  | 106 => ⟨S1x1x1024, .f32⟩
  | 107 => ⟨S1x1024, .f32⟩
  | 108 => ⟨S_, .f32⟩
  | 109 => ⟨S1x1024, .f32⟩
  | 110 => ⟨S1x1024, .f32⟩
  | 111 => ⟨S1x1x1024, .f32⟩
  | 112 => ⟨S8x256x1024, .f32⟩
  | 113 => ⟨S8x256x1024, .f32⟩
  | 114 => ⟨S1x1x1024, .f32⟩
  | 115 => ⟨S1x1024, .f32⟩
  | 116 => ⟨S1x1x1024, .f32⟩
  | 117 => ⟨S8x256x1024, .f32⟩
  | 118 => ⟨S8x256x1024, .f32⟩
  | 119 => ⟨S8x256x5632, .f32⟩
  | 120 => ⟨S8x256x2816, .f32⟩
  | 121 => ⟨S8x256x2816, .f32⟩
  | 122 => ⟨S8x256x2816, .f32⟩
  | 123 => ⟨S8x256x2816, .f32⟩
  | 124 => ⟨S_, .f32⟩
  | 125 => ⟨S8x256x2816, .f32⟩
  | 126 => ⟨S8x256x2816, .f32⟩
  | 127 => ⟨S_, .f32⟩
  | _ => ⟨S8x4096x1024, .f32⟩

abbrev hbmTy0_1 (i : Nat) : BufTy := match i % 128 with
  | 0 => ⟨S8x256x2816, .f32⟩
  | 1 => ⟨S8x256x2816, .f32⟩
  | 2 => ⟨S8x256x2816, .f32⟩
  | 3 => ⟨S8x256x2816, .f32⟩
  | 4 => ⟨S8x256x1024, .f32⟩
  | 5 => ⟨S1x1x1024, .f32⟩
  | 6 => ⟨S1x1024, .f32⟩
  | 7 => ⟨S_, .f32⟩
  | 8 => ⟨S1x1024, .f32⟩
  | 9 => ⟨S1x1024, .f32⟩
  | 10 => ⟨S8x256x1024, .f32⟩
  | 11 => ⟨S_, .f32⟩
  | 12 => ⟨S8x256, .f32⟩
  | 13 => ⟨S8x256x1, .f32⟩
  | 14 => ⟨S_, .f32⟩
  | 15 => ⟨S8x256x1, .f32⟩
  | 16 => ⟨S8x256x1, .f32⟩
  | 17 => ⟨S_, .f32⟩
  | 18 => ⟨S8x256x1, .f32⟩
  | 19 => ⟨S8x256x1, .f32⟩
  | 20 => ⟨S8x256x1, .f32⟩
  | 21 => ⟨S8x256x1024, .f32⟩
  | 22 => ⟨S8x256x1024, .f32⟩
  | 23 => ⟨S1x1x1024, .f32⟩
  | 24 => ⟨S8x256x1024, .f32⟩
  | 25 => ⟨S8x256x1024, .f32⟩
  | 26 => ⟨S1x1x1024, .f32⟩
  | 27 => ⟨S8x256x1024, .f32⟩
  | 28 => ⟨S8x256x1024, .f32⟩
  | 29 => ⟨S8x256x1024, .f32⟩
  | 30 => ⟨S32768x1024, .f32⟩
  | 31 => ⟨S2048x1024, .f32⟩
  | 32 => ⟨S34816x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_cst_9 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_10 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_call1_v0 : Ref sig .tc := ⟨.hbm, 122, rfl⟩
abbrev main_call1_v1 : Ref sig .tc := ⟨.hbm, 123, rfl⟩
abbrev main_call1_cst : Ref sig .tc := ⟨.hbm, 124, rfl⟩
abbrev main_call1_v2 : Ref sig .tc := ⟨.hbm, 125, rfl⟩
abbrev main_call1_v3 : Ref sig .tc := ⟨.hbm, 126, rfl⟩
abbrev main_call1_cst_0 : Ref sig .tc := ⟨.hbm, 127, rfl⟩
abbrev main_call1_v4 : Ref sig .tc := ⟨.hbm, 128, rfl⟩
abbrev main_call1_v5 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_11 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_12 : Ref sig .tc := ⟨.hbm, 139, rfl⟩
abbrev main_v103 : Ref sig .tc := ⟨.hbm, 140, rfl⟩
abbrev main_v104 : Ref sig .tc := ⟨.hbm, 141, rfl⟩
abbrev main_cst_13 : Ref sig .tc := ⟨.hbm, 142, rfl⟩
abbrev main_v105 : Ref sig .tc := ⟨.hbm, 143, rfl⟩
abbrev main_v106 : Ref sig .tc := ⟨.hbm, 144, rfl⟩
abbrev main_cst_14 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩

abbrev nD : Nat := 1
abbrev τ : Topo := Topo.v7x

variable {F : FTy → Type} [FloatOps F]
-- ==== Mla.lean ====
abbrev S8x4096x16x64 : Shape := ⟨4, ![8, 4096, 16, 64]⟩
abbrev S8x256x16x64 : Shape := ⟨4, ![8, 256, 16, 64]⟩
abbrev S8x4096x16x32 : Shape := ⟨4, ![8, 4096, 16, 32]⟩
abbrev S8x256x16x32 : Shape := ⟨4, ![8, 256, 16, 32]⟩
abbrev S8x4096x32 : Shape := ⟨3, ![8, 4096, 32]⟩
abbrev S8x256x32 : Shape := ⟨3, ![8, 256, 32]⟩
abbrev S32768x16x64 : Shape := ⟨3, ![32768, 16, 64]⟩
abbrev S16x32768x64 : Shape := ⟨3, ![16, 32768, 64]⟩
abbrev S2048x16x64 : Shape := ⟨3, ![2048, 16, 64]⟩
abbrev S16x2048x64 : Shape := ⟨3, ![16, 2048, 64]⟩
abbrev S16x34816x64 : Shape := ⟨3, ![16, 34816, 64]⟩
abbrev S32768x16x32 : Shape := ⟨3, ![32768, 16, 32]⟩
abbrev S16x32768x32 : Shape := ⟨3, ![16, 32768, 32]⟩
abbrev S2048x16x32 : Shape := ⟨3, ![2048, 16, 32]⟩
abbrev S16x2048x32 : Shape := ⟨3, ![16, 2048, 32]⟩
abbrev S16x34816x32 : Shape := ⟨3, ![16, 34816, 32]⟩
abbrev S16x34816x2x32 : Shape := ⟨4, ![16, 34816, 2, 32]⟩
abbrev S16x34816x16x2 : Shape := ⟨4, ![16, 34816, 16, 2]⟩
abbrev S16x34816x2x16 : Shape := ⟨4, ![16, 34816, 2, 16]⟩
abbrev S_ : Shape := ⟨0, ![]⟩
abbrev S16x34816x2x64 : Shape := ⟨4, ![16, 34816, 2, 64]⟩
abbrev S16x34816x128 : Shape := ⟨3, ![16, 34816, 128]⟩
abbrev S8x4096x1x32 : Shape := ⟨4, ![8, 4096, 1, 32]⟩
abbrev S8x256x1x32 : Shape := ⟨4, ![8, 256, 1, 32]⟩
abbrev S8x4096x8x128 : Shape := ⟨4, ![8, 4096, 8, 128]⟩
abbrev S8x256x8x128 : Shape := ⟨4, ![8, 256, 8, 128]⟩
abbrev S32768x8x128 : Shape := ⟨3, ![32768, 8, 128]⟩
abbrev S8x32768x128 : Shape := ⟨3, ![8, 32768, 128]⟩
abbrev S2048x8x128 : Shape := ⟨3, ![2048, 8, 128]⟩
abbrev S8x2048x128 : Shape := ⟨3, ![8, 2048, 128]⟩
abbrev S8x34816x128 : Shape := ⟨3, ![8, 34816, 128]⟩
abbrev S8x1024x128 : Shape := ⟨3, ![8, 1024, 128]⟩
abbrev S8x256x128 : Shape := ⟨3, ![8, 256, 128]⟩
abbrev S4x256x128 : Shape := ⟨3, ![4, 256, 128]⟩
abbrev S8x4096x128 : Shape := ⟨3, ![8, 4096, 128]⟩
abbrev S4x4096x128 : Shape := ⟨3, ![4, 4096, 128]⟩
abbrev S4x1024x128 : Shape := ⟨3, ![4, 1024, 128]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1024x256 : Shape := ⟨2, ![1024, 256]⟩
abbrev S1x512x128 : Shape := ⟨3, ![1, 512, 128]⟩
abbrev S512x128 : Shape := ⟨2, ![512, 128]⟩
abbrev S1024x512 : Shape := ⟨2, ![1024, 512]⟩
abbrev S1024 : Shape := ⟨1, ![1024]⟩
abbrev S1024x1 : Shape := ⟨2, ![1024, 1]⟩
abbrev S256x256 : Shape := ⟨2, ![256, 256]⟩
abbrev S512x256 : Shape := ⟨2, ![512, 256]⟩

abbrev nBuf : Space → Nat
  | .hbm => 58
  | .vmem => 12
  | .smem => 0
  | _ => 0

abbrev bufTy : (tb : Table) → Fin (tcTables nBuf tb) → BufTy
  | .hbm, ⟨0, _⟩ => ⟨S8x4096x16x64, .f32⟩
  | .hbm, ⟨1, _⟩ => ⟨S8x256x16x64, .f32⟩
  | .hbm, ⟨2, _⟩ => ⟨S8x4096x16x32, .f32⟩
  | .hbm, ⟨3, _⟩ => ⟨S8x256x16x32, .f32⟩
  | .hbm, ⟨4, _⟩ => ⟨S8x4096x16x64, .f32⟩
  | .hbm, ⟨5, _⟩ => ⟨S8x256x16x64, .f32⟩
  | .hbm, ⟨6, _⟩ => ⟨S8x4096x32, .f32⟩
  | .hbm, ⟨7, _⟩ => ⟨S8x256x32, .f32⟩
  | .hbm, ⟨8, _⟩ => ⟨S8x4096x16x64, .f32⟩
  | .hbm, ⟨9, _⟩ => ⟨S8x256x16x64, .f32⟩
  | .hbm, ⟨10, _⟩ => ⟨S32768x16x64, .f32⟩
  | .hbm, ⟨11, _⟩ => ⟨S16x32768x64, .f32⟩
  | .hbm, ⟨12, _⟩ => ⟨S2048x16x64, .f32⟩
  | .hbm, ⟨13, _⟩ => ⟨S16x2048x64, .f32⟩
  | .hbm, ⟨14, _⟩ => ⟨S16x34816x64, .f32⟩
  | .hbm, ⟨15, _⟩ => ⟨S32768x16x32, .f32⟩
  | .hbm, ⟨16, _⟩ => ⟨S16x32768x32, .f32⟩
  | .hbm, ⟨17, _⟩ => ⟨S2048x16x32, .f32⟩
  | .hbm, ⟨18, _⟩ => ⟨S16x2048x32, .f32⟩
  | .hbm, ⟨19, _⟩ => ⟨S16x34816x32, .f32⟩
  | .hbm, ⟨20, _⟩ => ⟨S16x34816x2x32, .f32⟩
  | .hbm, ⟨21, _⟩ => ⟨S16x34816x16x2, .f32⟩
  | .hbm, ⟨22, _⟩ => ⟨S16x34816x2x16, .f32⟩
  | .hbm, ⟨23, _⟩ => ⟨S_, .f32⟩
  | .hbm, ⟨24, _⟩ => ⟨S16x34816x2x16, .f32⟩
  | .hbm, ⟨25, _⟩ => ⟨S16x34816x2x64, .f32⟩
  | .hbm, ⟨26, _⟩ => ⟨S16x34816x128, .f32⟩
  | .hbm, ⟨27, _⟩ => ⟨S32768x16x64, .f32⟩
  | .hbm, ⟨28, _⟩ => ⟨S16x32768x64, .f32⟩
  | .hbm, ⟨29, _⟩ => ⟨S2048x16x64, .f32⟩
  | .hbm, ⟨30, _⟩ => ⟨S16x2048x64, .f32⟩
  | .hbm, ⟨31, _⟩ => ⟨S16x34816x64, .f32⟩
  | .hbm, ⟨32, _⟩ => ⟨S8x4096x1x32, .f32⟩
  | .hbm, ⟨33, _⟩ => ⟨S8x4096x16x32, .f32⟩
  | .hbm, ⟨34, _⟩ => ⟨S8x256x1x32, .f32⟩
  | .hbm, ⟨35, _⟩ => ⟨S8x256x16x32, .f32⟩
  | .hbm, ⟨36, _⟩ => ⟨S32768x16x32, .f32⟩
  | .hbm, ⟨37, _⟩ => ⟨S16x32768x32, .f32⟩
  | .hbm, ⟨38, _⟩ => ⟨S2048x16x32, .f32⟩
  | .hbm, ⟨39, _⟩ => ⟨S16x2048x32, .f32⟩
  | .hbm, ⟨40, _⟩ => ⟨S16x34816x32, .f32⟩
  | .hbm, ⟨41, _⟩ => ⟨S16x34816x2x32, .f32⟩
  | .hbm, ⟨42, _⟩ => ⟨S16x34816x16x2, .f32⟩
  | .hbm, ⟨43, _⟩ => ⟨S16x34816x2x16, .f32⟩
  | .hbm, ⟨44, _⟩ => ⟨S_, .f32⟩
  | .hbm, ⟨45, _⟩ => ⟨S16x34816x2x16, .f32⟩
  | .hbm, ⟨46, _⟩ => ⟨S16x34816x2x64, .f32⟩
  | .hbm, ⟨47, _⟩ => ⟨S16x34816x128, .f32⟩
  | .hbm, ⟨48, _⟩ => ⟨S16x34816x128, .bf16⟩
  | .hbm, ⟨49, _⟩ => ⟨S8x4096x8x128, .f32⟩
  | .hbm, ⟨50, _⟩ => ⟨S8x256x8x128, .f32⟩
  | .hbm, ⟨51, _⟩ => ⟨S32768x8x128, .f32⟩
  | .hbm, ⟨52, _⟩ => ⟨S8x32768x128, .f32⟩
  | .hbm, ⟨53, _⟩ => ⟨S2048x8x128, .f32⟩
  | .hbm, ⟨54, _⟩ => ⟨S8x2048x128, .f32⟩
  | .hbm, ⟨55, _⟩ => ⟨S8x34816x128, .f32⟩
  | .hbm, ⟨56, _⟩ => ⟨S8x34816x128, .bf16⟩
  | .hbm, ⟨57, _⟩ => ⟨S8x32768x128, .bf16⟩
  | .local _ .vmem, ⟨0, _⟩ => ⟨S8x1024x128, .f32⟩
  | .local _ .vmem, ⟨1, _⟩ => ⟨S8x1024x128, .f32⟩
  | .local _ .vmem, ⟨2, _⟩ => ⟨S8x256x128, .bf16⟩
  | .local _ .vmem, ⟨3, _⟩ => ⟨S8x256x128, .bf16⟩
  | .local _ .vmem, ⟨4, _⟩ => ⟨S4x256x128, .bf16⟩
  | .local _ .vmem, ⟨5, _⟩ => ⟨S4x256x128, .bf16⟩
  | .local _ .vmem, ⟨6, _⟩ => ⟨S8x4096x128, .bf16⟩
  | .local _ .vmem, ⟨7, _⟩ => ⟨S8x4096x128, .bf16⟩
  | .local _ .vmem, ⟨8, _⟩ => ⟨S4x4096x128, .bf16⟩
  | .local _ .vmem, ⟨9, _⟩ => ⟨S4x4096x128, .bf16⟩
  | .local _ .vmem, ⟨10, _⟩ => ⟨S4x1024x128, .bf16⟩
  | .local _ .vmem, ⟨11, _⟩ => ⟨S4x1024x128, .bf16⟩
  | _, _ => ⟨S8x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_off1 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg9 : BitVec 32 := Scf.iv c0_i32 c1_i32 k0_t1
  let v2 : BitVec 32 := Scalar.muli c2_i32 arg9
  let v3 : BitVec 32 := Scalar.addi v2 c0_i32_1
  let v6 : Index := Scalar.indexCast v3
  let c0 : Index := 0#32
  let c0_4 : Index := 0#32
  ![v6.toNat, 0, 0]
def k0_off2 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg9 : BitVec 32 := Scf.iv c0_i32 c1_i32 k0_t1
  let v2 : BitVec 32 := Scalar.muli c2_i32 arg9
  let v3 : BitVec 32 := Scalar.addi v2 c0_i32_1
  let v12 : Index := Scalar.indexCast v3
  let c0_5 : Index := 0#32
  let c0_6 : Index := 0#32
  ![v12.toNat, 0, 0]
def k0_off3 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg9 : BitVec 32 := Scf.iv c0_i32 c1_i32 k0_t1
  let v2 : BitVec 32 := Scalar.muli c2_i32 arg9
  let v3 : BitVec 32 := Scalar.addi v2 c0_i32_1
  let v16 : Index := Scalar.indexCast v3
  let c0_8 : Index := 0#32
  let c0_9 : Index := 0#32
  ![v16.toNat, 0, 0]
def k0_off4 (k0_t1 : Fin k0_t1_loop.trips) : Fin 3 → Nat :=
  let c0_i32 : BitVec 32 := 0#32
  let c1_i32 : BitVec 32 := 1#32
  let arg9 : BitVec 32 := Scf.iv c0_i32 c1_i32 k0_t1
  let v26 : Index := Scalar.indexCast arg9
  let c0_12 : Index := 0#32
  let c0_13 : Index := 0#32
  ![v26.toNat, 0, 0]
def k0_off5 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg9 : BitVec 32 := Scf.iv c0_i32 c1_i32 k0_t1
  let v2 : BitVec 32 := Scalar.muli c2_i32 arg9
  let v3 : BitVec 32 := Scalar.addi v2 c0_i32_1
  let v32 : Index := Scalar.indexCast v3
  let c512 : Index := 512#32
  let c0_16 : Index := 0#32
  ![v32.toNat, 512, 0]
def k0_off6 (k0_t1 : Fin k0_t1_loop.trips) : Fin 3 → Nat :=
  let c0_i32 : BitVec 32 := 0#32
  let c1_i32 : BitVec 32 := 1#32
  let arg9 : BitVec 32 := Scf.iv c0_i32 c1_i32 k0_t1
  let v43 : Index := Scalar.indexCast arg9
  let c0_19 : Index := 0#32
  let c0_20 : Index := 0#32
  ![v43.toNat, 0, 0]
def k0_off7 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg9 : BitVec 32 := Scf.iv c0_i32 c1_i32 k0_t1
  let v2 : BitVec 32 := Scalar.muli c2_i32 arg9
  let v3 : BitVec 32 := Scalar.addi v2 c0_i32_1
  let v54 : Index := Scalar.indexCast v3
  let c1024 : Index := 1024#32
  let c0_23 : Index := 0#32
  ![v54.toNat, 1024, 0]
def k0_off8 (k0_t1 : Fin k0_t1_loop.trips) : Fin 3 → Nat :=
  let c0_i32 : BitVec 32 := 0#32
  let c1_i32 : BitVec 32 := 1#32
  let arg9 : BitVec 32 := Scf.iv c0_i32 c1_i32 k0_t1
  let v65 : Index := Scalar.indexCast arg9
  let c512_26 : Index := 512#32
  let c0_27 : Index := 0#32
  ![v65.toNat, 512, 0]
def k0_off9 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg9 : BitVec 32 := Scf.iv c0_i32 c1_i32 k0_t1
  let v2 : BitVec 32 := Scalar.muli c2_i32 arg9
  let v3 : BitVec 32 := Scalar.addi v2 c0_i32_1
  let v76 : Index := Scalar.indexCast v3
  let c1536 : Index := 1536#32
  let c0_30 : Index := 0#32
  ![v76.toNat, 1536, 0]
def k0_off10 (k0_t1 : Fin k0_t1_loop.trips) : Fin 3 → Nat :=
  let c0_i32 : BitVec 32 := 0#32
  let c1_i32 : BitVec 32 := 1#32
  let arg9 : BitVec 32 := Scf.iv c0_i32 c1_i32 k0_t1
  let v87 : Index := Scalar.indexCast arg9
  let c1024_33 : Index := 1024#32
  let c0_34 : Index := 0#32
  ![v87.toNat, 1024, 0]
def k0_off11 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg9 : BitVec 32 := Scf.iv c0_i32 c1_i32 k0_t1
  let v2 : BitVec 32 := Scalar.muli c2_i32 arg9
  let v3 : BitVec 32 := Scalar.addi v2 c0_i32_1
  let v98 : Index := Scalar.indexCast v3
  let c2048 : Index := 2048#32
  let c0_37 : Index := 0#32
  ![v98.toNat, 2048, 0]
def k0_off12 (k0_t1 : Fin k0_t1_loop.trips) : Fin 3 → Nat :=
  let c0_i32 : BitVec 32 := 0#32
  let c1_i32 : BitVec 32 := 1#32
  let arg9 : BitVec 32 := Scf.iv c0_i32 c1_i32 k0_t1
  let v109 : Index := Scalar.indexCast arg9
  let c1536_40 : Index := 1536#32
  let c0_41 : Index := 0#32
  ![v109.toNat, 1536, 0]
def k0_off13 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg9 : BitVec 32 := Scf.iv c0_i32 c1_i32 k0_t1
  let v2 : BitVec 32 := Scalar.muli c2_i32 arg9
  let v3 : BitVec 32 := Scalar.addi v2 c0_i32_1
  let v120 : Index := Scalar.indexCast v3
  let c2560 : Index := 2560#32
  let c0_44 : Index := 0#32
  ![v120.toNat, 2560, 0]
def k0_off14 (k0_t1 : Fin k0_t1_loop.trips) : Fin 3 → Nat :=
  let c0_i32 : BitVec 32 := 0#32
  let c1_i32 : BitVec 32 := 1#32
  let arg9 : BitVec 32 := Scf.iv c0_i32 c1_i32 k0_t1
  let v131 : Index := Scalar.indexCast arg9
  let c2048_47 : Index := 2048#32
  let c0_48 : Index := 0#32
  ![v131.toNat, 2048, 0]
def k0_off15 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg9 : BitVec 32 := Scf.iv c0_i32 c1_i32 k0_t1
  let v2 : BitVec 32 := Scalar.muli c2_i32 arg9
  let v3 : BitVec 32 := Scalar.addi v2 c0_i32_1
  let v142 : Index := Scalar.indexCast v3
  let c3072 : Index := 3072#32
  let c0_51 : Index := 0#32
  ![v142.toNat, 3072, 0]
def k0_off16 (k0_t1 : Fin k0_t1_loop.trips) : Fin 3 → Nat :=
  let c0_i32 : BitVec 32 := 0#32
  let c1_i32 : BitVec 32 := 1#32
  let arg9 : BitVec 32 := Scf.iv c0_i32 c1_i32 k0_t1
  let v153 : Index := Scalar.indexCast arg9
  let c2560_54 : Index := 2560#32
  let c0_55 : Index := 0#32
  ![v153.toNat, 2560, 0]
def k0_off17 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg9 : BitVec 32 := Scf.iv c0_i32 c1_i32 k0_t1
  let v2 : BitVec 32 := Scalar.muli c2_i32 arg9
  let v3 : BitVec 32 := Scalar.addi v2 c0_i32_1
  let v164 : Index := Scalar.indexCast v3
  let c3584 : Index := 3584#32
  let c0_58 : Index := 0#32
  ![v164.toNat, 3584, 0]
def k0_off18 (k0_t1 : Fin k0_t1_loop.trips) : Fin 3 → Nat :=
  let c0_i32 : BitVec 32 := 0#32
  let c1_i32 : BitVec 32 := 1#32
  let arg9 : BitVec 32 := Scf.iv c0_i32 c1_i32 k0_t1
  let v175 : Index := Scalar.indexCast arg9
  let c3072_61 : Index := 3072#32
  let c0_62 : Index := 0#32
  ![v175.toNat, 3072, 0]
def k0_off19 (k0_t1 : Fin k0_t1_loop.trips) : Fin 3 → Nat :=
  let c0_i32 : BitVec 32 := 0#32
  let c1_i32 : BitVec 32 := 1#32
  let arg9 : BitVec 32 := Scf.iv c0_i32 c1_i32 k0_t1
  let v203 : Index := Scalar.indexCast arg9
  let c3584_72 : Index := 3584#32
  let c0_73 : Index := 0#32
  ![v203.toNat, 3584, 0]
def k0_off20 (k0_t1 : Fin k0_t1_loop.trips) : Fin 3 → Nat :=
  let c0_i32 : BitVec 32 := 0#32
  let c1_i32 : BitVec 32 := 1#32
  let arg9 : BitVec 32 := Scf.iv c0_i32 c1_i32 k0_t1
  let v412 : Index := Scalar.indexCast arg9
  let c0_145 : Index := 0#32
  let c0_146 : Index := 0#32
  ![v412.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  let c0_i32_0 : BitVec 32 := 0#32
  ![arg1.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  let c0_i32_0 : BitVec 32 := 0#32
  ![arg1.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S4x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MlaIdeal.lean ====
variable {F : FTy → Type} [FloatOps F] [Named F]
def κ : String → Option EReal := fun
  | "qscale" => some (((3424635 / 33554432) * (Real.log 2)⁻¹ : ℝ) : EReal)
  | _ => none
-- ==== MlaRefIdeal.lean ====
abbrev S8x4096x16x64 : Shape := ⟨4, ![8, 4096, 16, 64]⟩
abbrev S8x256x16x64 : Shape := ⟨4, ![8, 256, 16, 64]⟩
abbrev S8x4096x16x32 : Shape := ⟨4, ![8, 4096, 16, 32]⟩
abbrev S8x256x16x32 : Shape := ⟨4, ![8, 256, 16, 32]⟩
abbrev S8x4096x32 : Shape := ⟨3, ![8, 4096, 32]⟩
abbrev S8x256x32 : Shape := ⟨3, ![8, 256, 32]⟩
abbrev S8x4352x16x64 : Shape := ⟨4, ![8, 4352, 16, 64]⟩
abbrev S8x4352x32 : Shape := ⟨3, ![8, 4352, 32]⟩
abbrev S8x16x4096x4352 : Shape := ⟨4, ![8, 16, 4096, 4352]⟩
abbrev S8x4352x4096x16 : Shape := ⟨4, ![8, 4352, 4096, 16]⟩
abbrev S_ : Shape := ⟨0, ![]⟩
abbrev S8x16x4096 : Shape := ⟨3, ![8, 16, 4096]⟩
abbrev S8x16x4096x1 : Shape := ⟨4, ![8, 16, 4096, 1]⟩
abbrev S8x16x64x4096 : Shape := ⟨4, ![8, 16, 64, 4096]⟩
abbrev S32768x8x128 : Shape := ⟨3, ![32768, 8, 128]⟩
abbrev S8x32768x128 : Shape := ⟨3, ![8, 32768, 128]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x16x64, .f32⟩
  | .hbm, ⟨1, _⟩ => ⟨S8x256x16x64, .f32⟩
  | .hbm, ⟨2, _⟩ => ⟨S8x4096x16x32, .f32⟩
  | .hbm, ⟨3, _⟩ => ⟨S8x256x16x32, .f32⟩
  | .hbm, ⟨4, _⟩ => ⟨S8x4096x16x64, .f32⟩
  | .hbm, ⟨5, _⟩ => ⟨S8x256x16x64, .f32⟩
  | .hbm, ⟨6, _⟩ => ⟨S8x4096x32, .f32⟩
  | .hbm, ⟨7, _⟩ => ⟨S8x256x32, .f32⟩
  | .hbm, ⟨8, _⟩ => ⟨S8x4096x16x64, .f32⟩
  | .hbm, ⟨9, _⟩ => ⟨S8x256x16x64, .f32⟩
  | .hbm, ⟨10, _⟩ => ⟨S8x4352x16x64, .f32⟩
  | .hbm, ⟨11, _⟩ => ⟨S8x4352x32, .f32⟩
  | .hbm, ⟨12, _⟩ => ⟨S8x4352x16x64, .f32⟩
  | .hbm, ⟨13, _⟩ => ⟨S8x16x4096x4352, .f32⟩
  | .hbm, ⟨14, _⟩ => ⟨S8x4352x4096x16, .f32⟩
  | .hbm, ⟨15, _⟩ => ⟨S8x16x4096x4352, .f32⟩
  | .hbm, ⟨16, _⟩ => ⟨S8x16x4096x4352, .f32⟩
  | .hbm, ⟨17, _⟩ => ⟨S_, .f32⟩
  | .hbm, ⟨18, _⟩ => ⟨S8x16x4096x4352, .f32⟩
  | .hbm, ⟨19, _⟩ => ⟨S8x16x4096x4352, .f32⟩
  | .hbm, ⟨20, _⟩ => ⟨S_, .f32⟩
  | .hbm, ⟨21, _⟩ => ⟨S8x16x4096, .f32⟩
  | .hbm, ⟨22, _⟩ => ⟨S_, .f32⟩
  | .hbm, ⟨23, _⟩ => ⟨S8x16x4096, .f32⟩
  | .hbm, ⟨24, _⟩ => ⟨S8x16x4096, .f32⟩
  | .hbm, ⟨25, _⟩ => ⟨S8x16x4096x1, .f32⟩
  | .hbm, ⟨26, _⟩ => ⟨S8x16x4096x4352, .f32⟩
  | .hbm, ⟨27, _⟩ => ⟨S8x16x4096x4352, .f32⟩
  | .hbm, ⟨28, _⟩ => ⟨S8x16x4096x4352, .f32⟩
  | .hbm, ⟨29, _⟩ => ⟨S_, .f32⟩
  | .hbm, ⟨30, _⟩ => ⟨S8x16x4096, .f32⟩
  | .hbm, ⟨31, _⟩ => ⟨S8x16x4096x1, .f32⟩
  | .hbm, ⟨32, _⟩ => ⟨S8x16x4096x4352, .f32⟩
  | .hbm, ⟨33, _⟩ => ⟨S8x16x4096x4352, .f32⟩
  | .hbm, ⟨34, _⟩ => ⟨S8x16x64x4096, .f32⟩
  | .hbm, ⟨35, _⟩ => ⟨S8x4096x16x64, .f32⟩
  | .hbm, ⟨36, _⟩ => ⟨S32768x8x128, .f32⟩
  | .hbm, ⟨37, _⟩ => ⟨S8x32768x128, .f32⟩
  | .hbm, ⟨38, _⟩ => ⟨S8x32768x128, .bf16⟩
  | _, _ => ⟨S8x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.GqaSteps.lean ====
/- The attention kernel's body, written as the recurrence it is: the query rows, the scores of a chunk of keys, the running row maximum, and the
   running weighted sum, which carries the weights' own sum in its upper 128 lanes. Each payload of the body is one of these operations, or two of
   them in a row; what the body stores is the quotient after the context chunk and the eight chunks of latent keys. -/
module

public import proofs.«01_k».proof.Proof.Gen.GqaIdeal.Value

@[expose] public section

set_option maxRecDepth 16384
set_option synthInstance.maxSize 4096

noncomputable section

namespace Cert.GqaIdeal.Steps

open Cert.GqaIdeal Cert.GqaIdeal.Gen Idealize.ShloMosaic Idealize.ShloMosaic.TcCoe Idealize.SL.Sem

variable {F : FTy → Type} [FloatOps F] [Named F]

/-- The scores of the context keys. -/
def sc256 (q : FVec F S1024x128 .bf16) (k : Vec F S1x256x128 .bf16) : FVec F S1024x256 .f32 :=
  matmul dot_S1024x128_S256x128_S1024x256_1_1_0_0_n_n none q (shapeCast S256x128 k shapeCasts_S1x256x128_S256x128) (constant S1024x256 .f32 0x00000000#32)

/-- The scores of a chunk of latent keys. -/
def sc512 (q : FVec F S1024x128 .bf16) (k : Vec F S1x512x128 .bf16) : FVec F S1024x512 .f32 :=
  matmul dot_S1024x128_S512x128_S1024x512_1_1_0_0_n_n none q (shapeCast S512x128 k shapeCasts_S1x512x128_S512x128) (constant S1024x512 .f32 0x00000000#32)

/-- The row maxima of the context scores. -/
def mx0 (s : FVec F S1024x256 .f32) : FVec F S1024x1 .f32 :=
  shapeCast S1024x1 (multiReduction .maximumf [1] S1024 s 0xFF800000#32 reduces_S1024x256_S1024 (.inl rfl) rfl) shapeCasts_S1024_S1024x1

/-- The row maxima of a chunk's scores. -/
def rm (s : FVec F S1024x512 .f32) : FVec F S1024 .f32 :=
  multiReduction .maximumf [1] S1024 s 0xFF800000#32 reduces_S1024x512_S1024 (.inl rfl) rfl

/-- The running maximum takes in a chunk's. -/
def mxv (m : FVec F S1024x1 .f32) (r : FVec F S1024 .f32) : FVec F S1024x1 .f32 :=
  maximumf m (shapeCast S1024x1 r shapeCasts_S1024_S1024x1)

/-- The context weights. -/
def ex0 (s : FVec F S1024x256 .f32) : FVec F S1024x256 .f32 :=
  exp2 (subf s (broadcastTo S1024x256 (mx0 s) broadcasts_S1024x1_S1024x256))

/-- A chunk's weights at an offset. -/
def pr (s : FVec F S1024x512 .f32) (m : FVec F S1024x1 .f32) : FVec F S1024x512 .bf16 :=
  truncf .bf16 (exp2 (subf s (broadcastTo S1024x512 m broadcasts_S1024x1_S1024x512))) bitsLt_bf16_f32

/-- The weighted sum over the context, beside the weights' sum. -/
def ac0 (e : FVec F S1024x256 .f32) (v : Vec F S1x256x128 .bf16) : FVec F S1024x256 .f32 :=
  matmul dot_S1024x256_S256x256_S1024x256_1_0_0_1_n_n none (truncf .bf16 e bitsLt_bf16_f32)
    (concatenate S256x256 1 [⟨S256x128, shapeCast S256x128 v shapeCasts_S1x256x128_S256x128⟩,
      ⟨S256x128, broadcast S256x128 (Scalar.ofBits .bf16 0x3F80#16 : F .bf16)⟩] concatenates_S256x128_S256x128_S256x256_d1)
    (constant S1024x256 .f32 0x00000000#32)

/-- The weighted sum takes in a chunk. -/
def st (p : FVec F S1024x512 .bf16) (m m' : FVec F S1024x1 .f32) (a : FVec F S1024x256 .f32) (v : Vec F S1x512x128 .bf16) : FVec F S1024x256 .f32 :=
  addf (mulf (broadcastTo S1024x256 (exp2 (subf m m')) broadcasts_S1024x1_S1024x256) a)
    (matmul dot_S1024x512_S512x256_S1024x256_1_0_0_1_n_n none p
      (concatenate S512x256 1 [⟨S512x128, shapeCast S512x128 v shapeCasts_S1x512x128_S512x128⟩,
        ⟨S512x128, broadcast S512x128 (Scalar.ofBits .bf16 0x3F80#16 : F .bf16)⟩] concatenates_S512x128_S512x128_S512x256_d1)
      (constant S1024x256 .f32 0x00000000#32))

/-- The quotient of the two halves. -/
def fin (a : FVec F S1024x256 .f32) : FVec F S1024x128 .f32 :=
  divf (extractStridedSlice S1024x128 ![0, 0] a slices_S1024x256_o0_0_S1024x128)
    (extractStridedSlice S1024x128 ![0, 128] a slices_S1024x256_o0_128_S1024x128)

/-- The 256 rows of one query head of the group. -/
def slab0 (o : FVec F S1024x128 .f32) : FVec F S1x256x128 .bf16 :=
  shapeCast S1x256x128 (truncf .bf16 (extractStridedSlice S256x128 ![0, 0] o slices_S1024x128_o0_0_S256x128) bitsLt_bf16_f32) shapeCasts_S256x128_S1x256x128
def slab1 (o : FVec F S1024x128 .f32) : FVec F S1x256x128 .bf16 :=
  shapeCast S1x256x128 (truncf .bf16 (extractStridedSlice S256x128 ![256, 0] o slices_S1024x128_o256_0_S256x128) bitsLt_bf16_f32) shapeCasts_S256x128_S1x256x128
def slab2 (o : FVec F S1024x128 .f32) : FVec F S1x256x128 .bf16 :=
  shapeCast S1x256x128 (truncf .bf16 (extractStridedSlice S256x128 ![512, 0] o slices_S1024x128_o512_0_S256x128) bitsLt_bf16_f32) shapeCasts_S256x128_S1x256x128
def slab3 (o : FVec F S1024x128 .f32) : FVec F S1x256x128 .bf16 :=
  shapeCast S1x256x128 (truncf .bf16 (extractStridedSlice S256x128 ![768, 0] o slices_S1024x128_o768_0_S256x128) bitsLt_bf16_f32) shapeCasts_S256x128_S1x256x128

section Chain
variable (q : FVec F S1024x128 .bf16) (kc vc : Vec F S1x256x128 .bf16) (K V : ℕ → Vec F S1x512x128 .bf16)

/-- The running maximum after `n` chunks. -/
def M : ℕ → FVec F S1024x1 .f32
  | 0 => mx0 (sc256 q kc)
  | n + 1 => mxv (M n) (rm (sc512 q (K n)))

/-- The running weighted sum after `n` chunks. -/
def A : ℕ → FVec F S1024x256 .f32
  | 0 => ac0 (ex0 (sc256 q kc)) vc
  | n + 1 => st (pr (sc512 q (K n)) (M q kc K (n + 1))) (M q kc K n) (M q kc K (n + 1)) (A n) (V n)

end Chain

/-- Eight chunks by their number. -/
def seq8 (a0 a1 a2 a3 a4 a5 a6 a7 : Vec F S1x512x128 .bf16) : ℕ → Vec F S1x512x128 .bf16
  | 0 => a0 | 1 => a1 | 2 => a2 | 3 => a3 | 4 => a4 | 5 => a5 | 6 => a6 | _ => a7

/-! Each payload is the operations above. -/

theorem p5 (a b c d : Vec F S1x256x128 .f32) (k : Vec F S1x256x128 .bf16) : k0_pay5 a b c d k = sc256 (k0_pay4 a b c d) k := rfl
theorem p6 (a b c d : Vec F S1x256x128 .f32) (k : Vec F S1x512x128 .bf16) : k0_pay6 a b c d k = sc512 (k0_pay4 a b c d) k := rfl
theorem p7 (a b c d : Vec F S1x256x128 .f32) (k : Vec F S1x256x128 .bf16) : k0_pay7 a b c d k = mx0 (sc256 (k0_pay4 a b c d) k) := rfl
theorem p8 (a b c d : Vec F S1x256x128 .f32) (k : Vec F S1x256x128 .bf16) : k0_pay8 a b c d k = ex0 (sc256 (k0_pay4 a b c d) k) := rfl
theorem p10 (s : FVec F S1024x512 .f32) (m : FVec F S1024x1 .f32) : k0_pay10 s m = mxv m (rm s) := rfl
theorem p11 (s : FVec F S1024x512 .f32) (m : FVec F S1024x1 .f32) (e : FVec F S1024x256 .f32) (vc : Vec F S1x256x128 .bf16) (v : Vec F S1x512x128 .bf16) :
    k0_pay11 s m e vc v = st (pr s (mxv m (rm s))) m (mxv m (rm s)) (ac0 e vc) v := rfl
theorem p12 (q : FVec F S1024x128 .bf16) (k : Vec F S1x512x128 .bf16) : k0_pay12 q k = sc512 q k := rfl
theorem p13 (q : FVec F S1024x128 .bf16) (s : FVec F S1024x512 .f32) (m : FVec F S1024x1 .f32) (k : Vec F S1x512x128 .bf16) :
    k0_pay13 q s m k = mxv (mxv m (rm s)) (rm (sc512 q k)) := rfl
theorem p14 (q : FVec F S1024x128 .bf16) (s : FVec F S1024x512 .f32) (m : FVec F S1024x1 .f32) (k : Vec F S1x512x128 .bf16) :
    k0_pay14 q s m k = pr (sc512 q k) (mxv (mxv m (rm s)) (rm (sc512 q k))) := rfl
theorem p16 (s : FVec F S1024x512 .f32) (m : FVec F S1024x1 .f32) : k0_pay16 s m = mxv m (rm s) := rfl
theorem p17 (m : FVec F S1024x1 .f32) (a : FVec F S1024x256 .f32) (s : FVec F S1024x512 .f32) (m' : FVec F S1024x1 .f32) (p : FVec F S1024x512 .bf16)
    (v v' : Vec F S1x512x128 .bf16) :
    k0_pay17 m a s m' p v v' = st (pr s (mxv m' (rm s))) m' (mxv m' (rm s)) (st p m m' a v) v' := rfl
theorem p18 (q : FVec F S1024x128 .bf16) (k : Vec F S1x512x128 .bf16) : k0_pay18 q k = sc512 q k := rfl
theorem p19 (q : FVec F S1024x128 .bf16) (s : FVec F S1024x512 .f32) (m : FVec F S1024x1 .f32) (k : Vec F S1x512x128 .bf16) :
    k0_pay19 q s m k = mxv (mxv m (rm s)) (rm (sc512 q k)) := rfl
theorem p20 (q : FVec F S1024x128 .bf16) (s : FVec F S1024x512 .f32) (m : FVec F S1024x1 .f32) (k : Vec F S1x512x128 .bf16) :
    k0_pay20 q s m k = pr (sc512 q k) (mxv (mxv m (rm s)) (rm (sc512 q k))) := rfl
theorem p22 (s : FVec F S1024x512 .f32) (m : FVec F S1024x1 .f32) : k0_pay22 s m = mxv m (rm s) := rfl
theorem p23 (m : FVec F S1024x1 .f32) (a : FVec F S1024x256 .f32) (s : FVec F S1024x512 .f32) (m' : FVec F S1024x1 .f32) (p : FVec F S1024x512 .bf16)
    (v v' : Vec F S1x512x128 .bf16) :
    k0_pay23 m a s m' p v v' = st (pr s (mxv m' (rm s))) m' (mxv m' (rm s)) (st p m m' a v) v' := rfl
theorem p24 (q : FVec F S1024x128 .bf16) (k : Vec F S1x512x128 .bf16) : k0_pay24 q k = sc512 q k := rfl
theorem p25 (q : FVec F S1024x128 .bf16) (s : FVec F S1024x512 .f32) (m : FVec F S1024x1 .f32) (k : Vec F S1x512x128 .bf16) :
    k0_pay25 q s m k = mxv (mxv m (rm s)) (rm (sc512 q k)) := rfl
theorem p26 (q : FVec F S1024x128 .bf16) (s : FVec F S1024x512 .f32) (m : FVec F S1024x1 .f32) (k : Vec F S1x512x128 .bf16) :
    k0_pay26 q s m k = pr (sc512 q k) (mxv (mxv m (rm s)) (rm (sc512 q k))) := rfl
theorem p27 (q : FVec F S1024x128 .bf16) (k : Vec F S1x512x128 .bf16) : k0_pay27 q k = sc512 q k := rfl
theorem p28 (s : FVec F S1024x512 .f32) (m : FVec F S1024x1 .f32) : k0_pay28 s m = mxv m (rm s) := rfl
theorem p29 (m : FVec F S1024x1 .f32) (a : FVec F S1024x256 .f32) (s : FVec F S1024x512 .f32) (m' : FVec F S1024x1 .f32) (p : FVec F S1024x512 .bf16)
    (v v' : Vec F S1x512x128 .bf16) :
    k0_pay29 m a s m' p v v' = st (pr s (mxv m' (rm s))) m' (mxv m' (rm s)) (st p m m' a v) v' := rfl
theorem p32 (a b c d : Vec F S1x256x128 .f32) : k0_pay32 (k0_pay30 a) (k0_pay31 b) c d = k0_pay4 a b c d := rfl
theorem p33 (a b : FVec F S256x128 .bf16) (c d : Vec F S1x256x128 .f32) (k : Vec F S1x256x128 .bf16) : k0_pay33 a b c d k = sc256 (k0_pay32 a b c d) k := rfl
theorem p34 (s : FVec F S1024x512 .f32) (m : FVec F S1024x1 .f32) (a : FVec F S1024x256 .f32) (v : Vec F S1x512x128 .bf16) :
    k0_pay34 s m a v = fin (st (pr s (mxv m (rm s))) m (mxv m (rm s)) a v) := rfl
theorem p35 (s : FVec F S1024x512 .f32) (m : FVec F S1024x1 .f32) (a : FVec F S1024x256 .f32) (v : Vec F S1x512x128 .bf16) :
    k0_pay35 s m a v = slab0 (fin (st (pr s (mxv m (rm s))) m (mxv m (rm s)) a v)) := rfl
theorem p36 (o : FVec F S1024x128 .f32) : k0_pay36 o = slab1 o := rfl
theorem p37 (o : FVec F S1024x128 .f32) : k0_pay37 o = slab2 o := rfl
theorem p38 (o : FVec F S1024x128 .f32) : k0_pay38 o = slab3 o := rfl
theorem p39 (q : FVec F S1024x128 .bf16) (k : Vec F S1x512x128 .bf16) : k0_pay39 q k = sc512 q k := rfl
theorem p40 (s : FVec F S1024x256 .f32) : k0_pay40 s = mx0 s := rfl
theorem p41 (s : FVec F S1024x256 .f32) (v : Vec F S1x256x128 .bf16) : k0_pay41 s v = ac0 (ex0 s) v := rfl
theorem p42 (q : FVec F S1024x128 .bf16) (k : Vec F S1x512x128 .bf16) : k0_pay42 q k = sc512 q k := rfl
theorem p43 (q : FVec F S1024x128 .bf16) (k : Vec F S1x512x128 .bf16) : k0_pay43 q k = rm (sc512 q k) := rfl
theorem p45 (q : FVec F S1024x128 .bf16) (k : Vec F S1x512x128 .bf16) : k0_pay45 q k = sc512 q k := rfl
theorem p46 (m : FVec F S1024x1 .f32) (s : FVec F S1024x512 .f32) (r : FVec F S1024 .f32) : k0_pay46 m s r = mxv (mxv m r) (rm s) := rfl
theorem p47 (s : FVec F S1024x512 .f32) (m : FVec F S1024x1 .f32) (a : FVec F S1024x256 .f32) (s' : FVec F S1024x512 .f32) (r : FVec F S1024 .f32)
    (v v' : Vec F S1x512x128 .bf16) :
    k0_pay47 s m a s' r v v' = st (pr s' (mxv (mxv m r) (rm s'))) (mxv m r) (mxv (mxv m r) (rm s')) (st (pr s (mxv m r)) m (mxv m r) a v) v' := rfl
theorem p48 (q : FVec F S1024x128 .bf16) (k : Vec F S1x512x128 .bf16) : k0_pay48 q k = sc512 q k := rfl
theorem p49 (q : FVec F S1024x128 .bf16) (k : Vec F S1x512x128 .bf16) : k0_pay49 q k = rm (sc512 q k) := rfl
theorem p51 (q : FVec F S1024x128 .bf16) (k : Vec F S1x512x128 .bf16) : k0_pay51 q k = sc512 q k := rfl
theorem p52 (m : FVec F S1024x1 .f32) (s : FVec F S1024x512 .f32) (r : FVec F S1024 .f32) : k0_pay52 m s r = mxv (mxv m r) (rm s) := rfl
theorem p53 (s : FVec F S1024x512 .f32) (m : FVec F S1024x1 .f32) (a : FVec F S1024x256 .f32) (s' : FVec F S1024x512 .f32) (r : FVec F S1024 .f32)
    (v v' : Vec F S1x512x128 .bf16) :
    k0_pay53 s m a s' r v v' = st (pr s' (mxv (mxv m r) (rm s'))) (mxv m r) (mxv (mxv m r) (rm s')) (st (pr s (mxv m r)) m (mxv m r) a v) v' := rfl
theorem p54 (q : FVec F S1024x128 .bf16) (k : Vec F S1x512x128 .bf16) : k0_pay54 q k = sc512 q k := rfl
theorem p55 (q : FVec F S1024x128 .bf16) (k : Vec F S1x512x128 .bf16) : k0_pay55 q k = rm (sc512 q k) := rfl
theorem p57 (q : FVec F S1024x128 .bf16) (k : Vec F S1x512x128 .bf16) : k0_pay57 q k = sc512 q k := rfl
theorem p58 (m : FVec F S1024x1 .f32) (s : FVec F S1024x512 .f32) (r : FVec F S1024 .f32) : k0_pay58 m s r = mxv (mxv m r) (rm s) := rfl
theorem p59 (s : FVec F S1024x512 .f32) (m : FVec F S1024x1 .f32) (a : FVec F S1024x256 .f32) (s' : FVec F S1024x512 .f32) (r : FVec F S1024 .f32)
    (v v' : Vec F S1x512x128 .bf16) :
    k0_pay59 s m a s' r v v' = st (pr s' (mxv (mxv m r) (rm s'))) (mxv m r) (mxv (mxv m r) (rm s')) (st (pr s (mxv m r)) m (mxv m r) a v) v' := rfl
theorem p60 (q : FVec F S1024x128 .bf16) (k : Vec F S1x512x128 .bf16) : k0_pay60 q k = sc512 q k := rfl
theorem p61 (q : FVec F S1024x128 .bf16) (k : Vec F S1x512x128 .bf16) : k0_pay61 q k = rm (sc512 q k) := rfl
theorem p62 (s : FVec F S1024x512 .f32) (m : FVec F S1024x1 .f32) (a : FVec F S1024x256 .f32) (s' : FVec F S1024x512 .f32) (r : FVec F S1024 .f32)
    (v v' : Vec F S1x512x128 .bf16) :
    k0_pay62 s m a s' r v v' = fin (st (pr s' (mxv (mxv m r) (rm s'))) (mxv m r) (mxv (mxv m r) (rm s')) (st (pr s (mxv m r)) m (mxv m r) a v) v') := rfl
theorem p63 (s : FVec F S1024x512 .f32) (m : FVec F S1024x1 .f32) (a : FVec F S1024x256 .f32) (s' : FVec F S1024x512 .f32) (r : FVec F S1024 .f32)
    (v v' : Vec F S1x512x128 .bf16) :
    k0_pay63 s m a s' r v v' = slab0 (k0_pay62 s m a s' r v v') := rfl
theorem p1 (s : FVec F S1024x512 .f32) (m : FVec F S1024x1 .f32) (a : FVec F S1024x256 .f32) (s' : FVec F S1024x512 .f32) (r : FVec F S1024 .f32)
    (v v' : Vec F S1x512x128 .bf16) :
    k0_pay1 (k0_pay64 s m a s' r v v') = slab1 (k0_pay62 s m a s' r v v') := rfl
theorem p2 (o : FVec F S1024x128 .f32) : k0_pay2 o = slab2 o := rfl
theorem p3 (o : FVec F S1024x128 .f32) : k0_pay3 o = slab3 o := rfl

end Cert.GqaIdeal.Steps

end
-- ==== Proof.GqaOut.lean ====
/- What the attention kernel's body leaves in the result's block, as a function of the five staged blocks: four query heads by two halves of 256
   rows, each the quotient of the recurrence over the context chunk and the eight chunks of latent keys. -/
module

public import proofs.«01_k».proof.Proof.GqaSteps
public import Idealize.ShloMosaic.Lib.Pipeline.ValueKit
public import Idealize.ShloMosaic.Lib.Pointwise

@[expose] public section

set_option maxRecDepth 16384

noncomputable section

namespace Cert.GqaIdeal.Steps

open Cert.GqaIdeal Cert.GqaIdeal.Gen Idealize.ShloMosaic Idealize.ShloMosaic.TcCoe Idealize.SL.Sem

variable {F : FTy → Type} [FloatOps F] [Named F]

/-- The eight chunks of 512 keys (or values) of a batch row. -/
def chunks (x : Vec F S1x4096x128 .bf16) : ℕ → Vec F S1x512x128 .bf16 :=
  seq8 (View.ld x (Rect.unit ![0, 0, 0] S1x512x128.size inb_S1x4096x128_S1x512x128_0_0_0))
    (View.ld x (Rect.unit ![0, 512, 0] S1x512x128.size inb_S1x4096x128_S1x512x128_0_512_0))
    (View.ld x (Rect.unit ![0, 1024, 0] S1x512x128.size inb_S1x4096x128_S1x512x128_0_1024_0))
    (View.ld x (Rect.unit ![0, 1536, 0] S1x512x128.size inb_S1x4096x128_S1x512x128_0_1536_0))
    (View.ld x (Rect.unit ![0, 2048, 0] S1x512x128.size inb_S1x4096x128_S1x512x128_0_2048_0))
    (View.ld x (Rect.unit ![0, 2560, 0] S1x512x128.size inb_S1x4096x128_S1x512x128_0_2560_0))
    (View.ld x (Rect.unit ![0, 3072, 0] S1x512x128.size inb_S1x4096x128_S1x512x128_0_3072_0))
    (View.ld x (Rect.unit ![0, 3584, 0] S1x512x128.size inb_S1x4096x128_S1x512x128_0_3584_0))

/-- The query rows of the first half of the tile, scaled, the four heads one below the other. -/
def qa (x : Vec F S4x512x128 .f32) : FVec F S1024x128 .bf16 :=
  k0_pay4 (View.ld x (Rect.unit ![0, 0, 0] S1x256x128.size inb_S4x512x128_S1x256x128_0_0_0))
    (View.ld x (Rect.unit ![1, 0, 0] S1x256x128.size inb_S4x512x128_S1x256x128_1_0_0))
    (View.ld x (Rect.unit ![2, 0, 0] S1x256x128.size inb_S4x512x128_S1x256x128_2_0_0))
    (View.ld x (Rect.unit ![3, 0, 0] S1x256x128.size inb_S4x512x128_S1x256x128_3_0_0))

/-- … and of the second half. -/
def qb (x : Vec F S4x512x128 .f32) : FVec F S1024x128 .bf16 :=
  k0_pay4 (View.ld x (Rect.unit ![0, 256, 0] S1x256x128.size inb_S4x512x128_S1x256x128_0_256_0))
    (View.ld x (Rect.unit ![1, 256, 0] S1x256x128.size inb_S4x512x128_S1x256x128_1_256_0))
    (View.ld x (Rect.unit ![2, 256, 0] S1x256x128.size inb_S4x512x128_S1x256x128_2_256_0))
    (View.ld x (Rect.unit ![3, 256, 0] S1x256x128.size inb_S4x512x128_S1x256x128_3_256_0))

/-- The context block as the body loads it (all of it). -/
def whole (x : Vec F S1x256x128 .bf16) : Vec F S1x256x128 .bf16 :=
  View.ld x (Rect.unit ![0, 0, 0] S1x256x128.size inb_S1x256x128_S1x256x128_0_0_0)

/-- The quotients of 1024 query rows. -/
def O (q : FVec F S1024x128 .bf16) (x1 x2 : Vec F S1x256x128 .bf16) (x3 x4 : Vec F S1x4096x128 .bf16) : FVec F S1024x128 .f32 :=
  fin (A q (whole x1) (whole x2) (chunks x3) (chunks x4) 8)

/-- What is stored at head `g` of the group, row `r` of the tile and lane `l`. -/
def Gout (x0 : Vec Ideal S4x512x128 .f32) (x1 x2 : Vec Ideal S1x256x128 .bf16) (x3 x4 : Vec Ideal S1x4096x128 .bf16) (g : Fin 4) (r : Fin 512) (l : Fin 128) : EReal :=
  if h : r.val < 256 then O (qa x0) x1 x2 x3 x4 (ix2 ⟨256 * g.val + r.val, by omega⟩ l)
  else O (qb x0) x1 x2 x3 x4 (ix2 ⟨256 * g.val + (r.val - 256), by omega⟩ l)

theorem slab0_at (o : FVec Ideal S1024x128 .f32) (x : S1x256x128.Idx) (k : Fin 1024) (l : Fin 128) (hk : k.val = 0 + (x 1).val) (hl : l.val = (x 2).val) :
    slab0 o x = o (ix2 k l) := by
  idx_vars x
  obtain ⟨k, hkb⟩ := k
  obtain ⟨l, hlb⟩ := l
  change k = _ at hk
  change l = _ at hl
  subst hk hl
  pointwise [slab0]

theorem slab1_at (o : FVec Ideal S1024x128 .f32) (x : S1x256x128.Idx) (k : Fin 1024) (l : Fin 128) (hk : k.val = 256 + (x 1).val) (hl : l.val = (x 2).val) :
    slab1 o x = o (ix2 k l) := by
  idx_vars x
  obtain ⟨k, hkb⟩ := k
  obtain ⟨l, hlb⟩ := l
  change k = _ at hk
  change l = _ at hl
  subst hk hl
  pointwise [slab1]

theorem slab2_at (o : FVec Ideal S1024x128 .f32) (x : S1x256x128.Idx) (k : Fin 1024) (l : Fin 128) (hk : k.val = 512 + (x 1).val) (hl : l.val = (x 2).val) :
    slab2 o x = o (ix2 k l) := by
  idx_vars x
  obtain ⟨k, hkb⟩ := k
  obtain ⟨l, hlb⟩ := l
  change k = _ at hk
  change l = _ at hl
  subst hk hl
  pointwise [slab2]

theorem slab3_at (o : FVec Ideal S1024x128 .f32) (x : S1x256x128.Idx) (k : Fin 1024) (l : Fin 128) (hk : k.val = 768 + (x 1).val) (hl : l.val = (x 2).val) :
    slab3 o x = o (ix2 k l) := by
  idx_vars x
  obtain ⟨k, hkb⟩ := k
  obtain ⟨l, hlb⟩ := l
  change k = _ at hk
  change l = _ at hl
  subst hk hl
  pointwise [slab3]

theorem Gout_a (x0 : Vec Ideal S4x512x128 .f32) (x1 x2 : Vec Ideal S1x256x128 .bf16) (x3 x4 : Vec Ideal S1x4096x128 .bf16) (g : Fin 4) (r : Fin 512) (l : Fin 128) (k : Fin 1024)
    (h : r.val < 256) (hk : k.val = 256 * g.val + r.val) : Gout x0 x1 x2 x3 x4 g r l = O (qa x0) x1 x2 x3 x4 (ix2 k l) := by
  rw [Gout, dif_pos h]
  exact congrArg (fun k => O (qa x0) x1 x2 x3 x4 (ix2 k l)) (Fin.ext hk.symm)

theorem Gout_b (x0 : Vec Ideal S4x512x128 .f32) (x1 x2 : Vec Ideal S1x256x128 .bf16) (x3 x4 : Vec Ideal S1x4096x128 .bf16) (g : Fin 4) (r : Fin 512) (l : Fin 128) (k : Fin 1024)
    (h : ¬ r.val < 256) (hk : k.val = 256 * g.val + (r.val - 256)) : Gout x0 x1 x2 x3 x4 g r l = O (qb x0) x1 x2 x3 x4 (ix2 k l) := by
  rw [Gout, dif_neg h]
  exact congrArg (fun k => O (qb x0) x1 x2 x3 x4 (ix2 k l)) (Fin.ext hk.symm)

theorem o_second (c : Dev nD) (t : Fin cfg0.N) (x0 : Vec F S4x512x128 .f32) (x1 x2 : Vec F S1x256x128 .bf16) (x3 x4 : Vec F S1x4096x128 .bf16) :
    kernelRun0_A.sl.r_50 c (ms0_0 t) (hs0_0 t) (ms0_1 t) (hs0_1 t) (ms0_2 t) (hs0_2 t) (ms0_3 t) (hs0_3 t) (ms0_4 t) (hs0_4 t) x0 x1 x2 x3 x4 = O (qb x0) x1 x2 x3 x4 := by
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, View.readAt_eq_ld, (hs0_0 t).read_unread, (hs0_1 t).read_unread, (hs0_2 t).read_unread, (hs0_3 t).read_unread, (hs0_4 t).read_unread, p5, p6, p7, p8, p10, p11, p12, p13, p14, p16, p17, p18, p19, p20, p22, p23, p24, p25, p26, p27, p28, p29, p32, p33, p34, p35, p36, p37, p38, p39, p40, p41, p42, p43, p45, p46, p47, p48, p49, p51, p52, p53, p54, p55, p57, p58, p59, p60, p61, p62, p63, p1, p2, p3]
  rfl

theorem o_first (c : Dev nD) (t : Fin cfg0.N) (x0 : Vec F S4x512x128 .f32) (x1 x2 : Vec F S1x256x128 .bf16) (x3 x4 : Vec F S1x4096x128 .bf16) :
    kernelRun0_A.sl.r_29 c (ms0_0 t) (hs0_0 t) (ms0_1 t) (hs0_1 t) (ms0_2 t) (hs0_2 t) (ms0_3 t) (hs0_3 t) (ms0_4 t) (hs0_4 t) x0 x1 x2 x3 x4 = O (qa x0) x1 x2 x3 x4 := by
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, View.readAt_eq_ld, (hs0_0 t).read_unread, (hs0_1 t).read_unread, (hs0_2 t).read_unread, (hs0_3 t).read_unread, (hs0_4 t).read_unread, p5, p6, p7, p8, p10, p11, p12, p13, p14, p16, p17, p18, p19, p20, p22, p23, p24, p25, p26, p27, p28, p29, p32, p33, p34, p35, p36, p37, p38, p39, p40, p41, p42, p43, p45, p46, p47, p48, p49, p51, p52, p53, p54, p55, p57, p58, p59, p60, p61, p62, p63, p1, p2, p3]
  rfl

set_option maxHeartbeats 2000000 in
theorem out_at (c : Dev nD) (t : Fin cfg0.N) (x0 : Vec Ideal S4x512x128 .f32) (x1 x2 : Vec Ideal S1x256x128 .bf16) (x3 x4 : Vec Ideal S1x4096x128 .bf16) (y : S4x512x128.Idx) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 x3 x4 y = Gout x0 x1 x2 x3 x4 (y 0) (y 1) (y 2) := by
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 x3 x4)]
  unfold kernelRun0_A
  dsimp only
  have h51 : k0_pay1 (kernelRun0_A.sl.r_51 c (ms0_0 t) (hs0_0 t) (ms0_1 t) (hs0_1 t) (ms0_2 t) (hs0_2 t) (ms0_3 t) (hs0_3 t) (ms0_4 t) (hs0_4 t) x0 x1 x2 x3 x4) = slab1 (O (qb x0) x1 x2 x3 x4) := by
    rw [← o_second c t]; unfold kernelRun0_A.sl.r_51 kernelRun0_A.sl.r_50; exact p1 _ _ _ _ _ _ _
  simp only [h51, p2, p3, p36, p37, p38, o_first, o_second]
  have e1 := o_first c t x0 x1 x2 x3 x4
  have e2 := o_second c t x0 x1 x2 x3 x4
  unfold kernelRun0_A.sl.r_29 at e1
  unfold kernelRun0_A.sl.r_50 at e2
  rw [p62] at e2
  rw [p34] at e1
  simp only [p63, p62, p35, e1, e2]
  canon_tiles x h
  · exact (slab3_at _ x ⟨768 + (x 1).val, by omega⟩ (y 2) rfl h2).trans (Gout_b _ _ _ _ _ (y 0) (y 1) (y 2) _ (by omega) (show 768 + (x 1).val = 256 * (y 0).val + ((y 1).val - 256) by omega)).symm
  · exact (slab2_at _ x ⟨512 + (x 1).val, by omega⟩ (y 2) rfl h2).trans (Gout_b _ _ _ _ _ (y 0) (y 1) (y 2) _ (by omega) (show 512 + (x 1).val = 256 * (y 0).val + ((y 1).val - 256) by omega)).symm
  · exact (slab1_at _ x ⟨256 + (x 1).val, by omega⟩ (y 2) rfl h2).trans (Gout_b _ _ _ _ _ (y 0) (y 1) (y 2) _ (by omega) (show 256 + (x 1).val = 256 * (y 0).val + ((y 1).val - 256) by omega)).symm
  · exact (slab0_at _ x ⟨0 + (x 1).val, by omega⟩ (y 2) rfl h2).trans (Gout_b _ _ _ _ _ (y 0) (y 1) (y 2) _ (by omega) (show 0 + (x 1).val = 256 * (y 0).val + ((y 1).val - 256) by omega)).symm
  · exact (slab3_at _ x ⟨768 + (x 1).val, by omega⟩ (y 2) rfl h2).trans (Gout_a _ _ _ _ _ (y 0) (y 1) (y 2) _ (by omega) (show 768 + (x 1).val = 256 * (y 0).val + (y 1).val by omega)).symm
  · exact (slab2_at _ x ⟨512 + (x 1).val, by omega⟩ (y 2) rfl h2).trans (Gout_a _ _ _ _ _ (y 0) (y 1) (y 2) _ (by omega) (show 512 + (x 1).val = 256 * (y 0).val + (y 1).val by omega)).symm
  · exact (slab1_at _ x ⟨256 + (x 1).val, by omega⟩ (y 2) rfl h2).trans (Gout_a _ _ _ _ _ (y 0) (y 1) (y 2) _ (by omega) (show 256 + (x 1).val = 256 * (y 0).val + (y 1).val by omega)).symm
  · exact (slab0_at _ x ⟨0 + (x 1).val, by omega⟩ (y 2) rfl h2).trans (Gout_a _ _ _ _ _ (y 0) (y 1) (y 2) _ (by omega) (show 0 + (x 1).val = 256 * (y 0).val + (y 1).val by omega)).symm

end Cert.GqaIdeal.Steps

end
-- ==== Proof.Flash.lean ====
/- Softmax by parts, over the extended reals. A row of real scores is met in parts; what is carried from part to part
   is a real offset and, at that offset, the sum of the weighted values. This module proves that taking in one more part
   keeps the sum over everything met so far, whatever the offsets are, and that the quotient of the weighted sum by the sum of the
   weights is the softmax average taken at once. -/
module

public import Idealize.ShloMosaic.PureOps.Ideal
public import Mathlib.Algebra.BigOperators.Fin

@[expose] public section

noncomputable section

namespace Cert.Flash

open Idealize.ShloMosaic

/-- A sum of reals is real. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A nonnegative real factor goes into a sum of extended reals. -/
theorem mul_sum_of_nonneg {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The largest of finitely many reals, at least one, is real. -/
theorem exists_fold_max {n : ℕ} (hn : 0 < n) (f : Fin n → ℝ) :
    ∃ M : ℝ, Finset.univ.fold max (⊥ : EReal) (fun k => ((f k : ℝ) : EReal)) = M := by
  classical
  have key : ∀ s : Finset (Fin n), (s.fold max (⊥ : EReal) (fun k => ((f k : ℝ) : EReal)) = ⊥ ∧ s = ∅)
      ∨ ∃ M : ℝ, s.fold max (⊥ : EReal) (fun k => ((f k : ℝ) : EReal)) = M := by
    intro s
    induction s using Finset.induction_on with
    | empty => exact Or.inl ⟨rfl, rfl⟩
    | insert a s ha ih =>
      right
      rw [Finset.fold_insert ha]
      rcases ih with ⟨h, -⟩ | ⟨M, h⟩
      · exact ⟨f a, by rw [h]; exact max_bot_right _⟩
      · exact ⟨max (f a) M, by rw [h]; exact (EReal.coe_strictMono.monotone.map_max).symm⟩
  rcases key Finset.univ with ⟨-, h⟩ | h
  · exact absurd (h ▸ Finset.mem_univ (⟨0, hn⟩ : Fin n)) (Finset.notMem_empty _)
  · exact h

/-- `2 ^ (x - y)` at reals. -/
theorem exp2_sub (x y : ℝ) : Ideal.exp2 ((x : EReal) - (y : EReal)) = (((2 : ℝ) ^ (x - y) : ℝ) : EReal) := by
  rw [← EReal.coe_sub]; rfl

theorem exp_sub (x y : ℝ) : Ideal.exp ((x : EReal) - (y : EReal)) = ((Real.exp (x - y) : ℝ) : EReal) := by
  rw [← EReal.coe_sub]; rfl

/-- The weighted sum over the first `n` keys, at the offset `M`: the scores are `σ`, the values `ω`. -/
def Acc (σ : ℕ → ℝ) (ω : ℕ → EReal) (n : ℕ) (M : ℝ) : EReal :=
  ∑ k ∈ Finset.range n, (((2 : ℝ) ^ (σ k - M) : ℝ) : EReal) * ω k

/-- The first part. -/
theorem acc_first (σ : ℕ → ℝ) (ω : ℕ → EReal) (b : ℕ) (M : ℝ) :
    (∑ k : Fin b, Ideal.exp2 (((σ k : ℝ) : EReal) - (M : EReal)) * ω k) = Acc σ ω b M := by
  unfold Acc
  rw [Finset.sum_range]
  exact Finset.sum_congr rfl fun k _ => by rw [exp2_sub]

/-- One more part: the sum so far is carried to the new offset, and the part's own sum is added. -/
theorem acc_step (σ : ℕ → ℝ) (ω : ℕ → EReal) (n b : ℕ) (M M' : ℝ) :
    Ideal.exp2 ((M : EReal) - (M' : EReal)) * Acc σ ω n M
      + (∑ k : Fin b, Ideal.exp2 (((σ (n + k) : ℝ) : EReal) - (M' : EReal)) * ω (n + k)) = Acc σ ω (n + b) M' := by
  unfold Acc
  rw [Finset.sum_range_add, exp2_sub, mul_sum_of_nonneg _ _ (Real.rpow_nonneg (by norm_num) _)]
  congr 1
  · refine Finset.sum_congr rfl fun k _ => ?_
    rw [← mul_assoc, ← EReal.coe_mul, ← Real.rpow_add (by norm_num : (0 : ℝ) < 2)]
    congr 3; ring
  · rw [Finset.sum_range]
    exact Finset.sum_congr rfl fun k _ => by rw [exp2_sub]

/-- The quotient of the two sums is the softmax average: `s` the scores of base `e`, `σ` those of base 2. -/
theorem acc_quotient (σ s : ℕ → ℝ) (hσ : ∀ k, σ k * Real.log 2 = s k) (ω : ℕ → EReal) (n : ℕ) (hn : 0 < n) (M M' : ℝ) :
    Ideal.div (Acc σ ω n M) (Acc σ (fun _ => 1) n M)
      = ∑ k : Fin n, Ideal.div (Ideal.exp (((s k : ℝ) : EReal) - (M' : EReal)))
          (∑ k : Fin n, Ideal.exp (((s k : ℝ) : EReal) - (M' : EReal))) * ω k := by
  have hc : ∀ k : ℕ, (2 : ℝ) ^ (σ k - M) = Real.exp (M' - M * Real.log 2) * Real.exp (s k - M') := by
    intro k
    rw [Real.rpow_def_of_pos (by norm_num), ← Real.exp_add, ← hσ]
    congr 1; ring
  have hcpos : 0 < Real.exp (M' - M * Real.log 2) := Real.exp_pos _
  generalize Real.exp (M' - M * Real.log 2) = c at hc hcpos
  set L : ℝ := ∑ k : Fin n, Real.exp (s k - M') with hL
  have hLpos : 0 < L := Finset.sum_pos (fun k _ => Real.exp_pos _) ⟨⟨0, hn⟩, Finset.mem_univ _⟩
  have e1 : Acc σ (fun _ => 1) n M = ((c * L : ℝ) : EReal) := by
    unfold Acc
    rw [Finset.sum_range, hL, Finset.mul_sum, ← coe_sum]
    exact Finset.sum_congr rfl fun k _ => by rw [mul_one, hc]
  have e2 : Acc σ ω n M = (c : EReal) * ∑ k : Fin n, ((Real.exp (s k - M') : ℝ) : EReal) * ω k := by
    unfold Acc
    rw [Finset.sum_range, mul_sum_of_nonneg _ _ hcpos.le]
    exact Finset.sum_congr rfl fun k _ => by rw [hc, EReal.coe_mul, mul_assoc]
  have e3 : (∑ k : Fin n, Ideal.exp (((s k : ℝ) : EReal) - (M' : EReal))) = ((L : ℝ) : EReal) := by
    rw [hL, ← coe_sum]
    exact Finset.sum_congr rfl fun k _ => by rw [exp_sub]
  rw [e1, e2, e3, Ideal.div_coe (mul_pos hcpos hLpos).ne']
  have e4 : ((c : EReal) * ∑ k : Fin n, ((Real.exp (s k - M') : ℝ) : EReal) * ω k) * (((1 / (c * L) : ℝ)) : EReal)
      = ((1 / L : ℝ) : EReal) * ∑ k : Fin n, ((Real.exp (s k - M') : ℝ) : EReal) * ω k := by
    rw [mul_comm, ← mul_assoc, ← EReal.coe_mul]
    congr 2
    field_simp
  rw [e4, mul_sum_of_nonneg _ _ (by positivity)]
  refine Finset.sum_congr rfl fun k _ => ?_
  rw [exp_sub, Ideal.div_coe hLpos.ne', ← mul_assoc, mul_comm ((1 / L : ℝ) : EReal)]

end Cert.Flash

end
-- ==== Proof.Consts.lean ====
/- The constants of the programs as extended reals. -/
module

public import Idealize.ShloMosaic.PureOps.Ideal

@[expose] public section

noncomputable section

namespace Cert.Consts

open Idealize.ShloMosaic

theorem neg_inf : Ideal.ofBits .f32 0xFF800000#32 = ⊥ := by
  simp [Ideal.ofBits, Ideal.ieee]

theorem inf : Ideal.ofBits .f32 0x7F800000#32 = ⊤ := by
  simp [Ideal.ofBits, Ideal.ieee]

/-- The scale of the scores, `128 ^ (-1/2)` as a 32-bit float. -/
theorem scale : Ideal.ofBits .f32 0x3DB504F3#32 = ((11863283 / 134217728 : ℝ) : EReal) := by
  simp [Ideal.ofBits, Ideal.ieee, -EReal.coe_mul]; norm_num

/-- The scale of the latent attention's scores, `96 ^ (-1/2)` as a 32-bit float. -/
theorem scale96 : Ideal.ofBits .f32 0x3DD105EC#32 = ((3424635 / 33554432 : ℝ) : EReal) := by
  simp [Ideal.ofBits, Ideal.ieee, -EReal.coe_mul]; norm_num

theorem zero : Ideal.ofBits .f32 0x00000000#32 = 0 := by
  simp [Ideal.ofBits, Ideal.ieee]

theorem one : Ideal.ofBits .f32 0x3F800000#32 = 1 := by
  simp [Ideal.ofBits, Ideal.ieee, -EReal.coe_mul]; norm_num

end Cert.Consts

end
-- ==== Proof.GqaRows.lean ====
/- The recurrence of the attention kernel read row by row. Where the scores of a row are real, the running maximum is real and the running sum
   is the weighted sum over the keys met so far; the quotient at the end is the quotient of the two sums over all keys. -/
module

public import proofs.«01_k».proof.Proof.GqaOut
public import proofs.«01_k».proof.Proof.Flash
public import proofs.«01_k».proof.Proof.Consts

@[expose] public section

set_option maxRecDepth 16384

noncomputable section

namespace Cert.GqaIdeal.Steps

open Cert.GqaIdeal Cert.GqaIdeal.Gen Idealize.ShloMosaic Idealize.ShloMosaic.TcCoe Idealize.SL.Sem Cert.Flash

theorem mx0_at (s : FVec Ideal S1024x256 .f32) (r : Fin 1024) (z : Fin 1) :
    mx0 s (ix2 r z) = Finset.univ.fold max (⊥ : EReal) fun k : Fin 256 => s (ix2 r k) := by
  pointwise [mx0, Consts.neg_inf]

theorem mxv_at (m : FVec Ideal S1024x1 .f32) (s : FVec Ideal S1024x512 .f32) (r : Fin 1024) (z : Fin 1) :
    mxv m (rm s) (ix2 r z) = max (m (ix2 r z)) (Finset.univ.fold max (⊥ : EReal) fun k : Fin 512 => s (ix2 r k)) := by
  pointwise [mxv, rm, Consts.neg_inf]

theorem ac0_lo (s : FVec Ideal S1024x256 .f32) (v : Vec Ideal S1x256x128 .bf16) (r : Fin 1024) (l : Fin 128) :
    ac0 (ex0 s) v (ix2 r ⟨l.val, by omega⟩) = ∑ k : Fin 256, Ideal.exp2 (s (ix2 r k) - mx0 s (ix2 r 0)) * v (ix3 0 k l) := by
  pointwise [ac0, ex0]
  rfl

theorem ac0_hi (s : FVec Ideal S1024x256 .f32) (v : Vec Ideal S1x256x128 .bf16) (r : Fin 1024) (l : Fin 128) :
    ac0 (ex0 s) v (ix2 r ⟨128 + l.val, by omega⟩) = ∑ k : Fin 256, Ideal.exp2 (s (ix2 r k) - mx0 s (ix2 r 0)) * 1 := by
  pointwise [ac0, ex0]
  rfl

theorem st_lo (s : FVec Ideal S1024x512 .f32) (m m' : FVec Ideal S1024x1 .f32) (a : FVec Ideal S1024x256 .f32) (v : Vec Ideal S1x512x128 .bf16)
    (r : Fin 1024) (l : Fin 128) :
    st (pr s m') m m' a v (ix2 r ⟨l.val, by omega⟩) = Ideal.exp2 (m (ix2 r 0) - m' (ix2 r 0)) * a (ix2 r ⟨l.val, by omega⟩)
      + ∑ k : Fin 512, Ideal.exp2 (s (ix2 r k) - m' (ix2 r 0)) * v (ix3 0 k l) := by
  pointwise [st, pr]
  rfl

theorem st_hi (s : FVec Ideal S1024x512 .f32) (m m' : FVec Ideal S1024x1 .f32) (a : FVec Ideal S1024x256 .f32) (v : Vec Ideal S1x512x128 .bf16)
    (r : Fin 1024) (l : Fin 128) :
    st (pr s m') m m' a v (ix2 r ⟨128 + l.val, by omega⟩) = Ideal.exp2 (m (ix2 r 0) - m' (ix2 r 0)) * a (ix2 r ⟨128 + l.val, by omega⟩)
      + ∑ k : Fin 512, Ideal.exp2 (s (ix2 r k) - m' (ix2 r 0)) * 1 := by
  pointwise [st, pr]
  rfl

theorem fin_at (a : FVec Ideal S1024x256 .f32) (r : Fin 1024) (l : Fin 128) :
    fin a (ix2 r l) = Ideal.div (a (ix2 r ⟨l.val, by omega⟩)) (a (ix2 r ⟨128 + l.val, by omega⟩)) := by
  pointwise [fin]

theorem sc256_at (q : FVec Ideal S1024x128 .bf16) (k : Vec Ideal S1x256x128 .bf16) (r : Fin 1024) (j : Fin 256) :
    sc256 q k (ix2 r j) = ∑ d : Fin 128, q (ix2 r d) * k (ix3 0 j d) := by
  pointwise [sc256]

theorem sc512_at (q : FVec Ideal S1024x128 .bf16) (k : Vec Ideal S1x512x128 .bf16) (r : Fin 1024) (j : Fin 512) :
    sc512 q k (ix2 r j) = ∑ d : Fin 128, q (ix2 r d) * k (ix3 0 j d) := by
  pointwise [sc512]

theorem chunks_at (x : Vec Ideal S1x4096x128 .bf16) (n : ℕ) (hn : n < 8) (j : Fin 512) (d : Fin 128) :
    chunks x n (ix3 0 j d) = x (ix3 0 ⟨512 * n + j.val, by omega⟩ d) := by
  have h : n = 0 ∨ n = 1 ∨ n = 2 ∨ n = 3 ∨ n = 4 ∨ n = 5 ∨ n = 6 ∨ n = 7 := by omega
  rcases h with rfl | rfl | rfl | rfl | rfl | rfl | rfl | rfl <;> (pointwise [chunks, seq8]; try rfl)

theorem whole_at (x : Vec Ideal S1x256x128 .bf16) (j : Fin 256) (d : Fin 128) : whole x (ix3 0 j d) = x (ix3 0 j d) := by
  pointwise [whole]

/-- The factor of the queries. -/
abbrev qs : EReal := Named.named (F := Ideal) (φ := .f32) κ "qscale" 0x3E0293EE#32

theorem qa_at (x : Vec Ideal S4x512x128 .f32) (g : Fin 4) (i : Fin 256) (d : Fin 128) (k : Fin 1024) (hk : k.val = 256 * g.val + i.val) :
    qa x (ix2 k d) = x (ix3 g ⟨i.val, by omega⟩ d) * qs := by
  have hi := i.isLt
  obtain ⟨k, hkb⟩ := k
  change k = _ at hk
  pointwise [qa, k0_pay4]
  obtain ⟨g, hg⟩ := g
  change k = 256 * g + _ at hk
  have h : g = 0 ∨ g = 1 ∨ g = 2 ∨ g = 3 := by omega
  rcases h with rfl | rfl | rfl | rfl
  · rw [dif_pos (by omega)]
    exact congrArg (fun e : Fin 512 => x (ix3 0 e d) * qs) (Fin.ext (by show k = i.val; omega))
  · rw [dif_neg (by omega), dif_pos (by omega)]
    exact congrArg (fun e : Fin 512 => x (ix3 1 e d) * qs) (Fin.ext (by show (k - 256) = i.val; omega))
  · rw [dif_neg (by omega), dif_neg (by omega), dif_pos (by omega)]
    exact congrArg (fun e : Fin 512 => x (ix3 2 e d) * qs) (Fin.ext (by show (k - 256 - 256) = i.val; omega))
  · rw [dif_neg (by omega), dif_neg (by omega), dif_neg (by omega)]
    exact congrArg (fun e : Fin 512 => x (ix3 3 e d) * qs) (Fin.ext (by show (k - 256 - 256 - 256) = i.val; omega))

theorem qb_at (x : Vec Ideal S4x512x128 .f32) (g : Fin 4) (i : Fin 256) (d : Fin 128) (k : Fin 1024) (hk : k.val = 256 * g.val + i.val) :
    qb x (ix2 k d) = x (ix3 g ⟨256 + i.val, by omega⟩ d) * qs := by
  have hi := i.isLt
  obtain ⟨k, hkb⟩ := k
  change k = _ at hk
  pointwise [qb, k0_pay4]
  obtain ⟨g, hg⟩ := g
  change k = 256 * g + _ at hk
  have h : g = 0 ∨ g = 1 ∨ g = 2 ∨ g = 3 := by omega
  rcases h with rfl | rfl | rfl | rfl
  · rw [dif_pos (by omega)]
    exact congrArg (fun e : Fin 512 => x (ix3 0 e d) * qs) (Fin.ext (by show 256 + k = 256 + i.val; omega))
  · rw [dif_neg (by omega), dif_pos (by omega)]
    exact congrArg (fun e : Fin 512 => x (ix3 1 e d) * qs) (Fin.ext (by show 256 + (k - 256) = 256 + i.val; omega))
  · rw [dif_neg (by omega), dif_neg (by omega), dif_pos (by omega)]
    exact congrArg (fun e : Fin 512 => x (ix3 2 e d) * qs) (Fin.ext (by show 256 + (k - 256 - 256) = 256 + i.val; omega))
  · rw [dif_neg (by omega), dif_neg (by omega), dif_neg (by omega)]
    exact congrArg (fun e : Fin 512 => x (ix3 3 e d) * qs) (Fin.ext (by show 256 + (k - 256 - 256 - 256) = 256 + i.val; omega))

/-- The recurrence along one row and one lane: the maximum stays real and the sum is the weighted sum so far. -/
theorem rows_lo (q : FVec Ideal S1024x128 .bf16) (kc vc : Vec Ideal S1x256x128 .bf16) (K V : ℕ → Vec Ideal S1x512x128 .bf16) (r : Fin 1024)
    (l : Fin 128) (σ : ℕ → ℝ) (ω : ℕ → EReal) (hc : ∀ k : Fin 256, sc256 q kc (ix2 r k) = ((σ k : ℝ) : EReal))
    (hl : ∀ n < 8, ∀ k : Fin 512, sc512 q (K n) (ix2 r k) = ((σ (256 + 512 * n + k) : ℝ) : EReal))
    (wc : ∀ k : Fin 256, vc (ix3 0 k l) = ω k) (wl : ∀ n < 8, ∀ k : Fin 512, V n (ix3 0 k l) = ω (256 + 512 * n + k)) (n : ℕ) (hn : n ≤ 8) :
    ∃ m : ℝ, M q kc K n (ix2 r 0) = (m : EReal)
      ∧ A q kc vc K V n (ix2 r ⟨l.val, by omega⟩) = Acc σ ω (256 + 512 * n) m
      ∧ A q kc vc K V n (ix2 r ⟨128 + l.val, by omega⟩) = Acc σ (fun _ => 1) (256 + 512 * n) m := by
  induction n with
  | zero =>
    obtain ⟨m, hm⟩ := exists_fold_max (by norm_num) fun k : Fin 256 => σ k
    have h0 : M q kc K 0 (ix2 r 0) = (m : EReal) := by
      rw [M, mx0_at, ← hm]; simp only [hc]
    have h0' := h0
    rw [M] at h0'
    refine ⟨m, h0, ?_, ?_⟩
    · rw [A, ac0_lo, h0', ← acc_first]
      exact Finset.sum_congr rfl fun k _ => by rw [hc, wc]
    · rw [A, ac0_hi, h0', ← acc_first σ (fun _ => 1)]
      exact Finset.sum_congr rfl fun k _ => by rw [hc]
  | succ n ih =>
    obtain ⟨m, h1, h2, h3⟩ := ih (by omega)
    obtain ⟨b, hb⟩ := exists_fold_max (by norm_num) fun k : Fin 512 => σ (256 + 512 * n + k)
    have h0 : M q kc K (n + 1) (ix2 r 0) = ((max m b : ℝ) : EReal) := by
      rw [M, mxv_at, h1, EReal.coe_strictMono.monotone.map_max, ← hb]
      simp only [hl n (by omega)]
    refine ⟨max m b, h0, ?_, ?_⟩
    · rw [A, st_lo, h0, h1, h2, show 256 + 512 * (n + 1) = (256 + 512 * n) + 512 by ring, ← acc_step σ ω (256 + 512 * n) 512 m]
      congr 1
      exact Finset.sum_congr rfl fun k _ => by rw [hl n (by omega), wl n (by omega)]
    · rw [A, st_hi, h0, h1, h3, show 256 + 512 * (n + 1) = (256 + 512 * n) + 512 by ring, ← acc_step σ (fun _ => 1) (256 + 512 * n) 512 m]
      congr 1
      exact Finset.sum_congr rfl fun k _ => by rw [hl n (by omega)]

/-- What the body computes at one row and lane: the quotient of the two sums over the 256 context keys and the 4096 latent ones. -/
theorem O_at (q : FVec Ideal S1024x128 .bf16) (x1 x2 : Vec Ideal S1x256x128 .bf16) (x3 x4 : Vec Ideal S1x4096x128 .bf16) (r : Fin 1024)
    (l : Fin 128) (σ : ℕ → ℝ) (ω : ℕ → EReal) (hc : ∀ k : Fin 256, ∑ d : Fin 128, q (ix2 r d) * x1 (ix3 0 k d) = ((σ k : ℝ) : EReal))
    (hl : ∀ k : Fin 4096, ∑ d : Fin 128, q (ix2 r d) * x3 (ix3 0 k d) = ((σ (256 + k) : ℝ) : EReal))
    (wc : ∀ k : Fin 256, x2 (ix3 0 k l) = ω k) (wl : ∀ k : Fin 4096, x4 (ix3 0 k l) = ω (256 + k)) :
    ∃ m : ℝ, O q x1 x2 x3 x4 (ix2 r l) = Ideal.div (Acc σ ω 4352 m) (Acc σ (fun _ => 1) 4352 m) := by
  obtain ⟨m, -, h2, h3⟩ := rows_lo q (whole x1) (whole x2) (chunks x3) (chunks x4) r l σ ω
    (fun k => by rw [sc256_at, ← hc]; exact Finset.sum_congr rfl fun d _ => by rw [whole_at])
    (fun n hn k => by
      rw [sc512_at, add_assoc, ← hl ⟨512 * n + k.val, by omega⟩]; exact Finset.sum_congr rfl fun d _ => by rw [chunks_at _ n hn])
    (fun k => by rw [whole_at, wc])
    (fun n hn k => by rw [chunks_at _ n hn, add_assoc, ← wl ⟨512 * n + k.val, by omega⟩]) 8 le_rfl
  exact ⟨m, by rw [O, fin_at, h2, h3]⟩

end Cert.GqaIdeal.Steps

end
-- ==== Proof.GqaEntry.lean ====
/- The arrays the attention kernel's blocks are cut from, in terms of the arguments: the queries, keys and values of all batch rows one below the
   other, head by head, the latent rows first and the context rows after them. -/
module

public import proofs.«01_k».proof.Proof.GqaRows
public import Idealize.ShloMosaic.Lib.Claim

@[expose] public section

set_option maxRecDepth 16384

noncomputable section

namespace Cert.GqaIdeal.Steps

open Cert.GqaIdeal Cert.GqaIdeal.Gen Idealize.ShloMosaic Idealize.ShloMosaic.TcCoe Idealize.SL.Sem

variable (m : (ℓ : Loc nD τ sig) → Buf (Elt Ideal) ℓ)

/-- The queries of all rows. -/
def qarr (q : FVec Ideal S8x4096x2x4x128 .f32) (qc : FVec Ideal S8x256x2x4x128 .f32) : FVec Ideal S8x34816x128 .f32 :=
  concatenate S8x34816x128 1
    [⟨S8x32768x128, transpose S8x32768x128 [1, 0, 2] (shapeCast S32768x8x128 q shapeCasts_S8x4096x2x4x128_S32768x8x128) transposes_S32768x8x128_S8x32768x128_1_0_2⟩,
      ⟨S8x2048x128, transpose S8x2048x128 [1, 0, 2] (shapeCast S2048x8x128 qc shapeCasts_S8x256x2x4x128_S2048x8x128) transposes_S2048x8x128_S8x2048x128_1_0_2⟩]
    concatenates_S8x32768x128_S8x2048x128_S8x34816x128_d1

/-- The keys, or the values, of all rows. -/
def karr (k : FVec Ideal S8x4096x2x128 .f32) (kc : FVec Ideal S8x256x2x128 .f32) : FVec Ideal S2x34816x128 .bf16 :=
  truncf .bf16 (concatenate S2x34816x128 1
    [⟨S2x32768x128, transpose S2x32768x128 [1, 0, 2] (shapeCast S32768x2x128 k shapeCasts_S8x4096x2x128_S32768x2x128) transposes_S32768x2x128_S2x32768x128_1_0_2⟩,
      ⟨S2x2048x128, transpose S2x2048x128 [1, 0, 2] (shapeCast S2048x2x128 kc shapeCasts_S8x256x2x128_S2048x2x128) transposes_S2048x2x128_S2x2048x128_1_0_2⟩]
    concatenates_S2x32768x128_S2x2048x128_S2x34816x128_d1) bitsLt_bf16_f32

theorem qarr_at (q : FVec Ideal S8x4096x2x4x128 .f32) (qc : FVec Ideal S8x256x2x4x128 .f32) (h : Fin 8) (s : Fin 34816) (d : Fin 128)
    (hs : s.val < 32768) :
    qarr q qc (ix3 h s d) = q (ix5 ⟨s.val / 4096, by omega⟩ ⟨s.val % 4096, by omega⟩ ⟨h.val / 4, by omega⟩ ⟨h.val % 4, by omega⟩ d) := by
  pointwise [qarr]
  rw [dif_pos hs]

theorem karr_lat (k : FVec Ideal S8x4096x2x128 .f32) (kc : FVec Ideal S8x256x2x128 .f32) (h : Fin 2) (s : Fin 34816) (d : Fin 128)
    (hs : s.val < 32768) : karr k kc (ix3 h s d) = k (ix4 ⟨s.val / 4096, by omega⟩ ⟨s.val % 4096, by omega⟩ h d) := by
  pointwise [karr]
  rw [dif_pos hs]

theorem karr_ctx (k : FVec Ideal S8x4096x2x128 .f32) (kc : FVec Ideal S8x256x2x128 .f32) (h : Fin 2) (s : Fin 34816) (d : Fin 128)
    (hs : ¬ s.val < 32768) : karr k kc (ix3 h s d) = kc (ix4 ⟨(s.val - 32768) / 256, by omega⟩ ⟨(s.val - 32768) % 256, by omega⟩ h d) := by
  pointwise [karr]
  rw [dif_neg hs]

theorem v4_eq (c : Dev nD) : V m c main_v4 = qarr (m ((c : Thread nD τ).loc main_arg0)) (m ((c : Thread nD τ).loc main_arg1)) := by
  entry_read
  rfl

theorem v10_eq (c : Dev nD) : V m c main_v10 = karr (m ((c : Thread nD τ).loc main_arg2)) (m ((c : Thread nD τ).loc main_arg3)) := by
  entry_read
  rfl

theorem v16_eq (c : Dev nD) : V m c main_v16 = karr (m ((c : Thread nD τ).loc main_arg4)) (m ((c : Thread nD τ).loc main_arg5)) := by
  entry_read
  rfl

end Cert.GqaIdeal.Steps

end
-- ==== Proof.GqaBlocks.lean ====
/- The blocks the attention kernel's body reads at a grid point, in terms of the arguments. -/
module

public import proofs.«01_k».proof.Proof.GqaEntry

@[expose] public section

set_option maxRecDepth 16384

noncomputable section

namespace Cert.GqaIdeal.Steps

open Cert.GqaIdeal Cert.GqaIdeal.Gen Idealize.ShloMosaic Idealize.ShloMosaic.TcCoe Idealize.SL.Sem

variable (m : (ℓ : Loc nD τ sig) → Buf (Elt Ideal) ℓ)

theorem t_lt (t : Fin cfg0.N) : t.val < 128 := lt_of_lt_of_eq t.isLt (by decide +kernel)

/-- The batch row, the key head and the tile of query rows of a grid point. -/
def bO (t : Fin cfg0.N) : Fin 8 := ⟨t.val / 16, by have := t_lt t; omega⟩
def hO (t : Fin cfg0.N) : Fin 2 := ⟨t.val / 8 % 2, by omega⟩
def rO (t : Fin cfg0.N) : Fin 8 := ⟨t.val % 8, by omega⟩

theorem idx : ∀ t : Fin cfg0.N, win0_0.index t = ![t.val / 8 % 2, t.val / 16 * 8 + t.val % 8, 0] ∧ win0_1.index t = ![t.val / 8 % 2, 128 + t.val / 16, 0]
    ∧ win0_2.index t = ![t.val / 8 % 2, 128 + t.val / 16, 0] ∧ win0_3.index t = ![t.val / 8 % 2, t.val / 16, 0]
    ∧ win0_4.index t = ![t.val / 8 % 2, t.val / 16, 0] ∧ win0_5.index t = ![t.val / 8 % 2, t.val / 16 * 8 + t.val % 8, 0] :=
  (by decide +kernel : ∀ t : Fin grid0.N, _)

theorem emb0 (t : Fin cfg0.N) (g : Fin 4) (r : Fin 512) (d : Fin 128) :
    (win0_0.blk t).view.emb (ix3 g r d)
      = (ix3 ⟨4 * (t.val / 8 % 2) + g.val, by omega⟩ ⟨512 * (t.val / 16 * 8 + t.val % 8) + r.val, by have := t_lt t; omega⟩ d : S8x34816x128.Idx) := by
  have ht := t_lt t
  blk_ext [idx t]

/-- The queries' block: four heads of one key head, 512 rows of one batch row. -/
theorem blk0 (c : Dev nD) (t : Fin cfg0.N) (g : Fin 4) (r : Fin 512) (d : Fin 128) :
    (iblk m c 0 t : FVec Ideal S4x512x128 .f32) (ix3 g r d)
      = (m ((c : Thread nD τ).loc main_arg0) : FVec Ideal S8x4096x2x4x128 .f32)
        (ix5 (bO t) ⟨512 * (rO t).val + r.val, by omega⟩ (hO t) g d) := by
  have ht := t_lt t
  blk_simp [iblk]
  rw [emb0, v4_eq, qarr_at _ _ _ _ _ (by dsimp only; omega)]
  blk_ext [bO, rO, hO]

theorem embc (t : Fin cfg0.N) (k : Fin 256) (d : Fin 128) :
    (win0_1.blk t).view.emb (ix3 0 k d)
      = (ix3 ⟨t.val / 8 % 2, by omega⟩ ⟨256 * (128 + t.val / 16) + k.val, by have := t_lt t; omega⟩ d : S2x34816x128.Idx)
    ∧ (win0_2.blk t).view.emb (ix3 0 k d)
      = (ix3 ⟨t.val / 8 % 2, by omega⟩ ⟨256 * (128 + t.val / 16) + k.val, by have := t_lt t; omega⟩ d : S2x34816x128.Idx) := by
  have ht := t_lt t
  constructor <;> blk_ext [idx t]

theorem embl3 (t : Fin cfg0.N) (k : Fin 4096) (d : Fin 128) (hh : ∀ a, ((ix3 0 k d : S1x4096x128.Idx) a).val < (win0_3.xblock (grid0.coords t)).size a) :
    (win0_3.blk t).view.emb (fun a => ⟨((ix3 0 k d : S1x4096x128.Idx) a).val, hh a⟩)
      = (ix3 ⟨t.val / 8 % 2, by omega⟩ ⟨4096 * (t.val / 16) + k.val, by have := t_lt t; omega⟩ d : S2x34816x128.Idx) := by
  have ht := t_lt t
  blk_ext [idx t]

theorem embl4 (t : Fin cfg0.N) (k : Fin 4096) (d : Fin 128) (hh : ∀ a, ((ix3 0 k d : S1x4096x128.Idx) a).val < (win0_4.xblock (grid0.coords t)).size a) :
    (win0_4.blk t).view.emb (fun a => ⟨((ix3 0 k d : S1x4096x128.Idx) a).val, hh a⟩)
      = (ix3 ⟨t.val / 8 % 2, by omega⟩ ⟨4096 * (t.val / 16) + k.val, by have := t_lt t; omega⟩ d : S2x34816x128.Idx) := by
  have ht := t_lt t
  blk_ext [idx t]

/-- The context keys and values of the batch row. -/
theorem blk1 (c : Dev nD) (t : Fin cfg0.N) (k : Fin 256) (d : Fin 128) :
    (iblk m c 1 t : FVec Ideal S1x256x128 .bf16) (ix3 0 k d)
      = (m ((c : Thread nD τ).loc main_arg3) : FVec Ideal S8x256x2x128 .f32) (ix4 (bO t) k (hO t) d) := by
  have ht := t_lt t
  blk_simp [iblk]
  rw [(embc t k d).1, v10_eq, karr_ctx _ _ _ _ _ (by dsimp only; omega)]
  blk_ext [bO, hO]

theorem blk2 (c : Dev nD) (t : Fin cfg0.N) (k : Fin 256) (d : Fin 128) :
    (iblk m c 2 t : FVec Ideal S1x256x128 .bf16) (ix3 0 k d)
      = (m ((c : Thread nD τ).loc main_arg5) : FVec Ideal S8x256x2x128 .f32) (ix4 (bO t) k (hO t) d) := by
  have ht := t_lt t
  blk_simp [iblk]
  rw [(embc t k d).2, v16_eq, karr_ctx _ _ _ _ _ (by dsimp only; omega)]
  blk_ext [bO, hO]

/-- The latent keys and values of the batch row. -/
theorem blk3 (c : Dev nD) (t : Fin cfg0.N) (k : Fin 4096) (d : Fin 128) :
    (X0_3 m c t : FVec Ideal S1x4096x128 .bf16) (ix3 0 k d)
      = (m ((c : Thread nD τ).loc main_arg2) : FVec Ideal S8x4096x2x128 .f32) (ix4 (bO t) k (hO t) d) := by
  have ht := t_lt t
  unfold X0_3 Pipeline.Window.fill
  rw [dif_pos (moved0_3 t _)]
  blk_simp [iblk]
  rw [embl3, v10_eq, karr_lat _ _ _ _ _ (by dsimp only; omega)]
  blk_ext [bO, hO]

theorem blk4 (c : Dev nD) (t : Fin cfg0.N) (k : Fin 4096) (d : Fin 128) :
    (X0_4 m c t : FVec Ideal S1x4096x128 .bf16) (ix3 0 k d)
      = (m ((c : Thread nD τ).loc main_arg4) : FVec Ideal S8x4096x2x128 .f32) (ix4 (bO t) k (hO t) d) := by
  have ht := t_lt t
  unfold X0_4 Pipeline.Window.fill
  rw [dif_pos (moved0_4 t _)]
  blk_simp [iblk]
  rw [embl4, v16_eq, karr_lat _ _ _ _ _ (by dsimp only; omega)]
  blk_ext [bO, hO]

end Cert.GqaIdeal.Steps

end
-- ==== Proof.GqaRef.lean ====
/- The attention's reference, read at one entry: a softmax over the concatenated context and latent keys. -/
module

public import proofs.«01_k».proof.Proof.Gen.GqaRefIdeal
public import proofs.«01_k».proof.Proof.Consts
public import Idealize.ShloMosaic.Lib.StableHlo.Run
public import Idealize.ShloMosaic.Lib.Pipeline.ValueKit
public import Idealize.ShloMosaic.Lib.Pointwise

@[expose] public section

set_option maxRecDepth 16384

noncomputable section

namespace Cert.GqaRefIdeal.Soft

open Cert.GqaRefIdeal Cert.GqaRefIdeal.Gen Idealize.ShloMosaic Idealize.ShloMosaic.TcCoe Idealize.SL.Sem Idealize.ShloMosaic.StableHlo

/-- The context rows before the latent rows. -/
def cat (x : FVec Ideal S8x4096x2x128 .f32) (xc : FVec Ideal S8x256x2x128 .f32) : FVec Ideal S8x4352x2x128 .f32 :=
  concatenate S8x4352x2x128 1 [⟨S8x256x2x128, xc⟩, ⟨S8x4096x2x128, x⟩] concatenates_S8x256x2x128_S8x4096x2x128_S8x4352x2x128_d1

/-- The scaled scores. -/
def scores (q : FVec Ideal S8x4096x2x4x128 .f32) (k : FVec Ideal S8x4352x2x128 .f32) : FVec Ideal S8x2x4x4096x4352 .f32 :=
  mulf (transpose S8x2x4x4096x4352 [0, 1, 4, 3, 2] (Host.dotGeneral dot_S8x4352x2x128_S8x4096x2x4x128_S8x2x4352x4096x4_3_4_1_13_02_02 none k q) transposes_S8x2x4352x4096x4_S8x2x4x4096x4352_0_1_4_3_2) (broadcastInDim S8x2x4x4096x4352 ![] bcast_S_S8x2x4x4096x4352 (constant S_ .f32 0x3DB504F3#32))

/-- A row's maximum. -/
def rowMax (s : FVec Ideal S8x2x4x4096x4352 .f32) : FVec Ideal S8x2x4x4096 .f32 :=
  maximumf (broadcastInDim S8x2x4x4096 ![] bcast_S_S8x2x4x4096 (constant S_ .f32 0xFF800000#32)) (Host.reduce FloatOps.maximumf s (constant S_ .f32 0xFF800000#32) reducesTo_S8x2x4x4096x4352_S8x2x4x4096_d4 h_S_)

/-- A row's value spread along the keys. -/
def spread (x : FVec Ideal S8x2x4x4096 .f32) : FVec Ideal S8x2x4x4096x4352 .f32 :=
  broadcastInDim S8x2x4x4096x4352 ![0, 1, 2, 3, 4] bcast_S8x2x4x4096x1_S8x2x4x4096x4352_0_1_2_3_4 (broadcastInDim S8x2x4x4096x1 ![0, 1, 2, 3] bcast_S8x2x4x4096_S8x2x4x4096x1_0_1_2_3 x)

def expo (s : FVec Ideal S8x2x4x4096x4352 .f32) : FVec Ideal S8x2x4x4096x4352 .f32 := Host.exp (subf s (spread (rowMax s)))

def rowSum (e : FVec Ideal S8x2x4x4096x4352 .f32) : FVec Ideal S8x2x4x4096 .f32 :=
  Host.reduceAdd e (constant S_ .f32 0x00000000#32) reducesTo_S8x2x4x4096x4352_S8x2x4x4096_d4 h_S_

def weights (s : FVec Ideal S8x2x4x4096x4352 .f32) : FVec Ideal S8x2x4x4096x4352 .f32 := Host.divf (expo s) (spread (rowSum (expo s)))

def mixed (v : FVec Ideal S8x4352x2x128 .f32) (w : FVec Ideal S8x2x4x4096x4352 .f32) : FVec Ideal S8x2x128x4x4096 .f32 :=
  Host.dotGeneral dot_S8x4352x2x128_S8x2x4x4096x4352_S8x2x128x4x4096_1_4_3_23_02_01 none v w

/-- The heads' outputs as the result's array. -/
def layout (o : FVec Ideal S8x2x128x4x4096 .f32) : FVec Ideal S8x32768x128 .bf16 :=
  truncf .bf16 (transpose S8x32768x128 [1, 0, 2] (shapeCast _ (shapeCast _ (transpose S8x4096x2x4x128 [0, 4, 1, 3, 2] o transposes_S8x2x128x4x4096_S8x4096x2x4x128_0_4_1_3_2) shapeCasts_S8x4096x2x4x128_S8x4096x1024) shapeCasts_S8x4096x1024_S32768x8x128) transposes_S32768x8x128_S8x32768x128_1_0_2) bitsLt_bf16_f32

def REF (q : FVec Ideal S8x4096x2x4x128 .f32) (k v : FVec Ideal S8x4096x2x128 .f32) (kc vc : FVec Ideal S8x256x2x128 .f32) :
    FVec Ideal S8x32768x128 .bf16 :=
  layout (mixed (cat v vc) (weights (scores q (cat k kc))))

theorem cat_at (x : FVec Ideal S8x4096x2x128 .f32) (xc : FVec Ideal S8x256x2x128 .f32) (b : Fin 8) (k : Fin 4352) (h : Fin 2) (d : Fin 128) :
    cat x xc (ix4 b k h d) = if hk : k.val < 256 then xc (ix4 b ⟨k.val, hk⟩ h d) else x (ix4 b ⟨k.val - 256, by omega⟩ h d) := by
  pointwise [cat]

theorem scores_at (q : FVec Ideal S8x4096x2x4x128 .f32) (k : FVec Ideal S8x4352x2x128 .f32) (b : Fin 8) (h : Fin 2) (g : Fin 4) (i : Fin 4096) (j : Fin 4352) :
    scores q k (ix5 b h g i j) = (∑ d : Fin 128, k (ix4 b j h d) * q (ix5 b i h g d)) * ((11863283 / 134217728 : ℝ) : EReal) := by
  pointwise [scores]
  exact congrArg (_ * ·) Consts.scale

/-- A reduction over the keys folds a row. -/
theorem fold_at (f : EReal → EReal → EReal) [Std.Commutative f] [Std.Associative f] (s : S8x2x4x4096x4352.Idx → EReal) (init : S_.Idx → EReal)
    (b : Fin 8) (h : Fin 2) (g : Fin 4) (i : Fin 4096) :
    Host.reduce f s init reducesTo_S8x2x4x4096x4352_S8x2x4x4096_d4 h_S_ (ix4 b h g i)
      = Finset.univ.fold f (init (Shape.Idx.first h_S_)) (fun j : Fin 4352 => s (ix5 b h g i j)) := by
  rw [Host.reduce_eq_fold]
  pointwise

theorem bottom_at (b : Fin 8) (h : Fin 2) (g : Fin 4) (i : Fin 4096) :
    (broadcastInDim S8x2x4x4096 ![] bcast_S_S8x2x4x4096 (constant S_ .f32 0xFF800000#32) : FVec Ideal S8x2x4x4096 .f32) (ix4 b h g i) = ⊥ :=
  Consts.neg_inf

theorem rowMax_at (s : FVec Ideal S8x2x4x4096x4352 .f32) (b : Fin 8) (h : Fin 2) (g : Fin 4) (i : Fin 4096) :
    rowMax s (ix4 b h g i) = Finset.univ.fold max ⊥ (fun j : Fin 4352 => s (ix5 b h g i j)) := by
  have e := fold_at max s (fun _ => ⊥) b h g i
  rw [← e]
  have c : (constant S_ .f32 0xFF800000#32 : FVec Ideal S_ .f32) = fun _ => ⊥ := funext fun _ => Consts.neg_inf
  unfold rowMax
  rw [maximumf_apply, bottom_at, c]
  exact max_eq_right bot_le

theorem spread_at (x : FVec Ideal S8x2x4x4096 .f32) (b : Fin 8) (h : Fin 2) (g : Fin 4) (i : Fin 4096) (j : Fin 4352) :
    spread x (ix5 b h g i j) = x (ix4 b h g i) := by
  pointwise [spread]

theorem expo_at (s : FVec Ideal S8x2x4x4096x4352 .f32) (b : Fin 8) (h : Fin 2) (g : Fin 4) (i : Fin 4096) (j : Fin 4352) :
    expo s (ix5 b h g i j) = Ideal.exp (s (ix5 b h g i j) - rowMax s (ix4 b h g i)) := by
  rw [← spread_at (rowMax s) b h g i j]
  rfl

theorem rowSum_at (e : FVec Ideal S8x2x4x4096x4352 .f32) (b : Fin 8) (h : Fin 2) (g : Fin 4) (i : Fin 4096) :
    rowSum e (ix4 b h g i) = ∑ j : Fin 4352, e (ix5 b h g i j) := by
  pointwise [rowSum]

theorem weights_at (s : FVec Ideal S8x2x4x4096x4352 .f32) (b : Fin 8) (h : Fin 2) (g : Fin 4) (i : Fin 4096) (j : Fin 4352) :
    weights s (ix5 b h g i j) = Ideal.div (expo s (ix5 b h g i j)) (∑ j' : Fin 4352, expo s (ix5 b h g i j')) := by
  rw [← rowSum_at, ← spread_at (rowSum (expo s)) b h g i j]
  rfl

theorem mixed_at (v : FVec Ideal S8x4352x2x128 .f32) (w : FVec Ideal S8x2x4x4096x4352 .f32) (b : Fin 8) (h : Fin 2) (l : Fin 128) (g : Fin 4) (i : Fin 4096) :
    mixed v w (ix5 b h l g i) = ∑ j : Fin 4352, v (ix4 b j h l) * w (ix5 b h g i j) := by
  pointwise [mixed]

theorem layout_at (o : FVec Ideal S8x2x128x4x4096 .f32) (h : Fin 8) (s : Fin 32768) (l : Fin 128) :
    layout o (ix3 h s l) = o (ix5 ⟨s.val / 4096, by omega⟩ ⟨h.val / 4, by omega⟩ l ⟨h.val % 4, by omega⟩ ⟨s.val % 4096, by omega⟩) := by
  pointwise [layout]

end Cert.GqaRefIdeal.Soft

end
-- ==== Proof.GqaValue.lean ====
/- The attention kernel's result equals the reference's softmax, entry by entry, where queries and keys are real. -/
module

public import proofs.«01_k».proof.Proof.GqaBlocks
public import proofs.«01_k».proof.Proof.GqaRef

@[expose] public section

set_option maxRecDepth 16384

noncomputable section

namespace Cert.GqaIdeal.Steps

open Cert.GqaIdeal Cert.GqaIdeal.Gen Idealize.ShloMosaic Idealize.ShloMosaic.TcCoe Idealize.SL.Sem Cert.Flash
open Cert.GqaRefIdeal.Soft (cat cat_at scores scores_at rowMax rowMax_at weights weights_at expo expo_at mixed mixed_at layout layout_at REF)

/-- The factor of the queries as a real number: the scale over the natural logarithm of two. -/
def qsR : ℝ := (11863283 / 134217728) * (Real.log 2)⁻¹

theorem qs_eq : qs = ((qsR : ℝ) : EReal) := IdealRules.named_const.ideal_named_scalar _ _ _ _ rfl

theorem qsR_log : qsR * Real.log 2 = 11863283 / 134217728 := by
  have h : Real.log 2 ≠ 0 := (Real.log_pos (by norm_num)).ne'
  unfold qsR
  field_simp

/-- Every entry of an array is a real number. -/
def IsReal {ι : Type} (x : ι → EReal) : Prop := ∀ i, x i = (((x i).toReal : ℝ) : EReal)

theorem cat_real (x : FVec Ideal S8x4096x2x128 .f32) (xc : FVec Ideal S8x256x2x128 .f32) (hx : IsReal x) (hc : IsReal xc)
    (b : Fin 8) (k : Fin 4352) (h : Fin 2) (d : Fin 128) : cat x xc (ix4 b k h d) = (((cat x xc (ix4 b k h d)).toReal : ℝ) : EReal) := by
  rw [cat_at]
  split
  · exact hc _
  · exact hx _

theorem cat_ctx (x : FVec Ideal S8x4096x2x128 .f32) (xc : FVec Ideal S8x256x2x128 .f32) (b : Fin 8) (k : Fin 256) (h : Fin 2) (d : Fin 128)
    (hk : k.val < 4352) : cat x xc (ix4 b ⟨k.val, hk⟩ h d) = xc (ix4 b k h d) := by
  rw [cat_at, dif_pos k.isLt]

theorem cat_lat (x : FVec Ideal S8x4096x2x128 .f32) (xc : FVec Ideal S8x256x2x128 .f32) (b : Fin 8) (k : Fin 4096) (h : Fin 2) (d : Fin 128)
    (hk : 256 + k.val < 4352) : cat x xc (ix4 b ⟨256 + k.val, hk⟩ h d) = x (ix4 b k h d) := by
  rw [cat_at, dif_neg (by dsimp only; omega)]
  exact congrArg (fun z => x (ix4 b z h d)) (Fin.ext (by dsimp only; omega))

/-- The reference at an entry, its scores real numbers and its maximum some real number. -/
theorem soft_at (v : FVec Ideal Cert.GqaRefIdeal.S8x4352x2x128 .f32) (S : FVec Ideal Cert.GqaRefIdeal.S8x2x4x4096x4352 .f32) (b : Fin 8) (h : Fin 2)
    (g : Fin 4) (i : Fin 4096) (l : Fin 128) (s : ℕ → ℝ) (ω : ℕ → EReal) (hs : ∀ j : Fin 4352, S (ix5 b h g i j) = ((s j : ℝ) : EReal))
    (hω : ∀ j : Fin 4352, v (ix4 b j h l) = ω j) :
    ∃ M : ℝ, mixed v (weights S) (ix5 b h l g i)
      = ∑ k : Fin 4352, Ideal.div (Ideal.exp (((s k : ℝ) : EReal) - (M : EReal)))
          (∑ k : Fin 4352, Ideal.exp (((s k : ℝ) : EReal) - (M : EReal))) * ω k := by
  obtain ⟨M, hM⟩ := exists_fold_max (n := 4352) (by norm_num) fun k => s k
  have he : ∀ j : Fin 4352, expo S (ix5 b h g i j) = Ideal.exp (((s j : ℝ) : EReal) - (M : EReal)) := by
    intro j
    rw [expo_at, rowMax_at, hs j, ← hM]
    simp only [hs]
  refine ⟨M, ?_⟩
  rw [mixed_at]
  refine Finset.sum_congr rfl fun j _ => ?_
  rw [weights_at, he j, hω j, mul_comm]
  simp only [he]

/-- One row of the kernel's accumulation is the reference at the row's entry. -/
theorem row_eq (q : FVec Ideal S8x4096x2x4x128 .f32) (k v : FVec Ideal S8x4096x2x128 .f32) (kc vc : FVec Ideal S8x256x2x128 .f32)
    (hq : IsReal q) (hk : IsReal k) (hkc : IsReal kc) (Q : FVec Ideal S1024x128 .bf16) (x1 x2 : Vec Ideal S1x256x128 .bf16) (x3 x4 : Vec Ideal S1x4096x128 .bf16)
    (r : Fin 1024) (b : Fin 8) (h : Fin 2) (g : Fin 4) (i : Fin 4096) (l : Fin 128)
    (hQ : ∀ d, Q (ix2 r d) = q (ix5 b i h g d) * qs)
    (h1 : ∀ (j : Fin 256) d, x1 (ix3 0 j d) = kc (ix4 b j h d)) (h2 : ∀ (j : Fin 256) d, x2 (ix3 0 j d) = vc (ix4 b j h d))
    (h3 : ∀ (j : Fin 4096) d, x3 (ix3 0 j d) = k (ix4 b j h d)) (h4 : ∀ (j : Fin 4096) d, x4 (ix3 0 j d) = v (ix4 b j h d)) :
    O Q x1 x2 x3 x4 (ix2 r l) = mixed (cat v vc) (weights (scores q (cat k kc))) (ix5 b h l g i) := by
  let K : ℕ → Fin 128 → ℝ := fun j d => if hj : j < 4352 then (cat k kc (ix4 b ⟨j, hj⟩ h d)).toReal else 0
  let ω : ℕ → EReal := fun j => if hj : j < 4352 then cat v vc (ix4 b ⟨j, hj⟩ h l) else 0
  let a : Fin 128 → ℝ := fun d => (q (ix5 b i h g d)).toReal
  let σ : ℕ → ℝ := fun j => ∑ d : Fin 128, a d * qsR * K j d
  let s : ℕ → ℝ := fun j => (∑ d : Fin 128, K j d * a d) * (11863283 / 134217728)
  have hK : ∀ (j : ℕ) (hj : j < 4352) d, cat k kc (ix4 b ⟨j, hj⟩ h d) = ((K j d : ℝ) : EReal) := by
    intro j hj d
    simp only [K, dif_pos hj]
    exact cat_real k kc hk hkc b ⟨j, hj⟩ h d
  have ha : ∀ d, q (ix5 b i h g d) = ((a d : ℝ) : EReal) := fun d => hq _
  have hσ : ∀ j, σ j * Real.log 2 = s j := by
    intro j
    simp only [σ, s, Finset.sum_mul]
    refine Finset.sum_congr rfl fun d _ => ?_
    rw [← qsR_log]
    ring
  have hs : ∀ j : Fin 4352, scores q (cat k kc) (ix5 b h g i j) = ((s j : ℝ) : EReal) := by
    intro j
    rw [scores_at, EReal.coe_mul, ← coe_sum]
    refine congrArg (· * _) (Finset.sum_congr rfl fun d _ => ?_)
    rw [EReal.coe_mul, ha d]
    exact congrArg (· * _) (hK j j.isLt d)
  obtain ⟨M', hM'⟩ := soft_at (cat v vc) (scores q (cat k kc)) b h g i l s ω hs (fun j => by simp only [ω, dif_pos j.isLt])
  have hrow : ∀ (j : ℕ) (hj : j < 4352), ∑ d : Fin 128, Q (ix2 r d) * cat k kc (ix4 b ⟨j, hj⟩ h d) = ((σ j : ℝ) : EReal) := by
    intro j hj
    simp only [σ]
    rw [← coe_sum]
    refine Finset.sum_congr rfl fun d _ => ?_
    rw [hQ, ha, qs_eq, hK j hj d, EReal.coe_mul, EReal.coe_mul]
  obtain ⟨M, hM⟩ := O_at Q x1 x2 x3 x4 r l σ ω
    (fun j => by
      have hj := j.isLt
      rw [← hrow j (by omega)]
      exact Finset.sum_congr rfl fun d _ => by rw [h1, cat_ctx])
    (fun j => by
      have hj := j.isLt
      rw [← hrow (256 + j) (by omega)]
      exact Finset.sum_congr rfl fun d _ => by rw [h3, cat_lat])
    (fun j => by
      have hj := j.isLt
      simp only [ω]
      rw [dif_pos (by omega), h2, cat_ctx])
    (fun j => by
      have hj := j.isLt
      simp only [ω]
      rw [dif_pos (by omega), h4, cat_lat])
  rw [hM, hM']
  exact acc_quotient σ s hσ ω 4352 (by norm_num) M M'

variable (m : (ℓ : Loc nD τ sig) → Buf (Elt Ideal) ℓ)

/-- The result's block at a grid point: four heads of one key head, 512 rows. -/
theorem emb5 (t : Fin cfg0.N) (g : Fin 4) (r : Fin 512) (l : Fin 128) :
    (win0_5.blk t).view.emb (ix3 g r l)
      = (ix3 ⟨4 * (t.val / 8 % 2) + g.val, by omega⟩ ⟨512 * (t.val / 16 * 8 + t.val % 8) + r.val, by have := t_lt t; omega⟩ l : S8x32768x128.Idx) := by
  have ht := t_lt t
  blk_ext [idx t]

/-- What the kernel leaves in the result is the reference's array. -/
theorem final (c : Dev nD) (hq : IsReal (m ((c : Thread nD τ).loc main_arg0))) (hk : IsReal (m ((c : Thread nD τ).loc main_arg2)))
    (hkc : IsReal (m ((c : Thread nD τ).loc main_arg3))) :
    (dats m 0 c).arrAt 5 cfg0.N
      = REF (m ((c : Thread nD τ).loc main_arg0)) (m ((c : Thread nD τ).loc main_arg2)) (m ((c : Thread nD τ).loc main_arg4))
          (m ((c : Thread nD τ).loc main_arg3)) (m ((c : Thread nD τ).loc main_arg5)) := by
  refine (dats m 0 c).arrAt_eq_of_covers 5 _ (by decide +kernel) fun t hf y => ?_
  blk_simp
  rw [after0_5]
  have key : ∀ (g : Fin 4) (r : Fin 512) (l : Fin 128), outsAt0 m c t (ix3 g r l)
      = REF (m ((c : Thread nD τ).loc main_arg0)) (m ((c : Thread nD τ).loc main_arg2)) (m ((c : Thread nD τ).loc main_arg4))
          (m ((c : Thread nD τ).loc main_arg3)) (m ((c : Thread nD τ).loc main_arg5)) ((win0_5.blk t).view.emb (ix3 g r l)) := by
    intro g r l
    have ht := t_lt t
    have e1 : (⟨(512 * (t.val / 16 * 8 + t.val % 8) + r.val) / 4096, by omega⟩ : Fin 8) = bO t := Fin.ext (by simp only [bO]; omega)
    have e2 : (⟨(4 * (t.val / 8 % 2) + g.val) / 4, by omega⟩ : Fin 2) = hO t := Fin.ext (by simp only [hO]; omega)
    have e3 : (⟨(4 * (t.val / 8 % 2) + g.val) % 4, by omega⟩ : Fin 4) = g := Fin.ext (by dsimp only; omega)
    have e4 : (⟨(512 * (t.val / 16 * 8 + t.val % 8) + r.val) % 4096, by omega⟩ : Fin 4096) = ⟨512 * (rO t).val + r.val, by omega⟩ :=
      Fin.ext (by simp only [rO]; omega)
    rw [emb5, REF, layout_at, e1, e2, e3, e4]
    unfold outsAt0
    rw [out_at]
    change Gout _ _ _ _ _ g r l = _
    by_cases hr : r.val < 256
    · rw [Gout, dif_pos hr]
      refine row_eq _ _ _ _ _ hq hk hkc _ _ _ _ _ _ _ _ _ _ _ (fun d => ?_) (blk1 m c t) (blk2 m c t) (blk3 m c t) (blk4 m c t)
      rw [qa_at _ g ⟨r.val, hr⟩ d _ rfl, blk0]
    · rw [Gout, dif_neg hr]
      refine row_eq _ _ _ _ _ hq hk hkc _ _ _ _ _ _ _ _ _ _ _ (fun d => ?_) (blk1 m c t) (blk2 m c t) (blk3 m c t) (blk4 m c t)
      rw [qb_at _ g ⟨r.val - 256, by omega⟩ d _ rfl, blk0]
      have hz : (⟨512 * (rO t).val + (256 + (r.val - 256)), by omega⟩ : Fin 4096) = ⟨512 * (rO t).val + r.val, by omega⟩ := Fin.ext (by dsimp only; omega)
      rw [← hz]
  have all : ∀ y : S4x512x128.Idx, outsAt0 m c t y
      = REF (m ((c : Thread nD τ).loc main_arg0)) (m ((c : Thread nD τ).loc main_arg2)) (m ((c : Thread nD τ).loc main_arg4))
          (m ((c : Thread nD τ).loc main_arg3)) (m ((c : Thread nD τ).loc main_arg5)) ((win0_5.blk t).view.emb y) := by
    intro y
    rw [eq_ix3 y]
    exact key _ _ _
  exact all y

end Cert.GqaIdeal.Steps

end
-- ==== Proof.GqaPre.lean ====
/- What the precondition says: the queries and the keys are real numbers. -/
module

public import proofs.«01_k».proof.Defs
public import proofs.«01_k».proof.Proof.GqaValue

@[expose] public section

noncomputable section

namespace Cert.GqaIdeal.Steps

open Idealize.ShloMosaic Idealize.ShloMosaic.TcCoe Idealize.SL.Sem

/-- An extended real whose absolute value is below infinity is real. -/
theorem real_of_abs_lt (x : Ideal .f32)
    (h : BitVec.ofBool (decide ((FloatOps.absf x : Ideal .f32) < Ideal.ofBits .f32 0x7F800000#32)) = 1#1) :
    (x : EReal) = ((EReal.toReal x : ℝ) : EReal) := by
  rw [Consts.inf] at h
  have hlt : (FloatOps.absf x : EReal) < ⊤ := by
    by_contra hn
    simp [hn] at h
  have hm : max (x : EReal) (-x) < ⊤ := hlt
  refine (EReal.coe_toReal (fun e => ?_) (fun e => ?_)).symm
  · rw [e] at hm
    simp at hm
  · rw [e] at hm
    simp at hm

theorem pre_real [Cert.Pre_gqa_finite.Facts] (m : (ℓ : Loc Cert.GqaIdeal.nD Cert.GqaIdeal.τ Cert.GqaIdeal.sig) → Buf (Elt Ideal) ℓ)
    (h : Cert.Pre_GqaIdeal_gqa_finite m) (c : Dev Cert.GqaIdeal.nD) :
    IsReal (m ((c : Thread Cert.GqaIdeal.nD Cert.GqaIdeal.τ).loc Cert.GqaIdeal.main_arg0))
    ∧ IsReal (m ((c : Thread Cert.GqaIdeal.nD Cert.GqaIdeal.τ).loc Cert.GqaIdeal.main_arg2))
    ∧ IsReal (m ((c : Thread Cert.GqaIdeal.nD Cert.GqaIdeal.τ).loc Cert.GqaIdeal.main_arg3)) := by
  obtain ⟨h0, h1, h2⟩ := h c
  refine ⟨fun i => ?_, fun i => ?_, fun i => ?_⟩
  · have e := congrFun h0 i
    pointwise [Cert.Pre_gqa_finite.fn] at e
    exact real_of_abs_lt _ e
  · have e := congrFun h1 i
    pointwise [Cert.Pre_gqa_finite.fn] at e
    exact real_of_abs_lt _ e
  · have e := congrFun h2 i
    pointwise [Cert.Pre_gqa_finite.fn] at e
    exact real_of_abs_lt _ e

end Cert.GqaIdeal.Steps

end
-- ==== Proof.GqaClaim.lean ====
/- The claims about the grouped-query attention call. -/
module

public import proofs.«01_k».proof.Proof.GqaPre
public import proofs.«01_k».proof.Proof.Gen.GqaIdeal.Value
public import proofs.«01_k».proof.Proof.Gen.GqaRefIdeal.Run
public import proofs.«01_k».proof.Proof.Gen.Gqa.Frame
public import proofs.«01_k».proof.Proof.Gen.Pre_gqa_finite
public import Idealize.ShloMosaic.Lib.Claim

@[expose] public section

noncomputable section

namespace Cert.Proof.Gqa

open Idealize.ShloMosaic Idealize.SL.Sem

/-- The named factor of the queries is the scale over the natural logarithm of two. -/
theorem preserves : Cert.preserves_Gqa_GqaIdeal := IdealRules.named_const.statement Cert.GqaIdeal.κ "qscale" .f32 0x3E0293EE#32 _ rfl

/-- The kernel keeps its arguments and ends with every semaphore counter at zero. -/
theorem quiescent : Cert.quiescent_Gqa := fun m ρ _ => Cert.Gqa.Gen.frame m ρ

theorem quiescent_ideal : Cert.quiescent_GqaIdeal := fun m ρ _ => Cert.GqaIdeal.Gen.frame m ρ

theorem quiescent_ideal_pre : Cert.quiescent_GqaIdeal_pre_gqa_finite := fun m ρ _ => Cert.GqaIdeal.Gen.frame m ρ

/-- The reference keeps its arguments; it declares no semaphore. -/
theorem quiescent_ref : Cert.quiescent_GqaRefIdeal := fun m ρ _ =>
  (θ_run Cert.GqaRefIdeal.defs _ _).mono (fun r h => ⟨fun c => (h c).2, sem_eq_zero_of_no_sems (by decide) r.2⟩)
    (Cert.GqaRefIdeal.Value.run (F := Ideal) m ρ)

theorem quiescent_ref_pre : Cert.quiescent_GqaRefIdeal_pre_gqa_finite := fun m ρ _ => quiescent_ref m ρ trivial

/-- Kernel and reference compute the same attention. -/
theorem algebraic : Cert.algebraic_GqaIdeal_GqaRefIdeal_pre_gqa_finite := by
  pair_intro
  · run_from Cert.GqaIdeal.Gen.run_main m g
  · run_from Cert.GqaRefIdeal.Value.run m' g'
    obtain ⟨hq, hk, hkc⟩ := Cert.GqaIdeal.Steps.pre_real m hpre c
    obtain ⟨a0, a1, a2, a3, a4, a5⟩ := hagree c
    refine Eq.trans ?_ (Cert.GqaIdeal.Steps.final m c hq hk hkc).symm
    change Cert.GqaRefIdeal.Soft.REF _ (m' ((c.tc : Thread Cert.GqaRefIdeal.nD Cert.GqaRefIdeal.τ).loc Cert.GqaRefIdeal.main_arg2))
      (m' ((c.tc : Thread Cert.GqaRefIdeal.nD Cert.GqaRefIdeal.τ).loc Cert.GqaRefIdeal.main_arg4))
      (m' ((c.tc : Thread Cert.GqaRefIdeal.nD Cert.GqaRefIdeal.τ).loc Cert.GqaRefIdeal.main_arg3))
      (m' ((c.tc : Thread Cert.GqaRefIdeal.nD Cert.GqaRefIdeal.τ).loc Cert.GqaRefIdeal.main_arg5)) = _
    rw [a2, a3, a4, a5]

end Cert.Proof.Gqa

end
-- ==== Proof.FfnRow.lean ====
/- The feed-forward layer along one row of 1024 entries, over the extended reals: a row normed to unit mean square, its modulation, the gated
   product of the two halves of the first projection, and the second projection. -/
module

public import proofs.«01_k».proof.Proof.Consts
public import Idealize.ShloMosaic.Lib.Pointwise

@[expose] public section

noncomputable section

namespace Cert.Ffn

open Idealize.ShloMosaic

/-- The constants of the programs: 1024, the norm's epsilon, one and a half. -/
abbrev c1024 : EReal := Ideal.ofBits .f32 0x44800000#32
abbrev ceps : EReal := Ideal.ofBits .f32 0x358637BD#32
abbrev cone : EReal := Ideal.ofBits .f32 0x3F800000#32
abbrev chalf : EReal := Ideal.ofBits .f32 0x3F000000#32
abbrev czero : EReal := Ideal.ofBits .f32 0x00000000#32

/-- A row over the root of its mean square, scaled lane by lane. -/
def norm (x g : Fin 1024 → EReal) (j : Fin 1024) : EReal :=
  x j * Ideal.rsqrt (Ideal.div (∑ d : Fin 1024, x d * x d) c1024 + ceps) * g j

/-- … with a scale `1 + s` and a shift `b`. -/
def modnorm (x g s b : Fin 1024 → EReal) (j : Fin 1024) : EReal := norm x g j * (cone + s j) + b j

/-- The first projection's entry `f`. -/
def proj (u : Fin 1024 → EReal) (W : Fin 1024 → Fin 5632 → EReal) (f : Fin 5632) : EReal := ∑ d : Fin 1024, u d * W d f

/-- The gate: the first factor over one plus the exponential of its negative, times the second. -/
def gate (a b : EReal) : EReal := Ideal.div a (cone + Ideal.exp (czero - a)) * b

/-- The gated entry `f` of the 2816. -/
def act (u : Fin 1024 → EReal) (W : Fin 1024 → Fin 5632 → EReal) (f : Fin 2816) : EReal :=
  gate (proj u W ⟨f.val, by omega⟩) (proj u W ⟨2816 + f.val, by omega⟩)

/-- The second projection. -/
def ffn (u : Fin 1024 → EReal) (W : Fin 1024 → Fin 5632 → EReal) (V : Fin 2816 → Fin 1024 → EReal) (j : Fin 1024) : EReal :=
  ∑ f : Fin 2816, act u W f * V f j

/-- The layer: the row, and half the modulated norm of the projection of its modulated norm. -/
def layer (x g s b g' m : Fin 1024 → EReal) (W : Fin 1024 → Fin 5632 → EReal) (V : Fin 2816 → Fin 1024 → EReal) (j : Fin 1024) : EReal :=
  x j + chalf * m j * norm (ffn (modnorm x g s b) W V) g' j

/-- The row a mixer's output is added to. -/
def mix (x o m g : Fin 1024 → EReal) (W : Fin 1024 → Fin 1024 → EReal) (j : Fin 1024) : EReal :=
  x j + m j * norm (fun j => ∑ d : Fin 1024, o d * W d j) g j

theorem cone_eq : cone = 1 := Consts.one

theorem exp_nonneg (x : EReal) : 0 ≤ Ideal.exp x := by
  induction x with
  | bot => exact le_refl _
  | top => exact le_top
  | coe r => exact EReal.coe_nonneg.mpr (Real.exp_pos r).le

/-- The gate written with the reciprocal of one plus the exponential of the negative. -/
theorem gate_eq (a b : EReal) : a * Ideal.div cone (cone + Ideal.exp (-a)) * b = gate a b := by
  have hd : cone + Ideal.exp (-a) ≠ 0 := by
    rw [cone_eq]
    have := exp_nonneg (-a)
    exact (lt_of_lt_of_le zero_lt_one (le_add_of_nonneg_right this)).ne'
  unfold gate
  rw [show czero = 0 from Consts.zero, zero_sub, Ideal.div, Ideal.div, if_neg hd, if_neg hd, cone_eq, one_mul]

end Cert.Ffn

end
-- ==== Proof.FfnSteps.lean ====
/- The feed-forward kernel's body on a block of 512 rows, written as the layer it is: a norm, a modulated norm, eleven chunks of 256 columns of the
   gated projection, their partial products summed in order; each read row by row. -/
module

public import proofs.«01_k».proof.Proof.Gen.FfnLastIdeal
public import proofs.«01_k».proof.Proof.FfnRow
public import Idealize.ShloMosaic.Lib.Pipeline.ValueKit
public import Idealize.ShloMosaic.Lib.Pointwise

@[expose] public section

set_option maxRecDepth 16384

noncomputable section

namespace Cert.Ffn

open Cert.FfnLastIdeal Cert.FfnLastIdeal.Gen Idealize.ShloMosaic Idealize.ShloMosaic.TcCoe Idealize.SL.Sem

/-- The rows over the root of their mean square, scaled lane by lane. -/
def vnorm (x : FVec Ideal S512x1024 .f32) (g : Vec Ideal S1x1024 .f32) : FVec Ideal S512x1024 .f32 :=
  mulf (mulf x (broadcastTo S512x1024 (rsqrt (addf (divf
      (shapeCast S512x1 (multiReduction .add [1] S512 (mulf x x) 0x00000000#32 reduces_S512x1024_S512 (.inl rfl) rfl) shapeCasts_S512_S512x1)
      (broadcast S512x1 (Scalar.ofBits .f32 0x44800000#32 : Ideal .f32))) (broadcast S512x1 (Scalar.ofBits .f32 0x358637BD#32 : Ideal .f32))))
    broadcasts_S512x1_S512x1024))
    (broadcastTo S512x1024 (shapeCast S1x1024 g shapeCasts_S1x1024_S1x1024) broadcasts_S1x1024_S512x1024)

/-- The modulated norm. -/
def vmodnorm (x : FVec Ideal S512x1024 .f32) (g : Vec Ideal S1x1024 .f32) (s b : Vec Ideal S1x1x1024 .f32) : FVec Ideal S512x1024 .bf16 :=
  truncf .bf16 (addf (mulf (vnorm x g)
      (broadcastTo S512x1024 (addf (broadcast S1x1024 (Scalar.ofBits .f32 0x3F800000#32 : Ideal .f32)) (shapeCast S1x1024 s shapeCasts_S1x1x1024_S1x1024))
        broadcasts_S1x1024_S512x1024))
    (broadcastTo S512x1024 (shapeCast S1x1024 b shapeCasts_S1x1x1024_S1x1024) broadcasts_S1x1024_S512x1024)) bitsLt_bf16_f32

/-- 256 columns of the first projection. -/
def vproj (u : FVec Ideal S512x1024 .bf16) (W : Vec Ideal S1x1x1024x256 .bf16) : FVec Ideal S512x256 .f32 :=
  matmul dot_S512x1024_S1024x256_S512x256_1_0_0_1_n_n none u (φ₂ := .bf16) (shapeCast S1024x256 W shapeCasts_S1x1x1024x256_S1024x256)
    (constant S512x256 .f32 0x00000000#32)

/-- The gated product. -/
def vgate (a b : FVec Ideal S512x256 .f32) : FVec Ideal S512x256 .bf16 :=
  truncf .bf16 (mulf (divf a (addf (broadcast S512x256 (Scalar.ofBits .f32 0x3F800000#32 : Ideal .f32))
    (exp (subf (broadcast S512x256 (Scalar.ofBits .f32 0x00000000#32 : Ideal .f32)) a)))) b) bitsLt_bf16_f32

/-- 256 rows of the second projection. -/
def vback (a : FVec Ideal S512x256 .bf16) (V : Vec Ideal S1x1x256x1024 .bf16) : FVec Ideal S512x1024 .f32 :=
  matmul dot_S512x256_S256x1024_S512x1024_1_0_0_1_n_n none a (φ₂ := .bf16) (shapeCast S256x1024 V shapeCasts_S1x1x256x1024_S256x1024)
    (constant S512x1024 .f32 0x00000000#32)

/-- Chunk `n` of the first projection's columns, of its second half's, and of the second projection's rows. -/
def colA (x : Vec Ideal S1x1x1024x5632 .bf16) (n : Fin 11) : Vec Ideal S1x1x1024x256 .bf16 :=
  View.ld x (Rect.unit (s := S1x1x1024x5632) ![0, 0, 0, 256 * n.val] S1x1x1024x256.size (by revert n; decide))
def colB (x : Vec Ideal S1x1x1024x5632 .bf16) (n : Fin 11) : Vec Ideal S1x1x1024x256 .bf16 :=
  View.ld x (Rect.unit (s := S1x1x1024x5632) ![0, 0, 0, 2816 + 256 * n.val] S1x1x1024x256.size (by revert n; decide))
def rowC (x : Vec Ideal S1x1x2816x1024 .bf16) (n : Fin 11) : Vec Ideal S1x1x256x1024 .bf16 :=
  View.ld x (Rect.unit (s := S1x1x2816x1024) ![0, 0, 256 * n.val, 0] S1x1x256x1024.size (by revert n; decide))

/-- One chunk's share of the layer. -/
def vpart (u : FVec Ideal S512x1024 .bf16) (W : Vec Ideal S1x1x1024x5632 .bf16) (V : Vec Ideal S1x1x2816x1024 .bf16) (n : Fin 11) :
    FVec Ideal S512x1024 .f32 :=
  vback (vgate (vproj u (colA W n)) (vproj u (colB W n))) (rowC V n)

/-- The eleven chunks, summed in order. -/
def vffn (u : FVec Ideal S512x1024 .bf16) (W : Vec Ideal S1x1x1024x5632 .bf16) (V : Vec Ideal S1x1x2816x1024 .bf16) : FVec Ideal S512x1024 .f32 :=
  addf (addf (addf (addf (addf (addf (addf (addf (addf (addf (vpart u W V 0) (vpart u W V 1)) (vpart u W V 2)) (vpart u W V 3)) (vpart u W V 4))
    (vpart u W V 5)) (vpart u W V 6)) (vpart u W V 7)) (vpart u W V 8)) (vpart u W V 9)) (vpart u W V 10)

/-- The layer's result on the block. -/
def vout (x acc : FVec Ideal S512x1024 .f32) (m : Vec Ideal S1x1x1024 .f32) (g : Vec Ideal S1x1024 .f32) : FVec Ideal S512x1024 .f32 :=
  addf x (mulf (broadcastTo S512x1024 (mulf (broadcast S1x1024 (Scalar.ofBits .f32 0x3F000000#32 : Ideal .f32))
    (shapeCast S1x1024 m shapeCasts_S1x1x1024_S1x1024)) broadcasts_S1x1024_S512x1024) (vnorm acc g))

/-- The rows a mixer's output is added to. -/
def vmix (x : FVec Ideal S512x1024 .f32) (o : FVec Ideal S512x1024 .bf16) (W : Vec Ideal S1024x1024 .bf16) (m : Vec Ideal S1x1x1024 .f32)
    (g : Vec Ideal S1x1024 .f32) : FVec Ideal S512x1024 .f32 :=
  addf x (mulf (broadcastTo S512x1024 (shapeCast S1x1024 m shapeCasts_S1x1x1024_S1x1024) broadcasts_S1x1024_S512x1024)
    (vnorm (matmul dot_S512x1024_S1024x1024_S512x1024_1_0_0_1_n_n none o (φ₂ := .bf16) (shapeCast S1024x1024 W shapeCasts_S1024x1024_S1024x1024)
      (constant S512x1024 .f32 0x00000000#32)) g))

theorem vnorm_at (x : FVec Ideal S512x1024 .f32) (g : Vec Ideal S1x1024 .f32) (i : Fin 512) (j : Fin 1024) :
    vnorm x g (ix2 i j) = norm (fun d => x (ix2 i d)) (fun d => g (ix2 0 d)) j := by
  unfold norm
  pointwise [vnorm]

theorem vmodnorm_at (x : FVec Ideal S512x1024 .f32) (g : Vec Ideal S1x1024 .f32) (s b : Vec Ideal S1x1x1024 .f32) (i : Fin 512) (j : Fin 1024) :
    vmodnorm x g s b (ix2 i j) = modnorm (fun d => x (ix2 i d)) (fun d => g (ix2 0 d)) (fun d => s (ix3 0 0 d)) (fun d => b (ix3 0 0 d)) j := by
  unfold modnorm
  rw [← vnorm_at]
  generalize hy : vnorm x g = y
  unfold vmodnorm
  rw [hy]
  pointwise

theorem colA_at (x : Vec Ideal S1x1x1024x5632 .bf16) (n : Fin 11) (d : Fin 1024) (f : Fin 256) :
    colA x n (ix4 0 0 d f) = x (ix4 0 0 d ⟨256 * n.val + f.val, by omega⟩) := by
  pointwise [colA]
theorem colB_at (x : Vec Ideal S1x1x1024x5632 .bf16) (n : Fin 11) (d : Fin 1024) (f : Fin 256) :
    colB x n (ix4 0 0 d f) = x (ix4 0 0 d ⟨2816 + 256 * n.val + f.val, by omega⟩) := by
  pointwise [colB]
theorem rowC_at (x : Vec Ideal S1x1x2816x1024 .bf16) (n : Fin 11) (f : Fin 256) (j : Fin 1024) :
    rowC x n (ix4 0 0 f j) = x (ix4 0 0 ⟨256 * n.val + f.val, by omega⟩ j) := by
  pointwise [rowC]

theorem vproj_at (u : FVec Ideal S512x1024 .bf16) (W : Vec Ideal S1x1x1024x256 .bf16) (i : Fin 512) (f : Fin 256) :
    vproj u W (ix2 i f) = ∑ d : Fin 1024, u (ix2 i d) * W (ix4 0 0 d f) := by
  pointwise [vproj]

theorem vgate_at (a b : FVec Ideal S512x256 .f32) (i : Fin 512) (f : Fin 256) : vgate a b (ix2 i f) = gate (a (ix2 i f)) (b (ix2 i f)) := rfl

theorem vback_at (a : FVec Ideal S512x256 .bf16) (V : Vec Ideal S1x1x256x1024 .bf16) (i : Fin 512) (j : Fin 1024) :
    vback a V (ix2 i j) = ∑ f : Fin 256, a (ix2 i f) * V (ix4 0 0 f j) := by
  pointwise [vback]

theorem vpart_at (u : FVec Ideal S512x1024 .bf16) (W : Vec Ideal S1x1x1024x5632 .bf16) (V : Vec Ideal S1x1x2816x1024 .bf16) (n : Fin 11)
    (i : Fin 512) (j : Fin 1024) :
    vpart u W V n (ix2 i j) = ∑ f : Fin 256, act (fun d => u (ix2 i d)) (fun d f => W (ix4 0 0 d f)) ⟨n.val * 256 + f.val, by omega⟩
      * V (ix4 0 0 ⟨n.val * 256 + f.val, by omega⟩ j) := by
  rw [vpart, vback_at]
  refine Finset.sum_congr rfl fun f _ => ?_
  rw [vgate_at, vproj_at, vproj_at, rowC_at, act, proj, proj]
  have e : (⟨256 * n.val + f.val, by omega⟩ : Fin 2816) = ⟨n.val * 256 + f.val, by omega⟩ := Fin.ext (by dsimp only; omega)
  have eA : (⟨256 * n.val + f.val, by omega⟩ : Fin 5632) = ⟨n.val * 256 + f.val, by omega⟩ := Fin.ext (by dsimp only; omega)
  have eB : (⟨2816 + 256 * n.val + f.val, by omega⟩ : Fin 5632) = ⟨2816 + (n.val * 256 + f.val), by omega⟩ := Fin.ext (by dsimp only; omega)
  simp only [colA_at, colB_at, e, eA, eB]

theorem vffn_at (u : FVec Ideal S512x1024 .bf16) (W : Vec Ideal S1x1x1024x5632 .bf16) (V : Vec Ideal S1x1x2816x1024 .bf16)
    (i : Fin 512) (j : Fin 1024) :
    vffn u W V (ix2 i j) = ffn (fun d => u (ix2 i d)) (fun d f => W (ix4 0 0 d f)) (fun f j => V (ix4 0 0 f j)) j := by
  unfold ffn
  rw [Fin.sum_univ_tiles 11 256 rfl]
  simp only [← vpart_at]
  rw [Fin.sum_univ_castSucc, Fin.sum_univ_castSucc, Fin.sum_univ_castSucc, Fin.sum_univ_eight]
  rfl

theorem vout_at (x acc : FVec Ideal S512x1024 .f32) (m : Vec Ideal S1x1x1024 .f32) (g : Vec Ideal S1x1024 .f32) (i : Fin 512) (j : Fin 1024) :
    vout x acc m g (ix2 i j) = x (ix2 i j) + chalf * m (ix3 0 0 j) * norm (fun d => acc (ix2 i d)) (fun d => g (ix2 0 d)) j := by
  rw [← vnorm_at]
  generalize hy : vnorm acc g = y
  unfold vout
  rw [hy]
  pointwise

theorem vmix_at (x : FVec Ideal S512x1024 .f32) (o : FVec Ideal S512x1024 .bf16) (W : Vec Ideal S1024x1024 .bf16) (m : Vec Ideal S1x1x1024 .f32)
    (g : Vec Ideal S1x1024 .f32) (i : Fin 512) (j : Fin 1024) :
    vmix x o W m g (ix2 i j) = mix (fun d => x (ix2 i d)) (fun d => o (ix2 i d)) (fun d => m (ix3 0 0 d)) (fun d => g (ix2 0 d))
      (fun d j => W (ix2 d j)) j := by
  unfold mix vmix
  have hy : ∀ j, matmul dot_S512x1024_S1024x1024_S512x1024_1_0_0_1_n_n none o (φ₂ := .bf16) (shapeCast S1024x1024 W shapeCasts_S1024x1024_S1024x1024)
      (constant S512x1024 .f32 0x00000000#32) (ix2 i j) = ∑ d : Fin 1024, o (ix2 i d) * W (ix2 d j) := by
    intro j
    pointwise
  simp only [← hy]
  generalize matmul dot_S512x1024_S1024x1024_S512x1024_1_0_0_1_n_n none o (φ₂ := .bf16) (shapeCast S1024x1024 W shapeCasts_S1024x1024_S1024x1024)
      (constant S512x1024 .f32 0x00000000#32) = y
  rw [← vnorm_at]
  generalize vnorm y g = z
  pointwise

/-- The layer on a block, row by row. -/
theorem vlayer_at (x : FVec Ideal S512x1024 .f32) (W : Vec Ideal S1x1x1024x5632 .bf16) (V : Vec Ideal S1x1x2816x1024 .bf16) (g g' : Vec Ideal S1x1024 .f32)
    (s b m : Vec Ideal S1x1x1024 .f32) (i : Fin 512) (j : Fin 1024) :
    vout x (vffn (vmodnorm x g s b) W V) m g' (ix2 i j)
      = layer (fun d => x (ix2 i d)) (fun d => g (ix2 0 d)) (fun d => s (ix3 0 0 d)) (fun d => b (ix3 0 0 d)) (fun d => g' (ix2 0 d))
          (fun d => m (ix3 0 0 d)) (fun d f => W (ix4 0 0 d f)) (fun f j => V (ix4 0 0 f j)) j := by
  rw [vout_at, layer]
  simp only [vffn_at, vmodnorm_at]

end Cert.Ffn

end
-- ==== Proof.FfnLastOut.lean ====
/- What the last feed-forward's body leaves in the result's block, as a function of the seven staged blocks: two halves of 512 rows, each the layer on
   the rows the mixer's output was added to. -/
module

public import proofs.«01_k».proof.Proof.FfnSteps
public import proofs.«01_k».proof.Proof.Gen.FfnLastIdeal.Value

@[expose] public section

set_option maxRecDepth 16384

noncomputable section

namespace Cert.FfnLastIdeal.Steps

open Cert.FfnLastIdeal Cert.FfnLastIdeal.Gen Idealize.ShloMosaic Idealize.ShloMosaic.TcCoe Idealize.SL.Sem Cert.Ffn

/-- Half `o`'s rows of the input. -/
def xH (x0 : Vec Ideal S1024x1024 .f32) (o : Fin 2) : FVec Ideal S512x1024 .f32 :=
  shapeCast S512x1024 (View.ld x0 (Rect.unit (s := S1024x1024) ![512 * o.val, 0] S512x1024.size (by revert o; decide))) shapeCasts_S512x1024_S512x1024

/-- Half `o`'s rows of one head's output. -/
def oC (x5 : Vec Ideal S8x1024x128 .bf16) (o : Fin 2) (h : Fin 8) : FVec Ideal S512x128 .bf16 :=
  shapeCast S512x128 (View.ld x5 (Rect.unit (s := S8x1024x128) ![h.val, 512 * o.val, 0] S1x512x128.size (by revert o h; decide)))
    shapeCasts_S1x512x128_S512x128

/-- Half `o`'s rows of the attention's output, the eight heads side by side. -/
def oH (x5 : Vec Ideal S8x1024x128 .bf16) (o : Fin 2) : FVec Ideal S512x1024 .bf16 :=
  concatenate S512x1024 1 [⟨S512x128, oC x5 o 0⟩, ⟨S512x128, oC x5 o 1⟩, ⟨S512x128, oC x5 o 2⟩, ⟨S512x128, oC x5 o 3⟩, ⟨S512x128, oC x5 o 4⟩,
    ⟨S512x128, oC x5 o 5⟩, ⟨S512x128, oC x5 o 6⟩, ⟨S512x128, oC x5 o 7⟩]
    concatenates_S512x128_S512x128_S512x128_S512x128_S512x128_S512x128_S512x128_S512x128_S512x1024_d1

/-- Entry group `k` of the modulation's row and row `k` of the norms' scales. -/
def md (x1 : Vec Ideal S1x1x9216 .f32) (k : Fin 9) : Vec Ideal S1x1x1024 .f32 :=
  View.ld x1 (Rect.unit (s := S1x1x9216) ![0, 0, 1024 * k.val] S1x1x1024.size (by revert k; decide))
def sc (x2 : Vec Ideal S8x1024 .f32) (k : Fin 8) : Vec Ideal S1x1024 .f32 :=
  View.ld x2 (Rect.unit (s := S8x1024) ![k.val, 0] S1x1024.size (by revert k; decide))
def wm (x6 : Vec Ideal S1024x1024 .bf16) : Vec Ideal S1024x1024 .bf16 :=
  View.ld x6 (Rect.unit (s := S1024x1024) ![0, 0] S1024x1024.size inb_S1024x1024_S1024x1024_0_0)

/-- The rows the mixer's output has been added to. -/
def pre (x0 : Vec Ideal S1024x1024 .f32) (x1 : Vec Ideal S1x1x9216 .f32) (x2 : Vec Ideal S8x1024 .f32) (x5 : Vec Ideal S8x1024x128 .bf16)
    (x6 : Vec Ideal S1024x1024 .bf16) (o : Fin 2) : FVec Ideal S512x1024 .f32 :=
  vmix (xH x0 o) (oH x5 o) (wm x6) (md x1 5) (sc x2 3)

/-- The layer over rows `p`. -/
def half (p : FVec Ideal S512x1024 .f32) (x1 : Vec Ideal S1x1x9216 .f32) (x2 : Vec Ideal S8x1024 .f32) (x3 : Vec Ideal S1x1x1024x5632 .bf16)
    (x4 : Vec Ideal S1x1x2816x1024 .bf16) : FVec Ideal S512x1024 .f32 :=
  vout p (vffn (vmodnorm p (sc x2 4) (md x1 7) (md x1 6)) x3 x4) (md x1 8) (sc x2 5)

theorem u_first (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 : Vec Ideal S8x1024x128 .bf16) (x6 : Vec Ideal S1024x1024 .bf16) :
    k0_pay75 x0 x1 x2 x3 x4 x5 x6 = vmodnorm (pre x0 x1 x2 x5 x6 0) (sc x2 4) (md x1 7) (md x1 6) := rfl

theorem u_second (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 : Vec Ideal S8x1024x128 .bf16) (x6 : Vec Ideal S1024x1024 .bf16) :
    k0_pay78 x0 x1 x2 x3 x4 x5 x6 = vmodnorm (pre x0 x1 x2 x5 x6 1) (sc x2 4) (md x1 7) (md x1 6) := rfl

/-- The body's two stores. -/
theorem out_eq (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 : Vec Ideal S8x1024x128 .bf16) (x6 : Vec Ideal S1024x1024 .bf16) :
    out0_7 x0 x1 x2 x3 x4 x5 x6
      = View.canon [⟨r0_17, half (pre x0 x1 x2 x5 x6 1) x1 x2 x3 x4⟩, ⟨r0_0, half (pre x0 x1 x2 x5 x6 0) x1 x2 x3 x4⟩] := by
  unfold out0_7 half
  rw [u_first, u_second]
  generalize vmodnorm (pre x0 x1 x2 x5 x6 0) (sc x2 4) (md x1 7) (md x1 6) = u0
  generalize vmodnorm (pre x0 x1 x2 x5 x6 1) (sc x2 4) (md x1 7) (md x1 6) = u1
  rfl

theorem xH_at (x0 : Vec Ideal S1024x1024 .f32) (o : Fin 2) (i : Fin 512) (d : Fin 1024) :
    xH x0 o (ix2 i d) = x0 (ix2 ⟨512 * o.val + i.val, by omega⟩ d) := by
  pointwise [xH]

theorem oC_at (x5 : Vec Ideal S8x1024x128 .bf16) (o : Fin 2) (h : Fin 8) (i : Fin 512) (l : Fin 128) :
    oC x5 o h (ix2 i l) = x5 (ix3 h ⟨512 * o.val + i.val, by omega⟩ l) := by
  have e : ∀ z : Vec Ideal S1x512x128 .bf16, (shapeCast S512x128 z shapeCasts_S1x512x128_S512x128 : FVec Ideal S512x128 .bf16) (ix2 i l) = z (ix3 0 i l) := by
    intro z
    pointwise
  rw [oC, e]
  pointwise

theorem oH_at (x5 : Vec Ideal S8x1024x128 .bf16) (o : Fin 2) (i : Fin 512) (d : Fin 1024) :
    oH x5 o (ix2 i d) = x5 (ix3 ⟨d.val / 128, by omega⟩ ⟨512 * o.val + i.val, by omega⟩ ⟨d.val % 128, by omega⟩) := by
  refine Eq.trans ?_ (oC_at x5 o ⟨d.val / 128, by omega⟩ i ⟨d.val % 128, by omega⟩)
  unfold oH
  generalize oC x5 o = f
  pointwise
  have key : ∀ (h : Fin 8) (l : Fin 128), d.val = 128 * h.val + l.val → f h (ix2 i l) = f ⟨d.val / 128, by omega⟩ (ix2 i ⟨d.val % 128, by omega⟩) := by
    intro h l e
    have eh : h = ⟨d.val / 128, by omega⟩ := Fin.ext (by dsimp only; omega)
    have el : l = ⟨d.val % 128, by omega⟩ := Fin.ext (by dsimp only; omega)
    rw [← eh, ← el]
  split_ifs <;> exact key _ _ (by dsimp only [Fin.isValue, Fin.coe_ofNat_eq_mod]; omega)

theorem md_at (x1 : Vec Ideal S1x1x9216 .f32) (k : Fin 9) (d : Fin 1024) : md x1 k (ix3 0 0 d) = x1 (ix3 0 0 ⟨1024 * k.val + d.val, by omega⟩) := by
  pointwise [md]

theorem sc_at (x2 : Vec Ideal S8x1024 .f32) (k : Fin 8) (d : Fin 1024) : sc x2 k (ix2 0 d) = x2 (ix2 k d) := by
  pointwise [sc]

theorem wm_at (x6 : Vec Ideal S1024x1024 .bf16) (d e : Fin 1024) : wm x6 (ix2 d e) = x6 (ix2 d e) := by
  pointwise [wm]

/-- Row `r` of the block, the mixer's output added. -/
def rowIn (x0 : Vec Ideal S1024x1024 .f32) (x1 : Vec Ideal S1x1x9216 .f32) (x2 : Vec Ideal S8x1024 .f32) (x5 : Vec Ideal S8x1024x128 .bf16)
    (x6 : Vec Ideal S1024x1024 .bf16) (r : Fin 1024) : Fin 1024 → EReal :=
  mix (fun d => x0 (ix2 r d)) (fun d => x5 (ix3 ⟨d.val / 128, by omega⟩ r ⟨d.val % 128, by omega⟩))
    (fun d => x1 (ix3 0 0 ⟨5120 + d.val, by omega⟩)) (fun d => x2 (ix2 3 d)) (fun d e => x6 (ix2 d e))

/-- Row `r` of the block after the layer. -/
def rowOut (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 : Vec Ideal S8x1024x128 .bf16) (x6 : Vec Ideal S1024x1024 .bf16) (r : Fin 1024) : Fin 1024 → EReal :=
  layer (rowIn x0 x1 x2 x5 x6 r) (fun d => x2 (ix2 4 d)) (fun d => x1 (ix3 0 0 ⟨7168 + d.val, by omega⟩)) (fun d => x1 (ix3 0 0 ⟨6144 + d.val, by omega⟩))
    (fun d => x2 (ix2 5 d)) (fun d => x1 (ix3 0 0 ⟨8192 + d.val, by omega⟩)) (fun d f => x3 (ix4 0 0 d f)) (fun f j => x4 (ix4 0 0 f j))

theorem half_row (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 : Vec Ideal S8x1024x128 .bf16) (x6 : Vec Ideal S1024x1024 .bf16) (o : Fin 2) (i : Fin 512) (j : Fin 1024) :
    half (pre x0 x1 x2 x5 x6 o) x1 x2 x3 x4 (ix2 i j) = rowOut x0 x1 x2 x3 x4 x5 x6 ⟨512 * o.val + i.val, by omega⟩ j := by
  rw [half, vlayer_at]
  simp only [pre, vmix_at, xH_at, oH_at, md_at, sc_at, wm_at]
  rfl

theorem half_at (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 : Vec Ideal S8x1024x128 .bf16) (x6 : Vec Ideal S1024x1024 .bf16) (o : Fin 2) (x : S512x1024.Idx)
    (r j : Fin 1024) (hr : r.val = 512 * o.val + (x 0).val) (hj : j.val = (x 1).val) :
    half (pre x0 x1 x2 x5 x6 o) x1 x2 x3 x4 x = rowOut x0 x1 x2 x3 x4 x5 x6 r j := by
  refine (congrArg _ (eq_ix2 x)).trans ((half_row x0 x1 x2 x3 x4 x5 x6 o (x 0) (x 1)).trans ?_)
  exact congrArg₂ (rowOut x0 x1 x2 x3 x4 x5 x6) (Fin.ext hr.symm) (Fin.ext hj.symm)

theorem out_at (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 : Vec Ideal S8x1024x128 .bf16) (x6 : Vec Ideal S1024x1024 .bf16) (y : S1024x1024.Idx) :
    out0_7 x0 x1 x2 x3 x4 x5 x6 y = rowOut x0 x1 x2 x3 x4 x5 x6 (y 0) (y 1) := by
  rw [out_eq]
  canon_tiles x h
  · exact half_at x0 x1 x2 x3 x4 x5 x6 1 x (y 0) (y 1) (by dsimp only [Fin.isValue, Fin.coe_ofNat_eq_mod]; omega) (by omega)
  · exact half_at x0 x1 x2 x3 x4 x5 x6 0 x (y 0) (y 1) (by dsimp only [Fin.isValue, Fin.coe_ofNat_eq_mod]; omega) (by omega)

end Cert.FfnLastIdeal.Steps

end
-- ==== Proof.FfnLastEntry.lean ====
/- The arrays the last feed-forward's blocks are cut from, in terms of the arguments: the latent rows above the context rows, the modulation of each
   batch row as one row of nine groups, the norms' scales, the attention's output head by head. -/
module

public import proofs.«01_k».proof.Proof.FfnLastOut
public import Idealize.ShloMosaic.Lib.Claim

@[expose] public section

set_option maxRecDepth 16384

noncomputable section

namespace Cert.FfnLastIdeal.Steps

open Cert.FfnLastIdeal Cert.FfnLastIdeal.Gen Idealize.ShloMosaic Idealize.ShloMosaic.TcCoe Idealize.SL.Sem Cert.Ffn

variable (m : (ℓ : Loc nD τ sig) → Buf (Elt Ideal) ℓ)

/-- All rows. -/
def rowsArr (x : FVec Ideal S8x4096x1024 .f32) (xc : FVec Ideal S8x256x1024 .f32) : FVec Ideal S34816x1024 .f32 :=
  concatenate S34816x1024 0 [⟨S32768x1024, shapeCast S32768x1024 x shapeCasts_S8x4096x1024_S32768x1024⟩,
    ⟨S2048x1024, shapeCast S2048x1024 xc shapeCasts_S8x256x1024_S2048x1024⟩] concatenates_S32768x1024_S2048x1024_S34816x1024_d0

/-- The modulation's table, padded to sixteen rows. -/
def modArr (x : FVec Ideal S8x9x1024 .f32) (xc : FVec Ideal S9x1024 .f32) : FVec Ideal S16x1x9216 .f32 :=
  shapeCast S16x1x9216 (pad S16x9216 ![0, 0] ![7, 0] ![0, 0]
    (concatenate S9x9216 0 [⟨S8x9216, shapeCast S8x9216 x shapeCasts_S8x9x1024_S8x9216⟩, ⟨S1x9216, shapeCast S1x9216 xc shapeCasts_S9x1024_S1x9216⟩]
      concatenates_S8x9216_S1x9216_S9x9216_d0 : FVec Ideal S9x9216 .f32)
    (sitofp .f32 (constantI S_ 32 0#32)) pads_S9x9216_S16x9216_070_000 h_S_) shapeCasts_S16x9216_S16x1x9216

/-- The norms' scales, padded to eight rows. -/
def scArr (g : FVec Ideal S6x1024 .f32) : FVec Ideal S8x1024 .f32 :=
  concatenate S8x1024 0 [⟨S6x1024, g⟩, ⟨S2x1024, broadcastInDim S2x1024 ![] bcast_S_S2x1024 (constant S_ .f32 0x3F800000#32)⟩]
    concatenates_S6x1024_S2x1024_S8x1024_d0

/-- The attention's output, head by head. -/
def headArr (o : FVec Ideal S8x4096x1024 .f32) : FVec Ideal S8x32768x128 .bf16 :=
  truncf .bf16 (transpose S8x32768x128 [1, 0, 2] (shapeCast S32768x8x128 o shapeCasts_S8x4096x1024_S32768x8x128)
    transposes_S32768x8x128_S8x32768x128_1_0_2) bitsLt_bf16_f32

theorem rowsArr_lat (x : FVec Ideal S8x4096x1024 .f32) (xc : FVec Ideal S8x256x1024 .f32) (s : Fin 34816) (d : Fin 1024) (hs : s.val < 32768) :
    rowsArr x xc (ix2 s d) = x (ix3 ⟨s.val / 4096, by omega⟩ ⟨s.val % 4096, by omega⟩ d) := by
  pointwise [rowsArr]
  rw [dif_pos hs]

theorem modArr_at (x : FVec Ideal S8x9x1024 .f32) (xc : FVec Ideal S9x1024 .f32) (b : Fin 16) (l : Fin 9216) (hb : b.val < 8) :
    modArr x xc (ix3 b 0 l) = x (ix3 ⟨b.val, hb⟩ ⟨l.val / 1024, by omega⟩ ⟨l.val % 1024, by omega⟩) := by
  pointwise [modArr]
  rw [dif_pos (show b.val < 9 by omega), dif_pos hb]

theorem rowsArr_ctx (x : FVec Ideal S8x4096x1024 .f32) (xc : FVec Ideal S8x256x1024 .f32) (s : Fin 34816) (d : Fin 1024) (hs : ¬ s.val < 32768) :
    rowsArr x xc (ix2 s d) = xc (ix3 ⟨(s.val - 32768) / 256, by omega⟩ ⟨(s.val - 32768) % 256, by omega⟩ d) := by
  pointwise [rowsArr]
  rw [dif_neg hs]

theorem modArr_ctx (x : FVec Ideal S8x9x1024 .f32) (xc : FVec Ideal S9x1024 .f32) (b : Fin 16) (l : Fin 9216) (hb : b.val = 8) :
    modArr x xc (ix3 b 0 l) = xc (ix2 ⟨l.val / 1024, by omega⟩ ⟨l.val % 1024, by omega⟩) := by
  pointwise [modArr]
  rw [dif_pos (show b.val < 9 by omega), dif_neg (show ¬ b.val < 8 by omega)]

theorem scArr_at (g : FVec Ideal S6x1024 .f32) (k : Fin 8) (d : Fin 1024) (hk : k.val < 6) : scArr g (ix2 k d) = g (ix2 ⟨k.val, hk⟩ d) := by
  pointwise [scArr]
  rw [dif_pos hk]

theorem headArr_at (o : FVec Ideal S8x4096x1024 .f32) (h : Fin 8) (s : Fin 32768) (l : Fin 128) :
    headArr o (ix3 h s l) = o (ix3 ⟨s.val / 4096, by omega⟩ ⟨s.val % 4096, by omega⟩ ⟨h.val * 128 + l.val, by omega⟩) := by
  pointwise [headArr]

theorem v2_eq (c : Dev nD) : V m c main_v2 = rowsArr (m ((c : Thread nD τ).loc main_arg0)) (m ((c : Thread nD τ).loc main_arg1)) := by
  entry_read
  rfl

theorem v10_eq (c : Dev nD) : V m c main_v10 = modArr (m ((c : Thread nD τ).loc main_arg2)) (m ((c : Thread nD τ).loc main_arg3)) := by
  entry_read
  rfl

theorem v12_eq (c : Dev nD) : V m c main_v12 = scArr (m ((c : Thread nD τ).loc main_arg4)) := by
  entry_read
  rfl

theorem v13_eq (c : Dev nD) : V m c main_v13 = (truncf .bf16 (m ((c : Thread nD τ).loc main_arg5) : FVec Ideal S4x2x1024x5632 .f32) bitsLt_bf16_f32 : FVec Ideal S4x2x1024x5632 .bf16) := by
  entry_read
  rfl

theorem v14_eq (c : Dev nD) : V m c main_v14 = (truncf .bf16 (m ((c : Thread nD τ).loc main_arg6) : FVec Ideal S4x2x2816x1024 .f32) bitsLt_bf16_f32 : FVec Ideal S4x2x2816x1024 .bf16) := by
  entry_read
  rfl

theorem v5_eq (c : Dev nD) : V m c main_v5 = headArr (m ((c : Thread nD τ).loc main_arg7)) := by
  entry_read
  rfl

theorem v15_eq (c : Dev nD) : V m c main_v15 = (truncf .bf16 (m ((c : Thread nD τ).loc main_arg8) : FVec Ideal S1024x1024 .f32) bitsLt_bf16_f32 : FVec Ideal S1024x1024 .bf16) := by
  entry_read
  rfl

end Cert.FfnLastIdeal.Steps

end
-- ==== Proof.FfnRefRows.lean ====
/- The feed-forward layer of the reference on the latent rows, read row by row. -/
module

public import proofs.«01_k».proof.Proof.Gen.FfnLastRefIdeal
public import proofs.«01_k».proof.Proof.FfnRow
public import Idealize.ShloMosaic.Lib.StableHlo.Run
public import Idealize.ShloMosaic.Lib.Pipeline.ValueKit
public import Idealize.ShloMosaic.Lib.Pointwise

@[expose] public section

set_option maxRecDepth 16384

noncomputable section

namespace Cert.FfnLastRefIdeal.Rows

open Cert.FfnLastRefIdeal Cert.FfnLastRefIdeal.Gen Idealize.ShloMosaic Idealize.ShloMosaic.TcCoe Idealize.SL.Sem Idealize.ShloMosaic.StableHlo Cert.Ffn

/-- The rows over the root of their mean square, scaled lane by lane. -/
def normL (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf
      (broadcastInDim S8x4096x1 ![0, 1] bcast_S8x4096_S8x4096x1_0_1 (Host.reduceAdd (mulf x x) (constant S_ .f32 0x00000000#32) reducesTo_S8x4096x1024_S8x4096_d2 h_S_))
      (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- One value per lane and batch row, spread over the rows. -/
def wideL (v : FVec Ideal S8x1x1024 .f32) : FVec Ideal S8x4096x1024 .f32 := broadcastInDim S8x4096x1024 ![0, 1, 2] bcast_S8x1x1024_S8x4096x1024_0_1_2 v

/-- The modulated norm. -/
def modnormL (x : FVec Ideal S8x4096x1024 .f32) (g : FVec Ideal S1024 .f32) (s b : FVec Ideal S8x1x1024 .f32) : FVec Ideal S8x4096x1024 .f32 :=
  addf (mulf (normL x g) (wideL (addf (broadcastInDim S8x1x1024 ![] bcast_S_S8x1x1024 (constant S_ .f32 0x3F800000#32)) s))) (wideL b)

/-- The first projection. -/
def projL (u : FVec Ideal S8x4096x1024 .f32) (W : FVec Ideal S1024x5632 .f32) : FVec Ideal S8x4096x5632 .f32 :=
  Host.dotGeneral dot_S8x4096x1024_S1024x5632_S8x4096x5632_2_0_01_1_n_n none u W

/-- The gated product of its halves. -/
def actL (h : FVec Ideal S8x4096x5632 .f32) : FVec Ideal S8x4096x2816 .f32 :=
  mulf (mulf (extractStridedSlice S8x4096x2816 ![0, 0, 0] h slices_S8x4096x5632_S8x4096x2816_0_0_0)
      (Host.divf (broadcastInDim S8x4096x2816 ![] bcast_S_S8x4096x2816 (constant S_ .f32 0x3F800000#32))
        (addf (broadcastInDim S8x4096x2816 ![] bcast_S_S8x4096x2816 (constant S_ .f32 0x3F800000#32))
          (Host.exp (Host.negf (extractStridedSlice S8x4096x2816 ![0, 0, 0] h slices_S8x4096x5632_S8x4096x2816_0_0_0))))))
    (extractStridedSlice S8x4096x2816 ![0, 0, 2816] h slices_S8x4096x5632_S8x4096x2816_0_0_2816)

/-- The second projection. -/
def backL (a : FVec Ideal S8x4096x2816 .f32) (V : FVec Ideal S2816x1024 .f32) : FVec Ideal S8x4096x1024 .f32 :=
  Host.dotGeneral dot_S8x4096x2816_S2816x1024_S8x4096x1024_2_0_01_1_n_n none a V

/-- A residual: half the modulated norm of `y` added to the rows. -/
def plusL (x y : FVec Ideal S8x4096x1024 .f32) (m : FVec Ideal S8x1x1024 .f32) (g : FVec Ideal S1024 .f32) : FVec Ideal S8x4096x1024 .f32 :=
  addf x (mulf (wideL (mulf (broadcastInDim S8x1x1024 ![] bcast_S_S8x1x1024 (constant S_ .f32 0x3F000000#32)) m)) (normL y g))

/-- The layer. -/
def layerL (x : FVec Ideal S8x4096x1024 .f32) (g : FVec Ideal S1024 .f32) (s b : FVec Ideal S8x1x1024 .f32) (g' : FVec Ideal S1024 .f32)
    (m : FVec Ideal S8x1x1024 .f32) (W : FVec Ideal S1024x5632 .f32) (V : FVec Ideal S2816x1024 .f32) : FVec Ideal S8x4096x1024 .f32 :=
  plusL x (backL (actL (projL (modnormL x g s b) W)) V) m g'

theorem normL_at (x : FVec Ideal S8x4096x1024 .f32) (g : FVec Ideal S1024 .f32) (b : Fin 8) (i : Fin 4096) (j : Fin 1024) :
    normL x g (ix3 b i j) = norm (fun d => x (ix3 b i d)) (fun d => g (ix1 d)) j := by
  unfold Ffn.norm
  pointwise [normL]

theorem wideL_at (v : FVec Ideal S8x1x1024 .f32) (b : Fin 8) (i : Fin 4096) (j : Fin 1024) : wideL v (ix3 b i j) = v (ix3 b 0 j) := by
  pointwise [wideL]

theorem modnormL_at (x : FVec Ideal S8x4096x1024 .f32) (g : FVec Ideal S1024 .f32) (s t : FVec Ideal S8x1x1024 .f32) (b : Fin 8) (i : Fin 4096) (j : Fin 1024) :
    modnormL x g s t (ix3 b i j)
      = modnorm (fun d => x (ix3 b i d)) (fun d => g (ix1 d)) (fun d => s (ix3 b 0 d)) (fun d => t (ix3 b 0 d)) j := by
  unfold modnormL modnorm
  rw [addf_apply, mulf_apply, normL_at, wideL_at, wideL_at]
  rfl

theorem projL_at (u : FVec Ideal S8x4096x1024 .f32) (W : FVec Ideal S1024x5632 .f32) (b : Fin 8) (i : Fin 4096) (f : Fin 5632) :
    projL u W (ix3 b i f) = proj (fun d => u (ix3 b i d)) (fun d f => W (ix2 d f)) f := by
  unfold proj
  pointwise [projL]

theorem actL_at (h : FVec Ideal S8x4096x5632 .f32) (b : Fin 8) (i : Fin 4096) (f : Fin 2816) :
    actL h (ix3 b i f) = gate (h (ix3 b i ⟨f.val, by omega⟩)) (h (ix3 b i ⟨2816 + f.val, by omega⟩)) := by
  rw [← gate_eq]
  have ea : (extractStridedSlice S8x4096x2816 ![0, 0, 0] h slices_S8x4096x5632_S8x4096x2816_0_0_0 : FVec Ideal S8x4096x2816 .f32) (ix3 b i f) = h (ix3 b i ⟨f.val, by omega⟩) := by pointwise
  have eb : (extractStridedSlice S8x4096x2816 ![0, 0, 2816] h slices_S8x4096x5632_S8x4096x2816_0_0_2816 : FVec Ideal S8x4096x2816 .f32) (ix3 b i f) = h (ix3 b i ⟨2816 + f.val, by omega⟩) := by pointwise
  rw [← ea, ← eb]
  rfl

theorem backL_at (a : FVec Ideal S8x4096x2816 .f32) (V : FVec Ideal S2816x1024 .f32) (b : Fin 8) (i : Fin 4096) (j : Fin 1024) :
    backL a V (ix3 b i j) = ∑ f : Fin 2816, a (ix3 b i f) * V (ix2 f j) := by
  pointwise [backL]

theorem plusL_at (x y : FVec Ideal S8x4096x1024 .f32) (m : FVec Ideal S8x1x1024 .f32) (g : FVec Ideal S1024 .f32) (b : Fin 8) (i : Fin 4096) (j : Fin 1024) :
    plusL x y m g (ix3 b i j) = x (ix3 b i j) + chalf * m (ix3 b 0 j) * norm (fun d => y (ix3 b i d)) (fun d => g (ix1 d)) j := by
  unfold plusL
  rw [addf_apply, mulf_apply, normL_at, wideL_at]
  rfl

/-- The layer, row by row. -/
theorem layerL_at (x : FVec Ideal S8x4096x1024 .f32) (g : FVec Ideal S1024 .f32) (s t : FVec Ideal S8x1x1024 .f32) (g' : FVec Ideal S1024 .f32)
    (m : FVec Ideal S8x1x1024 .f32) (W : FVec Ideal S1024x5632 .f32) (V : FVec Ideal S2816x1024 .f32) (b : Fin 8) (i : Fin 4096) (j : Fin 1024) :
    layerL x g s t g' m W V (ix3 b i j)
      = layer (fun d => x (ix3 b i d)) (fun d => g (ix1 d)) (fun d => s (ix3 b 0 d)) (fun d => t (ix3 b 0 d)) (fun d => g' (ix1 d))
          (fun d => m (ix3 b 0 d)) (fun d f => W (ix2 d f)) (fun f j => V (ix2 f j)) j := by
  unfold layerL
  rw [plusL_at]
  simp only [backL_at, actL_at, projL_at, modnormL_at]
  rfl

end Cert.FfnLastRefIdeal.Rows

end
-- ==== Proof.FfnLastRef.lean ====
/- The last feed-forward of the reference: the attention's output projected and added to the rows, then the layer. -/
module

public import proofs.«01_k».proof.Proof.FfnRefRows
public import proofs.«01_k».proof.Proof.Consts
public import Idealize.ShloMosaic.Lib.StableHlo.Run
public import Idealize.ShloMosaic.Lib.Pipeline.ValueKit
public import Idealize.ShloMosaic.Lib.Pointwise

@[expose] public section

set_option maxRecDepth 16384

noncomputable section

namespace Cert.FfnLastRefIdeal.Rows

open Cert.FfnLastRefIdeal Cert.FfnLastRefIdeal.Gen Idealize.ShloMosaic Idealize.ShloMosaic.TcCoe Idealize.SL.Sem Idealize.ShloMosaic.StableHlo Cert.Ffn

/-- Group 5 of the modulation. -/
def md5 (m : FVec Ideal S8x9x1024 .f32) : FVec Ideal S8x1x1024 .f32 :=
  shapeCast _ (extractStridedSlice S8x1x1x1024 ![0, 0, 5, 0] (broadcastInDim S8x1x9x1024 ![0, 2, 3] bcast_S8x9x1024_S8x1x9x1024_0_2_3 m)
    slices_S8x1x9x1024_S8x1x1x1024_0_0_5_0) shapeCasts_S8x1x1x1024_S8x1x1024

theorem md5_at (m : FVec Ideal S8x9x1024 .f32) (b : Fin 8) (d : Fin 1024) : md5 m (ix3 b 0 d) = m (ix3 b 5 d) := by
  pointwise [md5]

/-- Group 6 of the modulation. -/
def md6 (m : FVec Ideal S8x9x1024 .f32) : FVec Ideal S8x1x1024 .f32 :=
  shapeCast _ (extractStridedSlice S8x1x1x1024 ![0, 0, 6, 0] (broadcastInDim S8x1x9x1024 ![0, 2, 3] bcast_S8x9x1024_S8x1x9x1024_0_2_3 m)
    slices_S8x1x9x1024_S8x1x1x1024_0_0_6_0) shapeCasts_S8x1x1x1024_S8x1x1024

theorem md6_at (m : FVec Ideal S8x9x1024 .f32) (b : Fin 8) (d : Fin 1024) : md6 m (ix3 b 0 d) = m (ix3 b 6 d) := by
  pointwise [md6]

/-- Group 7 of the modulation. -/
def md7 (m : FVec Ideal S8x9x1024 .f32) : FVec Ideal S8x1x1024 .f32 :=
  shapeCast _ (extractStridedSlice S8x1x1x1024 ![0, 0, 7, 0] (broadcastInDim S8x1x9x1024 ![0, 2, 3] bcast_S8x9x1024_S8x1x9x1024_0_2_3 m)
    slices_S8x1x9x1024_S8x1x1x1024_0_0_7_0) shapeCasts_S8x1x1x1024_S8x1x1024

theorem md7_at (m : FVec Ideal S8x9x1024 .f32) (b : Fin 8) (d : Fin 1024) : md7 m (ix3 b 0 d) = m (ix3 b 7 d) := by
  pointwise [md7]

/-- Group 8 of the modulation. -/
def md8 (m : FVec Ideal S8x9x1024 .f32) : FVec Ideal S8x1x1024 .f32 :=
  shapeCast _ (extractStridedSlice S8x1x1x1024 ![0, 0, 8, 0] (broadcastInDim S8x1x9x1024 ![0, 2, 3] bcast_S8x9x1024_S8x1x9x1024_0_2_3 m)
    slices_S8x1x9x1024_S8x1x1x1024_0_0_8_0) shapeCasts_S8x1x1x1024_S8x1x1024

theorem md8_at (m : FVec Ideal S8x9x1024 .f32) (b : Fin 8) (d : Fin 1024) : md8 m (ix3 b 0 d) = m (ix3 b 8 d) := by
  pointwise [md8]

/-- Row 3 of the norms' scales. -/
def gs3 (g : FVec Ideal S6x1024 .f32) : FVec Ideal S1024 .f32 :=
  shapeCast _ (extractStridedSlice S1x1024 ![3, 0] g slices_S6x1024_S1x1024_3_0) shapeCasts_S1x1024_S1024

theorem gs3_at (g : FVec Ideal S6x1024 .f32) (d : Fin 1024) : gs3 g (ix1 d) = g (ix2 3 d) := by
  pointwise [gs3]

/-- Row 4 of the norms' scales. -/
def gs4 (g : FVec Ideal S6x1024 .f32) : FVec Ideal S1024 .f32 :=
  shapeCast _ (extractStridedSlice S1x1024 ![4, 0] g slices_S6x1024_S1x1024_4_0) shapeCasts_S1x1024_S1024

theorem gs4_at (g : FVec Ideal S6x1024 .f32) (d : Fin 1024) : gs4 g (ix1 d) = g (ix2 4 d) := by
  pointwise [gs4]

/-- Row 5 of the norms' scales. -/
def gs5 (g : FVec Ideal S6x1024 .f32) : FVec Ideal S1024 .f32 :=
  shapeCast _ (extractStridedSlice S1x1024 ![5, 0] g slices_S6x1024_S1x1024_5_0) shapeCasts_S1x1024_S1024

theorem gs5_at (g : FVec Ideal S6x1024 .f32) (d : Fin 1024) : gs5 g (ix1 d) = g (ix2 5 d) := by
  pointwise [gs5]

/-- The last layer's second feed-forward's weights. -/
def w1 (w : FVec Ideal S4x2x1024x5632 .f32) : FVec Ideal S1024x5632 .f32 :=
  shapeCast _ (extractStridedSlice S1x1x1024x5632 ![3, 1, 0, 0] w slices_S4x2x1024x5632_S1x1x1024x5632_3_1_0_0) shapeCasts_S1x1x1024x5632_S1024x5632
def w2 (w : FVec Ideal S4x2x2816x1024 .f32) : FVec Ideal S2816x1024 .f32 :=
  shapeCast _ (extractStridedSlice S1x1x2816x1024 ![3, 1, 0, 0] w slices_S4x2x2816x1024_S1x1x2816x1024_3_1_0_0) shapeCasts_S1x1x2816x1024_S2816x1024

theorem w1_at (w : FVec Ideal S4x2x1024x5632 .f32) (d : Fin 1024) (f : Fin 5632) : w1 w (ix2 d f) = w (ix4 3 1 d f) := by
  pointwise [w1]
theorem w2_at (w : FVec Ideal S4x2x2816x1024 .f32) (f : Fin 2816) (j : Fin 1024) : w2 w (ix2 f j) = w (ix4 3 1 f j) := by
  pointwise [w2]

/-- The attention's output, projected. -/
def outp (o : FVec Ideal S8x4096x1024 .f32) (W : FVec Ideal S1024x1024 .f32) : FVec Ideal S8x4096x1024 .f32 :=
  Host.dotGeneral dot_S8x4096x1024_S1024x1024_S8x4096x1024_2_0_01_1_n_n none o W

theorem outp_at (o : FVec Ideal S8x4096x1024 .f32) (W : FVec Ideal S1024x1024 .f32) (b : Fin 8) (i : Fin 4096) (j : Fin 1024) :
    outp o W (ix3 b i j) = ∑ d : Fin 1024, o (ix3 b i d) * W (ix2 d j) := by
  pointwise [outp]

/-- The rows with the attention's output added. -/
def added (x o : FVec Ideal S8x4096x1024 .f32) (m : FVec Ideal S8x1x1024 .f32) (g : FVec Ideal S1024 .f32) (W : FVec Ideal S1024x1024 .f32) :
    FVec Ideal S8x4096x1024 .f32 :=
  addf x (mulf (wideL (mulf (broadcastInDim S8x1x1024 ![] bcast_S_S8x1x1024 (constant S_ .f32 0x3F800000#32)) m)) (normL (outp o W) g))

theorem added_at (x o : FVec Ideal S8x4096x1024 .f32) (m : FVec Ideal S8x1x1024 .f32) (g : FVec Ideal S1024 .f32) (W : FVec Ideal S1024x1024 .f32)
    (b : Fin 8) (i : Fin 4096) (j : Fin 1024) :
    added x o m g W (ix3 b i j) = mix (fun d => x (ix3 b i d)) (fun d => o (ix3 b i d)) (fun d => m (ix3 b 0 d)) (fun d => g (ix1 d))
      (fun d e => W (ix2 d e)) j := by
  unfold added mix
  rw [addf_apply, mulf_apply, normL_at, wideL_at, mulf_apply]
  simp only [outp_at]
  have e : (broadcastInDim S8x1x1024 ![] bcast_S_S8x1x1024 (constant S_ .f32 0x3F800000#32) : FVec Ideal S8x1x1024 .f32) (ix3 b 0 j) = 1 := Consts.one
  rw [e]
  exact congrArg (fun z => x (ix3 b i j) + z * _) (one_mul _)

/-- The reference's result. -/
def REF (x : FVec Ideal S8x4096x1024 .f32) (mod : FVec Ideal S8x9x1024 .f32) (g : FVec Ideal S6x1024 .f32) (wi : FVec Ideal S4x2x1024x5632 .f32)
    (wo : FVec Ideal S4x2x2816x1024 .f32) (o : FVec Ideal S8x4096x1024 .f32) (wm : FVec Ideal S1024x1024 .f32) : FVec Ideal S32768x1024 .f32 :=
  shapeCast _ (layerL (added x o (md5 mod) (gs3 g) wm) (gs4 g) (md7 mod) (md6 mod) (gs5 g) (md8 mod) (w1 wi) (w2 wo)) shapeCasts_S8x4096x1024_S32768x1024

theorem flat_at (y : FVec Ideal S8x4096x1024 .f32) (s : Fin 32768) (j : Fin 1024) :
    (shapeCast S32768x1024 y shapeCasts_S8x4096x1024_S32768x1024 : FVec Ideal S32768x1024 .f32) (ix2 s j)
      = y (ix3 ⟨s.val / 4096, by omega⟩ ⟨s.val % 4096, by omega⟩ j) := by
  pointwise

theorem REF_at (x : FVec Ideal S8x4096x1024 .f32) (mod : FVec Ideal S8x9x1024 .f32) (g : FVec Ideal S6x1024 .f32) (wi : FVec Ideal S4x2x1024x5632 .f32)
    (wo : FVec Ideal S4x2x2816x1024 .f32) (o : FVec Ideal S8x4096x1024 .f32) (wm : FVec Ideal S1024x1024 .f32) (s : Fin 32768) (b : Fin 8) (i : Fin 4096)
    (j : Fin 1024) (hb : b.val = s.val / 4096) (hi : i.val = s.val % 4096) :
    REF x mod g wi wo o wm (ix2 s j)
      = layer (mix (fun d => x (ix3 b i d)) (fun d => o (ix3 b i d)) (fun d => mod (ix3 b 5 d)) (fun d => g (ix2 3 d)) (fun d e => wm (ix2 d e)))
          (fun d => g (ix2 4 d)) (fun d => mod (ix3 b 7 d)) (fun d => mod (ix3 b 6 d)) (fun d => g (ix2 5 d)) (fun d => mod (ix3 b 8 d))
          (fun d f => wi (ix4 3 1 d f)) (fun f j => wo (ix4 3 1 f j)) j := by
  have eb : b = ⟨s.val / 4096, by omega⟩ := Fin.ext hb
  have ei : i = ⟨s.val % 4096, by omega⟩ := Fin.ext hi
  rw [REF, flat_at, ← eb, ← ei, layerL_at]
  simp only [added_at, md5_at, md6_at, md7_at, md8_at, gs3_at, gs4_at, gs5_at, w1_at, w2_at]

end Cert.FfnLastRefIdeal.Rows

end
-- ==== Proof.FfnLastValue.lean ====
/- The blocks the last feed-forward's body reads at a grid point, in terms of the arguments; its result is the reference's. -/
module

public import proofs.«01_k».proof.Proof.FfnLastEntry
public import proofs.«01_k».proof.Proof.FfnLastRef

@[expose] public section

set_option maxRecDepth 16384

noncomputable section

namespace Cert.FfnLastIdeal.Steps

open Cert.FfnLastIdeal Cert.FfnLastIdeal.Gen Idealize.ShloMosaic Idealize.ShloMosaic.TcCoe Idealize.SL.Sem Cert.Ffn
open Cert.FfnLastRefIdeal.Rows (REF REF_at)

variable (m : (ℓ : Loc nD τ sig) → Buf (Elt Ideal) ℓ)

theorem t_lt (t : Fin cfg0.N) : t.val < 32 := lt_of_lt_of_eq t.isLt (by decide +kernel)

/-- The batch row of a grid point, and the place in it of row `r` of the point's block. -/
def bO (t : Fin cfg0.N) : Fin 8 := ⟨t.val / 4, by have := t_lt t; omega⟩
def iO (t : Fin cfg0.N) (r : Fin 1024) : Fin 4096 := ⟨1024 * (t.val % 4) + r.val, by omega⟩

theorem idx : ∀ t : Fin cfg0.N, win0_0.index t = ![t.val, 0] ∧ win0_1.index t = ![t.val / 4, 0, 0] ∧ win0_2.index t = ![0, 0]
    ∧ win0_3.index t = ![3, 1, 0, 0] ∧ win0_4.index t = ![3, 1, 0, 0] ∧ win0_5.index t = ![0, t.val, 0] ∧ win0_6.index t = ![0, 0]
    ∧ win0_7.index t = ![t.val, 0] :=
  (by decide +kernel : ∀ t : Fin grid0.N, _)

theorem emb0 (t : Fin cfg0.N) (r d : Fin 1024) :
    (win0_0.blk t).view.emb (ix2 r d) = (ix2 ⟨1024 * t.val + r.val, by have := t_lt t; omega⟩ d : S34816x1024.Idx) := by
  have ht := t_lt t
  blk_ext [idx t]

theorem emb1 (t : Fin cfg0.N) (l : Fin 9216) :
    (win0_1.blk t).view.emb (ix3 0 0 l) = (ix3 ⟨t.val / 4, by have := t_lt t; omega⟩ 0 l : S16x1x9216.Idx) := by
  have ht := t_lt t
  blk_ext [idx t]

theorem emb2 (t : Fin cfg0.N) (k : Fin 8) (d : Fin 1024) : (win0_2.blk t).view.emb (ix2 k d) = (ix2 k d : S8x1024.Idx) := by
  blk_ext [idx t]

theorem emb3 (t : Fin cfg0.N) (d : Fin 1024) (f : Fin 5632) : (win0_3.blk t).view.emb (ix4 0 0 d f) = (ix4 3 1 d f : S4x2x1024x5632.Idx) := by
  blk_ext [idx t]

theorem emb4 (t : Fin cfg0.N) (f : Fin 2816) (j : Fin 1024) : (win0_4.blk t).view.emb (ix4 0 0 f j) = (ix4 3 1 f j : S4x2x2816x1024.Idx) := by
  blk_ext [idx t]

theorem emb5 (t : Fin cfg0.N) (h : Fin 8) (r : Fin 1024) (l : Fin 128) :
    (win0_5.blk t).view.emb (ix3 h r l) = (ix3 h ⟨1024 * t.val + r.val, by have := t_lt t; omega⟩ l : S8x32768x128.Idx) := by
  have ht := t_lt t
  blk_ext [idx t]

theorem emb6 (t : Fin cfg0.N) (d e : Fin 1024) : (win0_6.blk t).view.emb (ix2 d e) = (ix2 d e : S1024x1024.Idx) := by
  blk_ext [idx t]

theorem emb7 (t : Fin cfg0.N) (r j : Fin 1024) :
    (win0_7.blk t).view.emb (ix2 r j) = (ix2 ⟨1024 * t.val + r.val, by have := t_lt t; omega⟩ j : S32768x1024.Idx) := by
  have ht := t_lt t
  blk_ext [idx t]

/-- The rows. -/
theorem blk0 (c : Dev nD) (t : Fin cfg0.N) (r d : Fin 1024) :
    (iblk m c 0 t : FVec Ideal S1024x1024 .f32) (ix2 r d)
      = (m ((c : Thread nD τ).loc main_arg0) : FVec Ideal S8x4096x1024 .f32) (ix3 (bO t) (iO t r) d) := by
  have ht := t_lt t
  blk_simp [iblk]
  rw [emb0, v2_eq, rowsArr_lat _ _ _ _ (by dsimp only; omega)]
  blk_ext [bO, iO]

/-- The modulation of the batch row. -/
theorem blk1 (c : Dev nD) (t : Fin cfg0.N) (k : Fin 9) (d : Fin 1024) (l : Fin 9216) (hl : l.val = 1024 * k.val + d.val) :
    (iblk m c 1 t : FVec Ideal S1x1x9216 .f32) (ix3 0 0 l) = (m ((c : Thread nD τ).loc main_arg2) : FVec Ideal S8x9x1024 .f32) (ix3 (bO t) k d) := by
  have ht := t_lt t
  blk_simp [iblk]
  rw [emb1, v10_eq, modArr_at _ _ _ _ (by dsimp only; omega)]
  blk_ext [bO]

/-- The norms' scales. -/
theorem blk2 (c : Dev nD) (t : Fin cfg0.N) (k : Fin 8) (d : Fin 1024) (k' : Fin 6) (hk : k.val = k'.val) :
    (iblk m c 2 t : FVec Ideal S8x1024 .f32) (ix2 k d) = (m ((c : Thread nD τ).loc main_arg4) : FVec Ideal S6x1024 .f32) (ix2 k' d) := by
  blk_simp [iblk]
  rw [emb2, v12_eq, scArr_at _ _ _ (by omega)]
  blk_ext []

/-- The weights. -/
theorem blk3 (c : Dev nD) (t : Fin cfg0.N) (d : Fin 1024) (f : Fin 5632) :
    (iblk m c 3 t : FVec Ideal S1x1x1024x5632 .bf16) (ix4 0 0 d f) = (m ((c : Thread nD τ).loc main_arg5) : FVec Ideal S4x2x1024x5632 .f32) (ix4 3 1 d f) := by
  blk_simp [iblk]
  rw [emb3, v13_eq]
  rfl

theorem blk4 (c : Dev nD) (t : Fin cfg0.N) (f : Fin 2816) (j : Fin 1024) :
    (iblk m c 4 t : FVec Ideal S1x1x2816x1024 .bf16) (ix4 0 0 f j) = (m ((c : Thread nD τ).loc main_arg6) : FVec Ideal S4x2x2816x1024 .f32) (ix4 3 1 f j) := by
  blk_simp [iblk]
  rw [emb4, v14_eq]
  rfl

/-- The attention's output. -/
theorem blk5 (c : Dev nD) (t : Fin cfg0.N) (r d : Fin 1024) :
    (iblk m c 5 t : FVec Ideal S8x1024x128 .bf16) (ix3 ⟨d.val / 128, by omega⟩ r ⟨d.val % 128, by omega⟩)
      = (m ((c : Thread nD τ).loc main_arg7) : FVec Ideal S8x4096x1024 .f32) (ix3 (bO t) (iO t r) d) := by
  have ht := t_lt t
  blk_simp [iblk]
  rw [emb5, v5_eq, headArr_at]
  blk_ext [bO, iO]

theorem blk6 (c : Dev nD) (t : Fin cfg0.N) (d e : Fin 1024) :
    (iblk m c 6 t : FVec Ideal S1024x1024 .bf16) (ix2 d e) = (m ((c : Thread nD τ).loc main_arg8) : FVec Ideal S1024x1024 .f32) (ix2 d e) := by
  blk_simp [iblk]
  rw [emb6, v15_eq]
  rfl

/-- What the kernel leaves in the result is the reference's array. -/
theorem final (c : Dev nD) :
    (dats m 0 c).arrAt 7 cfg0.N
      = REF (m ((c : Thread nD τ).loc main_arg0)) (m ((c : Thread nD τ).loc main_arg2)) (m ((c : Thread nD τ).loc main_arg4))
          (m ((c : Thread nD τ).loc main_arg5)) (m ((c : Thread nD τ).loc main_arg6)) (m ((c : Thread nD τ).loc main_arg7))
          (m ((c : Thread nD τ).loc main_arg8)) := by
  refine (dats m 0 c).arrAt_eq_of_covers 7 _ (by decide +kernel) fun t hf y => ?_
  blk_simp
  rw [after0_7]
  have key : ∀ r j : Fin 1024,
      out0_7 (iblk m c 0 t) (iblk m c 1 t) (iblk m c 2 t) (iblk m c 3 t) (iblk m c 4 t) (iblk m c 5 t) (iblk m c 6 t) (ix2 r j)
      = REF (m ((c : Thread nD τ).loc main_arg0)) (m ((c : Thread nD τ).loc main_arg2)) (m ((c : Thread nD τ).loc main_arg4))
          (m ((c : Thread nD τ).loc main_arg5)) (m ((c : Thread nD τ).loc main_arg6)) (m ((c : Thread nD τ).loc main_arg7))
          (m ((c : Thread nD τ).loc main_arg8)) ((win0_7.blk t).view.emb (ix2 r j)) := by
    intro r j
    have ht := t_lt t
    rw [emb7, REF_at _ _ _ _ _ _ _ _ (bO t) (iO t r) _ (by simp only [bO]; omega) (by simp only [iO]; omega), out_at]
    change rowOut _ _ _ _ _ _ _ r j = _
    unfold rowOut rowIn
    simp only [blk0, blk3, blk4, blk5, blk6]
    simp only [blk1 m c t 5 _ ⟨5120 + _, _⟩ rfl, blk1 m c t 6 _ ⟨6144 + _, _⟩ rfl, blk1 m c t 7 _ ⟨7168 + _, _⟩ rfl, blk1 m c t 8 _ ⟨8192 + _, _⟩ rfl,
      blk2 m c t 3 _ 3 rfl, blk2 m c t 4 _ 4 rfl, blk2 m c t 5 _ 5 rfl]
  have all : ∀ y : S1024x1024.Idx,
      out0_7 (iblk m c 0 t) (iblk m c 1 t) (iblk m c 2 t) (iblk m c 3 t) (iblk m c 4 t) (iblk m c 5 t) (iblk m c 6 t) y
      = REF (m ((c : Thread nD τ).loc main_arg0)) (m ((c : Thread nD τ).loc main_arg2)) (m ((c : Thread nD τ).loc main_arg4))
          (m ((c : Thread nD τ).loc main_arg5)) (m ((c : Thread nD τ).loc main_arg6)) (m ((c : Thread nD τ).loc main_arg7))
          (m ((c : Thread nD τ).loc main_arg8)) ((win0_7.blk t).view.emb y) := by
    intro y
    rw [eq_ix2 y]
    exact key _ _
  exact all y

end Cert.FfnLastIdeal.Steps

end
-- ==== Proof.FfnLastClaim.lean ====
/- The claims about the last feed-forward call. -/
module

public import proofs.«01_k».proof.Defs
public import proofs.«01_k».proof.Proof.FfnLastValue
public import proofs.«01_k».proof.Proof.Gen.FfnLastIdeal.Frame
public import proofs.«01_k».proof.Proof.Gen.FfnLastRefIdeal.Run
public import proofs.«01_k».proof.Proof.Gen.FfnLast.Frame
public import Idealize.ShloMosaic.Lib.Claim

@[expose] public section

noncomputable section

namespace Cert.Proof.FfnLast

open Idealize.ShloMosaic Idealize.SL.Sem

/-- No operation is replaced. -/
theorem preserves : Cert.preserves_FfnLast_FfnLastIdeal := trivial

/-- The kernel keeps its arguments and ends with every semaphore counter at zero. -/
theorem quiescent : Cert.quiescent_FfnLast := fun m ρ _ => Cert.FfnLast.Gen.frame m ρ

theorem quiescent_ideal : Cert.quiescent_FfnLastIdeal := fun m ρ _ => Cert.FfnLastIdeal.Gen.frame m ρ

/-- The reference keeps its arguments; it declares no semaphore. -/
theorem quiescent_ref : Cert.quiescent_FfnLastRefIdeal := fun m ρ _ =>
  (θ_run Cert.FfnLastRefIdeal.defs _ _).mono (fun r h => ⟨fun c => (h c).2, sem_eq_zero_of_no_sems (by decide) r.2⟩)
    (Cert.FfnLastRefIdeal.Value.run (F := Ideal) m ρ)

/-- Kernel and reference compute the same layer. -/
theorem algebraic : Cert.algebraic_FfnLastIdeal_FfnLastRefIdeal := by
  pair_intro
  · run_from Cert.FfnLastIdeal.Gen.run_main m g
    exacts [Cert.FfnLastIdeal.Gen.V_main_arg0 m _, Cert.FfnLastIdeal.Gen.V_main_arg1 m _, Cert.FfnLastIdeal.Gen.V_main_arg2 m _, Cert.FfnLastIdeal.Gen.V_main_arg3 m _, Cert.FfnLastIdeal.Gen.V_main_arg4 m _, Cert.FfnLastIdeal.Gen.V_main_arg5 m _, Cert.FfnLastIdeal.Gen.V_main_arg6 m _, Cert.FfnLastIdeal.Gen.V_main_arg7 m _, Cert.FfnLastIdeal.Gen.V_main_arg8 m _]
  · run_from Cert.FfnLastRefIdeal.Value.run m' g'
    obtain ⟨a0, a1, a2, a3, a4, a5, a6, a7, a8⟩ := hagree c
    refine Eq.trans ?_ (Cert.FfnLastIdeal.Steps.final m c).symm
    change Cert.FfnLastRefIdeal.Rows.REF (m' ((c.tc : Thread Cert.FfnLastRefIdeal.nD Cert.FfnLastRefIdeal.τ).loc Cert.FfnLastRefIdeal.main_arg0))
      (m' ((c.tc : Thread Cert.FfnLastRefIdeal.nD Cert.FfnLastRefIdeal.τ).loc Cert.FfnLastRefIdeal.main_arg2))
      (m' ((c.tc : Thread Cert.FfnLastRefIdeal.nD Cert.FfnLastRefIdeal.τ).loc Cert.FfnLastRefIdeal.main_arg4))
      (m' ((c.tc : Thread Cert.FfnLastRefIdeal.nD Cert.FfnLastRefIdeal.τ).loc Cert.FfnLastRefIdeal.main_arg5))
      (m' ((c.tc : Thread Cert.FfnLastRefIdeal.nD Cert.FfnLastRefIdeal.τ).loc Cert.FfnLastRefIdeal.main_arg6))
      (m' ((c.tc : Thread Cert.FfnLastRefIdeal.nD Cert.FfnLastRefIdeal.τ).loc Cert.FfnLastRefIdeal.main_arg7))
      (m' ((c.tc : Thread Cert.FfnLastRefIdeal.nD Cert.FfnLastRefIdeal.τ).loc Cert.FfnLastRefIdeal.main_arg8)) = _
    rw [a0, a2, a4, a5, a6, a7, a8]

end Cert.Proof.FfnLast

end
-- ==== Proof.FfnAOut.lean ====
/- What the body of a layer's first feed-forward leaves in the result's block, as a function of the five staged blocks: two halves of 512 rows. -/
module

public import proofs.«01_k».proof.Proof.FfnLastOut
public import proofs.«01_k».proof.Proof.Gen.FfnAIdeal.Value

@[expose] public section

set_option maxRecDepth 16384

noncomputable section

namespace Cert.FfnAIdeal.Steps

open Cert.FfnAIdeal Cert.FfnAIdeal.Gen Idealize.ShloMosaic Idealize.ShloMosaic.TcCoe Idealize.SL.Sem Cert.Ffn
open Cert.FfnLastIdeal.Steps (xH md sc xH_at md_at sc_at)

/-- The rows modulated and normalised. -/
def pre (x0 : Vec Ideal S1024x1024 .f32) (x1 : Vec Ideal S1x1x9216 .f32) (x2 : Vec Ideal S8x1024 .f32) (o : Fin 2) : FVec Ideal S512x1024 .bf16 :=
  vmodnorm (xH x0 o) (sc x2 0) (md x1 1) (md x1 0)

/-- The layer over half `o`'s rows. -/
def half (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (o : Fin 2) : FVec Ideal S512x1024 .f32 :=
  vout (xH x0 o) (vffn (pre x0 x1 x2 o) x3 x4) (md x1 2) (sc x2 1)

theorem u_first (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) :
    k0_pay66 x0 x1 x2 x3 x4 = pre x0 x1 x2 0 := rfl

theorem u_second (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) :
    k0_pay68 x0 x1 x2 x3 x4 = pre x0 x1 x2 1 := rfl

/-- The first half's opening products. -/
theorem a_first (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) :
    k0_pay67 x0 x1 x2 x3 x4 = vproj (pre x0 x1 x2 0) (colA x3 0) := rfl

theorem b_first (x0 : Vec Ideal S1024x1024 .f32) (x1 : Vec Ideal S1x1x9216 .f32) (x2 : Vec Ideal S8x1024 .f32) (x3 : Vec Ideal S1x1x1024x5632 .bf16) :
    k0_pay5 (View.ld x0 r0_0) (View.ld x2 r0_1) (View.ld x1 r0_2) (View.ld x1 r0_3) (View.ld x3 r0_5) = vproj (pre x0 x1 x2 0) (colB x3 0) := rfl

/-- The body's two stores. -/
theorem out_eq (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) :
    out0_5 x0 x1 x2 x3 x4
      = View.canon [⟨r0_6, half x0 x1 x2 x3 x4 1⟩, ⟨r0_0, half x0 x1 x2 x3 x4 0⟩] := by
  unfold out0_5 half
  rw [u_first, u_second, a_first, b_first]
  unfold k0_pay73 k0_pay72 k0_pay71 k0_pay70 k0_pay69
  rw [u_second]
  generalize pre x0 x1 x2 0 = u0
  generalize pre x0 x1 x2 1 = u1
  rfl

/-- Row `r` of the block after the layer. -/
def rowOut (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (r : Fin 1024) : Fin 1024 → EReal :=
  layer (fun d => x0 (ix2 r d)) (fun d => x2 (ix2 0 d)) (fun d => x1 (ix3 0 0 ⟨1024 + d.val, by omega⟩)) (fun d => x1 (ix3 0 0 ⟨0 + d.val, by omega⟩))
    (fun d => x2 (ix2 1 d)) (fun d => x1 (ix3 0 0 ⟨2048 + d.val, by omega⟩)) (fun d f => x3 (ix4 0 0 d f)) (fun f j => x4 (ix4 0 0 f j))

theorem half_row (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (o : Fin 2) (i : Fin 512) (j : Fin 1024) :
    half x0 x1 x2 x3 x4 o (ix2 i j) = rowOut x0 x1 x2 x3 x4 ⟨512 * o.val + i.val, by omega⟩ j := by
  rw [half, pre, vlayer_at]
  simp only [xH_at, md_at, sc_at]
  rfl

theorem half_at (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (o : Fin 2) (x : S512x1024.Idx)
    (r j : Fin 1024) (hr : r.val = 512 * o.val + (x 0).val) (hj : j.val = (x 1).val) :
    half x0 x1 x2 x3 x4 o x = rowOut x0 x1 x2 x3 x4 r j := by
  refine (congrArg _ (eq_ix2 x)).trans ((half_row x0 x1 x2 x3 x4 o (x 0) (x 1)).trans ?_)
  exact congrArg₂ (rowOut x0 x1 x2 x3 x4) (Fin.ext hr.symm) (Fin.ext hj.symm)

theorem out_at (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (y : S1024x1024.Idx) :
    out0_5 x0 x1 x2 x3 x4 y = rowOut x0 x1 x2 x3 x4 (y 0) (y 1) := by
  rw [out_eq]
  canon_tiles x h
  · exact half_at x0 x1 x2 x3 x4 1 x (y 0) (y 1) (by dsimp only [Fin.isValue, Fin.coe_ofNat_eq_mod]; omega) (by omega)
  · exact half_at x0 x1 x2 x3 x4 0 x (y 0) (y 1) (by dsimp only [Fin.isValue, Fin.coe_ofNat_eq_mod]; omega) (by omega)

end Cert.FfnAIdeal.Steps

end
-- ==== Proof.FfnCtxRows.lean ====
/- The reference's feed-forward over the context rows, whose modulation is one row for all batch rows. -/
module

public import proofs.«01_k».proof.Proof.FfnRow
public import proofs.«01_k».proof.Proof.Gen.FfnARefIdeal.Run
public import Idealize.ShloMosaic.Lib.StableHlo.Run
public import Idealize.ShloMosaic.Lib.Pipeline.ValueKit
public import Idealize.ShloMosaic.Lib.Pointwise

@[expose] public section

set_option maxRecDepth 16384

noncomputable section

namespace Cert.FfnARefIdeal.Rows

open Cert.FfnARefIdeal Cert.FfnARefIdeal.Gen Idealize.ShloMosaic Idealize.ShloMosaic.TcCoe Idealize.SL.Sem Idealize.ShloMosaic.StableHlo Cert.Ffn

/-- The rows over the root of their mean square, scaled lane by lane. -/
def normC (x : FVec Ideal S8x256x1024 .f32) (g : FVec Ideal S1024 .f32) : FVec Ideal S8x256x1024 .f32 :=
  mulf (mulf x (broadcastInDim S8x256x1024 ![0, 1, 2] bcast_S8x256x1_S8x256x1024_0_1_2 (Host.rsqrt (addf (Host.divf
      (broadcastInDim S8x256x1 ![0, 1] bcast_S8x256_S8x256x1_0_1 (Host.reduceAdd (mulf x x) (constant S_ .f32 0x00000000#32) reducesTo_S8x256x1024_S8x256_d2 h_S_))
      (broadcastInDim S8x256x1 ![] bcast_S_S8x256x1 (constant S_ .f32 0x44800000#32))) (broadcastInDim S8x256x1 ![] bcast_S_S8x256x1 (constant S_ .f32 0x358637BD#32))))))
    (broadcastInDim S8x256x1024 ![0, 1, 2] bcast_S1x1x1024_S8x256x1024_0_1_2 (broadcastInDim S1x1x1024 ![2] bcast_S1024_S1x1x1024_2 g))

/-- One value per lane, spread over all rows. -/
def wideC (v : FVec Ideal S1x1024 .f32) : FVec Ideal S8x256x1024 .f32 := broadcastInDim S8x256x1024 ![0, 1, 2] bcast_S1x1x1024_S8x256x1024_0_1_2
    (broadcastInDim S1x1x1024 ![1, 2] bcast_S1x1024_S1x1x1024_1_2 v)

/-- The modulated norm. -/
def modnormC (x : FVec Ideal S8x256x1024 .f32) (g : FVec Ideal S1024 .f32) (s b : FVec Ideal S1x1024 .f32) : FVec Ideal S8x256x1024 .f32 :=
  addf (mulf (normC x g) (wideC (addf (broadcastInDim S1x1024 ![] bcast_S_S1x1024 (constant S_ .f32 0x3F800000#32)) s))) (wideC b)

/-- The first projection. -/
def projC (u : FVec Ideal S8x256x1024 .f32) (W : FVec Ideal S1024x5632 .f32) : FVec Ideal S8x256x5632 .f32 :=
  Host.dotGeneral dot_S8x256x1024_S1024x5632_S8x256x5632_2_0_01_1_n_n none u W

/-- The gated product of its halves. -/
def actC (h : FVec Ideal S8x256x5632 .f32) : FVec Ideal S8x256x2816 .f32 :=
  mulf (mulf (extractStridedSlice S8x256x2816 ![0, 0, 0] h slices_S8x256x5632_S8x256x2816_0_0_0)
      (Host.divf (broadcastInDim S8x256x2816 ![] bcast_S_S8x256x2816 (constant S_ .f32 0x3F800000#32))
        (addf (broadcastInDim S8x256x2816 ![] bcast_S_S8x256x2816 (constant S_ .f32 0x3F800000#32))
          (Host.exp (Host.negf (extractStridedSlice S8x256x2816 ![0, 0, 0] h slices_S8x256x5632_S8x256x2816_0_0_0))))))
    (extractStridedSlice S8x256x2816 ![0, 0, 2816] h slices_S8x256x5632_S8x256x2816_0_0_2816)

/-- The second projection. -/
def backC (a : FVec Ideal S8x256x2816 .f32) (V : FVec Ideal S2816x1024 .f32) : FVec Ideal S8x256x1024 .f32 :=
  Host.dotGeneral dot_S8x256x2816_S2816x1024_S8x256x1024_2_0_01_1_n_n none a V

/-- A residual: half the modulated norm of `y` added to the rows. -/
def plusC (x y : FVec Ideal S8x256x1024 .f32) (m : FVec Ideal S1x1024 .f32) (g : FVec Ideal S1024 .f32) : FVec Ideal S8x256x1024 .f32 :=
  addf x (mulf (wideC (mulf (broadcastInDim S1x1024 ![] bcast_S_S1x1024 (constant S_ .f32 0x3F000000#32)) m)) (normC y g))

/-- The layer. -/
def layerC (x : FVec Ideal S8x256x1024 .f32) (g : FVec Ideal S1024 .f32) (s b : FVec Ideal S1x1024 .f32) (g' : FVec Ideal S1024 .f32)
    (m : FVec Ideal S1x1024 .f32) (W : FVec Ideal S1024x5632 .f32) (V : FVec Ideal S2816x1024 .f32) : FVec Ideal S8x256x1024 .f32 :=
  plusC x (backC (actC (projC (modnormC x g s b) W)) V) m g'

theorem normC_at (x : FVec Ideal S8x256x1024 .f32) (g : FVec Ideal S1024 .f32) (b : Fin 8) (i : Fin 256) (j : Fin 1024) :
    normC x g (ix3 b i j) = norm (fun d => x (ix3 b i d)) (fun d => g (ix1 d)) j := by
  unfold Ffn.norm
  pointwise [normC]

theorem wideC_at (v : FVec Ideal S1x1024 .f32) (b : Fin 8) (i : Fin 256) (j : Fin 1024) : wideC v (ix3 b i j) = v (ix2 0 j) := by
  pointwise [wideC]

theorem modnormC_at (x : FVec Ideal S8x256x1024 .f32) (g : FVec Ideal S1024 .f32) (s t : FVec Ideal S1x1024 .f32) (b : Fin 8) (i : Fin 256) (j : Fin 1024) :
    modnormC x g s t (ix3 b i j)
      = modnorm (fun d => x (ix3 b i d)) (fun d => g (ix1 d)) (fun d => s (ix2 0 d)) (fun d => t (ix2 0 d)) j := by
  unfold modnormC modnorm
  rw [addf_apply, mulf_apply, normC_at, wideC_at, wideC_at]
  rfl

theorem projC_at (u : FVec Ideal S8x256x1024 .f32) (W : FVec Ideal S1024x5632 .f32) (b : Fin 8) (i : Fin 256) (f : Fin 5632) :
    projC u W (ix3 b i f) = proj (fun d => u (ix3 b i d)) (fun d f => W (ix2 d f)) f := by
  unfold proj
  pointwise [projC]

theorem actC_at (h : FVec Ideal S8x256x5632 .f32) (b : Fin 8) (i : Fin 256) (f : Fin 2816) :
    actC h (ix3 b i f) = gate (h (ix3 b i ⟨f.val, by omega⟩)) (h (ix3 b i ⟨2816 + f.val, by omega⟩)) := by
  rw [← gate_eq]
  have ea : (extractStridedSlice S8x256x2816 ![0, 0, 0] h slices_S8x256x5632_S8x256x2816_0_0_0 : FVec Ideal S8x256x2816 .f32) (ix3 b i f) = h (ix3 b i ⟨f.val, by omega⟩) := by pointwise
  have eb : (extractStridedSlice S8x256x2816 ![0, 0, 2816] h slices_S8x256x5632_S8x256x2816_0_0_2816 : FVec Ideal S8x256x2816 .f32) (ix3 b i f) = h (ix3 b i ⟨2816 + f.val, by omega⟩) := by pointwise
  rw [← ea, ← eb]
  rfl

theorem backC_at (a : FVec Ideal S8x256x2816 .f32) (V : FVec Ideal S2816x1024 .f32) (b : Fin 8) (i : Fin 256) (j : Fin 1024) :
    backC a V (ix3 b i j) = ∑ f : Fin 2816, a (ix3 b i f) * V (ix2 f j) := by
  pointwise [backC]

theorem plusC_at (x y : FVec Ideal S8x256x1024 .f32) (m : FVec Ideal S1x1024 .f32) (g : FVec Ideal S1024 .f32) (b : Fin 8) (i : Fin 256) (j : Fin 1024) :
    plusC x y m g (ix3 b i j) = x (ix3 b i j) + chalf * m (ix2 0 j) * norm (fun d => y (ix3 b i d)) (fun d => g (ix1 d)) j := by
  unfold plusC
  rw [addf_apply, mulf_apply, normC_at, wideC_at]
  rfl

/-- The layer, row by row. -/
theorem layerC_at (x : FVec Ideal S8x256x1024 .f32) (g : FVec Ideal S1024 .f32) (s t : FVec Ideal S1x1024 .f32) (g' : FVec Ideal S1024 .f32)
    (m : FVec Ideal S1x1024 .f32) (W : FVec Ideal S1024x5632 .f32) (V : FVec Ideal S2816x1024 .f32) (b : Fin 8) (i : Fin 256) (j : Fin 1024) :
    layerC x g s t g' m W V (ix3 b i j)
      = layer (fun d => x (ix3 b i d)) (fun d => g (ix1 d)) (fun d => s (ix2 0 d)) (fun d => t (ix2 0 d)) (fun d => g' (ix1 d))
          (fun d => m (ix2 0 d)) (fun d f => W (ix2 d f)) (fun f j => V (ix2 f j)) j := by
  unfold layerC
  rw [plusC_at]
  simp only [backC_at, actC_at, projC_at, modnormC_at]
  rfl

end Cert.FfnARefIdeal.Rows

end
-- ==== Proof.FfnARef.lean ====
/- A layer's first feed-forward in the reference, over the latent and the context rows. -/
module

public import proofs.«01_k».proof.Proof.FfnRefRows
public import proofs.«01_k».proof.Proof.FfnCtxRows
public import Idealize.ShloMosaic.Lib.StableHlo.Run
public import Idealize.ShloMosaic.Lib.Pipeline.ValueKit
public import Idealize.ShloMosaic.Lib.Pointwise

@[expose] public section

set_option maxRecDepth 16384

noncomputable section

namespace Cert.FfnARefIdeal.Rows

open Cert.FfnARefIdeal Cert.FfnARefIdeal.Gen Idealize.ShloMosaic Idealize.ShloMosaic.TcCoe Idealize.SL.Sem Idealize.ShloMosaic.StableHlo Cert.Ffn
open Cert.FfnLastRefIdeal.Rows (layerL layerL_at)

/-- Group 0 of the modulation, of the latent and of the context rows. -/
def md0 (m : FVec Ideal S8x9x1024 .f32) : FVec Ideal S8x1x1024 .f32 :=
  shapeCast _ (extractStridedSlice S8x1x1x1024 ![0, 0, 0, 0] (broadcastInDim S8x1x9x1024 ![0, 2, 3] bcast_S8x9x1024_S8x1x9x1024_0_2_3 m)
    slices_S8x1x9x1024_S8x1x1x1024_0_0_0_0) shapeCasts_S8x1x1x1024_S8x1x1024
def mc0 (m : FVec Ideal S9x1024 .f32) : FVec Ideal S1x1024 .f32 :=
  shapeCast _ (extractStridedSlice S1x1x1024 ![0, 0, 0] (broadcastInDim S1x9x1024 ![1, 2] bcast_S9x1024_S1x9x1024_1_2 m)
    slices_S1x9x1024_S1x1x1024_0_0_0) shapeCasts_S1x1x1024_S1x1024

theorem md0_at (m : FVec Ideal S8x9x1024 .f32) (b : Fin 8) (d : Fin 1024) : md0 m (ix3 b 0 d) = m (ix3 b 0 d) := by
  pointwise [md0]
theorem mc0_at (m : FVec Ideal S9x1024 .f32) (d : Fin 1024) : mc0 m (ix2 0 d) = m (ix2 0 d) := by
  pointwise [mc0]

/-- Group 1 of the modulation, of the latent and of the context rows. -/
def md1 (m : FVec Ideal S8x9x1024 .f32) : FVec Ideal S8x1x1024 .f32 :=
  shapeCast _ (extractStridedSlice S8x1x1x1024 ![0, 0, 1, 0] (broadcastInDim S8x1x9x1024 ![0, 2, 3] bcast_S8x9x1024_S8x1x9x1024_0_2_3 m)
    slices_S8x1x9x1024_S8x1x1x1024_0_0_1_0) shapeCasts_S8x1x1x1024_S8x1x1024
def mc1 (m : FVec Ideal S9x1024 .f32) : FVec Ideal S1x1024 .f32 :=
  shapeCast _ (extractStridedSlice S1x1x1024 ![0, 1, 0] (broadcastInDim S1x9x1024 ![1, 2] bcast_S9x1024_S1x9x1024_1_2 m)
    slices_S1x9x1024_S1x1x1024_0_1_0) shapeCasts_S1x1x1024_S1x1024

theorem md1_at (m : FVec Ideal S8x9x1024 .f32) (b : Fin 8) (d : Fin 1024) : md1 m (ix3 b 0 d) = m (ix3 b 1 d) := by
  pointwise [md1]
theorem mc1_at (m : FVec Ideal S9x1024 .f32) (d : Fin 1024) : mc1 m (ix2 0 d) = m (ix2 1 d) := by
  pointwise [mc1]

/-- Group 2 of the modulation, of the latent and of the context rows. -/
def md2 (m : FVec Ideal S8x9x1024 .f32) : FVec Ideal S8x1x1024 .f32 :=
  shapeCast _ (extractStridedSlice S8x1x1x1024 ![0, 0, 2, 0] (broadcastInDim S8x1x9x1024 ![0, 2, 3] bcast_S8x9x1024_S8x1x9x1024_0_2_3 m)
    slices_S8x1x9x1024_S8x1x1x1024_0_0_2_0) shapeCasts_S8x1x1x1024_S8x1x1024
def mc2 (m : FVec Ideal S9x1024 .f32) : FVec Ideal S1x1024 .f32 :=
  shapeCast _ (extractStridedSlice S1x1x1024 ![0, 2, 0] (broadcastInDim S1x9x1024 ![1, 2] bcast_S9x1024_S1x9x1024_1_2 m)
    slices_S1x9x1024_S1x1x1024_0_2_0) shapeCasts_S1x1x1024_S1x1024

theorem md2_at (m : FVec Ideal S8x9x1024 .f32) (b : Fin 8) (d : Fin 1024) : md2 m (ix3 b 0 d) = m (ix3 b 2 d) := by
  pointwise [md2]
theorem mc2_at (m : FVec Ideal S9x1024 .f32) (d : Fin 1024) : mc2 m (ix2 0 d) = m (ix2 2 d) := by
  pointwise [mc2]

/-- Row 0 of the norms' scales. -/
def gs0 (g : FVec Ideal S6x1024 .f32) : FVec Ideal S1024 .f32 :=
  shapeCast _ (extractStridedSlice S1x1024 ![0, 0] g slices_S6x1024_S1x1024_0_0) shapeCasts_S1x1024_S1024

theorem gs0_at (g : FVec Ideal S6x1024 .f32) (d : Fin 1024) : gs0 g (ix1 d) = g (ix2 0 d) := by
  pointwise [gs0]

/-- Row 1 of the norms' scales. -/
def gs1 (g : FVec Ideal S6x1024 .f32) : FVec Ideal S1024 .f32 :=
  shapeCast _ (extractStridedSlice S1x1024 ![1, 0] g slices_S6x1024_S1x1024_1_0) shapeCasts_S1x1024_S1024

theorem gs1_at (g : FVec Ideal S6x1024 .f32) (d : Fin 1024) : gs1 g (ix1 d) = g (ix2 1 d) := by
  pointwise [gs1]

/-- The second layer's first feed-forward's weights. -/
def w1 (w : FVec Ideal S4x2x1024x5632 .f32) : FVec Ideal S1024x5632 .f32 :=
  shapeCast _ (extractStridedSlice S1x1x1024x5632 ![1, 0, 0, 0] w slices_S4x2x1024x5632_S1x1x1024x5632_1_0_0_0) shapeCasts_S1x1x1024x5632_S1024x5632
def w2 (w : FVec Ideal S4x2x2816x1024 .f32) : FVec Ideal S2816x1024 .f32 :=
  shapeCast _ (extractStridedSlice S1x1x2816x1024 ![1, 0, 0, 0] w slices_S4x2x2816x1024_S1x1x2816x1024_1_0_0_0) shapeCasts_S1x1x2816x1024_S2816x1024

theorem w1_at (w : FVec Ideal S4x2x1024x5632 .f32) (d : Fin 1024) (f : Fin 5632) : w1 w (ix2 d f) = w (ix4 1 0 d f) := by
  pointwise [w1]
theorem w2_at (w : FVec Ideal S4x2x2816x1024 .f32) (f : Fin 2816) (j : Fin 1024) : w2 w (ix2 f j) = w (ix4 1 0 f j) := by
  pointwise [w2]

/-- The latent rows above the context rows. -/
def stack (y : FVec Ideal S8x4096x1024 .f32) (z : FVec Ideal S8x256x1024 .f32) : FVec Ideal S34816x1024 .f32 :=
  concatenate S34816x1024 0 [⟨S32768x1024, shapeCast S32768x1024 y shapeCasts_S8x4096x1024_S32768x1024⟩,
    ⟨S2048x1024, shapeCast S2048x1024 z shapeCasts_S8x256x1024_S2048x1024⟩] concatenates_S32768x1024_S2048x1024_S34816x1024_d0

theorem stack_lat (y : FVec Ideal S8x4096x1024 .f32) (z : FVec Ideal S8x256x1024 .f32) (s : Fin 34816) (d : Fin 1024) (hs : s.val < 32768) :
    stack y z (ix2 s d) = y (ix3 ⟨s.val / 4096, by omega⟩ ⟨s.val % 4096, by omega⟩ d) := by
  pointwise [stack]
  rw [dif_pos hs]

theorem stack_ctx (y : FVec Ideal S8x4096x1024 .f32) (z : FVec Ideal S8x256x1024 .f32) (s : Fin 34816) (d : Fin 1024) (hs : ¬ s.val < 32768) :
    stack y z (ix2 s d) = z (ix3 ⟨(s.val - 32768) / 256, by omega⟩ ⟨(s.val - 32768) % 256, by omega⟩ d) := by
  pointwise [stack]
  rw [dif_neg hs]

/-- The reference's result. -/
def REF (x : FVec Ideal S8x4096x1024 .f32) (xc : FVec Ideal S8x256x1024 .f32) (mod : FVec Ideal S8x9x1024 .f32) (modc : FVec Ideal S9x1024 .f32)
    (g : FVec Ideal S6x1024 .f32) (wi : FVec Ideal S4x2x1024x5632 .f32) (wo : FVec Ideal S4x2x2816x1024 .f32) : FVec Ideal S34816x1024 .f32 :=
  stack (layerL x (gs0 g) (md1 mod) (md0 mod) (gs1 g) (md2 mod) (w1 wi) (w2 wo))
    (layerC xc (gs0 g) (mc1 modc) (mc0 modc) (gs1 g) (mc2 modc) (w1 wi) (w2 wo))

theorem REF_lat (x : FVec Ideal S8x4096x1024 .f32) (xc : FVec Ideal S8x256x1024 .f32) (mod : FVec Ideal S8x9x1024 .f32) (modc : FVec Ideal S9x1024 .f32)
    (g : FVec Ideal S6x1024 .f32) (wi : FVec Ideal S4x2x1024x5632 .f32) (wo : FVec Ideal S4x2x2816x1024 .f32)
    (s : Fin 34816) (b : Fin 8) (i : Fin 4096) (j : Fin 1024) (hs : s.val < 32768) (hb : b.val = s.val / 4096) (hi : i.val = s.val % 4096) :
    REF x xc mod modc g wi wo (ix2 s j)
      = layer (fun d => x (ix3 b i d)) (fun d => g (ix2 0 d)) (fun d => mod (ix3 b 1 d)) (fun d => mod (ix3 b 0 d)) (fun d => g (ix2 1 d))
          (fun d => mod (ix3 b 2 d)) (fun d f => wi (ix4 1 0 d f)) (fun f j => wo (ix4 1 0 f j)) j := by
  have eb : b = ⟨s.val / 4096, by omega⟩ := Fin.ext hb
  have ei : i = ⟨s.val % 4096, by omega⟩ := Fin.ext hi
  rw [REF, stack_lat _ _ _ _ hs, ← eb, ← ei, layerL_at]
  simp only [md0_at, md1_at, md2_at, gs0_at, gs1_at, w1_at, w2_at]

theorem REF_ctx (x : FVec Ideal S8x4096x1024 .f32) (xc : FVec Ideal S8x256x1024 .f32) (mod : FVec Ideal S8x9x1024 .f32) (modc : FVec Ideal S9x1024 .f32)
    (g : FVec Ideal S6x1024 .f32) (wi : FVec Ideal S4x2x1024x5632 .f32) (wo : FVec Ideal S4x2x2816x1024 .f32)
    (s : Fin 34816) (b : Fin 8) (i : Fin 256) (j : Fin 1024) (hs : ¬ s.val < 32768) (hb : b.val = (s.val - 32768) / 256)
    (hi : i.val = (s.val - 32768) % 256) :
    REF x xc mod modc g wi wo (ix2 s j)
      = layer (fun d => xc (ix3 b i d)) (fun d => g (ix2 0 d)) (fun d => modc (ix2 1 d)) (fun d => modc (ix2 0 d)) (fun d => g (ix2 1 d))
          (fun d => modc (ix2 2 d)) (fun d f => wi (ix4 1 0 d f)) (fun f j => wo (ix4 1 0 f j)) j := by
  have eb : b = ⟨(s.val - 32768) / 256, by omega⟩ := Fin.ext hb
  have ei : i = ⟨(s.val - 32768) % 256, by omega⟩ := Fin.ext hi
  rw [REF, stack_ctx _ _ _ _ hs, ← eb, ← ei, layerC_at]
  simp only [mc0_at, mc1_at, mc2_at, gs0_at, gs1_at, w1_at, w2_at]

end Cert.FfnARefIdeal.Rows

end
-- ==== Proof.FfnAValue.lean ====
/- The blocks the body of a layer's first feed-forward reads at a grid point, in terms of the arguments; its result is the reference's. -/
module

public import proofs.«01_k».proof.Proof.FfnAOut
public import proofs.«01_k».proof.Proof.FfnLastEntry
public import proofs.«01_k».proof.Proof.FfnARef

@[expose] public section

set_option maxRecDepth 16384

noncomputable section

namespace Cert.FfnAIdeal.Steps

open Cert.FfnAIdeal Cert.FfnAIdeal.Gen Idealize.ShloMosaic Idealize.ShloMosaic.TcCoe Idealize.SL.Sem Cert.Ffn
open Cert.FfnARefIdeal.Rows (REF REF_lat REF_ctx)
open Cert.FfnLastIdeal.Steps (rowsArr modArr scArr rowsArr_lat rowsArr_ctx modArr_at modArr_ctx scArr_at)

variable (m : (ℓ : Loc nD τ sig) → Buf (Elt Ideal) ℓ)

theorem v2_eq (c : Dev nD) : V m c main_v2 = rowsArr (m ((c : Thread nD τ).loc main_arg0)) (m ((c : Thread nD τ).loc main_arg1)) := by
  entry_read
  rfl

theorem v7_eq (c : Dev nD) : V m c main_v7 = modArr (m ((c : Thread nD τ).loc main_arg2)) (m ((c : Thread nD τ).loc main_arg3)) := by
  entry_read
  rfl

theorem v9_eq (c : Dev nD) : V m c main_v9 = scArr (m ((c : Thread nD τ).loc main_arg4)) := by
  entry_read
  rfl

theorem v10_eq (c : Dev nD) : V m c main_v10 = (truncf .bf16 (m ((c : Thread nD τ).loc main_arg5) : FVec Ideal S4x2x1024x5632 .f32) bitsLt_bf16_f32 : FVec Ideal S4x2x1024x5632 .bf16) := by
  entry_read
  rfl

theorem v11_eq (c : Dev nD) : V m c main_v11 = (truncf .bf16 (m ((c : Thread nD τ).loc main_arg6) : FVec Ideal S4x2x2816x1024 .f32) bitsLt_bf16_f32 : FVec Ideal S4x2x2816x1024 .bf16) := by
  entry_read
  rfl

theorem t_lt (t : Fin cfg0.N) : t.val < 34 := lt_of_lt_of_eq t.isLt (by decide +kernel)

/-- The batch row of a latent grid point, and the place in it of row `r` of the point's block. -/
def bO (t : Fin cfg0.N) (h : t.val < 32) : Fin 8 := ⟨t.val / 4, by omega⟩
def iO (t : Fin cfg0.N) (r : Fin 1024) : Fin 4096 := ⟨1024 * (t.val % 4) + r.val, by omega⟩
/-- The same of a context grid point. -/
def bC (t : Fin cfg0.N) (r : Fin 1024) : Fin 8 := ⟨4 * (t.val - 32) + r.val / 256, by have := t_lt t; omega⟩
def iC (r : Fin 1024) : Fin 256 := ⟨r.val % 256, by omega⟩
/-- The row of the modulation's table a grid point uses. -/
def row (t : Fin cfg0.N) : Fin 16 := ⟨if t.val < 32 then t.val / 4 else 8, by split <;> omega⟩

theorem idx : ∀ t : Fin cfg0.N, win0_0.index t = ![t.val, 0] ∧ win0_1.index t = ![(row t).val, 0, 0] ∧ win0_2.index t = ![0, 0]
    ∧ win0_3.index t = ![1, 0, 0, 0] ∧ win0_4.index t = ![1, 0, 0, 0] ∧ win0_5.index t = ![t.val, 0] :=
  (by decide +kernel : ∀ t : Fin grid0.N, _)

theorem emb0 (t : Fin cfg0.N) (r d : Fin 1024) :
    (win0_0.blk t).view.emb (ix2 r d) = (ix2 ⟨1024 * t.val + r.val, by have := t_lt t; omega⟩ d : S34816x1024.Idx) := by
  have ht := t_lt t
  blk_ext [idx t]

theorem emb1 (t : Fin cfg0.N) (l : Fin 9216) : (win0_1.blk t).view.emb (ix3 0 0 l) = (ix3 (row t) 0 l : S16x1x9216.Idx) := by
  blk_ext [idx t]

theorem emb2 (t : Fin cfg0.N) (k : Fin 8) (d : Fin 1024) : (win0_2.blk t).view.emb (ix2 k d) = (ix2 k d : S8x1024.Idx) := by
  blk_ext [idx t]

theorem emb3 (t : Fin cfg0.N) (d : Fin 1024) (f : Fin 5632) : (win0_3.blk t).view.emb (ix4 0 0 d f) = (ix4 1 0 d f : S4x2x1024x5632.Idx) := by
  blk_ext [idx t]

theorem emb4 (t : Fin cfg0.N) (f : Fin 2816) (j : Fin 1024) : (win0_4.blk t).view.emb (ix4 0 0 f j) = (ix4 1 0 f j : S4x2x2816x1024.Idx) := by
  blk_ext [idx t]

theorem emb5 (t : Fin cfg0.N) (r j : Fin 1024) :
    (win0_5.blk t).view.emb (ix2 r j) = (ix2 ⟨1024 * t.val + r.val, by have := t_lt t; omega⟩ j : S34816x1024.Idx) := by
  have ht := t_lt t
  blk_ext [idx t]

/-- The rows. -/
theorem blk0 (c : Dev nD) (t : Fin cfg0.N) (h : t.val < 32) (r d : Fin 1024) :
    (iblk m c 0 t : FVec Ideal S1024x1024 .f32) (ix2 r d)
      = (m ((c : Thread nD τ).loc main_arg0) : FVec Ideal S8x4096x1024 .f32) (ix3 (bO t h) (iO t r) d) := by
  blk_simp [iblk]
  rw [emb0, v2_eq, rowsArr_lat _ _ _ _ (by dsimp only; omega)]
  blk_ext [bO, iO]

theorem blk0c (c : Dev nD) (t : Fin cfg0.N) (h : ¬ t.val < 32) (r d : Fin 1024) :
    (iblk m c 0 t : FVec Ideal S1024x1024 .f32) (ix2 r d)
      = (m ((c : Thread nD τ).loc main_arg1) : FVec Ideal S8x256x1024 .f32) (ix3 (bC t r) (iC r) d) := by
  have ht := t_lt t
  blk_simp [iblk]
  rw [emb0, v2_eq, rowsArr_ctx _ _ _ _ (by dsimp only; omega)]
  blk_ext [bC, iC]

/-- The modulation. -/
theorem blk1 (c : Dev nD) (t : Fin cfg0.N) (h : t.val < 32) (k : Fin 9) (d : Fin 1024) (l : Fin 9216) (hl : l.val = 1024 * k.val + d.val) :
    (iblk m c 1 t : FVec Ideal S1x1x9216 .f32) (ix3 0 0 l) = (m ((c : Thread nD τ).loc main_arg2) : FVec Ideal S8x9x1024 .f32) (ix3 (bO t h) k d) := by
  have hr : (row t).val = t.val / 4 := if_pos h
  blk_simp [iblk]
  rw [emb1, v7_eq, modArr_at _ _ _ _ (by omega)]
  blk_ext [bO, hr]

theorem blk1c (c : Dev nD) (t : Fin cfg0.N) (h : ¬ t.val < 32) (k : Fin 9) (d : Fin 1024) (l : Fin 9216) (hl : l.val = 1024 * k.val + d.val) :
    (iblk m c 1 t : FVec Ideal S1x1x9216 .f32) (ix3 0 0 l) = (m ((c : Thread nD τ).loc main_arg3) : FVec Ideal S9x1024 .f32) (ix2 k d) := by
  blk_simp [iblk]
  rw [emb1, v7_eq, modArr_ctx _ _ _ _ (if_neg h)]
  blk_ext []

/-- The norms' scales. -/
theorem blk2 (c : Dev nD) (t : Fin cfg0.N) (k : Fin 8) (d : Fin 1024) (k' : Fin 6) (hk : k.val = k'.val) :
    (iblk m c 2 t : FVec Ideal S8x1024 .f32) (ix2 k d) = (m ((c : Thread nD τ).loc main_arg4) : FVec Ideal S6x1024 .f32) (ix2 k' d) := by
  blk_simp [iblk]
  rw [emb2, v9_eq, scArr_at _ _ _ (by omega)]
  blk_ext []

/-- The weights. -/
theorem blk3 (c : Dev nD) (t : Fin cfg0.N) (d : Fin 1024) (f : Fin 5632) :
    (iblk m c 3 t : FVec Ideal S1x1x1024x5632 .bf16) (ix4 0 0 d f) = (m ((c : Thread nD τ).loc main_arg5) : FVec Ideal S4x2x1024x5632 .f32) (ix4 1 0 d f) := by
  blk_simp [iblk]
  rw [emb3, v10_eq]
  rfl

theorem blk4 (c : Dev nD) (t : Fin cfg0.N) (f : Fin 2816) (j : Fin 1024) :
    (iblk m c 4 t : FVec Ideal S1x1x2816x1024 .bf16) (ix4 0 0 f j) = (m ((c : Thread nD τ).loc main_arg6) : FVec Ideal S4x2x2816x1024 .f32) (ix4 1 0 f j) := by
  blk_simp [iblk]
  rw [emb4, v11_eq]
  rfl

/-- The reference's result at the arguments. -/
abbrev refAt (c : Dev nD) : FVec Ideal S34816x1024 .f32 :=
  REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem point (c : Dev nD) (t : Fin cfg0.N) (y : S1024x1024.Idx) :
    out0_5 (iblk m c 0 t) (iblk m c 1 t) (iblk m c 2 t) (iblk m c 3 t) (iblk m c 4 t) y = refAt m c ((win0_5.blk t).view.emb y) := by
  obtain ⟨r, j, rfl⟩ : ∃ r j : Fin 1024, y = ix2 r j := ⟨y 0, y 1, eq_ix2 y⟩
  have ht := t_lt t
  rw [out_at]
  change rowOut _ _ _ _ _ r j = _
  unfold rowOut refAt
  rw [emb5]
  by_cases h : t.val < 32
  · rw [REF_lat _ _ _ _ _ _ _ _ (bO t h) (iO t r) _ (by dsimp only; omega) (by simp only [bO]; omega) (by simp only [iO]; omega)]
    simp only [blk0 m c t h, blk3, blk4]
    simp only [blk1 m c t h 0 _ ⟨0 + _, _⟩ rfl, blk1 m c t h 1 _ ⟨1024 + _, _⟩ rfl, blk1 m c t h 2 _ ⟨2048 + _, _⟩ rfl,
      blk2 m c t 0 _ 0 rfl, blk2 m c t 1 _ 1 rfl]
  · rw [REF_ctx _ _ _ _ _ _ _ _ (bC t r) (iC r) _ (by dsimp only; omega) (by simp only [bC]; omega) (by simp only [iC]; omega)]
    simp only [blk0c m c t h, blk3, blk4]
    simp only [blk1c m c t h 0 _ ⟨0 + _, _⟩ rfl, blk1c m c t h 1 _ ⟨1024 + _, _⟩ rfl, blk1c m c t h 2 _ ⟨2048 + _, _⟩ rfl,
      blk2 m c t 0 _ 0 rfl, blk2 m c t 1 _ 1 rfl]

/-- What the kernel leaves in the result is the reference's array. -/
theorem final (c : Dev nD) : (dats m 0 c).arrAt 5 cfg0.N = refAt m c := by
  refine (dats m 0 c).arrAt_eq_of_covers 5 _ (by decide +kernel) fun t hf y => ?_
  blk_simp
  rw [after0_5]
  exact point m c t y

end Cert.FfnAIdeal.Steps

end
-- ==== Proof.FfnAClaim.lean ====
/- The claims about a layer's first feed-forward call. -/
module

public import proofs.«01_k».proof.Defs
public import proofs.«01_k».proof.Proof.FfnAValue
public import proofs.«01_k».proof.Proof.Gen.FfnAIdeal.Frame
public import proofs.«01_k».proof.Proof.Gen.FfnARefIdeal.Run
public import proofs.«01_k».proof.Proof.Gen.FfnA.Frame
public import Idealize.ShloMosaic.Lib.Claim

@[expose] public section

noncomputable section

namespace Cert.Proof.FfnA

open Idealize.ShloMosaic Idealize.SL.Sem

/-- No operation is replaced. -/
theorem preserves : Cert.preserves_FfnA_FfnAIdeal := trivial

/-- The kernel keeps its arguments and ends with every semaphore counter at zero. -/
theorem quiescent : Cert.quiescent_FfnA := fun m ρ _ => Cert.FfnA.Gen.frame m ρ

theorem quiescent_ideal : Cert.quiescent_FfnAIdeal := fun m ρ _ => Cert.FfnAIdeal.Gen.frame m ρ

/-- The reference keeps its arguments; it declares no semaphore. -/
theorem quiescent_ref : Cert.quiescent_FfnARefIdeal := fun m ρ _ =>
  (θ_run Cert.FfnARefIdeal.defs _ _).mono (fun r h => ⟨fun c => (h c).2, sem_eq_zero_of_no_sems (by decide) r.2⟩)
    (Cert.FfnARefIdeal.Value.run (F := Ideal) m ρ)

/-- Kernel and reference compute the same layer. -/
theorem algebraic : Cert.algebraic_FfnAIdeal_FfnARefIdeal := by
  pair_intro
  · run_from Cert.FfnAIdeal.Gen.run_main m g
    exacts [Cert.FfnAIdeal.Gen.V_main_arg0 m _, Cert.FfnAIdeal.Gen.V_main_arg1 m _, Cert.FfnAIdeal.Gen.V_main_arg2 m _, Cert.FfnAIdeal.Gen.V_main_arg3 m _, Cert.FfnAIdeal.Gen.V_main_arg4 m _, Cert.FfnAIdeal.Gen.V_main_arg5 m _, Cert.FfnAIdeal.Gen.V_main_arg6 m _]
  · run_from Cert.FfnARefIdeal.Value.run m' g'
    obtain ⟨a0, a1, a2, a3, a4, a5, a6⟩ := hagree c
    refine Eq.trans ?_ (Cert.FfnAIdeal.Steps.final m c).symm
    change Cert.FfnARefIdeal.Rows.REF (m' ((c.tc : Thread Cert.FfnARefIdeal.nD Cert.FfnARefIdeal.τ).loc Cert.FfnARefIdeal.main_arg0))
      (m' ((c.tc : Thread Cert.FfnARefIdeal.nD Cert.FfnARefIdeal.τ).loc Cert.FfnARefIdeal.main_arg1))
      (m' ((c.tc : Thread Cert.FfnARefIdeal.nD Cert.FfnARefIdeal.τ).loc Cert.FfnARefIdeal.main_arg2))
      (m' ((c.tc : Thread Cert.FfnARefIdeal.nD Cert.FfnARefIdeal.τ).loc Cert.FfnARefIdeal.main_arg3))
      (m' ((c.tc : Thread Cert.FfnARefIdeal.nD Cert.FfnARefIdeal.τ).loc Cert.FfnARefIdeal.main_arg4))
      (m' ((c.tc : Thread Cert.FfnARefIdeal.nD Cert.FfnARefIdeal.τ).loc Cert.FfnARefIdeal.main_arg5))
      (m' ((c.tc : Thread Cert.FfnARefIdeal.nD Cert.FfnARefIdeal.τ).loc Cert.FfnARefIdeal.main_arg6)) = _
    rw [a0, a1, a2, a3, a4, a5, a6]

end Cert.Proof.FfnA

end
-- ==== Proof.FfnBOut.lean ====
/- What the body of a second feed-forward over latent and context rows leaves in the result's block: what the last one's leaves, with the
   attention's output of the point's kind. -/
module

public import proofs.«01_k».proof.Proof.FfnLastOut
public import proofs.«01_k».proof.Proof.Gen.FfnBIdeal.Value

@[expose] public section

set_option maxRecDepth 16384

noncomputable section

namespace Cert.FfnBIdeal.Steps

open Cert.FfnBIdeal Cert.FfnBIdeal.Gen Idealize.ShloMosaic Idealize.ShloMosaic.TcCoe Idealize.SL.Sem Cert.Ffn
open Cert.FfnLastIdeal.Steps (xH oC oH md sc wm pre half half_at rowOut)

/-- The first of two, at a latent grid point; else the second. -/
def sel {α : Type} (i : grid0.Coords) (a b : α) : α := Scalar.select (Scalar.cmpi .slt (BitVec.ofNat 32 (i 0).val) 32#32) a b

theorem sel_map {α β : Type} (f : α → β) (i : grid0.Coords) (a b : α) : sel i (f a) (f b) = f (sel i a b) := by
  unfold sel Scalar.select
  split <;> rfl

theorem bit_eq : ∀ t : Fin cfg0.N, Scalar.cmpi .slt (BitVec.ofNat 32 (grid0.coords t 0).val) 32#32 = (if t.val < 32 then 1#1 else 0#1) :=
  (by decide +kernel : ∀ t : Fin grid0.N, _)

theorem sel_lat {α : Type} (t : Fin cfg0.N) (h : t.val < 32) (a b : α) : sel (grid0.coords t) a b = a := by
  unfold sel
  rw [bit_eq, if_pos h]
  rfl

theorem sel_ctx {α : Type} (t : Fin cfg0.N) (h : ¬ t.val < 32) (a b : α) : sel (grid0.coords t) a b = b := by
  unfold sel
  rw [bit_eq, if_neg h]
  rfl

theorem p_first (i : grid0.Coords) (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 x6 : Vec Ideal S8x1024x128 .bf16) (x7 : Vec Ideal S1024x1024 .bf16) :
    k0_pay8 (k0_pay82 i x0 x1 x2 x3 x4 x5 x6 x7) (k0_pay83 i x0 x1 x2 x3 x4 x5 x6 x7) (k0_pay84 i x0 x1 x2 x3 x4 x5 x6 x7) = vmix (xH x0 0) (sel i (oH x5 0) (oH x6 0)) (wm x7) (md x1 5) (sc x2 3) := rfl

theorem p_second (i : grid0.Coords) (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 x6 : Vec Ideal S8x1024x128 .bf16) (x7 : Vec Ideal S1024x1024 .bf16) :
    k0_pay86 i x0 x1 x2 x3 x4 x5 x6 x7 = vmix (xH x0 1) (sel i (oH x5 1) (oH x6 1)) (wm x7) (md x1 5) (sc x2 3) := rfl

theorem pre_sel (i : grid0.Coords) (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 x6 : Vec Ideal S8x1024x128 .bf16) (x7 : Vec Ideal S1024x1024 .bf16) (o : Fin 2) :
    vmix (xH x0 o) (sel i (oH x5 o) (oH x6 o)) (wm x7) (md x1 5) (sc x2 3) = pre x0 x1 x2 (sel i x5 x6) x7 o := by
  rw [sel_map (fun z => oH z o)]
  rfl

theorem u_first (i : grid0.Coords) (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 x6 : Vec Ideal S8x1024x128 .bf16) (x7 : Vec Ideal S1024x1024 .bf16) :
    k0_pay85 i x0 x1 x2 x3 x4 x5 x6 x7 = vmodnorm (k0_pay8 (k0_pay82 i x0 x1 x2 x3 x4 x5 x6 x7) (k0_pay83 i x0 x1 x2 x3 x4 x5 x6 x7) (k0_pay84 i x0 x1 x2 x3 x4 x5 x6 x7)) (sc x2 4) (md x1 7) (md x1 6) := rfl

theorem u_second (i : grid0.Coords) (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 x6 : Vec Ideal S8x1024x128 .bf16) (x7 : Vec Ideal S1024x1024 .bf16) :
    k0_pay87 i x0 x1 x2 x3 x4 x5 x6 x7 = vmodnorm (k0_pay86 i x0 x1 x2 x3 x4 x5 x6 x7) (sc x2 4) (md x1 7) (md x1 6) := rfl

/-- The first half's opening products. -/
theorem a_first (i : grid0.Coords) (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 x6 : Vec Ideal S8x1024x128 .bf16) (x7 : Vec Ideal S1024x1024 .bf16) :
    k0_pay10 (k0_pay82 i x0 x1 x2 x3 x4 x5 x6 x7) (k0_pay83 i x0 x1 x2 x3 x4 x5 x6 x7) (k0_pay84 i x0 x1 x2 x3 x4 x5 x6 x7) (View.ld x2 r0_12) (View.ld x1 r0_13) (View.ld x1 r0_14) (View.ld x3 r0_15)
      = vproj (k0_pay85 i x0 x1 x2 x3 x4 x5 x6 x7) (colA x3 0) := rfl

theorem b_first (i : grid0.Coords) (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 x6 : Vec Ideal S8x1024x128 .bf16) (x7 : Vec Ideal S1024x1024 .bf16) :
    k0_pay11 (k0_pay82 i x0 x1 x2 x3 x4 x5 x6 x7) (k0_pay83 i x0 x1 x2 x3 x4 x5 x6 x7) (k0_pay84 i x0 x1 x2 x3 x4 x5 x6 x7) (View.ld x2 r0_12) (View.ld x1 r0_13) (View.ld x1 r0_14) (View.ld x3 r0_16)
      = vproj (k0_pay85 i x0 x1 x2 x3 x4 x5 x6 x7) (colB x3 0) := rfl

/-- The body's two stores. -/
theorem out_eq (i : grid0.Coords) (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 x6 : Vec Ideal S8x1024x128 .bf16) (x7 : Vec Ideal S1024x1024 .bf16) :
    out0_8 i x0 x1 x2 x3 x4 x5 x6 x7
      = View.canon [⟨r0_17, half (pre x0 x1 x2 (sel i x5 x6) x7 1) x1 x2 x3 x4⟩, ⟨r0_0, half (pre x0 x1 x2 (sel i x5 x6) x7 0) x1 x2 x3 x4⟩] := by
  unfold out0_8 half
  rw [a_first, b_first, u_first, p_first]
  unfold k0_pay93 k0_pay92 k0_pay91 k0_pay90 k0_pay89 k0_pay88
  rw [u_second, p_second, pre_sel i x0 x1 x2 x3 x4 x5 x6 x7, pre_sel i x0 x1 x2 x3 x4 x5 x6 x7]
  generalize vmodnorm (pre x0 x1 x2 (sel i x5 x6) x7 0) (sc x2 4) (md x1 7) (md x1 6) = u0
  generalize vmodnorm (pre x0 x1 x2 (sel i x5 x6) x7 1) (sc x2 4) (md x1 7) (md x1 6) = u1
  generalize pre x0 x1 x2 (sel i x5 x6) x7 0 = p0
  generalize pre x0 x1 x2 (sel i x5 x6) x7 1 = p1
  rfl

theorem out_at (i : grid0.Coords) (x0 : Vec Ideal S1024x1024 .f32) (x1 : Vec Ideal S1x1x9216 .f32) (x2 : Vec Ideal S8x1024 .f32) (x3 : Vec Ideal S1x1x1024x5632 .bf16)
    (x4 : Vec Ideal S1x1x2816x1024 .bf16) (x5 x6 : Vec Ideal S8x1024x128 .bf16) (x7 : Vec Ideal S1024x1024 .bf16) (y : S1024x1024.Idx) :
    out0_8 i x0 x1 x2 x3 x4 x5 x6 x7 y = rowOut x0 x1 x2 x3 x4 (sel i x5 x6) x7 (y 0) (y 1) := by
  rw [out_eq]
  canon_tiles x h
  · exact half_at x0 x1 x2 x3 x4 (sel i x5 x6) x7 1 x (y 0) (y 1) (by dsimp only [Fin.isValue, Fin.coe_ofNat_eq_mod]; omega) (by omega)
  · exact half_at x0 x1 x2 x3 x4 (sel i x5 x6) x7 0 x (y 0) (y 1) (by dsimp only [Fin.isValue, Fin.coe_ofNat_eq_mod]; omega) (by omega)

end Cert.FfnBIdeal.Steps

end
-- ==== Proof.FfnBRef.lean ====
/- A layer's second feed-forward in the reference, over the latent and the context rows: the attention's output projected and added, then the layer. -/
module

public import proofs.«01_k».proof.Proof.FfnARef
public import proofs.«01_k».proof.Proof.FfnLastRef
public import proofs.«01_k».proof.Proof.Gen.FfnBRefIdeal.Run
public import Idealize.ShloMosaic.Lib.StableHlo.Run
public import Idealize.ShloMosaic.Lib.Pipeline.ValueKit
public import Idealize.ShloMosaic.Lib.Pointwise

@[expose] public section

set_option maxRecDepth 16384

noncomputable section

namespace Cert.FfnBRefIdeal.Rows

open FfnBRefIdeal FfnBRefIdeal.Gen Idealize.ShloMosaic Idealize.ShloMosaic.TcCoe Idealize.SL.Sem Idealize.ShloMosaic.StableHlo Cert.Ffn
open Cert.FfnLastRefIdeal.Rows (layerL layerL_at md5 md6 md7 md8 gs3 gs4 gs5 added md5_at md6_at md7_at md8_at gs3_at gs4_at gs5_at added_at)
open Cert.FfnARefIdeal.Rows (layerC layerC_at wideC wideC_at normC normC_at stack stack_lat stack_ctx)

/-- Group 5 of the context rows' modulation. -/
def mc5 (m : FVec Ideal S9x1024 .f32) : FVec Ideal S1x1024 .f32 :=
  shapeCast _ (extractStridedSlice S1x1x1024 ![0, 5, 0] (broadcastInDim S1x9x1024 ![1, 2] bcast_S9x1024_S1x9x1024_1_2 m)
    slices_S1x9x1024_S1x1x1024_0_5_0) shapeCasts_S1x1x1024_S1x1024

theorem mc5_at (m : FVec Ideal S9x1024 .f32) (d : Fin 1024) : mc5 m (ix2 0 d) = m (ix2 5 d) := by
  pointwise [mc5]

/-- Group 6 of the context rows' modulation. -/
def mc6 (m : FVec Ideal S9x1024 .f32) : FVec Ideal S1x1024 .f32 :=
  shapeCast _ (extractStridedSlice S1x1x1024 ![0, 6, 0] (broadcastInDim S1x9x1024 ![1, 2] bcast_S9x1024_S1x9x1024_1_2 m)
    slices_S1x9x1024_S1x1x1024_0_6_0) shapeCasts_S1x1x1024_S1x1024

theorem mc6_at (m : FVec Ideal S9x1024 .f32) (d : Fin 1024) : mc6 m (ix2 0 d) = m (ix2 6 d) := by
  pointwise [mc6]

/-- Group 7 of the context rows' modulation. -/
def mc7 (m : FVec Ideal S9x1024 .f32) : FVec Ideal S1x1024 .f32 :=
  shapeCast _ (extractStridedSlice S1x1x1024 ![0, 7, 0] (broadcastInDim S1x9x1024 ![1, 2] bcast_S9x1024_S1x9x1024_1_2 m)
    slices_S1x9x1024_S1x1x1024_0_7_0) shapeCasts_S1x1x1024_S1x1024

theorem mc7_at (m : FVec Ideal S9x1024 .f32) (d : Fin 1024) : mc7 m (ix2 0 d) = m (ix2 7 d) := by
  pointwise [mc7]

/-- Group 8 of the context rows' modulation. -/
def mc8 (m : FVec Ideal S9x1024 .f32) : FVec Ideal S1x1024 .f32 :=
  shapeCast _ (extractStridedSlice S1x1x1024 ![0, 8, 0] (broadcastInDim S1x9x1024 ![1, 2] bcast_S9x1024_S1x9x1024_1_2 m)
    slices_S1x9x1024_S1x1x1024_0_8_0) shapeCasts_S1x1x1024_S1x1024

theorem mc8_at (m : FVec Ideal S9x1024 .f32) (d : Fin 1024) : mc8 m (ix2 0 d) = m (ix2 8 d) := by
  pointwise [mc8]

/-- The second layer's second feed-forward's weights. -/
def w1 (w : FVec Ideal S4x2x1024x5632 .f32) : FVec Ideal S1024x5632 .f32 :=
  shapeCast _ (extractStridedSlice S1x1x1024x5632 ![1, 1, 0, 0] w slices_S4x2x1024x5632_S1x1x1024x5632_1_1_0_0) shapeCasts_S1x1x1024x5632_S1024x5632
def w2 (w : FVec Ideal S4x2x2816x1024 .f32) : FVec Ideal S2816x1024 .f32 :=
  shapeCast _ (extractStridedSlice S1x1x2816x1024 ![1, 1, 0, 0] w slices_S4x2x2816x1024_S1x1x2816x1024_1_1_0_0) shapeCasts_S1x1x2816x1024_S2816x1024

theorem w1_at (w : FVec Ideal S4x2x1024x5632 .f32) (d : Fin 1024) (f : Fin 5632) : w1 w (ix2 d f) = w (ix4 1 1 d f) := by
  pointwise [w1]
theorem w2_at (w : FVec Ideal S4x2x2816x1024 .f32) (f : Fin 2816) (j : Fin 1024) : w2 w (ix2 f j) = w (ix4 1 1 f j) := by
  pointwise [w2]

/-- The attention's output on the context rows, projected. -/
def outpC (o : FVec Ideal S8x256x1024 .f32) (W : FVec Ideal S1024x1024 .f32) : FVec Ideal S8x256x1024 .f32 :=
  Host.dotGeneral dot_S8x256x1024_S1024x1024_S8x256x1024_2_0_01_1_n_n none o W

theorem outpC_at (o : FVec Ideal S8x256x1024 .f32) (W : FVec Ideal S1024x1024 .f32) (b : Fin 8) (i : Fin 256) (j : Fin 1024) :
    outpC o W (ix3 b i j) = ∑ d : Fin 1024, o (ix3 b i d) * W (ix2 d j) := by
  pointwise [outpC]

/-- The context rows with the attention's output added. -/
def addedC (x o : FVec Ideal S8x256x1024 .f32) (m : FVec Ideal S1x1024 .f32) (g : FVec Ideal S1024 .f32) (W : FVec Ideal S1024x1024 .f32) :
    FVec Ideal S8x256x1024 .f32 :=
  addf x (mulf (wideC (mulf (broadcastInDim S1x1024 ![] bcast_S_S1x1024 (constant S_ .f32 0x3F800000#32)) m)) (normC (outpC o W) g))

theorem addedC_at (x o : FVec Ideal S8x256x1024 .f32) (m : FVec Ideal S1x1024 .f32) (g : FVec Ideal S1024 .f32) (W : FVec Ideal S1024x1024 .f32)
    (b : Fin 8) (i : Fin 256) (j : Fin 1024) :
    addedC x o m g W (ix3 b i j) = mix (fun d => x (ix3 b i d)) (fun d => o (ix3 b i d)) (fun d => m (ix2 0 d)) (fun d => g (ix1 d))
      (fun d e => W (ix2 d e)) j := by
  unfold addedC mix
  rw [addf_apply, mulf_apply, normC_at, wideC_at, mulf_apply]
  simp only [outpC_at]
  have e : (broadcastInDim S1x1024 ![] bcast_S_S1x1024 (constant S_ .f32 0x3F800000#32) : FVec Ideal S1x1024 .f32) (ix2 0 j) = 1 := Consts.one
  rw [e]
  exact congrArg (fun z => x (ix3 b i j) + z * _) (one_mul _)

/-- The reference's result. -/
def REF (x : FVec Ideal S8x4096x1024 .f32) (xc : FVec Ideal S8x256x1024 .f32) (mod : FVec Ideal S8x9x1024 .f32) (modc : FVec Ideal S9x1024 .f32)
    (g : FVec Ideal S6x1024 .f32) (wi : FVec Ideal S4x2x1024x5632 .f32) (wo : FVec Ideal S4x2x2816x1024 .f32)
    (o : FVec Ideal S8x4096x1024 .f32) (oc : FVec Ideal S8x256x1024 .f32) (wm : FVec Ideal S1024x1024 .f32) : FVec Ideal S34816x1024 .f32 :=
  stack (layerL (added x o (md5 mod) (gs3 g) wm) (gs4 g) (md7 mod) (md6 mod) (gs5 g) (md8 mod) (w1 wi) (w2 wo))
    (layerC (addedC xc oc (mc5 modc) (gs3 g) wm) (gs4 g) (mc7 modc) (mc6 modc) (gs5 g) (mc8 modc) (w1 wi) (w2 wo))

theorem REF_lat (x : FVec Ideal S8x4096x1024 .f32) (xc : FVec Ideal S8x256x1024 .f32) (mod : FVec Ideal S8x9x1024 .f32) (modc : FVec Ideal S9x1024 .f32)
    (g : FVec Ideal S6x1024 .f32) (wi : FVec Ideal S4x2x1024x5632 .f32) (wo : FVec Ideal S4x2x2816x1024 .f32)
    (o : FVec Ideal S8x4096x1024 .f32) (oc : FVec Ideal S8x256x1024 .f32) (wm : FVec Ideal S1024x1024 .f32)
    (s : Fin 34816) (b : Fin 8) (i : Fin 4096) (j : Fin 1024) (hs : s.val < 32768) (hb : b.val = s.val / 4096)
    (hi : i.val = s.val % 4096) :
    REF x xc mod modc g wi wo o oc wm (ix2 s j)
      = layer (mix (fun d => x (ix3 b i d)) (fun d => o (ix3 b i d)) (fun d => mod (ix3 b 5 d)) (fun d => g (ix2 3 d)) (fun d e => wm (ix2 d e))) (fun d => g (ix2 4 d)) (fun d => mod (ix3 b 7 d)) (fun d => mod (ix3 b 6 d)) (fun d => g (ix2 5 d))
          (fun d => mod (ix3 b 8 d)) (fun d f => wi (ix4 1 1 d f)) (fun f j => wo (ix4 1 1 f j)) j := by
  have eb : b = ⟨s.val / 4096, by omega⟩ := Fin.ext hb
  have ei : i = ⟨s.val % 4096, by omega⟩ := Fin.ext hi
  rw [REF, stack_lat _ _ _ _ hs, ← eb, ← ei, layerL_at]
  simp only [added_at, md5_at, md6_at, md7_at, md8_at, gs3_at, gs4_at, gs5_at, w1_at, w2_at]

theorem REF_ctx (x : FVec Ideal S8x4096x1024 .f32) (xc : FVec Ideal S8x256x1024 .f32) (mod : FVec Ideal S8x9x1024 .f32) (modc : FVec Ideal S9x1024 .f32)
    (g : FVec Ideal S6x1024 .f32) (wi : FVec Ideal S4x2x1024x5632 .f32) (wo : FVec Ideal S4x2x2816x1024 .f32)
    (o : FVec Ideal S8x4096x1024 .f32) (oc : FVec Ideal S8x256x1024 .f32) (wm : FVec Ideal S1024x1024 .f32)
    (s : Fin 34816) (b : Fin 8) (i : Fin 256) (j : Fin 1024) (hs : ¬ s.val < 32768) (hb : b.val = (s.val - 32768) / 256)
    (hi : i.val = (s.val - 32768) % 256) :
    REF x xc mod modc g wi wo o oc wm (ix2 s j)
      = layer (mix (fun d => xc (ix3 b i d)) (fun d => oc (ix3 b i d)) (fun d => modc (ix2 5 d)) (fun d => g (ix2 3 d)) (fun d e => wm (ix2 d e))) (fun d => g (ix2 4 d)) (fun d => modc (ix2 7 d)) (fun d => modc (ix2 6 d)) (fun d => g (ix2 5 d))
          (fun d => modc (ix2 8 d)) (fun d f => wi (ix4 1 1 d f)) (fun f j => wo (ix4 1 1 f j)) j := by
  have eb : b = ⟨(s.val - 32768) / 256, by omega⟩ := Fin.ext hb
  have ei : i = ⟨(s.val - 32768) % 256, by omega⟩ := Fin.ext hi
  rw [REF, stack_ctx _ _ _ _ hs, ← eb, ← ei, layerC_at]
  simp only [addedC_at, mc5_at, mc6_at, mc7_at, mc8_at, gs3_at, gs4_at, gs5_at, w1_at, w2_at]

end Cert.FfnBRefIdeal.Rows

end
-- ==== Proof.FfnBValue.lean ====
/- The blocks the body of a layer's second feed-forward reads at a grid point, in terms of the arguments; its result is the reference's. -/
module

public import proofs.«01_k».proof.Proof.FfnBOut
public import proofs.«01_k».proof.Proof.FfnLastEntry
public import proofs.«01_k».proof.Proof.FfnBRef

@[expose] public section

set_option maxRecDepth 16384

noncomputable section

namespace Cert.FfnBIdeal.Steps

open Cert.FfnBIdeal Cert.FfnBIdeal.Gen Idealize.ShloMosaic Idealize.ShloMosaic.TcCoe Idealize.SL.Sem Cert.Ffn
open Cert.FfnBRefIdeal.Rows (REF REF_lat REF_ctx)
open Cert.FfnLastIdeal.Steps (rowIn rowOut rowsArr modArr scArr headArr headArr_at rowsArr_lat rowsArr_ctx modArr_at modArr_ctx scArr_at)

variable (m : (ℓ : Loc nD τ sig) → Buf (Elt Ideal) ℓ)

theorem v2_eq (c : Dev nD) : V m c main_v2 = rowsArr (m ((c : Thread nD τ).loc main_arg0)) (m ((c : Thread nD τ).loc main_arg1)) := by
  entry_read
  rfl

theorem v13_eq (c : Dev nD) : V m c main_v13 = modArr (m ((c : Thread nD τ).loc main_arg2)) (m ((c : Thread nD τ).loc main_arg3)) := by
  entry_read
  rfl

theorem v15_eq (c : Dev nD) : V m c main_v15 = scArr (m ((c : Thread nD τ).loc main_arg4)) := by
  entry_read
  rfl

theorem v16_eq (c : Dev nD) : V m c main_v16 = (truncf .bf16 (m ((c : Thread nD τ).loc main_arg5) : FVec Ideal S4x2x1024x5632 .f32) bitsLt_bf16_f32 : FVec Ideal S4x2x1024x5632 .bf16) := by
  entry_read
  rfl

theorem v17_eq (c : Dev nD) : V m c main_v17 = (truncf .bf16 (m ((c : Thread nD τ).loc main_arg6) : FVec Ideal S4x2x2816x1024 .f32) bitsLt_bf16_f32 : FVec Ideal S4x2x2816x1024 .bf16) := by
  entry_read
  rfl

/-- The attention's output on the context rows, head by head. -/
def headCtxArr (o : FVec Ideal S8x256x1024 .f32) : FVec Ideal S8x2048x128 .bf16 :=
  truncf .bf16 (transpose S8x2048x128 [1, 0, 2] (shapeCast S2048x8x128 o shapeCasts_S8x256x1024_S2048x8x128)
    transposes_S2048x8x128_S8x2048x128_1_0_2) bitsLt_bf16_f32

theorem headCtxArr_at (o : FVec Ideal S8x256x1024 .f32) (h : Fin 8) (s : Fin 2048) (l : Fin 128) :
    headCtxArr o (ix3 h s l) = o (ix3 ⟨s.val / 256, by omega⟩ ⟨s.val % 256, by omega⟩ ⟨h.val * 128 + l.val, by omega⟩) := by
  pointwise [headCtxArr]

theorem v5_eq (c : Dev nD) : V m c main_v5 = headArr (m ((c : Thread nD τ).loc main_arg7)) := by
  entry_read
  rfl

theorem v8_eq (c : Dev nD) : V m c main_v8 = headCtxArr (m ((c : Thread nD τ).loc main_arg8)) := by
  entry_read
  rfl

theorem v18_eq (c : Dev nD) : V m c main_v18 = (truncf .bf16 (m ((c : Thread nD τ).loc main_arg9) : FVec Ideal S1024x1024 .f32) bitsLt_bf16_f32 : FVec Ideal S1024x1024 .bf16) := by
  entry_read
  rfl

theorem t_lt (t : Fin cfg0.N) : t.val < 34 := lt_of_lt_of_eq t.isLt (by decide +kernel)

/-- The batch row of a latent grid point, and the place in it of row `r` of the point's block. -/
def bO (t : Fin cfg0.N) (h : t.val < 32) : Fin 8 := ⟨t.val / 4, by omega⟩
def iO (t : Fin cfg0.N) (r : Fin 1024) : Fin 4096 := ⟨1024 * (t.val % 4) + r.val, by omega⟩
/-- The same of a context grid point. -/
def bC (t : Fin cfg0.N) (r : Fin 1024) : Fin 8 := ⟨4 * (t.val - 32) + r.val / 256, by have := t_lt t; omega⟩
def iC (r : Fin 1024) : Fin 256 := ⟨r.val % 256, by omega⟩
/-- The row of the modulation's table a grid point uses. -/
def row (t : Fin cfg0.N) : Fin 16 := ⟨if t.val < 32 then t.val / 4 else 8, by split <;> omega⟩

theorem idx : ∀ t : Fin cfg0.N, win0_0.index t = ![t.val, 0] ∧ win0_1.index t = ![(row t).val, 0, 0] ∧ win0_2.index t = ![0, 0]
    ∧ win0_3.index t = ![1, 1, 0, 0] ∧ win0_4.index t = ![1, 1, 0, 0] ∧ win0_5.index t = ![0, min t.val 31, 0]
    ∧ win0_6.index t = ![0, t.val - 32, 0] ∧ win0_7.index t = ![0, 0] ∧ win0_8.index t = ![t.val, 0] :=
  (by decide +kernel : ∀ t : Fin grid0.N, _)

theorem emb0 (t : Fin cfg0.N) (r d : Fin 1024) :
    (win0_0.blk t).view.emb (ix2 r d) = (ix2 ⟨1024 * t.val + r.val, by have := t_lt t; omega⟩ d : S34816x1024.Idx) := by
  have ht := t_lt t
  blk_ext [idx t]

theorem emb1 (t : Fin cfg0.N) (l : Fin 9216) : (win0_1.blk t).view.emb (ix3 0 0 l) = (ix3 (row t) 0 l : S16x1x9216.Idx) := by
  blk_ext [idx t]

theorem emb2 (t : Fin cfg0.N) (k : Fin 8) (d : Fin 1024) : (win0_2.blk t).view.emb (ix2 k d) = (ix2 k d : S8x1024.Idx) := by
  blk_ext [idx t]

theorem emb3 (t : Fin cfg0.N) (d : Fin 1024) (f : Fin 5632) : (win0_3.blk t).view.emb (ix4 0 0 d f) = (ix4 1 1 d f : S4x2x1024x5632.Idx) := by
  blk_ext [idx t]

theorem emb4 (t : Fin cfg0.N) (f : Fin 2816) (j : Fin 1024) : (win0_4.blk t).view.emb (ix4 0 0 f j) = (ix4 1 1 f j : S4x2x2816x1024.Idx) := by
  blk_ext [idx t]

theorem emb5 (t : Fin cfg0.N) (ht : t.val < 32) (h : Fin 8) (r : Fin 1024) (l : Fin 128) :
    (win0_5.blk t).view.emb (ix3 h r l) = (ix3 h ⟨1024 * t.val + r.val, by omega⟩ l : S8x32768x128.Idx) := by
  have hm : min t.val 31 = t.val := by omega
  blk_ext [idx t, hm]

theorem emb6 (t : Fin cfg0.N) (hc : ¬ t.val < 32) (h : Fin 8) (r : Fin 1024) (l : Fin 128) :
    (win0_6.blk t).view.emb (ix3 h r l) = (ix3 h ⟨1024 * (t.val - 32) + r.val, by have := t_lt t; omega⟩ l : S8x2048x128.Idx) := by
  have ht := t_lt t
  blk_ext [idx t]

theorem emb7 (t : Fin cfg0.N) (d e : Fin 1024) : (win0_7.blk t).view.emb (ix2 d e) = (ix2 d e : S1024x1024.Idx) := by
  blk_ext [idx t]

theorem emb8 (t : Fin cfg0.N) (r j : Fin 1024) :
    (win0_8.blk t).view.emb (ix2 r j) = (ix2 ⟨1024 * t.val + r.val, by have := t_lt t; omega⟩ j : S34816x1024.Idx) := by
  have ht := t_lt t
  blk_ext [idx t]

/-- The rows. -/
theorem blk0 (c : Dev nD) (t : Fin cfg0.N) (h : t.val < 32) (r d : Fin 1024) :
    (iblk m c 0 t : FVec Ideal S1024x1024 .f32) (ix2 r d)
      = (m ((c : Thread nD τ).loc main_arg0) : FVec Ideal S8x4096x1024 .f32) (ix3 (bO t h) (iO t r) d) := by
  blk_simp [iblk]
  rw [emb0, v2_eq, rowsArr_lat _ _ _ _ (by dsimp only; omega)]
  blk_ext [bO, iO]

theorem blk0c (c : Dev nD) (t : Fin cfg0.N) (h : ¬ t.val < 32) (r d : Fin 1024) :
    (iblk m c 0 t : FVec Ideal S1024x1024 .f32) (ix2 r d)
      = (m ((c : Thread nD τ).loc main_arg1) : FVec Ideal S8x256x1024 .f32) (ix3 (bC t r) (iC r) d) := by
  have ht := t_lt t
  blk_simp [iblk]
  rw [emb0, v2_eq, rowsArr_ctx _ _ _ _ (by dsimp only; omega)]
  blk_ext [bC, iC]

/-- The modulation. -/
theorem blk1 (c : Dev nD) (t : Fin cfg0.N) (h : t.val < 32) (k : Fin 9) (d : Fin 1024) (l : Fin 9216) (hl : l.val = 1024 * k.val + d.val) :
    (iblk m c 1 t : FVec Ideal S1x1x9216 .f32) (ix3 0 0 l) = (m ((c : Thread nD τ).loc main_arg2) : FVec Ideal S8x9x1024 .f32) (ix3 (bO t h) k d) := by
  have hr : (row t).val = t.val / 4 := if_pos h
  blk_simp [iblk]
  rw [emb1, v13_eq, modArr_at _ _ _ _ (by omega)]
  blk_ext [bO, hr]

theorem blk1c (c : Dev nD) (t : Fin cfg0.N) (h : ¬ t.val < 32) (k : Fin 9) (d : Fin 1024) (l : Fin 9216) (hl : l.val = 1024 * k.val + d.val) :
    (iblk m c 1 t : FVec Ideal S1x1x9216 .f32) (ix3 0 0 l) = (m ((c : Thread nD τ).loc main_arg3) : FVec Ideal S9x1024 .f32) (ix2 k d) := by
  blk_simp [iblk]
  rw [emb1, v13_eq, modArr_ctx _ _ _ _ (if_neg h)]
  blk_ext []

/-- The norms' scales. -/
theorem blk2 (c : Dev nD) (t : Fin cfg0.N) (k : Fin 8) (d : Fin 1024) (k' : Fin 6) (hk : k.val = k'.val) :
    (iblk m c 2 t : FVec Ideal S8x1024 .f32) (ix2 k d) = (m ((c : Thread nD τ).loc main_arg4) : FVec Ideal S6x1024 .f32) (ix2 k' d) := by
  blk_simp [iblk]
  rw [emb2, v15_eq, scArr_at _ _ _ (by omega)]
  blk_ext []

/-- The weights. -/
theorem blk3 (c : Dev nD) (t : Fin cfg0.N) (d : Fin 1024) (f : Fin 5632) :
    (iblk m c 3 t : FVec Ideal S1x1x1024x5632 .bf16) (ix4 0 0 d f) = (m ((c : Thread nD τ).loc main_arg5) : FVec Ideal S4x2x1024x5632 .f32) (ix4 1 1 d f) := by
  blk_simp [iblk]
  rw [emb3, v16_eq]
  rfl

theorem blk4 (c : Dev nD) (t : Fin cfg0.N) (f : Fin 2816) (j : Fin 1024) :
    (iblk m c 4 t : FVec Ideal S1x1x2816x1024 .bf16) (ix4 0 0 f j) = (m ((c : Thread nD τ).loc main_arg6) : FVec Ideal S4x2x2816x1024 .f32) (ix4 1 1 f j) := by
  blk_simp [iblk]
  rw [emb4, v17_eq]
  rfl

/-- The attention's output. -/
theorem blk5 (c : Dev nD) (t : Fin cfg0.N) (h : t.val < 32) (r d : Fin 1024) :
    (iblk m c 5 t : FVec Ideal S8x1024x128 .bf16) (ix3 ⟨d.val / 128, by omega⟩ r ⟨d.val % 128, by omega⟩)
      = (m ((c : Thread nD τ).loc main_arg7) : FVec Ideal S8x4096x1024 .f32) (ix3 (bO t h) (iO t r) d) := by
  blk_simp [iblk]
  rw [emb5 t h, v5_eq, headArr_at]
  blk_ext [bO, iO]

theorem blk5c (c : Dev nD) (t : Fin cfg0.N) (h : ¬ t.val < 32) (r d : Fin 1024) :
    (iblk m c 6 t : FVec Ideal S8x1024x128 .bf16) (ix3 ⟨d.val / 128, by omega⟩ r ⟨d.val % 128, by omega⟩)
      = (m ((c : Thread nD τ).loc main_arg8) : FVec Ideal S8x256x1024 .f32) (ix3 (bC t r) (iC r) d) := by
  have ht := t_lt t
  blk_simp [iblk]
  rw [emb6 t h, v8_eq, headCtxArr_at]
  blk_ext [bC, iC]

theorem blk6 (c : Dev nD) (t : Fin cfg0.N) (d e : Fin 1024) :
    (iblk m c 7 t : FVec Ideal S1024x1024 .bf16) (ix2 d e) = (m ((c : Thread nD τ).loc main_arg9) : FVec Ideal S1024x1024 .f32) (ix2 d e) := by
  blk_simp [iblk]
  rw [emb7, v18_eq]
  rfl

/-- The reference's result at the arguments. -/
abbrev refAt (c : Dev nD) : FVec Ideal S34816x1024 .f32 :=
  REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem point (c : Dev nD) (t : Fin cfg0.N) (y : S1024x1024.Idx) :
    out0_8 (grid0.coords t) (iblk m c 0 t) (iblk m c 1 t) (iblk m c 2 t) (iblk m c 3 t) (iblk m c 4 t) (iblk m c 5 t) (iblk m c 6 t) (iblk m c 7 t) y
      = refAt m c ((win0_8.blk t).view.emb y) := by
  obtain ⟨r, j, rfl⟩ : ∃ r j : Fin 1024, y = ix2 r j := ⟨y 0, y 1, eq_ix2 y⟩
  have ht := t_lt t
  rw [out_at]
  change rowOut _ _ _ _ _ _ _ r j = _
  unfold rowOut rowIn refAt
  rw [emb8]
  by_cases h : t.val < 32
  · rw [sel_lat t h, REF_lat _ _ _ _ _ _ _ _ _ _ _ (bO t h) (iO t r) _ (by dsimp only; omega) (by simp only [bO]; omega) (by simp only [iO]; omega)]
    simp only [blk0 m c t h, blk3, blk4, blk5 m c t h, blk6]
    simp only [blk1 m c t h 5 _ ⟨5120 + _, _⟩ rfl, blk1 m c t h 6 _ ⟨6144 + _, _⟩ rfl, blk1 m c t h 7 _ ⟨7168 + _, _⟩ rfl, blk1 m c t h 8 _ ⟨8192 + _, _⟩ rfl,
      blk2 m c t 3 _ 3 rfl, blk2 m c t 4 _ 4 rfl, blk2 m c t 5 _ 5 rfl]
  · rw [sel_ctx t h, REF_ctx _ _ _ _ _ _ _ _ _ _ _ (bC t r) (iC r) _ (by dsimp only; omega) (by simp only [bC]; omega) (by simp only [iC]; omega)]
    simp only [blk0c m c t h, blk3, blk4, blk5c m c t h, blk6]
    simp only [blk1c m c t h 5 _ ⟨5120 + _, _⟩ rfl, blk1c m c t h 6 _ ⟨6144 + _, _⟩ rfl, blk1c m c t h 7 _ ⟨7168 + _, _⟩ rfl, blk1c m c t h 8 _ ⟨8192 + _, _⟩ rfl,
      blk2 m c t 3 _ 3 rfl, blk2 m c t 4 _ 4 rfl, blk2 m c t 5 _ 5 rfl]

/-- What the kernel leaves in the result is the reference's array. -/
theorem final (c : Dev nD) : (dats m 0 c).arrAt 8 cfg0.N = refAt m c := by
  refine (dats m 0 c).arrAt_eq_of_covers 8 _ (by decide +kernel) fun t hf y => ?_
  blk_simp
  rw [after0_8]
  exact point m c t y

end Cert.FfnBIdeal.Steps

end
-- ==== Proof.FfnBClaim.lean ====
/- The claims about a layer's second feed-forward call over latent and context rows. -/
module

public import proofs.«01_k».proof.Defs
public import proofs.«01_k».proof.Proof.FfnBValue
public import proofs.«01_k».proof.Proof.Gen.FfnBIdeal.Frame
public import proofs.«01_k».proof.Proof.Gen.FfnBRefIdeal.Run
public import proofs.«01_k».proof.Proof.Gen.FfnB.Frame
public import Idealize.ShloMosaic.Lib.Claim

@[expose] public section

noncomputable section

namespace Cert.Proof.FfnB

open Idealize.ShloMosaic Idealize.SL.Sem

/-- No operation is replaced. -/
theorem preserves : Cert.preserves_FfnB_FfnBIdeal := trivial

/-- The kernel keeps its arguments and ends with every semaphore counter at zero. -/
theorem quiescent : Cert.quiescent_FfnB := fun m ρ _ => Cert.FfnB.Gen.frame m ρ

theorem quiescent_ideal : Cert.quiescent_FfnBIdeal := fun m ρ _ => Cert.FfnBIdeal.Gen.frame m ρ

/-- The reference keeps its arguments; it declares no semaphore. -/
theorem quiescent_ref : Cert.quiescent_FfnBRefIdeal := fun m ρ _ =>
  (θ_run Cert.FfnBRefIdeal.defs _ _).mono (fun r h => ⟨fun c => (h c).2, sem_eq_zero_of_no_sems (by decide) r.2⟩)
    (Cert.FfnBRefIdeal.Value.run (F := Ideal) m ρ)

/-- Kernel and reference compute the same layer. -/
theorem algebraic : Cert.algebraic_FfnBIdeal_FfnBRefIdeal := by
  pair_intro
  · run_from Cert.FfnBIdeal.Gen.run_main m g
    exacts [Cert.FfnBIdeal.Gen.V_main_arg0 m _, Cert.FfnBIdeal.Gen.V_main_arg1 m _, Cert.FfnBIdeal.Gen.V_main_arg2 m _, Cert.FfnBIdeal.Gen.V_main_arg3 m _, Cert.FfnBIdeal.Gen.V_main_arg4 m _, Cert.FfnBIdeal.Gen.V_main_arg5 m _, Cert.FfnBIdeal.Gen.V_main_arg6 m _, Cert.FfnBIdeal.Gen.V_main_arg7 m _, Cert.FfnBIdeal.Gen.V_main_arg8 m _, Cert.FfnBIdeal.Gen.V_main_arg9 m _]
  · run_from Cert.FfnBRefIdeal.Value.run m' g'
    obtain ⟨a0, a1, a2, a3, a4, a5, a6, a7, a8, a9⟩ := hagree c
    refine Eq.trans ?_ (Cert.FfnBIdeal.Steps.final m c).symm
    change Cert.FfnBRefIdeal.Rows.REF (m' ((c.tc : Thread Cert.FfnBRefIdeal.nD Cert.FfnBRefIdeal.τ).loc Cert.FfnBRefIdeal.main_arg0))
      (m' ((c.tc : Thread Cert.FfnBRefIdeal.nD Cert.FfnBRefIdeal.τ).loc Cert.FfnBRefIdeal.main_arg1))
      (m' ((c.tc : Thread Cert.FfnBRefIdeal.nD Cert.FfnBRefIdeal.τ).loc Cert.FfnBRefIdeal.main_arg2))
      (m' ((c.tc : Thread Cert.FfnBRefIdeal.nD Cert.FfnBRefIdeal.τ).loc Cert.FfnBRefIdeal.main_arg3))
      (m' ((c.tc : Thread Cert.FfnBRefIdeal.nD Cert.FfnBRefIdeal.τ).loc Cert.FfnBRefIdeal.main_arg4))
      (m' ((c.tc : Thread Cert.FfnBRefIdeal.nD Cert.FfnBRefIdeal.τ).loc Cert.FfnBRefIdeal.main_arg5))
      (m' ((c.tc : Thread Cert.FfnBRefIdeal.nD Cert.FfnBRefIdeal.τ).loc Cert.FfnBRefIdeal.main_arg6))
      (m' ((c.tc : Thread Cert.FfnBRefIdeal.nD Cert.FfnBRefIdeal.τ).loc Cert.FfnBRefIdeal.main_arg7))
      (m' ((c.tc : Thread Cert.FfnBRefIdeal.nD Cert.FfnBRefIdeal.τ).loc Cert.FfnBRefIdeal.main_arg8))
      (m' ((c.tc : Thread Cert.FfnBRefIdeal.nD Cert.FfnBRefIdeal.τ).loc Cert.FfnBRefIdeal.main_arg9)) = _
    rw [a0, a1, a2, a3, a4, a5, a6, a7, a8, a9]

end Cert.Proof.FfnB

end
-- ==== Proof.FfnFirstOut.lean ====
/- What the body of the first layer's first feed-forward leaves in the result's block: what a later layer's leaves, over the rows of the point's kind. -/
module

public import proofs.«01_k».proof.Proof.FfnAOut
public import proofs.«01_k».proof.Proof.Gen.FfnFirstIdeal.Value

@[expose] public section

set_option maxRecDepth 16384

noncomputable section

namespace Cert.FfnFirstIdeal.Steps

open Cert.FfnFirstIdeal Cert.FfnFirstIdeal.Gen Idealize.ShloMosaic Idealize.ShloMosaic.TcCoe Idealize.SL.Sem Cert.Ffn
open Cert.FfnLastIdeal.Steps (xH md sc)
open Cert.FfnAIdeal.Steps (pre half half_at rowOut)

/-- The first of two, at a latent grid point; else the second. -/
def sel {α : Type} (i : grid0.Coords) (a b : α) : α := Scalar.select (Scalar.cmpi .slt (BitVec.ofNat 32 (i 0).val) 32#32) a b

theorem sel_map {α β : Type} (f : α → β) (i : grid0.Coords) (a b : α) : sel i (f a) (f b) = f (sel i a b) := by
  unfold sel Scalar.select
  split <;> rfl

theorem bit_eq : ∀ t : Fin cfg0.N, Scalar.cmpi .slt (BitVec.ofNat 32 (grid0.coords t 0).val) 32#32 = (if t.val < 32 then 1#1 else 0#1) :=
  (by decide +kernel : ∀ t : Fin grid0.N, _)

theorem sel_lat {α : Type} (t : Fin cfg0.N) (h : t.val < 32) (a b : α) : sel (grid0.coords t) a b = a := by
  unfold sel
  rw [bit_eq, if_pos h]
  rfl

theorem sel_ctx {α : Type} (t : Fin cfg0.N) (h : ¬ t.val < 32) (a b : α) : sel (grid0.coords t) a b = b := by
  unfold sel
  rw [bit_eq, if_neg h]
  rfl

theorem x_first (i : grid0.Coords) (x0 x1 : Vec Ideal S1024x1024 .f32) (x2 : Vec Ideal S1x1x9216 .f32) (x3 : Vec Ideal S8x1024 .f32) (x4 : Vec Ideal S1x1x1024x5632 .bf16)
    (x5 : Vec Ideal S1x1x2816x1024 .bf16) :
    k0_pay2 i (View.ld x0 r0_0) (View.ld x1 r0_0) = sel i (xH x0 0) (xH x1 0) := rfl

theorem x_second (i : grid0.Coords) (x0 x1 : Vec Ideal S1024x1024 .f32) (x2 : Vec Ideal S1x1x9216 .f32) (x3 : Vec Ideal S8x1024 .f32) (x4 : Vec Ideal S1x1x1024x5632 .bf16)
    (x5 : Vec Ideal S1x1x2816x1024 .bf16) :
    k0_pay6 (Scalar.cmpi .slt (BitVec.ofNat 32 (i 0).val) 32#32) (View.ld x0 r0_6) (View.ld x1 r0_6) = sel i (xH x0 1) (xH x1 1) := rfl

theorem u_first (i : grid0.Coords) (x0 x1 : Vec Ideal S1024x1024 .f32) (x2 : Vec Ideal S1x1x9216 .f32) (x3 : Vec Ideal S8x1024 .f32) (x4 : Vec Ideal S1x1x1024x5632 .bf16)
    (x5 : Vec Ideal S1x1x2816x1024 .bf16) :
    k0_pay58 i x0 x1 x2 x3 x4 x5 = vmodnorm (sel i (xH x0 0) (xH x1 0)) (sc x3 0) (md x2 1) (md x2 0) := rfl

theorem u_second (i : grid0.Coords) (x0 x1 : Vec Ideal S1024x1024 .f32) (x2 : Vec Ideal S1x1x9216 .f32) (x3 : Vec Ideal S8x1024 .f32) (x4 : Vec Ideal S1x1x1024x5632 .bf16)
    (x5 : Vec Ideal S1x1x2816x1024 .bf16) :
    k0_pay59 i x0 x1 x2 x3 x4 x5 = vmodnorm (sel i (xH x0 1) (xH x1 1)) (sc x3 0) (md x2 1) (md x2 0) := rfl

theorem x_sel (i : grid0.Coords) (x0 x1 : Vec Ideal S1024x1024 .f32) (o : Fin 2) : sel i (xH x0 o) (xH x1 o) = xH (sel i x0 x1) o :=
  sel_map (fun z => xH z o) i x0 x1

/-- The first half's opening product. -/
theorem a_first (i : grid0.Coords) (x0 x1 : Vec Ideal S1024x1024 .f32) (x2 : Vec Ideal S1x1x9216 .f32) (x3 : Vec Ideal S8x1024 .f32) (x4 : Vec Ideal S1x1x1024x5632 .bf16)
    (x5 : Vec Ideal S1x1x2816x1024 .bf16) :
    k0_pay4 i (View.ld x0 r0_0) (View.ld x1 r0_0) (View.ld x3 r0_1) (View.ld x2 r0_2) (View.ld x2 r0_3) (View.ld x4 r0_4)
      = vproj (k0_pay58 i x0 x1 x2 x3 x4 x5) (colA x4 0) := rfl

/-- The body's two stores. -/
theorem out_eq (i : grid0.Coords) (x0 x1 : Vec Ideal S1024x1024 .f32) (x2 : Vec Ideal S1x1x9216 .f32) (x3 : Vec Ideal S8x1024 .f32) (x4 : Vec Ideal S1x1x1024x5632 .bf16)
    (x5 : Vec Ideal S1x1x2816x1024 .bf16) :
    out0_6 i x0 x1 x2 x3 x4 x5 = View.canon [⟨r0_6, half (sel i x0 x1) x2 x3 x4 x5 1⟩, ⟨r0_0, half (sel i x0 x1) x2 x3 x4 x5 0⟩] := by
  unfold out0_6 half pre
  rw [a_first i x0 x1 x2 x3 x4 x5, u_first, u_second, x_first i x0 x1 x2 x3 x4 x5, x_second i x0 x1 x2 x3 x4 x5, x_sel, x_sel]
  generalize vmodnorm (xH (sel i x0 x1) 0) (sc x3 0) (md x2 1) (md x2 0) = u0
  generalize vmodnorm (xH (sel i x0 x1) 1) (sc x3 0) (md x2 1) (md x2 0) = u1
  generalize xH (sel i x0 x1) 0 = p0
  generalize xH (sel i x0 x1) 1 = p1
  rfl

theorem out_at (i : grid0.Coords) (x0 x1 : Vec Ideal S1024x1024 .f32) (x2 : Vec Ideal S1x1x9216 .f32) (x3 : Vec Ideal S8x1024 .f32) (x4 : Vec Ideal S1x1x1024x5632 .bf16)
    (x5 : Vec Ideal S1x1x2816x1024 .bf16) (y : S1024x1024.Idx) :
    out0_6 i x0 x1 x2 x3 x4 x5 y = rowOut (sel i x0 x1) x2 x3 x4 x5 (y 0) (y 1) := by
  rw [out_eq]
  canon_tiles x h
  · exact half_at (sel i x0 x1) x2 x3 x4 x5 1 x (y 0) (y 1) (by dsimp only [Fin.isValue, Fin.coe_ofNat_eq_mod]; omega) (by omega)
  · exact half_at (sel i x0 x1) x2 x3 x4 x5 0 x (y 0) (y 1) (by dsimp only [Fin.isValue, Fin.coe_ofNat_eq_mod]; omega) (by omega)

end Cert.FfnFirstIdeal.Steps

end
-- ==== Proof.FfnFirstRef.lean ====
/- The first layer's first feed-forward in the reference: as a later layer's, with its own weights. -/
module

public import proofs.«01_k».proof.Proof.FfnARef
public import proofs.«01_k».proof.Proof.Gen.FfnFirstRefIdeal.Run
public import Idealize.ShloMosaic.Lib.StableHlo.Run
public import Idealize.ShloMosaic.Lib.Pipeline.ValueKit
public import Idealize.ShloMosaic.Lib.Pointwise

@[expose] public section

set_option maxRecDepth 16384

noncomputable section

namespace Cert.FfnFirstRefIdeal.Rows

open FfnFirstRefIdeal FfnFirstRefIdeal.Gen Idealize.ShloMosaic Idealize.ShloMosaic.TcCoe Idealize.SL.Sem Idealize.ShloMosaic.StableHlo Cert.Ffn
open Cert.FfnLastRefIdeal.Rows (layerL layerL_at)
open Cert.FfnARefIdeal.Rows (layerC layerC_at md0 md1 md2 mc0 mc1 mc2 gs0 gs1 stack md0_at md1_at md2_at mc0_at mc1_at mc2_at gs0_at gs1_at stack_lat stack_ctx)

/-- The first layer's first feed-forward's weights. -/
def w1 (w : FVec Ideal S4x2x1024x5632 .f32) : FVec Ideal S1024x5632 .f32 :=
  shapeCast _ (extractStridedSlice S1x1x1024x5632 ![0, 0, 0, 0] w slices_S4x2x1024x5632_S1x1x1024x5632_0_0_0_0) shapeCasts_S1x1x1024x5632_S1024x5632
def w2 (w : FVec Ideal S4x2x2816x1024 .f32) : FVec Ideal S2816x1024 .f32 :=
  shapeCast _ (extractStridedSlice S1x1x2816x1024 ![0, 0, 0, 0] w slices_S4x2x2816x1024_S1x1x2816x1024_0_0_0_0) shapeCasts_S1x1x2816x1024_S2816x1024

theorem w1_at (w : FVec Ideal S4x2x1024x5632 .f32) (d : Fin 1024) (f : Fin 5632) : w1 w (ix2 d f) = w (ix4 0 0 d f) := by
  pointwise [w1]
theorem w2_at (w : FVec Ideal S4x2x2816x1024 .f32) (f : Fin 2816) (j : Fin 1024) : w2 w (ix2 f j) = w (ix4 0 0 f j) := by
  pointwise [w2]

/-- The reference's result. -/
def REF (x : FVec Ideal S8x4096x1024 .f32) (xc : FVec Ideal S8x256x1024 .f32) (mod : FVec Ideal S8x9x1024 .f32) (modc : FVec Ideal S9x1024 .f32)
    (g : FVec Ideal S6x1024 .f32) (wi : FVec Ideal S4x2x1024x5632 .f32) (wo : FVec Ideal S4x2x2816x1024 .f32) : FVec Ideal S34816x1024 .f32 :=
  stack (layerL x (gs0 g) (md1 mod) (md0 mod) (gs1 g) (md2 mod) (w1 wi) (w2 wo))
    (layerC xc (gs0 g) (mc1 modc) (mc0 modc) (gs1 g) (mc2 modc) (w1 wi) (w2 wo))

theorem REF_lat (x : FVec Ideal S8x4096x1024 .f32) (xc : FVec Ideal S8x256x1024 .f32) (mod : FVec Ideal S8x9x1024 .f32) (modc : FVec Ideal S9x1024 .f32)
    (g : FVec Ideal S6x1024 .f32) (wi : FVec Ideal S4x2x1024x5632 .f32) (wo : FVec Ideal S4x2x2816x1024 .f32)
    (s : Fin 34816) (b : Fin 8) (i : Fin 4096) (j : Fin 1024) (hs : s.val < 32768) (hb : b.val = s.val / 4096)
    (hi : i.val = s.val % 4096) :
    REF x xc mod modc g wi wo (ix2 s j)
      = layer (fun d => x (ix3 b i d)) (fun d => g (ix2 0 d)) (fun d => mod (ix3 b 1 d)) (fun d => mod (ix3 b 0 d)) (fun d => g (ix2 1 d))
          (fun d => mod (ix3 b 2 d)) (fun d f => wi (ix4 0 0 d f)) (fun f j => wo (ix4 0 0 f j)) j := by
  have eb : b = ⟨s.val / 4096, by omega⟩ := Fin.ext hb
  have ei : i = ⟨s.val % 4096, by omega⟩ := Fin.ext hi
  rw [REF, stack_lat _ _ _ _ hs, ← eb, ← ei, layerL_at]
  simp only [md0_at, md1_at, md2_at, gs0_at, gs1_at, w1_at, w2_at]

theorem REF_ctx (x : FVec Ideal S8x4096x1024 .f32) (xc : FVec Ideal S8x256x1024 .f32) (mod : FVec Ideal S8x9x1024 .f32) (modc : FVec Ideal S9x1024 .f32)
    (g : FVec Ideal S6x1024 .f32) (wi : FVec Ideal S4x2x1024x5632 .f32) (wo : FVec Ideal S4x2x2816x1024 .f32)
    (s : Fin 34816) (b : Fin 8) (i : Fin 256) (j : Fin 1024) (hs : ¬ s.val < 32768) (hb : b.val = (s.val - 32768) / 256)
    (hi : i.val = (s.val - 32768) % 256) :
    REF x xc mod modc g wi wo (ix2 s j)
      = layer (fun d => xc (ix3 b i d)) (fun d => g (ix2 0 d)) (fun d => modc (ix2 1 d)) (fun d => modc (ix2 0 d)) (fun d => g (ix2 1 d))
          (fun d => modc (ix2 2 d)) (fun d f => wi (ix4 0 0 d f)) (fun f j => wo (ix4 0 0 f j)) j := by
  have eb : b = ⟨(s.val - 32768) / 256, by omega⟩ := Fin.ext hb
  have ei : i = ⟨(s.val - 32768) % 256, by omega⟩ := Fin.ext hi
  rw [REF, stack_ctx _ _ _ _ hs, ← eb, ← ei, layerC_at]
  simp only [mc0_at, mc1_at, mc2_at, gs0_at, gs1_at, w1_at, w2_at]

end Cert.FfnFirstRefIdeal.Rows

end
-- ==== Proof.FfnFirstValue.lean ====
/- The blocks the body of the first layer's first feed-forward reads at a grid point, in terms of the arguments; its result is the reference's. -/
module

public import proofs.«01_k».proof.Proof.FfnFirstOut
public import proofs.«01_k».proof.Proof.FfnLastEntry
public import proofs.«01_k».proof.Proof.FfnFirstRef

@[expose] public section

set_option maxRecDepth 16384

noncomputable section

namespace Cert.FfnFirstIdeal.Steps

open Cert.FfnFirstIdeal Cert.FfnFirstIdeal.Gen Idealize.ShloMosaic Idealize.ShloMosaic.TcCoe Idealize.SL.Sem Cert.Ffn
open Cert.FfnFirstRefIdeal.Rows (REF REF_lat REF_ctx)
open Cert.FfnAIdeal.Steps (rowOut)
open Cert.FfnLastIdeal.Steps (modArr scArr modArr_at modArr_ctx scArr_at)

variable (m : (ℓ : Loc nD τ sig) → Buf (Elt Ideal) ℓ)

/-- The latent and the context rows. -/
def latArr (x : FVec Ideal S8x4096x1024 .f32) : FVec Ideal S32768x1024 .f32 := shapeCast S32768x1024 x shapeCasts_S8x4096x1024_S32768x1024
def ctxArr (x : FVec Ideal S8x256x1024 .f32) : FVec Ideal S2048x1024 .f32 := shapeCast S2048x1024 x shapeCasts_S8x256x1024_S2048x1024

theorem latArr_at (x : FVec Ideal S8x4096x1024 .f32) (s : Fin 32768) (d : Fin 1024) :
    latArr x (ix2 s d) = x (ix3 ⟨s.val / 4096, by omega⟩ ⟨s.val % 4096, by omega⟩ d) := by
  pointwise [latArr]
theorem ctxArr_at (x : FVec Ideal S8x256x1024 .f32) (s : Fin 2048) (d : Fin 1024) :
    ctxArr x (ix2 s d) = x (ix3 ⟨s.val / 256, by omega⟩ ⟨s.val % 256, by omega⟩ d) := by
  pointwise [ctxArr]

theorem v0_eq (c : Dev nD) : V m c main_v0 = latArr (m ((c : Thread nD τ).loc main_arg0)) := by
  entry_read
  rfl

theorem v1_eq (c : Dev nD) : V m c main_v1 = ctxArr (m ((c : Thread nD τ).loc main_arg1)) := by
  entry_read
  rfl

theorem v6_eq (c : Dev nD) : V m c main_v6 = modArr (m ((c : Thread nD τ).loc main_arg2)) (m ((c : Thread nD τ).loc main_arg3)) := by
  entry_read
  rfl

theorem v8_eq (c : Dev nD) : V m c main_v8 = scArr (m ((c : Thread nD τ).loc main_arg4)) := by
  entry_read
  rfl

theorem v9_eq (c : Dev nD) : V m c main_v9 = (truncf .bf16 (m ((c : Thread nD τ).loc main_arg5) : FVec Ideal S4x2x1024x5632 .f32) bitsLt_bf16_f32 : FVec Ideal S4x2x1024x5632 .bf16) := by
  entry_read
  rfl

theorem v10_eq (c : Dev nD) : V m c main_v10 = (truncf .bf16 (m ((c : Thread nD τ).loc main_arg6) : FVec Ideal S4x2x2816x1024 .f32) bitsLt_bf16_f32 : FVec Ideal S4x2x2816x1024 .bf16) := by
  entry_read
  rfl

theorem t_lt (t : Fin cfg0.N) : t.val < 34 := lt_of_lt_of_eq t.isLt (by decide +kernel)

/-- The batch row of a latent grid point, and the place in it of row `r` of the point's block. -/
def bO (t : Fin cfg0.N) (h : t.val < 32) : Fin 8 := ⟨t.val / 4, by omega⟩
def iO (t : Fin cfg0.N) (r : Fin 1024) : Fin 4096 := ⟨1024 * (t.val % 4) + r.val, by omega⟩
/-- The same of a context grid point. -/
def bC (t : Fin cfg0.N) (r : Fin 1024) : Fin 8 := ⟨4 * (t.val - 32) + r.val / 256, by have := t_lt t; omega⟩
def iC (r : Fin 1024) : Fin 256 := ⟨r.val % 256, by omega⟩
/-- The row of the modulation's table a grid point uses. -/
def row (t : Fin cfg0.N) : Fin 16 := ⟨if t.val < 32 then t.val / 4 else 8, by split <;> omega⟩

theorem idx : ∀ t : Fin cfg0.N, win0_0.index t = ![min t.val 31, 0] ∧ win0_1.index t = ![t.val - 32, 0] ∧ win0_2.index t = ![(row t).val, 0, 0]
    ∧ win0_3.index t = ![0, 0] ∧ win0_4.index t = ![0, 0, 0, 0] ∧ win0_5.index t = ![0, 0, 0, 0] ∧ win0_6.index t = ![t.val, 0] :=
  (by decide +kernel : ∀ t : Fin grid0.N, _)

theorem emb0 (t : Fin cfg0.N) (h : t.val < 32) (r d : Fin 1024) :
    (win0_0.blk t).view.emb (ix2 r d) = (ix2 ⟨1024 * t.val + r.val, by omega⟩ d : S32768x1024.Idx) := by
  have hm : min t.val 31 = t.val := by omega
  blk_ext [idx t, hm]

theorem embC (t : Fin cfg0.N) (h : ¬ t.val < 32) (r d : Fin 1024) :
    (win0_1.blk t).view.emb (ix2 r d) = (ix2 ⟨1024 * (t.val - 32) + r.val, by have := t_lt t; omega⟩ d : S2048x1024.Idx) := by
  have ht := t_lt t
  blk_ext [idx t]

theorem emb2 (t : Fin cfg0.N) (l : Fin 9216) : (win0_2.blk t).view.emb (ix3 0 0 l) = (ix3 (row t) 0 l : S16x1x9216.Idx) := by
  blk_ext [idx t]

theorem emb3 (t : Fin cfg0.N) (k : Fin 8) (d : Fin 1024) : (win0_3.blk t).view.emb (ix2 k d) = (ix2 k d : S8x1024.Idx) := by
  blk_ext [idx t]

theorem emb4 (t : Fin cfg0.N) (d : Fin 1024) (f : Fin 5632) : (win0_4.blk t).view.emb (ix4 0 0 d f) = (ix4 0 0 d f : S4x2x1024x5632.Idx) := by
  blk_ext [idx t]

theorem emb5 (t : Fin cfg0.N) (f : Fin 2816) (j : Fin 1024) : (win0_5.blk t).view.emb (ix4 0 0 f j) = (ix4 0 0 f j : S4x2x2816x1024.Idx) := by
  blk_ext [idx t]

theorem emb6 (t : Fin cfg0.N) (r j : Fin 1024) :
    (win0_6.blk t).view.emb (ix2 r j) = (ix2 ⟨1024 * t.val + r.val, by have := t_lt t; omega⟩ j : S34816x1024.Idx) := by
  have ht := t_lt t
  blk_ext [idx t]

/-- The rows. -/
theorem blk0 (c : Dev nD) (t : Fin cfg0.N) (h : t.val < 32) (r d : Fin 1024) :
    (iblk m c 0 t : FVec Ideal S1024x1024 .f32) (ix2 r d)
      = (m ((c : Thread nD τ).loc main_arg0) : FVec Ideal S8x4096x1024 .f32) (ix3 (bO t h) (iO t r) d) := by
  blk_simp [iblk]
  rw [emb0 t h, v0_eq, latArr_at]
  blk_ext [bO, iO]

theorem blk0c (c : Dev nD) (t : Fin cfg0.N) (h : ¬ t.val < 32) (r d : Fin 1024) :
    (iblk m c 1 t : FVec Ideal S1024x1024 .f32) (ix2 r d)
      = (m ((c : Thread nD τ).loc main_arg1) : FVec Ideal S8x256x1024 .f32) (ix3 (bC t r) (iC r) d) := by
  have ht := t_lt t
  blk_simp [iblk]
  rw [embC t h, v1_eq, ctxArr_at]
  blk_ext [bC, iC]

/-- The modulation. -/
theorem blk2 (c : Dev nD) (t : Fin cfg0.N) (h : t.val < 32) (k : Fin 9) (d : Fin 1024) (l : Fin 9216) (hl : l.val = 1024 * k.val + d.val) :
    (iblk m c 2 t : FVec Ideal S1x1x9216 .f32) (ix3 0 0 l) = (m ((c : Thread nD τ).loc main_arg2) : FVec Ideal S8x9x1024 .f32) (ix3 (bO t h) k d) := by
  have hr : (row t).val = t.val / 4 := if_pos h
  blk_simp [iblk]
  rw [emb2, v6_eq, modArr_at _ _ _ _ (by omega)]
  blk_ext [bO, hr]

theorem blk2c (c : Dev nD) (t : Fin cfg0.N) (h : ¬ t.val < 32) (k : Fin 9) (d : Fin 1024) (l : Fin 9216) (hl : l.val = 1024 * k.val + d.val) :
    (iblk m c 2 t : FVec Ideal S1x1x9216 .f32) (ix3 0 0 l) = (m ((c : Thread nD τ).loc main_arg3) : FVec Ideal S9x1024 .f32) (ix2 k d) := by
  blk_simp [iblk]
  rw [emb2, v6_eq, modArr_ctx _ _ _ _ (if_neg h)]
  blk_ext []

/-- The norms' scales. -/
theorem blk3 (c : Dev nD) (t : Fin cfg0.N) (k : Fin 8) (d : Fin 1024) (k' : Fin 6) (hk : k.val = k'.val) :
    (iblk m c 3 t : FVec Ideal S8x1024 .f32) (ix2 k d) = (m ((c : Thread nD τ).loc main_arg4) : FVec Ideal S6x1024 .f32) (ix2 k' d) := by
  blk_simp [iblk]
  rw [emb3, v8_eq, scArr_at _ _ _ (by omega)]
  blk_ext []

/-- The weights. -/
theorem blk4 (c : Dev nD) (t : Fin cfg0.N) (d : Fin 1024) (f : Fin 5632) :
    (iblk m c 4 t : FVec Ideal S1x1x1024x5632 .bf16) (ix4 0 0 d f) = (m ((c : Thread nD τ).loc main_arg5) : FVec Ideal S4x2x1024x5632 .f32) (ix4 0 0 d f) := by
  blk_simp [iblk]
  rw [emb4, v9_eq]
  rfl

theorem blk5 (c : Dev nD) (t : Fin cfg0.N) (f : Fin 2816) (j : Fin 1024) :
    (iblk m c 5 t : FVec Ideal S1x1x2816x1024 .bf16) (ix4 0 0 f j) = (m ((c : Thread nD τ).loc main_arg6) : FVec Ideal S4x2x2816x1024 .f32) (ix4 0 0 f j) := by
  blk_simp [iblk]
  rw [emb5, v10_eq]
  rfl

/-- The reference's result at the arguments. -/
abbrev refAt (c : Dev nD) : FVec Ideal S34816x1024 .f32 :=
  REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem point (c : Dev nD) (t : Fin cfg0.N) (y : S1024x1024.Idx) :
    out0_6 (grid0.coords t) (iblk m c 0 t) (iblk m c 1 t) (iblk m c 2 t) (iblk m c 3 t) (iblk m c 4 t) (iblk m c 5 t) y = refAt m c ((win0_6.blk t).view.emb y) := by
  obtain ⟨r, j, rfl⟩ : ∃ r j : Fin 1024, y = ix2 r j := ⟨y 0, y 1, eq_ix2 y⟩
  have ht := t_lt t
  rw [out_at]
  change rowOut _ _ _ _ _ r j = _
  unfold rowOut refAt
  rw [emb6]
  by_cases h : t.val < 32
  · rw [sel_lat t h, REF_lat _ _ _ _ _ _ _ _ (bO t h) (iO t r) _ (by dsimp only; omega) (by simp only [bO]; omega) (by simp only [iO]; omega)]
    simp only [blk0 m c t h, blk4, blk5]
    simp only [blk2 m c t h 0 _ ⟨0 + _, _⟩ rfl, blk2 m c t h 1 _ ⟨1024 + _, _⟩ rfl, blk2 m c t h 2 _ ⟨2048 + _, _⟩ rfl,
      blk3 m c t 0 _ 0 rfl, blk3 m c t 1 _ 1 rfl]
  · rw [sel_ctx t h, REF_ctx _ _ _ _ _ _ _ _ (bC t r) (iC r) _ (by dsimp only; omega) (by simp only [bC]; omega) (by simp only [iC]; omega)]
    simp only [blk0c m c t h, blk4, blk5]
    simp only [blk2c m c t h 0 _ ⟨0 + _, _⟩ rfl, blk2c m c t h 1 _ ⟨1024 + _, _⟩ rfl, blk2c m c t h 2 _ ⟨2048 + _, _⟩ rfl,
      blk3 m c t 0 _ 0 rfl, blk3 m c t 1 _ 1 rfl]

/-- What the kernel leaves in the result is the reference's array. -/
theorem final (c : Dev nD) : (dats m 0 c).arrAt 6 cfg0.N = refAt m c := by
  refine (dats m 0 c).arrAt_eq_of_covers 6 _ (by decide +kernel) fun t hf y => ?_
  blk_simp
  rw [after0_6]
  exact point m c t y

end Cert.FfnFirstIdeal.Steps

end
-- ==== Proof.FfnFirstClaim.lean ====
/- The claims about the first layer's first feed-forward call. -/
module

public import proofs.«01_k».proof.Defs
public import proofs.«01_k».proof.Proof.FfnFirstValue
public import proofs.«01_k».proof.Proof.Gen.FfnFirstIdeal.Frame
public import proofs.«01_k».proof.Proof.Gen.FfnFirstRefIdeal.Run
public import proofs.«01_k».proof.Proof.Gen.FfnFirst.Frame
public import Idealize.ShloMosaic.Lib.Claim

@[expose] public section

noncomputable section

namespace Cert.Proof.FfnFirst

open Idealize.ShloMosaic Idealize.SL.Sem

/-- No operation is replaced. -/
theorem preserves : Cert.preserves_FfnFirst_FfnFirstIdeal := trivial

/-- The kernel keeps its arguments and ends with every semaphore counter at zero. -/
theorem quiescent : Cert.quiescent_FfnFirst := fun m ρ _ => Cert.FfnFirst.Gen.frame m ρ

theorem quiescent_ideal : Cert.quiescent_FfnFirstIdeal := fun m ρ _ => Cert.FfnFirstIdeal.Gen.frame m ρ

/-- The reference keeps its arguments; it declares no semaphore. -/
theorem quiescent_ref : Cert.quiescent_FfnFirstRefIdeal := fun m ρ _ =>
  (θ_run Cert.FfnFirstRefIdeal.defs _ _).mono (fun r h => ⟨fun c => (h c).2, sem_eq_zero_of_no_sems (by decide) r.2⟩)
    (Cert.FfnFirstRefIdeal.Value.run (F := Ideal) m ρ)

/-- Kernel and reference compute the same layer. -/
theorem algebraic : Cert.algebraic_FfnFirstIdeal_FfnFirstRefIdeal := by
  pair_intro
  · run_from Cert.FfnFirstIdeal.Gen.run_main m g
    exacts [Cert.FfnFirstIdeal.Gen.V_main_arg0 m _, Cert.FfnFirstIdeal.Gen.V_main_arg1 m _, Cert.FfnFirstIdeal.Gen.V_main_arg2 m _, Cert.FfnFirstIdeal.Gen.V_main_arg3 m _, Cert.FfnFirstIdeal.Gen.V_main_arg4 m _, Cert.FfnFirstIdeal.Gen.V_main_arg5 m _, Cert.FfnFirstIdeal.Gen.V_main_arg6 m _]
  · run_from Cert.FfnFirstRefIdeal.Value.run m' g'
    obtain ⟨a0, a1, a2, a3, a4, a5, a6⟩ := hagree c
    refine Eq.trans ?_ (Cert.FfnFirstIdeal.Steps.final m c).symm
    change Cert.FfnFirstRefIdeal.Rows.REF (m' ((c.tc : Thread Cert.FfnFirstRefIdeal.nD Cert.FfnFirstRefIdeal.τ).loc Cert.FfnFirstRefIdeal.main_arg0))
      (m' ((c.tc : Thread Cert.FfnFirstRefIdeal.nD Cert.FfnFirstRefIdeal.τ).loc Cert.FfnFirstRefIdeal.main_arg1))
      (m' ((c.tc : Thread Cert.FfnFirstRefIdeal.nD Cert.FfnFirstRefIdeal.τ).loc Cert.FfnFirstRefIdeal.main_arg2))
      (m' ((c.tc : Thread Cert.FfnFirstRefIdeal.nD Cert.FfnFirstRefIdeal.τ).loc Cert.FfnFirstRefIdeal.main_arg3))
      (m' ((c.tc : Thread Cert.FfnFirstRefIdeal.nD Cert.FfnFirstRefIdeal.τ).loc Cert.FfnFirstRefIdeal.main_arg4))
      (m' ((c.tc : Thread Cert.FfnFirstRefIdeal.nD Cert.FfnFirstRefIdeal.τ).loc Cert.FfnFirstRefIdeal.main_arg5))
      (m' ((c.tc : Thread Cert.FfnFirstRefIdeal.nD Cert.FfnFirstRefIdeal.τ).loc Cert.FfnFirstRefIdeal.main_arg6)) = _
    rw [a0, a1, a2, a3, a4, a5, a6]

end Cert.Proof.FfnFirst

end
-- ==== Proof.MlaSteps.lean ====
/- The latent attention kernel's body, one trip of its loop: a pair of heads, each by the recurrence of the grouped-query attention's body (context
   keys first, then eight chunks of latent keys), the pair's value block shared; the trip stores the even head's quotient in the lower 64 lanes and the odd
   head's in the upper 64. -/
module

public import proofs.«01_k».proof.Proof.Gen.MlaIdeal.Value
public import proofs.«01_k».proof.Proof.GqaRows

@[expose] public section

set_option maxRecDepth 16384
set_option synthInstance.maxSize 4096

noncomputable section

namespace Cert.MlaIdeal.Steps

open Cert.MlaIdeal Cert.MlaIdeal.Gen Idealize.ShloMosaic Idealize.ShloMosaic.TcCoe Idealize.SL.Sem
open Cert.GqaIdeal.Steps (sc256 sc512 mx0 rm mxv ex0 pr ac0 st fin M A seq8)

variable {F : FTy → Type} [FloatOps F] [Named F]

/-- What a trip stores of its two heads' quotients. -/
def pair (a b : FVec F S1024x128 .f32) : FVec F S1x1024x128 .bf16 :=
  shapeCast S1x1024x128 (truncf .bf16 (select (cmpi .slt (iota .tc S1024x128 32 [1] iota_S1024x128_d1_w32) (broadcast S1024x128 64#32)) a b) bitsLt_bf16_f32)
    shapeCasts_S1024x128_S1x1024x128

section Trip

variable (arg3 : Memref sig .tc .vmem S8x1024x128 .f32) (arg4 : Memref sig .tc .vmem S8x256x128 .bf16) (arg5 : Memref sig .tc .vmem S4x256x128 .bf16)
  (arg6 : Memref sig .tc .vmem S8x4096x128 .bf16) (arg7 : Memref sig .tc .vmem S4x4096x128 .bf16)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty) (k : Fin k0_t1_loop.trips)

/-- The even head’s query rows, scaled. -/
def qE : FVec F S1024x128 .bf16 :=
  k0_pay2 (View.readAt (Elt F) arg3.view (Rect.unit (s := S8x1024x128) (k0_off1 k 0#32) S1x1024x128.size (k0_off1_inb k 0)).toLoadRect X3)

/-- The even head’s context keys. -/
def kcE : Vec F S1x256x128 .bf16 :=
  View.readAt (Elt F) arg4.view (Rect.unit (s := S8x256x128) (k0_off2 k 0#32) S1x256x128.size (k0_off2_inb k 0)).toLoadRect X4

/-- The even head’s latent keys, chunk by chunk. -/
def ksE : ℕ → Vec F S1x512x128 .bf16 :=
  seq8 (View.readAt (Elt F) arg6.view (Rect.unit (s := S8x4096x128) (k0_off3 k 0#32) S1x512x128.size (k0_off3_inb k 0)).toLoadRect X6)
    (View.readAt (Elt F) arg6.view (Rect.unit (s := S8x4096x128) (k0_off5 k 0#32) S1x512x128.size (k0_off5_inb k 0)).toLoadRect X6)
    (View.readAt (Elt F) arg6.view (Rect.unit (s := S8x4096x128) (k0_off7 k 0#32) S1x512x128.size (k0_off7_inb k 0)).toLoadRect X6)
    (View.readAt (Elt F) arg6.view (Rect.unit (s := S8x4096x128) (k0_off9 k 0#32) S1x512x128.size (k0_off9_inb k 0)).toLoadRect X6)
    (View.readAt (Elt F) arg6.view (Rect.unit (s := S8x4096x128) (k0_off11 k 0#32) S1x512x128.size (k0_off11_inb k 0)).toLoadRect X6)
    (View.readAt (Elt F) arg6.view (Rect.unit (s := S8x4096x128) (k0_off13 k 0#32) S1x512x128.size (k0_off13_inb k 0)).toLoadRect X6)
    (View.readAt (Elt F) arg6.view (Rect.unit (s := S8x4096x128) (k0_off15 k 0#32) S1x512x128.size (k0_off15_inb k 0)).toLoadRect X6)
    (View.readAt (Elt F) arg6.view (Rect.unit (s := S8x4096x128) (k0_off17 k 0#32) S1x512x128.size (k0_off17_inb k 0)).toLoadRect X6)

/-- The odd head’s query rows, scaled. -/
def qO : FVec F S1024x128 .bf16 :=
  k0_pay24 (View.readAt (Elt F) arg3.view (Rect.unit (s := S8x1024x128) (k0_off1 k 1#32) S1x1024x128.size (k0_off1_inb k 1)).toLoadRect X3)

/-- The odd head’s context keys. -/
def kcO : Vec F S1x256x128 .bf16 :=
  View.readAt (Elt F) arg4.view (Rect.unit (s := S8x256x128) (k0_off2 k 1#32) S1x256x128.size (k0_off2_inb k 1)).toLoadRect X4

/-- The odd head’s latent keys, chunk by chunk. -/
def ksO : ℕ → Vec F S1x512x128 .bf16 :=
  seq8 (View.readAt (Elt F) arg6.view (Rect.unit (s := S8x4096x128) (k0_off3 k 1#32) S1x512x128.size (k0_off3_inb k 1)).toLoadRect X6)
    (View.readAt (Elt F) arg6.view (Rect.unit (s := S8x4096x128) (k0_off5 k 1#32) S1x512x128.size (k0_off5_inb k 1)).toLoadRect X6)
    (View.readAt (Elt F) arg6.view (Rect.unit (s := S8x4096x128) (k0_off7 k 1#32) S1x512x128.size (k0_off7_inb k 1)).toLoadRect X6)
    (View.readAt (Elt F) arg6.view (Rect.unit (s := S8x4096x128) (k0_off9 k 1#32) S1x512x128.size (k0_off9_inb k 1)).toLoadRect X6)
    (View.readAt (Elt F) arg6.view (Rect.unit (s := S8x4096x128) (k0_off11 k 1#32) S1x512x128.size (k0_off11_inb k 1)).toLoadRect X6)
    (View.readAt (Elt F) arg6.view (Rect.unit (s := S8x4096x128) (k0_off13 k 1#32) S1x512x128.size (k0_off13_inb k 1)).toLoadRect X6)
    (View.readAt (Elt F) arg6.view (Rect.unit (s := S8x4096x128) (k0_off15 k 1#32) S1x512x128.size (k0_off15_inb k 1)).toLoadRect X6)
    (View.readAt (Elt F) arg6.view (Rect.unit (s := S8x4096x128) (k0_off17 k 1#32) S1x512x128.size (k0_off17_inb k 1)).toLoadRect X6)

/-- The pair’s context values. -/
def vcB : Vec F S1x256x128 .bf16 :=
  View.readAt (Elt F) arg5.view (Rect.unit (s := S4x256x128) (k0_off4 k) S1x256x128.size (k0_off4_inb k)).toLoadRect X5

/-- The pair’s latent values, chunk by chunk. -/
def vsB : ℕ → Vec F S1x512x128 .bf16 :=
  seq8 (View.readAt (Elt F) arg7.view (Rect.unit (s := S4x4096x128) (k0_off6 k) S1x512x128.size (k0_off6_inb k)).toLoadRect X7)
    (View.readAt (Elt F) arg7.view (Rect.unit (s := S4x4096x128) (k0_off8 k) S1x512x128.size (k0_off8_inb k)).toLoadRect X7)
    (View.readAt (Elt F) arg7.view (Rect.unit (s := S4x4096x128) (k0_off10 k) S1x512x128.size (k0_off10_inb k)).toLoadRect X7)
    (View.readAt (Elt F) arg7.view (Rect.unit (s := S4x4096x128) (k0_off12 k) S1x512x128.size (k0_off12_inb k)).toLoadRect X7)
    (View.readAt (Elt F) arg7.view (Rect.unit (s := S4x4096x128) (k0_off14 k) S1x512x128.size (k0_off14_inb k)).toLoadRect X7)
    (View.readAt (Elt F) arg7.view (Rect.unit (s := S4x4096x128) (k0_off16 k) S1x512x128.size (k0_off16_inb k)).toLoadRect X7)
    (View.readAt (Elt F) arg7.view (Rect.unit (s := S4x4096x128) (k0_off18 k) S1x512x128.size (k0_off18_inb k)).toLoadRect X7)
    (View.readAt (Elt F) arg7.view (Rect.unit (s := S4x4096x128) (k0_off19 k) S1x512x128.size (k0_off19_inb k)).toLoadRect X7)

theorem sE0 : (trip_k0_t1.sl.r_1 arg3 arg6 X3 X6 k) = (sc512 (qE arg3 X3 k) ((ksE arg6 X6 k) 0)) := rfl
theorem sE1 : (trip_k0_t1.sl.r_4 arg3 arg6 X3 X6 k) = (sc512 (qE arg3 X3 k) ((ksE arg6 X6 k) 1)) := rfl
theorem sE2 : (trip_k0_t1.sl.v57 arg3 arg6 X3 X6 k) = (sc512 (qE arg3 X3 k) ((ksE arg6 X6 k) 2)) := rfl
theorem sE3 : (trip_k0_t1.sl.v79 arg3 arg6 X3 X6 k) = (sc512 (qE arg3 X3 k) ((ksE arg6 X6 k) 3)) := rfl
theorem sE4 : (trip_k0_t1.sl.v101 arg3 arg6 X3 X6 k) = (sc512 (qE arg3 X3 k) ((ksE arg6 X6 k) 4)) := rfl
theorem sE5 : (trip_k0_t1.sl.v123 arg3 arg6 X3 X6 k) = (sc512 (qE arg3 X3 k) ((ksE arg6 X6 k) 5)) := rfl
theorem sE6 : (trip_k0_t1.sl.v145 arg3 arg6 X3 X6 k) = (sc512 (qE arg3 X3 k) ((ksE arg6 X6 k) 6)) := rfl
theorem sE7 : (trip_k0_t1.sl.v167 arg3 arg6 X3 X6 k) = (sc512 (qE arg3 X3 k) ((ksE arg6 X6 k) 7)) := rfl

theorem mE0 : (trip_k0_t1.sl.r_2 arg3 arg4 X3 X4 k) = (M (qE arg3 X3 k) (kcE arg4 X4 k) (ksE arg6 X6 k) 0) := rfl
theorem mE1 : (trip_k0_t1.sl.r_5 arg3 arg4 arg6 X3 X4 X6 k) = (M (qE arg3 X3 k) (kcE arg4 X4 k) (ksE arg6 X6 k) 1) := by
  change mxv (trip_k0_t1.sl.r_2 arg3 arg4 X3 X4 k) (rm (trip_k0_t1.sl.r_1 arg3 arg6 X3 X6 k)) = mxv (M (qE arg3 X3 k) (kcE arg4 X4 k) (ksE arg6 X6 k) 0) (rm (sc512 (qE arg3 X3 k) ((ksE arg6 X6 k) 0)))
  rw [mE0, sE0]
theorem mE2 : (trip_k0_t1.sl.v60 arg3 arg4 arg6 X3 X4 X6 k) = (M (qE arg3 X3 k) (kcE arg4 X4 k) (ksE arg6 X6 k) 2) := by
  change mxv (trip_k0_t1.sl.r_5 arg3 arg4 arg6 X3 X4 X6 k) (rm (trip_k0_t1.sl.r_4 arg3 arg6 X3 X6 k)) = mxv (M (qE arg3 X3 k) (kcE arg4 X4 k) (ksE arg6 X6 k) 1) (rm (sc512 (qE arg3 X3 k) ((ksE arg6 X6 k) 1)))
  rw [mE1, sE1]
theorem mE3 : (trip_k0_t1.sl.v82 arg3 arg4 arg6 X3 X4 X6 k) = (M (qE arg3 X3 k) (kcE arg4 X4 k) (ksE arg6 X6 k) 3) := by
  change mxv (trip_k0_t1.sl.v60 arg3 arg4 arg6 X3 X4 X6 k) (rm (trip_k0_t1.sl.v57 arg3 arg6 X3 X6 k)) = mxv (M (qE arg3 X3 k) (kcE arg4 X4 k) (ksE arg6 X6 k) 2) (rm (sc512 (qE arg3 X3 k) ((ksE arg6 X6 k) 2)))
  rw [mE2, sE2]
theorem mE4 : (trip_k0_t1.sl.v104 arg3 arg4 arg6 X3 X4 X6 k) = (M (qE arg3 X3 k) (kcE arg4 X4 k) (ksE arg6 X6 k) 4) := by
  change mxv (trip_k0_t1.sl.v82 arg3 arg4 arg6 X3 X4 X6 k) (rm (trip_k0_t1.sl.v79 arg3 arg6 X3 X6 k)) = mxv (M (qE arg3 X3 k) (kcE arg4 X4 k) (ksE arg6 X6 k) 3) (rm (sc512 (qE arg3 X3 k) ((ksE arg6 X6 k) 3)))
  rw [mE3, sE3]
theorem mE5 : (trip_k0_t1.sl.v126 arg3 arg4 arg6 X3 X4 X6 k) = (M (qE arg3 X3 k) (kcE arg4 X4 k) (ksE arg6 X6 k) 5) := by
  change mxv (trip_k0_t1.sl.v104 arg3 arg4 arg6 X3 X4 X6 k) (rm (trip_k0_t1.sl.v101 arg3 arg6 X3 X6 k)) = mxv (M (qE arg3 X3 k) (kcE arg4 X4 k) (ksE arg6 X6 k) 4) (rm (sc512 (qE arg3 X3 k) ((ksE arg6 X6 k) 4)))
  rw [mE4, sE4]
theorem mE6 : (trip_k0_t1.sl.v148 arg3 arg4 arg6 X3 X4 X6 k) = (M (qE arg3 X3 k) (kcE arg4 X4 k) (ksE arg6 X6 k) 6) := by
  change mxv (trip_k0_t1.sl.v126 arg3 arg4 arg6 X3 X4 X6 k) (rm (trip_k0_t1.sl.v123 arg3 arg6 X3 X6 k)) = mxv (M (qE arg3 X3 k) (kcE arg4 X4 k) (ksE arg6 X6 k) 5) (rm (sc512 (qE arg3 X3 k) ((ksE arg6 X6 k) 5)))
  rw [mE5, sE5]
theorem mE7 : (trip_k0_t1.sl.v170 arg3 arg4 arg6 X3 X4 X6 k) = (M (qE arg3 X3 k) (kcE arg4 X4 k) (ksE arg6 X6 k) 7) := by
  change mxv (trip_k0_t1.sl.v148 arg3 arg4 arg6 X3 X4 X6 k) (rm (trip_k0_t1.sl.v145 arg3 arg6 X3 X6 k)) = mxv (M (qE arg3 X3 k) (kcE arg4 X4 k) (ksE arg6 X6 k) 6) (rm (sc512 (qE arg3 X3 k) ((ksE arg6 X6 k) 6)))
  rw [mE6, sE6]

theorem aE0 : (trip_k0_t1.sl.r_3 arg3 arg4 arg5 X3 X4 X5 k) = (A (qE arg3 X3 k) (kcE arg4 X4 k) (vcB arg5 X5 k) (ksE arg6 X6 k) (vsB arg7 X7 k) 0) := rfl
theorem aE1 : (trip_k0_t1.sl.v53 arg3 arg4 arg5 arg6 arg7 X3 X4 X5 X6 X7 k) = (A (qE arg3 X3 k) (kcE arg4 X4 k) (vcB arg5 X5 k) (ksE arg6 X6 k) (vsB arg7 X7 k) 1) := by
  change st (pr (trip_k0_t1.sl.r_1 arg3 arg6 X3 X6 k) (trip_k0_t1.sl.r_5 arg3 arg4 arg6 X3 X4 X6 k)) (trip_k0_t1.sl.r_2 arg3 arg4 X3 X4 k) (trip_k0_t1.sl.r_5 arg3 arg4 arg6 X3 X4 X6 k) (trip_k0_t1.sl.r_3 arg3 arg4 arg5 X3 X4 X5 k) ((vsB arg7 X7 k) 0)
    = st (pr (sc512 (qE arg3 X3 k) ((ksE arg6 X6 k) 0)) (M (qE arg3 X3 k) (kcE arg4 X4 k) (ksE arg6 X6 k) 1)) (M (qE arg3 X3 k) (kcE arg4 X4 k) (ksE arg6 X6 k) 0) (M (qE arg3 X3 k) (kcE arg4 X4 k) (ksE arg6 X6 k) 1) (A (qE arg3 X3 k) (kcE arg4 X4 k) (vcB arg5 X5 k) (ksE arg6 X6 k) (vsB arg7 X7 k) 0) ((vsB arg7 X7 k) 0)
  rw [mE1, mE0, sE0, aE0]
theorem aE2 : (trip_k0_t1.sl.v75 arg3 arg4 arg5 arg6 arg7 X3 X4 X5 X6 X7 k) = (A (qE arg3 X3 k) (kcE arg4 X4 k) (vcB arg5 X5 k) (ksE arg6 X6 k) (vsB arg7 X7 k) 2) := by
  change st (pr (trip_k0_t1.sl.r_4 arg3 arg6 X3 X6 k) (trip_k0_t1.sl.v60 arg3 arg4 arg6 X3 X4 X6 k)) (trip_k0_t1.sl.r_5 arg3 arg4 arg6 X3 X4 X6 k) (trip_k0_t1.sl.v60 arg3 arg4 arg6 X3 X4 X6 k) (trip_k0_t1.sl.v53 arg3 arg4 arg5 arg6 arg7 X3 X4 X5 X6 X7 k) ((vsB arg7 X7 k) 1)
    = st (pr (sc512 (qE arg3 X3 k) ((ksE arg6 X6 k) 1)) (M (qE arg3 X3 k) (kcE arg4 X4 k) (ksE arg6 X6 k) 2)) (M (qE arg3 X3 k) (kcE arg4 X4 k) (ksE arg6 X6 k) 1) (M (qE arg3 X3 k) (kcE arg4 X4 k) (ksE arg6 X6 k) 2) (A (qE arg3 X3 k) (kcE arg4 X4 k) (vcB arg5 X5 k) (ksE arg6 X6 k) (vsB arg7 X7 k) 1) ((vsB arg7 X7 k) 1)
  rw [mE2, mE1, sE1, aE1]
theorem aE3 : (trip_k0_t1.sl.v97 arg3 arg4 arg5 arg6 arg7 X3 X4 X5 X6 X7 k) = (A (qE arg3 X3 k) (kcE arg4 X4 k) (vcB arg5 X5 k) (ksE arg6 X6 k) (vsB arg7 X7 k) 3) := by
  change st (pr (trip_k0_t1.sl.v57 arg3 arg6 X3 X6 k) (trip_k0_t1.sl.v82 arg3 arg4 arg6 X3 X4 X6 k)) (trip_k0_t1.sl.v60 arg3 arg4 arg6 X3 X4 X6 k) (trip_k0_t1.sl.v82 arg3 arg4 arg6 X3 X4 X6 k) (trip_k0_t1.sl.v75 arg3 arg4 arg5 arg6 arg7 X3 X4 X5 X6 X7 k) ((vsB arg7 X7 k) 2)
    = st (pr (sc512 (qE arg3 X3 k) ((ksE arg6 X6 k) 2)) (M (qE arg3 X3 k) (kcE arg4 X4 k) (ksE arg6 X6 k) 3)) (M (qE arg3 X3 k) (kcE arg4 X4 k) (ksE arg6 X6 k) 2) (M (qE arg3 X3 k) (kcE arg4 X4 k) (ksE arg6 X6 k) 3) (A (qE arg3 X3 k) (kcE arg4 X4 k) (vcB arg5 X5 k) (ksE arg6 X6 k) (vsB arg7 X7 k) 2) ((vsB arg7 X7 k) 2)
  rw [mE3, mE2, sE2, aE2]
theorem aE4 : (trip_k0_t1.sl.v119 arg3 arg4 arg5 arg6 arg7 X3 X4 X5 X6 X7 k) = (A (qE arg3 X3 k) (kcE arg4 X4 k) (vcB arg5 X5 k) (ksE arg6 X6 k) (vsB arg7 X7 k) 4) := by
  change st (pr (trip_k0_t1.sl.v79 arg3 arg6 X3 X6 k) (trip_k0_t1.sl.v104 arg3 arg4 arg6 X3 X4 X6 k)) (trip_k0_t1.sl.v82 arg3 arg4 arg6 X3 X4 X6 k) (trip_k0_t1.sl.v104 arg3 arg4 arg6 X3 X4 X6 k) (trip_k0_t1.sl.v97 arg3 arg4 arg5 arg6 arg7 X3 X4 X5 X6 X7 k) ((vsB arg7 X7 k) 3)
    = st (pr (sc512 (qE arg3 X3 k) ((ksE arg6 X6 k) 3)) (M (qE arg3 X3 k) (kcE arg4 X4 k) (ksE arg6 X6 k) 4)) (M (qE arg3 X3 k) (kcE arg4 X4 k) (ksE arg6 X6 k) 3) (M (qE arg3 X3 k) (kcE arg4 X4 k) (ksE arg6 X6 k) 4) (A (qE arg3 X3 k) (kcE arg4 X4 k) (vcB arg5 X5 k) (ksE arg6 X6 k) (vsB arg7 X7 k) 3) ((vsB arg7 X7 k) 3)
  rw [mE4, mE3, sE3, aE3]
theorem aE5 : (trip_k0_t1.sl.v141 arg3 arg4 arg5 arg6 arg7 X3 X4 X5 X6 X7 k) = (A (qE arg3 X3 k) (kcE arg4 X4 k) (vcB arg5 X5 k) (ksE arg6 X6 k) (vsB arg7 X7 k) 5) := by
  change st (pr (trip_k0_t1.sl.v101 arg3 arg6 X3 X6 k) (trip_k0_t1.sl.v126 arg3 arg4 arg6 X3 X4 X6 k)) (trip_k0_t1.sl.v104 arg3 arg4 arg6 X3 X4 X6 k) (trip_k0_t1.sl.v126 arg3 arg4 arg6 X3 X4 X6 k) (trip_k0_t1.sl.v119 arg3 arg4 arg5 arg6 arg7 X3 X4 X5 X6 X7 k) ((vsB arg7 X7 k) 4)
    = st (pr (sc512 (qE arg3 X3 k) ((ksE arg6 X6 k) 4)) (M (qE arg3 X3 k) (kcE arg4 X4 k) (ksE arg6 X6 k) 5)) (M (qE arg3 X3 k) (kcE arg4 X4 k) (ksE arg6 X6 k) 4) (M (qE arg3 X3 k) (kcE arg4 X4 k) (ksE arg6 X6 k) 5) (A (qE arg3 X3 k) (kcE arg4 X4 k) (vcB arg5 X5 k) (ksE arg6 X6 k) (vsB arg7 X7 k) 4) ((vsB arg7 X7 k) 4)
  rw [mE5, mE4, sE4, aE4]
theorem aE6 : (trip_k0_t1.sl.v163 arg3 arg4 arg5 arg6 arg7 X3 X4 X5 X6 X7 k) = (A (qE arg3 X3 k) (kcE arg4 X4 k) (vcB arg5 X5 k) (ksE arg6 X6 k) (vsB arg7 X7 k) 6) := by
  change st (pr (trip_k0_t1.sl.v123 arg3 arg6 X3 X6 k) (trip_k0_t1.sl.v148 arg3 arg4 arg6 X3 X4 X6 k)) (trip_k0_t1.sl.v126 arg3 arg4 arg6 X3 X4 X6 k) (trip_k0_t1.sl.v148 arg3 arg4 arg6 X3 X4 X6 k) (trip_k0_t1.sl.v141 arg3 arg4 arg5 arg6 arg7 X3 X4 X5 X6 X7 k) ((vsB arg7 X7 k) 5)
    = st (pr (sc512 (qE arg3 X3 k) ((ksE arg6 X6 k) 5)) (M (qE arg3 X3 k) (kcE arg4 X4 k) (ksE arg6 X6 k) 6)) (M (qE arg3 X3 k) (kcE arg4 X4 k) (ksE arg6 X6 k) 5) (M (qE arg3 X3 k) (kcE arg4 X4 k) (ksE arg6 X6 k) 6) (A (qE arg3 X3 k) (kcE arg4 X4 k) (vcB arg5 X5 k) (ksE arg6 X6 k) (vsB arg7 X7 k) 5) ((vsB arg7 X7 k) 5)
  rw [mE6, mE5, sE5, aE5]

theorem finE : (trip_k0_t1.sl.v216 arg3 arg4 arg5 arg6 arg7 X3 X4 X5 X6 X7 k) = fin (A (qE arg3 X3 k) (kcE arg4 X4 k) (vcB arg5 X5 k) (ksE arg6 X6 k) (vsB arg7 X7 k) 8) := by
  change fin (st (pr (trip_k0_t1.sl.v167 arg3 arg6 X3 X6 k) (mxv (trip_k0_t1.sl.v170 arg3 arg4 arg6 X3 X4 X6 k) (rm (trip_k0_t1.sl.v167 arg3 arg6 X3 X6 k)))) (trip_k0_t1.sl.v170 arg3 arg4 arg6 X3 X4 X6 k) (mxv (trip_k0_t1.sl.v170 arg3 arg4 arg6 X3 X4 X6 k) (rm (trip_k0_t1.sl.v167 arg3 arg6 X3 X6 k))) (st (pr (trip_k0_t1.sl.v145 arg3 arg6 X3 X6 k) (trip_k0_t1.sl.v170 arg3 arg4 arg6 X3 X4 X6 k)) (trip_k0_t1.sl.v148 arg3 arg4 arg6 X3 X4 X6 k) (trip_k0_t1.sl.v170 arg3 arg4 arg6 X3 X4 X6 k) (trip_k0_t1.sl.v163 arg3 arg4 arg5 arg6 arg7 X3 X4 X5 X6 X7 k) ((vsB arg7 X7 k) 6)) ((vsB arg7 X7 k) 7))
    = fin (st (pr (sc512 (qE arg3 X3 k) ((ksE arg6 X6 k) 7)) (mxv (M (qE arg3 X3 k) (kcE arg4 X4 k) (ksE arg6 X6 k) 7) (rm (sc512 (qE arg3 X3 k) ((ksE arg6 X6 k) 7))))) (M (qE arg3 X3 k) (kcE arg4 X4 k) (ksE arg6 X6 k) 7) (mxv (M (qE arg3 X3 k) (kcE arg4 X4 k) (ksE arg6 X6 k) 7) (rm (sc512 (qE arg3 X3 k) ((ksE arg6 X6 k) 7)))) (st (pr (sc512 (qE arg3 X3 k) ((ksE arg6 X6 k) 6)) (M (qE arg3 X3 k) (kcE arg4 X4 k) (ksE arg6 X6 k) 7)) (M (qE arg3 X3 k) (kcE arg4 X4 k) (ksE arg6 X6 k) 6) (M (qE arg3 X3 k) (kcE arg4 X4 k) (ksE arg6 X6 k) 7) (A (qE arg3 X3 k) (kcE arg4 X4 k) (vcB arg5 X5 k) (ksE arg6 X6 k) (vsB arg7 X7 k) 6) ((vsB arg7 X7 k) 6)) ((vsB arg7 X7 k) 7))
  rw [sE6, sE7, mE6, mE7, aE6]

theorem sO0 : (trip_k0_t1.sl.v220 arg3 arg6 X3 X6 k) = (sc512 (qO arg3 X3 k) ((ksO arg6 X6 k) 0)) := rfl
theorem sO1 : (trip_k0_t1.sl.v236 arg3 arg6 X3 X6 k) = (sc512 (qO arg3 X3 k) ((ksO arg6 X6 k) 1)) := rfl
theorem sO2 : (trip_k0_t1.sl.v258 arg3 arg6 X3 X6 k) = (sc512 (qO arg3 X3 k) ((ksO arg6 X6 k) 2)) := rfl
theorem sO3 : (trip_k0_t1.sl.v280 arg3 arg6 X3 X6 k) = (sc512 (qO arg3 X3 k) ((ksO arg6 X6 k) 3)) := rfl
theorem sO4 : (trip_k0_t1.sl.v302 arg3 arg6 X3 X6 k) = (sc512 (qO arg3 X3 k) ((ksO arg6 X6 k) 4)) := rfl
theorem sO5 : (trip_k0_t1.sl.v324 arg3 arg6 X3 X6 k) = (sc512 (qO arg3 X3 k) ((ksO arg6 X6 k) 5)) := rfl
theorem sO6 : (trip_k0_t1.sl.v346 arg3 arg6 X3 X6 k) = (sc512 (qO arg3 X3 k) ((ksO arg6 X6 k) 6)) := rfl
theorem sO7 : (trip_k0_t1.sl.v368 arg3 arg6 X3 X6 k) = (sc512 (qO arg3 X3 k) ((ksO arg6 X6 k) 7)) := rfl

theorem mO0 : (trip_k0_t1.sl.v222 arg3 arg4 X3 X4 k) = (M (qO arg3 X3 k) (kcO arg4 X4 k) (ksO arg6 X6 k) 0) := rfl
theorem mO1 : (trip_k0_t1.sl.v239 arg3 arg4 arg6 X3 X4 X6 k) = (M (qO arg3 X3 k) (kcO arg4 X4 k) (ksO arg6 X6 k) 1) := by
  change mxv (trip_k0_t1.sl.v222 arg3 arg4 X3 X4 k) (rm (trip_k0_t1.sl.v220 arg3 arg6 X3 X6 k)) = mxv (M (qO arg3 X3 k) (kcO arg4 X4 k) (ksO arg6 X6 k) 0) (rm (sc512 (qO arg3 X3 k) ((ksO arg6 X6 k) 0)))
  rw [mO0, sO0]
theorem mO2 : (trip_k0_t1.sl.v261 arg3 arg4 arg6 X3 X4 X6 k) = (M (qO arg3 X3 k) (kcO arg4 X4 k) (ksO arg6 X6 k) 2) := by
  change mxv (trip_k0_t1.sl.v239 arg3 arg4 arg6 X3 X4 X6 k) (rm (trip_k0_t1.sl.v236 arg3 arg6 X3 X6 k)) = mxv (M (qO arg3 X3 k) (kcO arg4 X4 k) (ksO arg6 X6 k) 1) (rm (sc512 (qO arg3 X3 k) ((ksO arg6 X6 k) 1)))
  rw [mO1, sO1]
theorem mO3 : (trip_k0_t1.sl.v283 arg3 arg4 arg6 X3 X4 X6 k) = (M (qO arg3 X3 k) (kcO arg4 X4 k) (ksO arg6 X6 k) 3) := by
  change mxv (trip_k0_t1.sl.v261 arg3 arg4 arg6 X3 X4 X6 k) (rm (trip_k0_t1.sl.v258 arg3 arg6 X3 X6 k)) = mxv (M (qO arg3 X3 k) (kcO arg4 X4 k) (ksO arg6 X6 k) 2) (rm (sc512 (qO arg3 X3 k) ((ksO arg6 X6 k) 2)))
  rw [mO2, sO2]
theorem mO4 : (trip_k0_t1.sl.v305 arg3 arg4 arg6 X3 X4 X6 k) = (M (qO arg3 X3 k) (kcO arg4 X4 k) (ksO arg6 X6 k) 4) := by
  change mxv (trip_k0_t1.sl.v283 arg3 arg4 arg6 X3 X4 X6 k) (rm (trip_k0_t1.sl.v280 arg3 arg6 X3 X6 k)) = mxv (M (qO arg3 X3 k) (kcO arg4 X4 k) (ksO arg6 X6 k) 3) (rm (sc512 (qO arg3 X3 k) ((ksO arg6 X6 k) 3)))
  rw [mO3, sO3]
theorem mO5 : (trip_k0_t1.sl.v327 arg3 arg4 arg6 X3 X4 X6 k) = (M (qO arg3 X3 k) (kcO arg4 X4 k) (ksO arg6 X6 k) 5) := by
  change mxv (trip_k0_t1.sl.v305 arg3 arg4 arg6 X3 X4 X6 k) (rm (trip_k0_t1.sl.v302 arg3 arg6 X3 X6 k)) = mxv (M (qO arg3 X3 k) (kcO arg4 X4 k) (ksO arg6 X6 k) 4) (rm (sc512 (qO arg3 X3 k) ((ksO arg6 X6 k) 4)))
  rw [mO4, sO4]
theorem mO6 : (trip_k0_t1.sl.v349 arg3 arg4 arg6 X3 X4 X6 k) = (M (qO arg3 X3 k) (kcO arg4 X4 k) (ksO arg6 X6 k) 6) := by
  change mxv (trip_k0_t1.sl.v327 arg3 arg4 arg6 X3 X4 X6 k) (rm (trip_k0_t1.sl.v324 arg3 arg6 X3 X6 k)) = mxv (M (qO arg3 X3 k) (kcO arg4 X4 k) (ksO arg6 X6 k) 5) (rm (sc512 (qO arg3 X3 k) ((ksO arg6 X6 k) 5)))
  rw [mO5, sO5]
theorem mO7 : (trip_k0_t1.sl.v371 arg3 arg4 arg6 X3 X4 X6 k) = (M (qO arg3 X3 k) (kcO arg4 X4 k) (ksO arg6 X6 k) 7) := by
  change mxv (trip_k0_t1.sl.v349 arg3 arg4 arg6 X3 X4 X6 k) (rm (trip_k0_t1.sl.v346 arg3 arg6 X3 X6 k)) = mxv (M (qO arg3 X3 k) (kcO arg4 X4 k) (ksO arg6 X6 k) 6) (rm (sc512 (qO arg3 X3 k) ((ksO arg6 X6 k) 6)))
  rw [mO6, sO6]
theorem mO8 : (trip_k0_t1.sl.v389 arg3 arg4 arg6 X3 X4 X6 k) = (M (qO arg3 X3 k) (kcO arg4 X4 k) (ksO arg6 X6 k) 8) := by
  change mxv (trip_k0_t1.sl.v371 arg3 arg4 arg6 X3 X4 X6 k) (rm (trip_k0_t1.sl.v368 arg3 arg6 X3 X6 k)) = mxv (M (qO arg3 X3 k) (kcO arg4 X4 k) (ksO arg6 X6 k) 7) (rm (sc512 (qO arg3 X3 k) ((ksO arg6 X6 k) 7)))
  rw [mO7, sO7]

theorem aO0 : (trip_k0_t1.sl.v232 arg3 arg4 arg5 X3 X4 X5 k) = (A (qO arg3 X3 k) (kcO arg4 X4 k) (vcB arg5 X5 k) (ksO arg6 X6 k) (vsB arg7 X7 k) 0) := rfl
theorem aO1 : (trip_k0_t1.sl.v254 arg3 arg4 arg5 arg6 arg7 X3 X4 X5 X6 X7 k) = (A (qO arg3 X3 k) (kcO arg4 X4 k) (vcB arg5 X5 k) (ksO arg6 X6 k) (vsB arg7 X7 k) 1) := by
  change st (pr (trip_k0_t1.sl.v220 arg3 arg6 X3 X6 k) (trip_k0_t1.sl.v239 arg3 arg4 arg6 X3 X4 X6 k)) (trip_k0_t1.sl.v222 arg3 arg4 X3 X4 k) (trip_k0_t1.sl.v239 arg3 arg4 arg6 X3 X4 X6 k) (trip_k0_t1.sl.v232 arg3 arg4 arg5 X3 X4 X5 k) ((vsB arg7 X7 k) 0)
    = st (pr (sc512 (qO arg3 X3 k) ((ksO arg6 X6 k) 0)) (M (qO arg3 X3 k) (kcO arg4 X4 k) (ksO arg6 X6 k) 1)) (M (qO arg3 X3 k) (kcO arg4 X4 k) (ksO arg6 X6 k) 0) (M (qO arg3 X3 k) (kcO arg4 X4 k) (ksO arg6 X6 k) 1) (A (qO arg3 X3 k) (kcO arg4 X4 k) (vcB arg5 X5 k) (ksO arg6 X6 k) (vsB arg7 X7 k) 0) ((vsB arg7 X7 k) 0)
  rw [mO1, mO0, sO0, aO0]
theorem aO2 : (trip_k0_t1.sl.v276 arg3 arg4 arg5 arg6 arg7 X3 X4 X5 X6 X7 k) = (A (qO arg3 X3 k) (kcO arg4 X4 k) (vcB arg5 X5 k) (ksO arg6 X6 k) (vsB arg7 X7 k) 2) := by
  change st (pr (trip_k0_t1.sl.v236 arg3 arg6 X3 X6 k) (trip_k0_t1.sl.v261 arg3 arg4 arg6 X3 X4 X6 k)) (trip_k0_t1.sl.v239 arg3 arg4 arg6 X3 X4 X6 k) (trip_k0_t1.sl.v261 arg3 arg4 arg6 X3 X4 X6 k) (trip_k0_t1.sl.v254 arg3 arg4 arg5 arg6 arg7 X3 X4 X5 X6 X7 k) ((vsB arg7 X7 k) 1)
    = st (pr (sc512 (qO arg3 X3 k) ((ksO arg6 X6 k) 1)) (M (qO arg3 X3 k) (kcO arg4 X4 k) (ksO arg6 X6 k) 2)) (M (qO arg3 X3 k) (kcO arg4 X4 k) (ksO arg6 X6 k) 1) (M (qO arg3 X3 k) (kcO arg4 X4 k) (ksO arg6 X6 k) 2) (A (qO arg3 X3 k) (kcO arg4 X4 k) (vcB arg5 X5 k) (ksO arg6 X6 k) (vsB arg7 X7 k) 1) ((vsB arg7 X7 k) 1)
  rw [mO2, mO1, sO1, aO1]
theorem aO3 : (trip_k0_t1.sl.v298 arg3 arg4 arg5 arg6 arg7 X3 X4 X5 X6 X7 k) = (A (qO arg3 X3 k) (kcO arg4 X4 k) (vcB arg5 X5 k) (ksO arg6 X6 k) (vsB arg7 X7 k) 3) := by
  change st (pr (trip_k0_t1.sl.v258 arg3 arg6 X3 X6 k) (trip_k0_t1.sl.v283 arg3 arg4 arg6 X3 X4 X6 k)) (trip_k0_t1.sl.v261 arg3 arg4 arg6 X3 X4 X6 k) (trip_k0_t1.sl.v283 arg3 arg4 arg6 X3 X4 X6 k) (trip_k0_t1.sl.v276 arg3 arg4 arg5 arg6 arg7 X3 X4 X5 X6 X7 k) ((vsB arg7 X7 k) 2)
    = st (pr (sc512 (qO arg3 X3 k) ((ksO arg6 X6 k) 2)) (M (qO arg3 X3 k) (kcO arg4 X4 k) (ksO arg6 X6 k) 3)) (M (qO arg3 X3 k) (kcO arg4 X4 k) (ksO arg6 X6 k) 2) (M (qO arg3 X3 k) (kcO arg4 X4 k) (ksO arg6 X6 k) 3) (A (qO arg3 X3 k) (kcO arg4 X4 k) (vcB arg5 X5 k) (ksO arg6 X6 k) (vsB arg7 X7 k) 2) ((vsB arg7 X7 k) 2)
  rw [mO3, mO2, sO2, aO2]
theorem aO4 : (trip_k0_t1.sl.v320 arg3 arg4 arg5 arg6 arg7 X3 X4 X5 X6 X7 k) = (A (qO arg3 X3 k) (kcO arg4 X4 k) (vcB arg5 X5 k) (ksO arg6 X6 k) (vsB arg7 X7 k) 4) := by
  change st (pr (trip_k0_t1.sl.v280 arg3 arg6 X3 X6 k) (trip_k0_t1.sl.v305 arg3 arg4 arg6 X3 X4 X6 k)) (trip_k0_t1.sl.v283 arg3 arg4 arg6 X3 X4 X6 k) (trip_k0_t1.sl.v305 arg3 arg4 arg6 X3 X4 X6 k) (trip_k0_t1.sl.v298 arg3 arg4 arg5 arg6 arg7 X3 X4 X5 X6 X7 k) ((vsB arg7 X7 k) 3)
    = st (pr (sc512 (qO arg3 X3 k) ((ksO arg6 X6 k) 3)) (M (qO arg3 X3 k) (kcO arg4 X4 k) (ksO arg6 X6 k) 4)) (M (qO arg3 X3 k) (kcO arg4 X4 k) (ksO arg6 X6 k) 3) (M (qO arg3 X3 k) (kcO arg4 X4 k) (ksO arg6 X6 k) 4) (A (qO arg3 X3 k) (kcO arg4 X4 k) (vcB arg5 X5 k) (ksO arg6 X6 k) (vsB arg7 X7 k) 3) ((vsB arg7 X7 k) 3)
  rw [mO4, mO3, sO3, aO3]
theorem aO5 : (trip_k0_t1.sl.v342 arg3 arg4 arg5 arg6 arg7 X3 X4 X5 X6 X7 k) = (A (qO arg3 X3 k) (kcO arg4 X4 k) (vcB arg5 X5 k) (ksO arg6 X6 k) (vsB arg7 X7 k) 5) := by
  change st (pr (trip_k0_t1.sl.v302 arg3 arg6 X3 X6 k) (trip_k0_t1.sl.v327 arg3 arg4 arg6 X3 X4 X6 k)) (trip_k0_t1.sl.v305 arg3 arg4 arg6 X3 X4 X6 k) (trip_k0_t1.sl.v327 arg3 arg4 arg6 X3 X4 X6 k) (trip_k0_t1.sl.v320 arg3 arg4 arg5 arg6 arg7 X3 X4 X5 X6 X7 k) ((vsB arg7 X7 k) 4)
    = st (pr (sc512 (qO arg3 X3 k) ((ksO arg6 X6 k) 4)) (M (qO arg3 X3 k) (kcO arg4 X4 k) (ksO arg6 X6 k) 5)) (M (qO arg3 X3 k) (kcO arg4 X4 k) (ksO arg6 X6 k) 4) (M (qO arg3 X3 k) (kcO arg4 X4 k) (ksO arg6 X6 k) 5) (A (qO arg3 X3 k) (kcO arg4 X4 k) (vcB arg5 X5 k) (ksO arg6 X6 k) (vsB arg7 X7 k) 4) ((vsB arg7 X7 k) 4)
  rw [mO5, mO4, sO4, aO4]
theorem aO6 : (trip_k0_t1.sl.v364 arg3 arg4 arg5 arg6 arg7 X3 X4 X5 X6 X7 k) = (A (qO arg3 X3 k) (kcO arg4 X4 k) (vcB arg5 X5 k) (ksO arg6 X6 k) (vsB arg7 X7 k) 6) := by
  change st (pr (trip_k0_t1.sl.v324 arg3 arg6 X3 X6 k) (trip_k0_t1.sl.v349 arg3 arg4 arg6 X3 X4 X6 k)) (trip_k0_t1.sl.v327 arg3 arg4 arg6 X3 X4 X6 k) (trip_k0_t1.sl.v349 arg3 arg4 arg6 X3 X4 X6 k) (trip_k0_t1.sl.v342 arg3 arg4 arg5 arg6 arg7 X3 X4 X5 X6 X7 k) ((vsB arg7 X7 k) 5)
    = st (pr (sc512 (qO arg3 X3 k) ((ksO arg6 X6 k) 5)) (M (qO arg3 X3 k) (kcO arg4 X4 k) (ksO arg6 X6 k) 6)) (M (qO arg3 X3 k) (kcO arg4 X4 k) (ksO arg6 X6 k) 5) (M (qO arg3 X3 k) (kcO arg4 X4 k) (ksO arg6 X6 k) 6) (A (qO arg3 X3 k) (kcO arg4 X4 k) (vcB arg5 X5 k) (ksO arg6 X6 k) (vsB arg7 X7 k) 5) ((vsB arg7 X7 k) 5)
  rw [mO6, mO5, sO5, aO5]
theorem aO7 : (trip_k0_t1.sl.v386 arg3 arg4 arg5 arg6 arg7 X3 X4 X5 X6 X7 k) = (A (qO arg3 X3 k) (kcO arg4 X4 k) (vcB arg5 X5 k) (ksO arg6 X6 k) (vsB arg7 X7 k) 7) := by
  change st (pr (trip_k0_t1.sl.v346 arg3 arg6 X3 X6 k) (trip_k0_t1.sl.v371 arg3 arg4 arg6 X3 X4 X6 k)) (trip_k0_t1.sl.v349 arg3 arg4 arg6 X3 X4 X6 k) (trip_k0_t1.sl.v371 arg3 arg4 arg6 X3 X4 X6 k) (trip_k0_t1.sl.v364 arg3 arg4 arg5 arg6 arg7 X3 X4 X5 X6 X7 k) ((vsB arg7 X7 k) 6)
    = st (pr (sc512 (qO arg3 X3 k) ((ksO arg6 X6 k) 6)) (M (qO arg3 X3 k) (kcO arg4 X4 k) (ksO arg6 X6 k) 7)) (M (qO arg3 X3 k) (kcO arg4 X4 k) (ksO arg6 X6 k) 6) (M (qO arg3 X3 k) (kcO arg4 X4 k) (ksO arg6 X6 k) 7) (A (qO arg3 X3 k) (kcO arg4 X4 k) (vcB arg5 X5 k) (ksO arg6 X6 k) (vsB arg7 X7 k) 6) ((vsB arg7 X7 k) 6)
  rw [mO7, mO6, sO6, aO6]

theorem store_eq :
    k0_pay1 (trip_k0_t1.sl.v216 arg3 arg4 arg5 arg6 arg7 X3 X4 X5 X6 X7 k) (trip_k0_t1.sl.v368 arg3 arg6 X3 X6 k) (trip_k0_t1.sl.v371 arg3 arg4 arg6 X3 X4 X6 k) (trip_k0_t1.sl.v386 arg3 arg4 arg5 arg6 arg7 X3 X4 X5 X6 X7 k) (trip_k0_t1.sl.v389 arg3 arg4 arg6 X3 X4 X6 k) (trip_k0_t1.sl.v390 arg3 arg4 arg6 X3 X4 X6 k)
        (View.readAt (Elt F) arg7.view (Rect.unit (s := S4x4096x128) (k0_off19 k) S1x512x128.size (k0_off19_inb k)).toLoadRect X7)
      = pair (fin (A (qE arg3 X3 k) (kcE arg4 X4 k) (vcB arg5 X5 k) (ksE arg6 X6 k) (vsB arg7 X7 k) 8)) (fin (A (qO arg3 X3 k) (kcO arg4 X4 k) (vcB arg5 X5 k) (ksO arg6 X6 k) (vsB arg7 X7 k) 8)) := by
  change pair (trip_k0_t1.sl.v216 arg3 arg4 arg5 arg6 arg7 X3 X4 X5 X6 X7 k) (fin (st (pr (trip_k0_t1.sl.v368 arg3 arg6 X3 X6 k) (trip_k0_t1.sl.v389 arg3 arg4 arg6 X3 X4 X6 k)) (trip_k0_t1.sl.v371 arg3 arg4 arg6 X3 X4 X6 k) (trip_k0_t1.sl.v389 arg3 arg4 arg6 X3 X4 X6 k) (trip_k0_t1.sl.v386 arg3 arg4 arg5 arg6 arg7 X3 X4 X5 X6 X7 k) ((vsB arg7 X7 k) 7)))
    = pair (fin (A (qE arg3 X3 k) (kcE arg4 X4 k) (vcB arg5 X5 k) (ksE arg6 X6 k) (vsB arg7 X7 k) 8)) (fin (st (pr (sc512 (qO arg3 X3 k) ((ksO arg6 X6 k) 7)) (M (qO arg3 X3 k) (kcO arg4 X4 k) (ksO arg6 X6 k) 8)) (M (qO arg3 X3 k) (kcO arg4 X4 k) (ksO arg6 X6 k) 7) (M (qO arg3 X3 k) (kcO arg4 X4 k) (ksO arg6 X6 k) 8) (A (qO arg3 X3 k) (kcO arg4 X4 k) (vcB arg5 X5 k) (ksO arg6 X6 k) (vsB arg7 X7 k) 7) ((vsB arg7 X7 k) 7)))
  rw [finE, sO7, mO7, mO8, aO7]

/-- One trip stores one block: the pair’s. -/
theorem trip_eq (𝒱 : Variants) (c : Dev nD) (bd : Option 𝒱.V) (i : grid0.Coords) (h3 : arg3.IsWhole) (h4 : arg4.IsWhole) (h5 : arg5.IsWhole)
    (h6 : arg6.IsWhole) (h7 : arg7.IsWhole) (arg8 : Memref sig .tc .vmem S4x1024x128 .bf16) (h8 : arg8.IsWhole) :
    (trip_k0_t1 𝒱 c bd i arg3 h3 arg4 h4 arg5 h5 arg6 h6 arg7 h7 arg8 h8 X3 X4 X5 X6 X7 k).1
      = [⟨Rect.unit (s := S4x1024x128) (k0_off20 k) S1x1024x128.size (k0_off20_inb k), pair (fin (A (qE arg3 X3 k) (kcE arg4 X4 k) (vcB arg5 X5 k) (ksE arg6 X6 k) (vsB arg7 X7 k) 8))
          (fin (A (qO arg3 X3 k) (kcO arg4 X4 k) (vcB arg5 X5 k) (ksO arg6 X6 k) (vsB arg7 X7 k) 8))⟩] := by
  unfold trip_k0_t1
  dsimp only
  rw [store_eq]

end Trip

end Cert.MlaIdeal.Steps

end
-- ==== Proof.MlaOut.lean ====
/- What the latent attention kernel's body leaves in the result's block, as a function of the five staged blocks: at pair `p`, row `r` and lane `l`
   the quotient of head `2 p + l / 64`, its keys the head's and its values the pair's. -/
module

public import proofs.«01_k».proof.Proof.MlaSteps
public import Idealize.ShloMosaic.Lib.Pipeline.ValueKit
public import Idealize.ShloMosaic.Lib.Pointwise

@[expose] public section

set_option maxRecDepth 16384

noncomputable section

namespace Cert.MlaIdeal.Steps

open Cert.MlaIdeal Cert.MlaIdeal.Gen Idealize.ShloMosaic Idealize.ShloMosaic.TcCoe Idealize.SL.Sem
open Cert.GqaIdeal.Steps (fin M A seq8 chunks whole O)

theorem k_lt (k : Fin k0_t1_loop.trips) : k.val < 4 := lt_of_lt_of_eq k.isLt (by decide +kernel)

/-! One head, or one pair, of a staged block. -/

def slabQ (x : Vec Ideal S8x1024x128 .f32) (h : Fin 8) : Vec Ideal S1x1024x128 .f32 := fun i => x (ix3 h (i 1) (i 2))
def slabC (x : Vec Ideal S8x256x128 .bf16) (h : Fin 8) : Vec Ideal S1x256x128 .bf16 := fun i => x (ix3 h (i 1) (i 2))
def slabV (x : Vec Ideal S4x256x128 .bf16) (p : Fin 4) : Vec Ideal S1x256x128 .bf16 := fun i => x (ix3 p (i 1) (i 2))
def slabK (x : Vec Ideal S8x4096x128 .bf16) (h : Fin 8) : Vec Ideal Cert.GqaIdeal.S1x4096x128 .bf16 := fun i => x (ix3 h (i 1) (i 2))
def slabW (x : Vec Ideal S4x4096x128 .bf16) (p : Fin 4) : Vec Ideal Cert.GqaIdeal.S1x4096x128 .bf16 := fun i => x (ix3 p (i 1) (i 2))

/-- A head's query rows, scaled. -/
def Q (x : Vec Ideal S8x1024x128 .f32) (h : Fin 8) : FVec Ideal S1024x128 .bf16 := k0_pay2 (slabQ x h)

/-- A head's quotients. -/
def Oh (x0 : Vec Ideal S8x1024x128 .f32) (x1 : Vec Ideal S8x256x128 .bf16) (x2 : Vec Ideal S4x256x128 .bf16) (x3 : Vec Ideal S8x4096x128 .bf16)
    (x4 : Vec Ideal S4x4096x128 .bf16) (h : Fin 8) (p : Fin 4) : FVec Ideal S1024x128 .f32 :=
  O (Q x0 h) (slabC x1 h) (slabV x2 p) (slabK x3 h) (slabW x4 p)

/-- What is stored at pair `p`, row `r` and lane `l`. -/
def Gout (x0 : Vec Ideal S8x1024x128 .f32) (x1 : Vec Ideal S8x256x128 .bf16) (x2 : Vec Ideal S4x256x128 .bf16) (x3 : Vec Ideal S8x4096x128 .bf16)
    (x4 : Vec Ideal S4x4096x128 .bf16) (p : Fin 4) (r : Fin 1024) (l : Fin 128) : EReal :=
  Oh x0 x1 x2 x3 x4 ⟨2 * p.val + l.val / 64, by omega⟩ p (ix2 r l)

/-! The loads at their offsets. -/

theorem ld_q (x : Vec Ideal S8x1024x128 .f32) (off : Fin 3 → ℕ) (inb) (h : Fin 8) (ho : off = ![h.val, 0, 0]) :
    View.ld x (Rect.unit (s := S8x1024x128) off S1x1024x128.size inb) = slabQ x h := by
  subst ho
  funext i
  have h0 : (i 0).val < 1 := (i 0).isLt
  refine View.ld_unit_apply_of x _ _ inb i (ix3 h (i 1) (i 2)) ?_
  intro a
  fin_cases a
  · show h.val = h.val + (i 0).val
    omega
  · show (i 1).val = 0 + (i 1).val
    omega
  · show (i 2).val = 0 + (i 2).val
    omega

theorem whole_eq (x : Vec Ideal S1x256x128 .bf16) : whole x = x := by
  funext i
  refine View.ld_unit_apply_of x _ _ _ i i ?_
  intro a
  fin_cases a
  · show (i 0).val = 0 + (i 0).val
    omega
  · show (i 1).val = 0 + (i 1).val
    omega
  · show (i 2).val = 0 + (i 2).val
    omega

theorem ld_c (x : Vec Ideal S8x256x128 .bf16) (off : Fin 3 → ℕ) (inb) (h : Fin 8) (ho : off = ![h.val, 0, 0]) :
    View.ld x (Rect.unit (s := S8x256x128) off S1x256x128.size inb) = whole (slabC x h) := by
  subst ho
  rw [whole_eq]
  funext i
  have h0 : (i 0).val < 1 := (i 0).isLt
  refine View.ld_unit_apply_of x _ _ inb i (ix3 h (i 1) (i 2)) ?_
  intro a
  fin_cases a
  · show h.val = h.val + (i 0).val
    omega
  · show (i 1).val = 0 + (i 1).val
    omega
  · show (i 2).val = 0 + (i 2).val
    omega

theorem ld_v (x : Vec Ideal S4x256x128 .bf16) (off : Fin 3 → ℕ) (inb) (p : Fin 4) (ho : off = ![p.val, 0, 0]) :
    View.ld x (Rect.unit (s := S4x256x128) off S1x256x128.size inb) = whole (slabV x p) := by
  subst ho
  rw [whole_eq]
  funext i
  have h0 : (i 0).val < 1 := (i 0).isLt
  refine View.ld_unit_apply_of x _ _ inb i (ix3 p (i 1) (i 2)) ?_
  intro a
  fin_cases a
  · show p.val = p.val + (i 0).val
    omega
  · show (i 1).val = 0 + (i 1).val
    omega
  · show (i 2).val = 0 + (i 2).val
    omega

theorem ld_k (x : Vec Ideal S8x4096x128 .bf16) (off : Fin 3 → ℕ) (inb) (h : Fin 8) (o : ℕ)
    (inb' : ∀ a, (![0, o, 0] : Fin 3 → ℕ) a + S1x512x128.size a ≤ Cert.GqaIdeal.S1x4096x128.size a) (ho : off = ![h.val, o, 0]) :
    View.ld x (Rect.unit (s := S8x4096x128) off S1x512x128.size inb)
      = View.ld (slabK x h) (Rect.unit (s := Cert.GqaIdeal.S1x4096x128) ![0, o, 0] S1x512x128.size inb') := by
  subst ho
  funext i
  have h0 : (i 0).val < 1 := (i 0).isLt
  have h1 : (i 1).val < 512 := (i 1).isLt
  have hb : o + 512 ≤ 4096 := inb' 1
  refine (View.ld_unit_apply_of x _ _ inb i (ix3 h ⟨o + (i 1).val, by omega⟩ (i 2)) ?_).trans
    (View.ld_unit_apply_of (slabK x h) _ _ inb' i (ix3 (i 0) ⟨o + (i 1).val, by omega⟩ (i 2)) ?_).symm
  · intro a
    fin_cases a
    · show h.val = h.val + (i 0).val
      omega
    · rfl
    · show (i 2).val = 0 + (i 2).val
      omega
  · intro a
    fin_cases a
    · show (i 0).val = 0 + (i 0).val
      omega
    · rfl
    · show (i 2).val = 0 + (i 2).val
      omega

theorem ld_w (x : Vec Ideal S4x4096x128 .bf16) (off : Fin 3 → ℕ) (inb) (p : Fin 4) (o : ℕ)
    (inb' : ∀ a, (![0, o, 0] : Fin 3 → ℕ) a + S1x512x128.size a ≤ Cert.GqaIdeal.S1x4096x128.size a) (ho : off = ![p.val, o, 0]) :
    View.ld x (Rect.unit (s := S4x4096x128) off S1x512x128.size inb)
      = View.ld (slabW x p) (Rect.unit (s := Cert.GqaIdeal.S1x4096x128) ![0, o, 0] S1x512x128.size inb') := by
  subst ho
  funext i
  have h0 : (i 0).val < 1 := (i 0).isLt
  have h1 : (i 1).val < 512 := (i 1).isLt
  have hb : o + 512 ≤ 4096 := inb' 1
  refine (View.ld_unit_apply_of x _ _ inb i (ix3 p ⟨o + (i 1).val, by omega⟩ (i 2)) ?_).trans
    (View.ld_unit_apply_of (slabW x p) _ _ inb' i (ix3 (i 0) ⟨o + (i 1).val, by omega⟩ (i 2)) ?_).symm
  · intro a
    fin_cases a
    · show p.val = p.val + (i 0).val
      omega
    · rfl
    · show (i 2).val = 0 + (i 2).val
      omega
  · intro a
    fin_cases a
    · show (i 0).val = 0 + (i 0).val
      omega
    · rfl
    · show (i 2).val = 0 + (i 2).val
      omega
theorem o_off1_0 : ∀ k : Fin k0_t1_loop.trips, k0_off1 k 0#32 = ![2 * k.val, 0, 0] := by decide +kernel
theorem o_off2_0 : ∀ k : Fin k0_t1_loop.trips, k0_off2 k 0#32 = ![2 * k.val, 0, 0] := by decide +kernel
theorem o_off3_0 : ∀ k : Fin k0_t1_loop.trips, k0_off3 k 0#32 = ![2 * k.val, 0, 0] := by decide +kernel
theorem o_off5_0 : ∀ k : Fin k0_t1_loop.trips, k0_off5 k 0#32 = ![2 * k.val, 512, 0] := by decide +kernel
theorem o_off7_0 : ∀ k : Fin k0_t1_loop.trips, k0_off7 k 0#32 = ![2 * k.val, 1024, 0] := by decide +kernel
theorem o_off9_0 : ∀ k : Fin k0_t1_loop.trips, k0_off9 k 0#32 = ![2 * k.val, 1536, 0] := by decide +kernel
theorem o_off11_0 : ∀ k : Fin k0_t1_loop.trips, k0_off11 k 0#32 = ![2 * k.val, 2048, 0] := by decide +kernel
theorem o_off13_0 : ∀ k : Fin k0_t1_loop.trips, k0_off13 k 0#32 = ![2 * k.val, 2560, 0] := by decide +kernel
theorem o_off15_0 : ∀ k : Fin k0_t1_loop.trips, k0_off15 k 0#32 = ![2 * k.val, 3072, 0] := by decide +kernel
theorem o_off17_0 : ∀ k : Fin k0_t1_loop.trips, k0_off17 k 0#32 = ![2 * k.val, 3584, 0] := by decide +kernel
theorem o_off1_1 : ∀ k : Fin k0_t1_loop.trips, k0_off1 k 1#32 = ![2 * k.val + 1, 0, 0] := by decide +kernel
theorem o_off2_1 : ∀ k : Fin k0_t1_loop.trips, k0_off2 k 1#32 = ![2 * k.val + 1, 0, 0] := by decide +kernel
theorem o_off3_1 : ∀ k : Fin k0_t1_loop.trips, k0_off3 k 1#32 = ![2 * k.val + 1, 0, 0] := by decide +kernel
theorem o_off5_1 : ∀ k : Fin k0_t1_loop.trips, k0_off5 k 1#32 = ![2 * k.val + 1, 512, 0] := by decide +kernel
theorem o_off7_1 : ∀ k : Fin k0_t1_loop.trips, k0_off7 k 1#32 = ![2 * k.val + 1, 1024, 0] := by decide +kernel
theorem o_off9_1 : ∀ k : Fin k0_t1_loop.trips, k0_off9 k 1#32 = ![2 * k.val + 1, 1536, 0] := by decide +kernel
theorem o_off11_1 : ∀ k : Fin k0_t1_loop.trips, k0_off11 k 1#32 = ![2 * k.val + 1, 2048, 0] := by decide +kernel
theorem o_off13_1 : ∀ k : Fin k0_t1_loop.trips, k0_off13 k 1#32 = ![2 * k.val + 1, 2560, 0] := by decide +kernel
theorem o_off15_1 : ∀ k : Fin k0_t1_loop.trips, k0_off15 k 1#32 = ![2 * k.val + 1, 3072, 0] := by decide +kernel
theorem o_off17_1 : ∀ k : Fin k0_t1_loop.trips, k0_off17 k 1#32 = ![2 * k.val + 1, 3584, 0] := by decide +kernel
theorem o_off4 : ∀ k : Fin k0_t1_loop.trips, k0_off4 k = ![k.val, 0, 0] := by decide +kernel
theorem o_off6 : ∀ k : Fin k0_t1_loop.trips, k0_off6 k = ![k.val, 0, 0] := by decide +kernel
theorem o_off8 : ∀ k : Fin k0_t1_loop.trips, k0_off8 k = ![k.val, 512, 0] := by decide +kernel
theorem o_off10 : ∀ k : Fin k0_t1_loop.trips, k0_off10 k = ![k.val, 1024, 0] := by decide +kernel
theorem o_off12 : ∀ k : Fin k0_t1_loop.trips, k0_off12 k = ![k.val, 1536, 0] := by decide +kernel
theorem o_off14 : ∀ k : Fin k0_t1_loop.trips, k0_off14 k = ![k.val, 2048, 0] := by decide +kernel
theorem o_off16 : ∀ k : Fin k0_t1_loop.trips, k0_off16 k = ![k.val, 2560, 0] := by decide +kernel
theorem o_off18 : ∀ k : Fin k0_t1_loop.trips, k0_off18 k = ![k.val, 3072, 0] := by decide +kernel
theorem o_off19 : ∀ k : Fin k0_t1_loop.trips, k0_off19 k = ![k.val, 3584, 0] := by decide +kernel
theorem o_off20 : ∀ k : Fin k0_t1_loop.trips, k0_off20 k = ![k.val, 0, 0] := by decide +kernel

theorem piece_congr (off off' : Fin 3 → ℕ) (inb : ∀ a, off a + S1x1024x128.size a ≤ S4x1024x128.size a) (inb' : ∀ a, off' a + S1x1024x128.size a ≤ S4x1024x128.size a)
    (h : off = off') (w : FVec Ideal S1x1024x128 .bf16) :
    ([⟨Rect.unit (s := S4x1024x128) off S1x1024x128.size inb, w⟩] : List (View.Piece (Elt Ideal) S4x1024x128 .bf16))
      = [⟨Rect.unit (s := S4x1024x128) off' S1x1024x128.size inb', w⟩] := by
  subst h
  rfl

section Loads

variable (t : Fin cfg0.N) (k : Fin k0_t1_loop.trips) (x0 : Vec Ideal S8x1024x128 .f32) (x1 : Vec Ideal S8x256x128 .bf16) (x2 : Vec Ideal S4x256x128 .bf16)
  (x3 : Vec Ideal S8x4096x128 .bf16) (x4 : Vec Ideal S4x4096x128 .bf16)

theorem qE_eq (h : Fin 8) (hh : h.val = 2 * k.val) : qE (ms0_0 t) ((hs0_0 t).unread x0) k = Q x0 h := by
  unfold qE Q
  rw [View.readAt_eq_ld, (hs0_0 t).read_unread, ld_q _ _ _ h (by rw [hh]; exact o_off1_0 k)]

theorem kcE_eq (h : Fin 8) (hh : h.val = 2 * k.val) : kcE (ms0_1 t) ((hs0_1 t).unread x1) k = whole (slabC x1 h) := by
  unfold kcE
  rw [View.readAt_eq_ld, (hs0_1 t).read_unread, ld_c _ _ _ h (by rw [hh]; exact o_off2_0 k)]

theorem ksE_eq (h : Fin 8) (hh : h.val = 2 * k.val) : ksE (ms0_3 t) ((hs0_3 t).unread x3) k = chunks (slabK x3 h) := by
  unfold ksE chunks
  simp only [View.readAt_eq_ld, (hs0_3 t).read_unread]
  congr 1
  · exact ld_k _ _ _ h 0 _ (by rw [hh]; exact o_off3_0 k)
  · exact ld_k _ _ _ h 512 _ (by rw [hh]; exact o_off5_0 k)
  · exact ld_k _ _ _ h 1024 _ (by rw [hh]; exact o_off7_0 k)
  · exact ld_k _ _ _ h 1536 _ (by rw [hh]; exact o_off9_0 k)
  · exact ld_k _ _ _ h 2048 _ (by rw [hh]; exact o_off11_0 k)
  · exact ld_k _ _ _ h 2560 _ (by rw [hh]; exact o_off13_0 k)
  · exact ld_k _ _ _ h 3072 _ (by rw [hh]; exact o_off15_0 k)
  · exact ld_k _ _ _ h 3584 _ (by rw [hh]; exact o_off17_0 k)

theorem qO_eq (h : Fin 8) (hh : h.val = 2 * k.val + 1) : qO (ms0_0 t) ((hs0_0 t).unread x0) k = Q x0 h := by
  unfold qO Q
  rw [View.readAt_eq_ld, (hs0_0 t).read_unread, ld_q _ _ _ h (by rw [hh]; exact o_off1_1 k)]
  rfl

theorem kcO_eq (h : Fin 8) (hh : h.val = 2 * k.val + 1) : kcO (ms0_1 t) ((hs0_1 t).unread x1) k = whole (slabC x1 h) := by
  unfold kcO
  rw [View.readAt_eq_ld, (hs0_1 t).read_unread, ld_c _ _ _ h (by rw [hh]; exact o_off2_1 k)]

theorem ksO_eq (h : Fin 8) (hh : h.val = 2 * k.val + 1) : ksO (ms0_3 t) ((hs0_3 t).unread x3) k = chunks (slabK x3 h) := by
  unfold ksO chunks
  simp only [View.readAt_eq_ld, (hs0_3 t).read_unread]
  congr 1
  · exact ld_k _ _ _ h 0 _ (by rw [hh]; exact o_off3_1 k)
  · exact ld_k _ _ _ h 512 _ (by rw [hh]; exact o_off5_1 k)
  · exact ld_k _ _ _ h 1024 _ (by rw [hh]; exact o_off7_1 k)
  · exact ld_k _ _ _ h 1536 _ (by rw [hh]; exact o_off9_1 k)
  · exact ld_k _ _ _ h 2048 _ (by rw [hh]; exact o_off11_1 k)
  · exact ld_k _ _ _ h 2560 _ (by rw [hh]; exact o_off13_1 k)
  · exact ld_k _ _ _ h 3072 _ (by rw [hh]; exact o_off15_1 k)
  · exact ld_k _ _ _ h 3584 _ (by rw [hh]; exact o_off17_1 k)

theorem vcB_eq (p : Fin 4) (hp : p.val = k.val) : vcB (ms0_2 t) ((hs0_2 t).unread x2) k = whole (slabV x2 p) := by
  unfold vcB
  rw [View.readAt_eq_ld, (hs0_2 t).read_unread, ld_v _ _ _ p (by rw [hp]; exact o_off4 k)]

theorem vsB_eq (p : Fin 4) (hp : p.val = k.val) : vsB (ms0_4 t) ((hs0_4 t).unread x4) k = chunks (slabW x4 p) := by
  unfold vsB chunks
  simp only [View.readAt_eq_ld, (hs0_4 t).read_unread]
  congr 1
  · exact ld_w _ _ _ p 0 _ (by rw [hp]; exact o_off6 k)
  · exact ld_w _ _ _ p 512 _ (by rw [hp]; exact o_off8 k)
  · exact ld_w _ _ _ p 1024 _ (by rw [hp]; exact o_off10 k)
  · exact ld_w _ _ _ p 1536 _ (by rw [hp]; exact o_off12 k)
  · exact ld_w _ _ _ p 2048 _ (by rw [hp]; exact o_off14 k)
  · exact ld_w _ _ _ p 2560 _ (by rw [hp]; exact o_off16 k)
  · exact ld_w _ _ _ p 3072 _ (by rw [hp]; exact o_off18 k)
  · exact ld_w _ _ _ p 3584 _ (by rw [hp]; exact o_off19 k)

/-- What trip `k` leaves: one block at slab `k`. -/
theorem trip_at (c : Dev nD) :
    tripL_k0_t1 Variants.none c none (grid0.coords t) (ms0_0 t) (hs0_0 t) (ms0_1 t) (hs0_1 t) (ms0_2 t) (hs0_2 t) (ms0_3 t) (hs0_3 t) (ms0_4 t) (hs0_4 t)
        (ms0_5 t) (hs0_5 t) ((hs0_0 t).unread x0) ((hs0_1 t).unread x1) ((hs0_2 t).unread x2) ((hs0_3 t).unread x3) ((hs0_4 t).unread x4) k
      = [⟨Rect.unit (s := S4x1024x128) ![k.val, 0, 0] S1x1024x128.size (o_off20 k ▸ k0_off20_inb k),
          pair (Oh x0 x1 x2 x3 x4 ⟨2 * k.val, by have := k_lt k; omega⟩ ⟨k.val, k_lt k⟩)
            (Oh x0 x1 x2 x3 x4 ⟨2 * k.val + 1, by have := k_lt k; omega⟩ ⟨k.val, k_lt k⟩)⟩] := by
  refine (trip_eq _ _ _ _ _ _ _ _ _ _ k Variants.none c none (grid0.coords t) (hs0_0 t) (hs0_1 t) (hs0_2 t) (hs0_3 t) (hs0_4 t) (ms0_5 t) (hs0_5 t)).trans ?_
  rw [qE_eq t k x0 ⟨2 * k.val, by have := k_lt k; omega⟩ rfl, qO_eq t k x0 ⟨2 * k.val + 1, by have := k_lt k; omega⟩ rfl,
    kcE_eq t k x1 ⟨2 * k.val, by have := k_lt k; omega⟩ rfl, kcO_eq t k x1 ⟨2 * k.val + 1, by have := k_lt k; omega⟩ rfl,
    ksE_eq t k x3 ⟨2 * k.val, by have := k_lt k; omega⟩ rfl, ksO_eq t k x3 ⟨2 * k.val + 1, by have := k_lt k; omega⟩ rfl,
    vcB_eq t k x2 ⟨k.val, k_lt k⟩ rfl, vsB_eq t k x4 ⟨k.val, k_lt k⟩ rfl]
  exact piece_congr _ _ _ _ (o_off20 k) _

end Loads

theorem lane : ∀ l : Fin 128, (l.val < 64 → IntOp.cmpi .slt (BitVec.ofNat 32 l.val) 64#32 = 1#1)
    ∧ (¬ l.val < 64 → IntOp.cmpi .slt (BitVec.ofNat 32 l.val) 64#32 = 0#1) := by decide +kernel

theorem pair_at (a b : FVec Ideal S1024x128 .f32) (z : Fin 1) (r : Fin 1024) (l : Fin 128) :
    pair a b (ix3 z r l) = if l.val < 64 then a (ix2 r l) else b (ix2 r l) := by
  pointwise [pair]
  by_cases h : l.val < 64
  · rw [if_pos h, (lane l).1 h]
    rfl
  · rw [if_neg h, (lane l).2 h]
    rfl

theorem pair_Gout (x0 : Vec Ideal S8x1024x128 .f32) (x1 : Vec Ideal S8x256x128 .bf16) (x2 : Vec Ideal S4x256x128 .bf16)
    (x3 : Vec Ideal S8x4096x128 .bf16) (x4 : Vec Ideal S4x4096x128 .bf16) (n : Fin 4) (a b : Fin 8) (ha : a.val = 2 * n.val) (hb : b.val = 2 * n.val + 1)
    (x : S1x1024x128.Idx) (p : Fin 4) (r : Fin 1024) (l : Fin 128) (h0 : p.val = n.val) (h1 : r.val = (x 1).val) (h2 : l.val = (x 2).val) :
    pair (Oh x0 x1 x2 x3 x4 a n) (Oh x0 x1 x2 x3 x4 b n) x = Gout x0 x1 x2 x3 x4 p r l := by
  obtain rfl : p = n := Fin.ext h0
  obtain rfl : r = x 1 := Fin.ext h1
  obtain rfl : l = x 2 := Fin.ext h2
  rw [eq_ix3 x]
  refine (pair_at _ _ _ _ _).trans ?_
  have hl : (x 2).val < 128 := (x 2).isLt
  unfold Gout
  split
  · refine congrArg (fun h => Oh x0 x1 x2 x3 x4 h p (ix2 (x 1) (x 2))) (Fin.ext ?_)
    show a.val = 2 * p.val + (x 2).val / 64
    omega
  · refine congrArg (fun h => Oh x0 x1 x2 x3 x4 h p (ix2 (x 1) (x 2))) (Fin.ext ?_)
    show b.val = 2 * p.val + (x 2).val / 64
    omega

theorem out_at (c : Dev nD) (t : Fin cfg0.N) (x0 : Vec Ideal S8x1024x128 .f32) (x1 : Vec Ideal S8x256x128 .bf16) (x2 : Vec Ideal S4x256x128 .bf16)
    (x3 : Vec Ideal S8x4096x128 .bf16) (x4 : Vec Ideal S4x4096x128 .bf16) (y : S4x1024x128.Idx) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t)
        x0 x1 x2 x3 x4 y
      = Gout x0 x1 x2 x3 x4 (y 0) (y 1) (y 2) := by
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 x3 x4)]
  unfold kernelRun0_A
  dsimp only
  have e (k : Fin k0_t1_loop.trips) := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) ((hs0_0 t).unread x0) ((hs0_1 t).unread x1) ((hs0_2 t).unread x2) ((hs0_3 t).unread x3) ((hs0_4 t).unread x4) k
  have ht : Scf.trips (0#32) (Scalar.addi 0#32 4#32) 1#32 = 4 := by decide +kernel
  rw [ht]
  have e0 := e ⟨0, by decide +kernel⟩
  have e1 := e ⟨1, by decide +kernel⟩
  have e2 := e ⟨2, by decide +kernel⟩
  have e3 := e ⟨3, by decide +kernel⟩
  dsimp only at e0 e1 e2 e3
  rw [e3, e2, e1, e0]
  have T := fun k => trip_at t k x0 x1 x2 x3 x4 c
  rw [T ⟨0, _⟩, T ⟨1, _⟩, T ⟨2, _⟩, T ⟨3, _⟩]
  change View.canon [_, _, _, _] y = _
  canon_tiles x h
  all_goals exact pair_Gout x0 x1 x2 x3 x4 _ _ _ rfl rfl x (y 0) (y 1) (y 2) (by dsimp only; omega) h1 h2

end Cert.MlaIdeal.Steps

end
-- ==== Proof.MlaEntry.lean ====
/- The arrays the latent attention kernel's blocks are cut from, in terms of the arguments: the queries, keys and values of all batch rows one below
   the other, the latent rows first and the context rows after them. A query's or key's 128 lanes are two halves of 64: 32 lanes of the part without
   rotation, the 16 even or odd lanes of the rotated part, and 16 zeros. -/
module

public import proofs.«01_k».proof.Proof.MlaOut
public import proofs.«01_k».proof.Proof.Consts
public import Idealize.ShloMosaic.Lib.Claim

@[expose] public section

set_option maxRecDepth 16384

noncomputable section

namespace Cert.MlaIdeal.Steps

open Cert.MlaIdeal Cert.MlaIdeal.Gen Idealize.ShloMosaic Idealize.ShloMosaic.TcCoe Idealize.SL.Sem

variable (m : (ℓ : Loc nD τ sig) → Buf (Elt Ideal) ℓ)

/-- All rows of the part without rotation. -/
def rowsN (x : FVec Ideal S8x4096x16x64 .f32) (xc : FVec Ideal S8x256x16x64 .f32) : FVec Ideal S16x34816x64 .f32 :=
  concatenate S16x34816x64 1
    [⟨S16x32768x64, transpose S16x32768x64 [1, 0, 2] (shapeCast S32768x16x64 x shapeCasts_S8x4096x16x64_S32768x16x64) transposes_S32768x16x64_S16x32768x64_1_0_2⟩,
      ⟨S16x2048x64, transpose S16x2048x64 [1, 0, 2] (shapeCast S2048x16x64 xc shapeCasts_S8x256x16x64_S2048x16x64) transposes_S2048x16x64_S16x2048x64_1_0_2⟩]
    concatenates_S16x32768x64_S16x2048x64_S16x34816x64_d1

/-- All rows of the rotated part. -/
def rowsR (x : FVec Ideal S8x4096x16x32 .f32) (xc : FVec Ideal S8x256x16x32 .f32) : FVec Ideal S16x34816x32 .f32 :=
  concatenate S16x34816x32 1
    [⟨S16x32768x32, transpose S16x32768x32 [1, 0, 2] (shapeCast S32768x16x32 x shapeCasts_S8x4096x16x32_S32768x16x32) transposes_S32768x16x32_S16x32768x32_1_0_2⟩,
      ⟨S16x2048x32, transpose S16x2048x32 [1, 0, 2] (shapeCast S2048x16x32 xc shapeCasts_S8x256x16x32_S2048x16x32) transposes_S2048x16x32_S16x2048x32_1_0_2⟩]
    concatenates_S16x32768x32_S16x2048x32_S16x34816x32_d1

/-- Both parts on 128 lanes. -/
def lanes (n : FVec Ideal S16x34816x64 .f32) (r : FVec Ideal S16x34816x32 .f32) : FVec Ideal S16x34816x128 .f32 :=
  shapeCast S16x34816x128 (concatenate S16x34816x2x64 3
    [⟨S16x34816x2x32, shapeCast S16x34816x2x32 n shapeCasts_S16x34816x64_S16x34816x2x32⟩,
      ⟨S16x34816x2x16, transpose S16x34816x2x16 [0, 1, 3, 2] (shapeCast S16x34816x16x2 r shapeCasts_S16x34816x32_S16x34816x16x2) transposes_S16x34816x16x2_S16x34816x2x16_0_1_3_2⟩,
      ⟨S16x34816x2x16, broadcastInDim S16x34816x2x16 ![] bcast_S_S16x34816x2x16 (constant (F := Ideal) S_ .f32 0x00000000#32)⟩]
    concatenates_S16x34816x2x32_S16x34816x2x16_S16x34816x2x16_S16x34816x2x64_d3) shapeCasts_S16x34816x2x64_S16x34816x128

/-- A rotated key spread over the heads. -/
def wideL (x : FVec Ideal S8x4096x32 .f32) : FVec Ideal S8x4096x16x32 .f32 :=
  broadcastInDim S8x4096x16x32 ![0, 1, 2, 3] bcast_S8x4096x1x32_S8x4096x16x32_0_1_2_3 (broadcastInDim S8x4096x1x32 ![0, 1, 3] bcast_S8x4096x32_S8x4096x1x32_0_1_3 x)

def wideC (x : FVec Ideal S8x256x32 .f32) : FVec Ideal S8x256x16x32 .f32 :=
  broadcastInDim S8x256x16x32 ![0, 1, 2, 3] bcast_S8x256x1x32_S8x256x16x32_0_1_2_3 (broadcastInDim S8x256x1x32 ![0, 1, 3] bcast_S8x256x32_S8x256x1x32_0_1_3 x)

/-- The values of all rows, two heads to a block. -/
def varr (v : FVec Ideal S8x4096x16x64 .f32) (vc : FVec Ideal S8x256x16x64 .f32) : FVec Ideal S8x34816x128 .bf16 :=
  truncf .bf16 (concatenate S8x34816x128 1
    [⟨S8x32768x128, transpose S8x32768x128 [1, 0, 2] (shapeCast S32768x8x128 (shapeCast S8x4096x8x128 v shapeCasts_S8x4096x16x64_S8x4096x8x128) shapeCasts_S8x4096x8x128_S32768x8x128) transposes_S32768x8x128_S8x32768x128_1_0_2⟩,
      ⟨S8x2048x128, transpose S8x2048x128 [1, 0, 2] (shapeCast S2048x8x128 (shapeCast S8x256x8x128 vc shapeCasts_S8x256x16x64_S8x256x8x128) shapeCasts_S8x256x8x128_S2048x8x128) transposes_S2048x8x128_S8x2048x128_1_0_2⟩]
    concatenates_S8x32768x128_S8x2048x128_S8x34816x128_d1) bitsLt_bf16_f32

/-- The lane of an entry of the part without rotation, and of the rotated part. -/
def nl (e : Fin 64) : Fin 128 := ⟨64 * (e.val / 32) + e.val % 32, by omega⟩
def rl (e : Fin 32) : Fin 128 := ⟨64 * (e.val % 2) + 32 + e.val / 2, by omega⟩

theorem rowsN_lat (x : FVec Ideal S8x4096x16x64 .f32) (xc : FVec Ideal S8x256x16x64 .f32) (h : Fin 16) (s : Fin 34816) (d : Fin 64) (hs : s.val < 32768) :
    rowsN x xc (ix3 h s d) = x (ix4 ⟨s.val / 4096, by omega⟩ ⟨s.val % 4096, by omega⟩ h d) := by
  pointwise [rowsN]
  rw [dif_pos hs]

theorem rowsN_ctx (x : FVec Ideal S8x4096x16x64 .f32) (xc : FVec Ideal S8x256x16x64 .f32) (h : Fin 16) (s : Fin 34816) (d : Fin 64) (hs : ¬ s.val < 32768) :
    rowsN x xc (ix3 h s d) = xc (ix4 ⟨(s.val - 32768) / 256, by omega⟩ ⟨(s.val - 32768) % 256, by omega⟩ h d) := by
  pointwise [rowsN]
  rw [dif_neg hs]

theorem rowsR_lat (x : FVec Ideal S8x4096x16x32 .f32) (xc : FVec Ideal S8x256x16x32 .f32) (h : Fin 16) (s : Fin 34816) (d : Fin 32) (hs : s.val < 32768) :
    rowsR x xc (ix3 h s d) = x (ix4 ⟨s.val / 4096, by omega⟩ ⟨s.val % 4096, by omega⟩ h d) := by
  pointwise [rowsR]
  rw [dif_pos hs]

theorem rowsR_ctx (x : FVec Ideal S8x4096x16x32 .f32) (xc : FVec Ideal S8x256x16x32 .f32) (h : Fin 16) (s : Fin 34816) (d : Fin 32) (hs : ¬ s.val < 32768) :
    rowsR x xc (ix3 h s d) = xc (ix4 ⟨(s.val - 32768) / 256, by omega⟩ ⟨(s.val - 32768) % 256, by omega⟩ h d) := by
  pointwise [rowsR]
  rw [dif_neg hs]

theorem wideL_at (x : FVec Ideal S8x4096x32 .f32) (b : Fin 8) (s : Fin 4096) (h : Fin 16) (d : Fin 32) : wideL x (ix4 b s h d) = x (ix3 b s d) := by
  pointwise [wideL]

theorem wideC_at (x : FVec Ideal S8x256x32 .f32) (b : Fin 8) (s : Fin 256) (h : Fin 16) (d : Fin 32) : wideC x (ix4 b s h d) = x (ix3 b s d) := by
  pointwise [wideC]

theorem varr_lat (v : FVec Ideal S8x4096x16x64 .f32) (vc : FVec Ideal S8x256x16x64 .f32) (p : Fin 8) (s : Fin 34816) (l : Fin 128) (hs : s.val < 32768) :
    varr v vc (ix3 p s l) = v (ix4 ⟨s.val / 4096, by omega⟩ ⟨s.val % 4096, by omega⟩ ⟨p.val * 2 + l.val / 64, by omega⟩ ⟨l.val % 64, by omega⟩) := by
  pointwise [varr]
  rw [dif_pos hs]

theorem varr_ctx (v : FVec Ideal S8x4096x16x64 .f32) (vc : FVec Ideal S8x256x16x64 .f32) (p : Fin 8) (s : Fin 34816) (l : Fin 128) (hs : ¬ s.val < 32768) :
    varr v vc (ix3 p s l)
      = vc (ix4 ⟨(s.val - 32768) / 256, by omega⟩ ⟨(s.val - 32768) % 256, by omega⟩ ⟨p.val * 2 + l.val / 64, by omega⟩ ⟨l.val % 64, by omega⟩) := by
  pointwise [varr]
  rw [dif_neg hs]

theorem lanes_nl (n : FVec Ideal S16x34816x64 .f32) (r : FVec Ideal S16x34816x32 .f32) (h : Fin 16) (s : Fin 34816) (e : Fin 64) :
    lanes n r (ix3 h s (nl e)) = n (ix3 h s e) := by
  pointwise [lanes, nl]
  rw [dif_pos (by omega)]

theorem lanes_rl (n : FVec Ideal S16x34816x64 .f32) (r : FVec Ideal S16x34816x32 .f32) (h : Fin 16) (s : Fin 34816) (e : Fin 32) :
    lanes n r (ix3 h s (rl e)) = r (ix3 h s e) := by
  pointwise [lanes, rl]
  have he := e.isLt
  have h1 : (64 * (e.val % 2) + 32 + e.val / 2) % 64 = 32 + e.val / 2 := by
    rcases Nat.mod_two_eq_zero_or_one e.val with h | h <;> rw [h] <;> omega
  have h2 : (64 * (e.val % 2) + 32 + e.val / 2) / 64 = e.val % 2 := by
    rcases Nat.mod_two_eq_zero_or_one e.val with h | h <;> rw [h] <;> omega
  rw [dif_neg (by omega), dif_pos (by omega)]
  exact congrArg (fun d => r (ix3 h s d)) (Fin.ext (by dsimp only; omega))

theorem lanes_zero (n : FVec Ideal S16x34816x64 .f32) (r : FVec Ideal S16x34816x32 .f32) (h : Fin 16) (s : Fin 34816) (l : Fin 128) (hl : 48 ≤ l.val % 64) :
    lanes n r (ix3 h s l) = 0 := by
  pointwise [lanes]
  rw [dif_neg (by omega), dif_neg (by omega)]

/-- A sum over the 128 lanes whose zero lanes contribute nothing. -/
theorem sum_lanes (f : Fin 128 → EReal) (h : ∀ l : Fin 128, 48 ≤ l.val % 64 → f l = 0) :
    ∑ l, f l = ∑ e : Fin 64, f (nl e) + ∑ e : Fin 32, f (rl e) := by
  have hn : Function.Injective nl := by decide +kernel
  have hr : Function.Injective rl := by decide +kernel
  have hd : Disjoint (Finset.univ.image nl) (Finset.univ.image rl) := by decide +kernel
  have hz : ∀ l : Fin 128, l ∉ Finset.univ.image nl ∪ Finset.univ.image rl → 48 ≤ l.val % 64 := by decide +kernel
  rw [← Finset.sum_subset (Finset.subset_univ (Finset.univ.image nl ∪ Finset.univ.image rl)) fun l _ hl => h l (hz l hl), Finset.sum_union hd,
    Finset.sum_image fun _ _ _ _ e => hn e, Finset.sum_image fun _ _ _ _ e => hr e]

open StableHlo in
/-- The result of an operation of three operands, each operand's contents at its own array. -/
theorem three_result {x a b y : Ref sig .tc} (f : ((k : Fin 3) → ((![x, a, b] : Fin 3 → Ref sig .tc) k).ty.Contents (Elt Ideal)) → y.ty.Contents (Elt Ideal))
    (hxs hy) (F : Valuation τ sig (Elt Ideal)) :
    (nary (τ := τ) ![x, a, b] y f hxs hy).result F (no_index (Proc.devRef .tc y))
      = f (Fin.cons (F (Proc.devRef .tc x)) (Fin.cons (F (Proc.devRef .tc a)) (Fin.cons (F (Proc.devRef .tc b)) fun i => i.elim0))) := by
  refine (nary_result _ _ f hxs hy F).trans (congrArg f (funext fun k => ?_))
  match k with
  | 0 => rfl
  | 1 => rfl
  | 2 => rfl

set_option maxHeartbeats 4000000 in
theorem v15_eq (c : Dev nD) : V m c main_v15 = lanes (rowsN (m ((c : Thread nD τ).loc main_arg0)) (m ((c : Thread nD τ).loc main_arg1)))
    (rowsR (m ((c : Thread nD τ).loc main_arg2)) (m ((c : Thread nD τ).loc main_arg3))) := by
  unfold V
  simp (disch := decide) only [↓ StableHlo.readResult, StableHlo.after_cons, StableHlo.after_nil, three_result, StableHlo.nullary_result',
    StableHlo.unary_result', StableHlo.binary_result', StableHlo.reshape_result', StableHlo.nullary_result_ne', StableHlo.unary_result_ne',
    StableHlo.binary_result_ne', StableHlo.reshape_result_ne', StableHlo.nary_result_ne']
  after_results_loop
  rfl

set_option maxHeartbeats 4000000 in
/-- The keys' array, from any contents of the arrays when the operations that build it start. -/
theorem keys_read (G : Valuation τ sig (Elt Ideal)) : StableHlo.after (hostOps0.drop 17) G main_v36
    = truncf (F := Ideal) .bf16 (lanes (rowsN (G (Proc.devRef .tc main_arg4)) (G (Proc.devRef .tc main_arg5)))
        (rowsR (wideL (G (Proc.devRef .tc main_arg6))) (wideC (G (Proc.devRef .tc main_arg7))))) bitsLt_bf16_f32 := by
  simp (disch := decide) only [List.drop_succ_cons, List.drop_zero, ↓ StableHlo.readResult, StableHlo.after_cons, StableHlo.after_nil, three_result, StableHlo.nullary_result',
    StableHlo.unary_result', StableHlo.binary_result', StableHlo.reshape_result', StableHlo.nullary_result_ne', StableHlo.unary_result_ne',
    StableHlo.binary_result_ne', StableHlo.reshape_result_ne', StableHlo.nary_result_ne']
  after_results_loop
  rfl

/-- The operations before those do not touch the keys. -/
theorem keys_kept (c : Dev nD) (b : Ref sig .tc) (hb : b ∈ [main_arg4, main_arg5, main_arg6, main_arg7]) :
    StableHlo.after (hostOps0.take 17) (fun b => m (c, b)) (Proc.devRef .tc b) = m ((c : Thread nD τ).loc b) := by
  simp only [List.mem_cons, List.not_mem_nil, or_false] at hb
  rcases hb with rfl | rfl | rfl | rfl <;>
    simp (disch := decide) only [List.take_succ_cons, List.take_zero, ↓ StableHlo.readResult, StableHlo.after_cons, StableHlo.after_nil, StableHlo.nullary_result_ne',
      StableHlo.unary_result_ne', StableHlo.binary_result_ne', StableHlo.reshape_result_ne', StableHlo.nary_result_ne']

theorem after_split (l : List (HloOp τ sig (Elt Ideal))) (n : ℕ) (G : Valuation τ sig (Elt Ideal)) :
    StableHlo.after l G = StableHlo.after (l.drop n) (StableHlo.after (l.take n) G) := by
  induction n generalizing l G with
  | zero => rfl
  | succ n ih =>
    cases l with
    | nil => rfl
    | cons o l => exact ih l _

theorem v36_eq (c : Dev nD) : V m c main_v36 = truncf (F := Ideal) .bf16 (lanes (rowsN (m ((c : Thread nD τ).loc main_arg4)) (m ((c : Thread nD τ).loc main_arg5)))
    (rowsR (wideL (m ((c : Thread nD τ).loc main_arg6))) (wideC (m ((c : Thread nD τ).loc main_arg7))))) bitsLt_bf16_f32 := by
  refine (congrFun (after_split hostOps0 17 fun b => m (c, b)) (Proc.devRef .tc main_v36)).trans ((keys_read _).trans ?_)
  rw [keys_kept m c main_arg4 (by simp), keys_kept m c main_arg5 (by simp), keys_kept m c main_arg6 (by simp), keys_kept m c main_arg7 (by simp)]

theorem v44_eq (c : Dev nD) : V m c main_v44 = varr (m ((c : Thread nD τ).loc main_arg8)) (m ((c : Thread nD τ).loc main_arg9)) := by
  entry_read
  rfl

end Cert.MlaIdeal.Steps

end
-- ==== Proof.MlaBlocks.lean ====
/- The blocks the latent attention kernel's body reads at a grid point, in terms of the arguments. -/
module

public import proofs.«01_k».proof.Proof.MlaEntry

@[expose] public section

set_option maxRecDepth 16384

noncomputable section

namespace Cert.MlaIdeal.Steps

open Cert.MlaIdeal Cert.MlaIdeal.Gen Idealize.ShloMosaic Idealize.ShloMosaic.TcCoe Idealize.SL.Sem

variable (m : (ℓ : Loc nD τ sig) → Buf (Elt Ideal) ℓ)

theorem t_lt (t : Fin cfg0.N) : t.val < 64 := lt_of_lt_of_eq t.isLt (by decide +kernel)

/-- The batch row of a grid point, the place in it of row `r` of the point's block, and the head of the block's head `h`. -/
def bO (t : Fin cfg0.N) : Fin 8 := ⟨t.val / 8, by have := t_lt t; omega⟩
def iO (t : Fin cfg0.N) (r : Fin 1024) : Fin 4096 := ⟨1024 * (t.val % 4) + r.val, by omega⟩
def hO (t : Fin cfg0.N) (h : Fin 8) : Fin 16 := ⟨8 * (t.val / 4 % 2) + h.val, by omega⟩

theorem idx : ∀ t : Fin cfg0.N, win0_0.index t = ![t.val / 4 % 2, t.val / 8 * 4 + t.val % 4, 0] ∧ win0_1.index t = ![t.val / 4 % 2, 128 + t.val / 8, 0]
    ∧ win0_2.index t = ![t.val / 4 % 2, 128 + t.val / 8, 0] ∧ win0_3.index t = ![t.val / 4 % 2, t.val / 8, 0]
    ∧ win0_4.index t = ![t.val / 4 % 2, t.val / 8, 0] ∧ win0_5.index t = ![t.val / 4 % 2, t.val / 8 * 4 + t.val % 4, 0] :=
  (by decide +kernel : ∀ t : Fin grid0.N, _)

theorem trunc_at (x : FVec Ideal S16x34816x128 .f32) (i : S16x34816x128.Idx) : truncf (F := Ideal) .bf16 x bitsLt_bf16_f32 i = x i := rfl

theorem emb0 (t : Fin cfg0.N) (h : Fin 8) (r : Fin 1024) (d : Fin 128) :
    (win0_0.blk t).view.emb (ix3 h r d)
      = (ix3 (hO t h) ⟨1024 * (t.val / 8 * 4 + t.val % 4) + r.val, by have := t_lt t; omega⟩ d : S16x34816x128.Idx) := by
  have ht := t_lt t
  blk_ext [idx t, hO]

theorem emb1 (t : Fin cfg0.N) (h : Fin 8) (k : Fin 256) (d : Fin 128) :
    (win0_1.blk t).view.emb (ix3 h k d)
      = (ix3 (hO t h) ⟨256 * (128 + t.val / 8) + k.val, by have := t_lt t; omega⟩ d : S16x34816x128.Idx) := by
  have ht := t_lt t
  blk_ext [idx t, hO]

theorem emb2 (t : Fin cfg0.N) (p : Fin 4) (k : Fin 256) (d : Fin 128) :
    (win0_2.blk t).view.emb (ix3 p k d)
      = (ix3 ⟨4 * (t.val / 4 % 2) + p.val, by omega⟩ ⟨256 * (128 + t.val / 8) + k.val, by have := t_lt t; omega⟩ d : S8x34816x128.Idx) := by
  have ht := t_lt t
  blk_ext [idx t]

theorem emb3 (t : Fin cfg0.N) (h : Fin 8) (k : Fin 4096) (d : Fin 128) (hh : ∀ a, ((ix3 h k d : S8x4096x128.Idx) a).val < (win0_3.xblock (grid0.coords t)).size a) :
    (win0_3.blk t).view.emb (fun a => ⟨((ix3 h k d : S8x4096x128.Idx) a).val, hh a⟩)
      = (ix3 (hO t h) ⟨4096 * (t.val / 8) + k.val, by have := t_lt t; omega⟩ d : S16x34816x128.Idx) := by
  have ht := t_lt t
  blk_ext [idx t, hO]

theorem emb4 (t : Fin cfg0.N) (p : Fin 4) (k : Fin 4096) (d : Fin 128) (hh : ∀ a, ((ix3 p k d : S4x4096x128.Idx) a).val < (win0_4.xblock (grid0.coords t)).size a) :
    (win0_4.blk t).view.emb (fun a => ⟨((ix3 p k d : S4x4096x128.Idx) a).val, hh a⟩)
      = (ix3 ⟨4 * (t.val / 4 % 2) + p.val, by omega⟩ ⟨4096 * (t.val / 8) + k.val, by have := t_lt t; omega⟩ d : S8x34816x128.Idx) := by
  have ht := t_lt t
  blk_ext [idx t]

theorem emb5 (t : Fin cfg0.N) (p : Fin 4) (r : Fin 1024) (l : Fin 128) :
    (win0_5.blk t).view.emb (ix3 p r l)
      = (ix3 ⟨4 * (t.val / 4 % 2) + p.val, by omega⟩ ⟨1024 * (t.val / 8 * 4 + t.val % 4) + r.val, by have := t_lt t; omega⟩ l : S8x32768x128.Idx) := by
  have ht := t_lt t
  blk_ext [idx t]

theorem read0 (X : FVec Ideal S16x34816x128 .f32) (t : Fin cfg0.N) (h : Fin 8) (k : Fin 1024) (d : Fin 128) :
    View.read (Elt Ideal) ((cfg0.win 0).blk t).view X (ix3 h k d) = X (ix3 (hO t h) ⟨1024 * (t.val / 8 * 4 + t.val % 4) + k.val, by have := t_lt t; omega⟩ d) :=
  congrArg X (emb0 t h k d)

/-- The queries' block: eight heads, 1024 rows of one batch row. -/
theorem blk0_at (c : Dev nD) (t : Fin cfg0.N) (h : Fin 8) (k : Fin 1024) (d : Fin 128) :
    (iblk m c 0 t : FVec Ideal S8x1024x128 .f32) (ix3 h k d) = lanes (rowsN (m ((c : Thread nD τ).loc main_arg0)) (m ((c : Thread nD τ).loc main_arg1)))
      (rowsR (m ((c : Thread nD τ).loc main_arg2)) (m ((c : Thread nD τ).loc main_arg3)))
      (ix3 (hO t h) ⟨1024 * (t.val / 8 * 4 + t.val % 4) + k.val, by have := t_lt t; omega⟩ d) := by
  unfold iblk
  exact (read0 (V m c main_v15) t h k d).trans (congrFun (v15_eq m c) _)

theorem blk0_nl (c : Dev nD) (t : Fin cfg0.N) (h : Fin 8) (k : Fin 1024) (e : Fin 64) :
    (iblk m c 0 t : FVec Ideal S8x1024x128 .f32) (ix3 h k (nl e)) = (m ((c : Thread nD τ).loc main_arg0) : FVec Ideal S8x4096x16x64 .f32) (ix4 (bO t) (iO t k) (hO t h) e) := by
  have ht := t_lt t
  rw [blk0_at, lanes_nl, rowsN_lat _ _ _ _ _ (by dsimp only; omega)]
  refine congrArg _ ?_
  blk_ext [bO, iO]

theorem blk0_rl (c : Dev nD) (t : Fin cfg0.N) (h : Fin 8) (k : Fin 1024) (e : Fin 32) :
    (iblk m c 0 t : FVec Ideal S8x1024x128 .f32) (ix3 h k (rl e)) = (m ((c : Thread nD τ).loc main_arg2) : FVec Ideal S8x4096x16x32 .f32) (ix4 (bO t) (iO t k) (hO t h) e) := by
  have ht := t_lt t
  rw [blk0_at, lanes_rl, rowsR_lat _ _ _ _ _ (by dsimp only; omega)]
  refine congrArg _ ?_
  blk_ext [bO, iO]

theorem blk0_zero (c : Dev nD) (t : Fin cfg0.N) (h : Fin 8) (k : Fin 1024) (l : Fin 128) (hl : 48 ≤ l.val % 64) :
    (iblk m c 0 t : FVec Ideal S8x1024x128 .f32) (ix3 h k l) = (0 : EReal) :=
  (blk0_at m c t h k l).trans (lanes_zero _ _ _ _ _ hl)

theorem read1 (X : FVec Ideal S16x34816x128 .bf16) (t : Fin cfg0.N) (h : Fin 8) (k : Fin 256) (d : Fin 128) :
    View.read (Elt Ideal) ((cfg0.win 1).blk t).view X (ix3 h k d) = X (ix3 (hO t h) ⟨256 * (128 + t.val / 8) + k.val, by have := t_lt t; omega⟩ d) :=
  congrArg X (emb1 t h k d)

/-- The context keys of the batch row. -/
theorem blk1_at (c : Dev nD) (t : Fin cfg0.N) (h : Fin 8) (k : Fin 256) (d : Fin 128) :
    (iblk m c 1 t : FVec Ideal S8x256x128 .bf16) (ix3 h k d) = lanes (rowsN (m ((c : Thread nD τ).loc main_arg4)) (m ((c : Thread nD τ).loc main_arg5)))
      (rowsR (wideL (m ((c : Thread nD τ).loc main_arg6))) (wideC (m ((c : Thread nD τ).loc main_arg7))))
      (ix3 (hO t h) ⟨256 * (128 + t.val / 8) + k.val, by have := t_lt t; omega⟩ d) := by
  unfold iblk
  exact (read1 (V m c main_v36) t h k d).trans ((congrFun (v36_eq m c) _).trans (trunc_at _ _))

theorem blk1_nl (c : Dev nD) (t : Fin cfg0.N) (h : Fin 8) (k : Fin 256) (e : Fin 64) :
    (iblk m c 1 t : FVec Ideal S8x256x128 .bf16) (ix3 h k (nl e)) = (m ((c : Thread nD τ).loc main_arg5) : FVec Ideal S8x256x16x64 .f32) (ix4 (bO t) k (hO t h) e) := by
  have ht := t_lt t
  rw [blk1_at, lanes_nl, rowsN_ctx _ _ _ _ _ (by dsimp only; omega)]
  refine congrArg _ ?_
  blk_ext [bO, iO]

theorem blk1_rl (c : Dev nD) (t : Fin cfg0.N) (h : Fin 8) (k : Fin 256) (e : Fin 32) :
    (iblk m c 1 t : FVec Ideal S8x256x128 .bf16) (ix3 h k (rl e)) = (m ((c : Thread nD τ).loc main_arg7) : FVec Ideal S8x256x32 .f32) (ix3 (bO t) k e) := by
  have ht := t_lt t
  rw [blk1_at, lanes_rl, rowsR_ctx _ _ _ _ _ (by dsimp only; omega), wideC_at]
  refine congrArg _ ?_
  blk_ext [bO, iO]

theorem read3 (X : FVec Ideal S16x34816x128 .bf16) (t : Fin cfg0.N) (h : Fin 8) (k : Fin 4096) (d : Fin 128)
    (hh : ∀ a, ((ix3 h k d : S8x4096x128.Idx) a).val < (win0_3.xblock (grid0.coords t)).size a) :
    View.read (Elt Ideal) ((cfg0.win 3).blk t).view X (fun a => ⟨((ix3 h k d : S8x4096x128.Idx) a).val, hh a⟩) = X (ix3 (hO t h) ⟨4096 * (t.val / 8) + k.val, by have := t_lt t; omega⟩ d) :=
  congrArg X (emb3 t h k d hh)

/-- The latent keys of the batch row. -/
theorem blk3_at (c : Dev nD) (t : Fin cfg0.N) (h : Fin 8) (k : Fin 4096) (d : Fin 128) :
    (X0_3 m c t : FVec Ideal S8x4096x128 .bf16) (ix3 h k d) = lanes (rowsN (m ((c : Thread nD τ).loc main_arg4)) (m ((c : Thread nD τ).loc main_arg5)))
      (rowsR (wideL (m ((c : Thread nD τ).loc main_arg6))) (wideC (m ((c : Thread nD τ).loc main_arg7))))
      (ix3 (hO t h) ⟨4096 * (t.val / 8) + k.val, by have := t_lt t; omega⟩ d) := by
  unfold X0_3 Pipeline.Window.fill
  rw [dif_pos (moved0_3 t _)]
  unfold iblk
  exact (read3 (V m c main_v36) t h k d _).trans ((congrFun (v36_eq m c) _).trans (trunc_at _ _))

theorem blk3_nl (c : Dev nD) (t : Fin cfg0.N) (h : Fin 8) (k : Fin 4096) (e : Fin 64) :
    (X0_3 m c t : FVec Ideal S8x4096x128 .bf16) (ix3 h k (nl e)) = (m ((c : Thread nD τ).loc main_arg4) : FVec Ideal S8x4096x16x64 .f32) (ix4 (bO t) k (hO t h) e) := by
  have ht := t_lt t
  rw [blk3_at, lanes_nl, rowsN_lat _ _ _ _ _ (by dsimp only; omega)]
  refine congrArg _ ?_
  blk_ext [bO, iO]

theorem blk3_rl (c : Dev nD) (t : Fin cfg0.N) (h : Fin 8) (k : Fin 4096) (e : Fin 32) :
    (X0_3 m c t : FVec Ideal S8x4096x128 .bf16) (ix3 h k (rl e)) = (m ((c : Thread nD τ).loc main_arg6) : FVec Ideal S8x4096x32 .f32) (ix3 (bO t) k e) := by
  have ht := t_lt t
  rw [blk3_at, lanes_rl, rowsR_lat _ _ _ _ _ (by dsimp only; omega), wideL_at]
  refine congrArg _ ?_
  blk_ext [bO, iO]

/-- The context and the latent values of the batch row: lane `l` of pair `p` is lane `l % 64` of head `2 p + l / 64`. -/
theorem blk2 (c : Dev nD) (t : Fin cfg0.N) (p : Fin 4) (k : Fin 256) (l : Fin 128) (h : Fin 8) (hh : h.val = 2 * p.val + l.val / 64) :
    (iblk m c 2 t : FVec Ideal S4x256x128 .bf16) (ix3 p k l)
      = (m ((c : Thread nD τ).loc main_arg9) : FVec Ideal S8x256x16x64 .f32) (ix4 (bO t) k (hO t h) ⟨l.val % 64, by omega⟩) := by
  have ht := t_lt t
  blk_simp [iblk]
  rw [emb2, v44_eq, varr_ctx _ _ _ _ _ (by dsimp only; omega)]
  blk_ext [bO, hO]

theorem blk4 (c : Dev nD) (t : Fin cfg0.N) (p : Fin 4) (k : Fin 4096) (l : Fin 128) (h : Fin 8) (hh : h.val = 2 * p.val + l.val / 64) :
    (X0_4 m c t : FVec Ideal S4x4096x128 .bf16) (ix3 p k l)
      = (m ((c : Thread nD τ).loc main_arg8) : FVec Ideal S8x4096x16x64 .f32) (ix4 (bO t) k (hO t h) ⟨l.val % 64, by omega⟩) := by
  have ht := t_lt t
  unfold X0_4 Pipeline.Window.fill
  rw [dif_pos (moved0_4 t _)]
  blk_simp [iblk]
  rw [emb4, v44_eq, varr_lat _ _ _ _ _ (by dsimp only; omega)]
  blk_ext [bO, hO]

end Cert.MlaIdeal.Steps

end
-- ==== Proof.MlaRef.lean ====
/- The latent attention's reference, read at one entry: a softmax over the concatenated context and latent keys, each score the sum of a part
   without and a part with rotation. -/
module

public import proofs.«01_k».proof.Proof.Gen.MlaRefIdeal
public import proofs.«01_k».proof.Proof.Consts
public import Idealize.ShloMosaic.Lib.StableHlo.Run
public import Idealize.ShloMosaic.Lib.Pipeline.ValueKit
public import Idealize.ShloMosaic.Lib.Pointwise

@[expose] public section

set_option maxRecDepth 16384

noncomputable section

namespace Cert.MlaRefIdeal.Soft

open Cert.MlaRefIdeal Cert.MlaRefIdeal.Gen Idealize.ShloMosaic Idealize.ShloMosaic.TcCoe Idealize.SL.Sem Idealize.ShloMosaic.StableHlo

/-- The context rows before the latent rows. -/
def cat (x : FVec Ideal S8x4096x16x64 .f32) (xc : FVec Ideal S8x256x16x64 .f32) : FVec Ideal S8x4352x16x64 .f32 :=
  concatenate S8x4352x16x64 1 [⟨S8x256x16x64, xc⟩, ⟨S8x4096x16x64, x⟩] concatenates_S8x256x16x64_S8x4096x16x64_S8x4352x16x64_d1

/-- The same for the rotated keys, one for all heads. -/
def catR (x : FVec Ideal S8x4096x32 .f32) (xc : FVec Ideal S8x256x32 .f32) : FVec Ideal S8x4352x32 .f32 :=
  concatenate S8x4352x32 1 [⟨S8x256x32, xc⟩, ⟨S8x4096x32, x⟩] concatenates_S8x256x32_S8x4096x32_S8x4352x32_d1

def plain (q : FVec Ideal S8x4096x16x64 .f32) (k : FVec Ideal S8x4352x16x64 .f32) : FVec Ideal S8x16x4096x4352 .f32 :=
  Host.dotGeneral dot_S8x4096x16x64_S8x4352x16x64_S8x16x4096x4352_3_3_1_1_02_02 none q k

def rotated (q : FVec Ideal S8x4096x16x32 .f32) (k : FVec Ideal S8x4352x32 .f32) : FVec Ideal S8x16x4096x4352 .f32 :=
  transpose S8x16x4096x4352 [0, 3, 2, 1] (Host.dotGeneral dot_S8x4352x32_S8x4096x16x32_S8x4352x4096x16_2_3_1_12_0_0 none k q) transposes_S8x4352x4096x16_S8x16x4096x4352_0_3_2_1

/-- The scaled scores. -/
def scores (q : FVec Ideal S8x4096x16x64 .f32) (qr : FVec Ideal S8x4096x16x32 .f32) (k : FVec Ideal S8x4352x16x64 .f32) (kr : FVec Ideal S8x4352x32 .f32) :
    FVec Ideal S8x16x4096x4352 .f32 :=
  mulf (addf (plain q k) (rotated qr kr)) (broadcastInDim S8x16x4096x4352 ![] bcast_S_S8x16x4096x4352 (constant S_ .f32 0x3DD105EC#32))

/-- A row's maximum. -/
def rowMax (s : FVec Ideal S8x16x4096x4352 .f32) : FVec Ideal S8x16x4096 .f32 :=
  maximumf (broadcastInDim S8x16x4096 ![] bcast_S_S8x16x4096 (constant S_ .f32 0xFF800000#32)) (Host.reduce FloatOps.maximumf s (constant S_ .f32 0xFF800000#32) reducesTo_S8x16x4096x4352_S8x16x4096_d3 h_S_)

/-- A row's value spread along the keys. -/
def spread (x : FVec Ideal S8x16x4096 .f32) : FVec Ideal S8x16x4096x4352 .f32 :=
  broadcastInDim S8x16x4096x4352 ![0, 1, 2, 3] bcast_S8x16x4096x1_S8x16x4096x4352_0_1_2_3 (broadcastInDim S8x16x4096x1 ![0, 1, 2] bcast_S8x16x4096_S8x16x4096x1_0_1_2 x)

def expo (s : FVec Ideal S8x16x4096x4352 .f32) : FVec Ideal S8x16x4096x4352 .f32 := Host.exp (subf s (spread (rowMax s)))

def rowSum (e : FVec Ideal S8x16x4096x4352 .f32) : FVec Ideal S8x16x4096 .f32 :=
  Host.reduceAdd e (constant S_ .f32 0x00000000#32) reducesTo_S8x16x4096x4352_S8x16x4096_d3 h_S_

def weights (s : FVec Ideal S8x16x4096x4352 .f32) : FVec Ideal S8x16x4096x4352 .f32 := Host.divf (expo s) (spread (rowSum (expo s)))

def mixed (v : FVec Ideal S8x4352x16x64 .f32) (w : FVec Ideal S8x16x4096x4352 .f32) : FVec Ideal S8x16x64x4096 .f32 :=
  Host.dotGeneral dot_S8x4352x16x64_S8x16x4096x4352_S8x16x64x4096_1_3_3_2_02_01 none v w

/-- The heads' outputs as the result's array. -/
def layout (o : FVec Ideal S8x16x64x4096 .f32) : FVec Ideal S8x32768x128 .bf16 :=
  truncf .bf16 (transpose S8x32768x128 [1, 0, 2] (shapeCast S32768x8x128 (transpose S8x4096x16x64 [0, 3, 1, 2] o transposes_S8x16x64x4096_S8x4096x16x64_0_3_1_2) shapeCasts_S8x4096x16x64_S32768x8x128) transposes_S32768x8x128_S8x32768x128_1_0_2) bitsLt_bf16_f32

def REF (q : FVec Ideal S8x4096x16x64 .f32) (qr : FVec Ideal S8x4096x16x32 .f32) (k : FVec Ideal S8x4096x16x64 .f32) (kc : FVec Ideal S8x256x16x64 .f32)
    (kr : FVec Ideal S8x4096x32 .f32) (krc : FVec Ideal S8x256x32 .f32) (v : FVec Ideal S8x4096x16x64 .f32) (vc : FVec Ideal S8x256x16x64 .f32) :
    FVec Ideal S8x32768x128 .bf16 :=
  layout (mixed (cat v vc) (weights (scores q qr (cat k kc) (catR kr krc))))

theorem cat_at (x : FVec Ideal S8x4096x16x64 .f32) (xc : FVec Ideal S8x256x16x64 .f32) (b : Fin 8) (k : Fin 4352) (h : Fin 16) (d : Fin 64) :
    cat x xc (ix4 b k h d) = if hk : k.val < 256 then xc (ix4 b ⟨k.val, hk⟩ h d) else x (ix4 b ⟨k.val - 256, by omega⟩ h d) := by
  pointwise [cat]

theorem catR_at (x : FVec Ideal S8x4096x32 .f32) (xc : FVec Ideal S8x256x32 .f32) (b : Fin 8) (k : Fin 4352) (d : Fin 32) :
    catR x xc (ix3 b k d) = if hk : k.val < 256 then xc (ix3 b ⟨k.val, hk⟩ d) else x (ix3 b ⟨k.val - 256, by omega⟩ d) := by
  pointwise [catR]

theorem plain_at (q : FVec Ideal S8x4096x16x64 .f32) (k : FVec Ideal S8x4352x16x64 .f32) (b : Fin 8) (h : Fin 16) (i : Fin 4096) (j : Fin 4352) :
    plain q k (ix4 b h i j) = ∑ d : Fin 64, q (ix4 b i h d) * k (ix4 b j h d) := by
  pointwise [plain]

theorem rotated_at (q : FVec Ideal S8x4096x16x32 .f32) (k : FVec Ideal S8x4352x32 .f32) (b : Fin 8) (h : Fin 16) (i : Fin 4096) (j : Fin 4352) :
    rotated q k (ix4 b h i j) = ∑ d : Fin 32, k (ix3 b j d) * q (ix4 b i h d) := by
  pointwise [rotated]

theorem scores_at (q : FVec Ideal S8x4096x16x64 .f32) (qr : FVec Ideal S8x4096x16x32 .f32) (k : FVec Ideal S8x4352x16x64 .f32) (kr : FVec Ideal S8x4352x32 .f32)
    (b : Fin 8) (h : Fin 16) (i : Fin 4096) (j : Fin 4352) :
    scores q qr k kr (ix4 b h i j) = (plain q k (ix4 b h i j) + rotated qr kr (ix4 b h i j)) * ((3424635 / 33554432 : ℝ) : EReal) :=
  congrArg (_ * ·) Consts.scale96

/-- A reduction over the keys folds a row. -/
theorem fold_at (f : EReal → EReal → EReal) [Std.Commutative f] [Std.Associative f] (s : S8x16x4096x4352.Idx → EReal) (init : S_.Idx → EReal)
    (b : Fin 8) (h : Fin 16) (i : Fin 4096) :
    Host.reduce f s init reducesTo_S8x16x4096x4352_S8x16x4096_d3 h_S_ (ix3 b h i)
      = Finset.univ.fold f (init (Shape.Idx.first h_S_)) (fun j : Fin 4352 => s (ix4 b h i j)) := by
  rw [Host.reduce_eq_fold]
  pointwise

theorem bottom_at (b : Fin 8) (h : Fin 16) (i : Fin 4096) :
    (broadcastInDim S8x16x4096 ![] bcast_S_S8x16x4096 (constant S_ .f32 0xFF800000#32) : FVec Ideal S8x16x4096 .f32) (ix3 b h i) = ⊥ :=
  Consts.neg_inf

theorem rowMax_at (s : FVec Ideal S8x16x4096x4352 .f32) (b : Fin 8) (h : Fin 16) (i : Fin 4096) :
    rowMax s (ix3 b h i) = Finset.univ.fold max ⊥ (fun j : Fin 4352 => s (ix4 b h i j)) := by
  have e := fold_at max s (fun _ => ⊥) b h i
  rw [← e]
  have c : (constant S_ .f32 0xFF800000#32 : FVec Ideal S_ .f32) = fun _ => ⊥ := funext fun _ => Consts.neg_inf
  unfold rowMax
  rw [maximumf_apply, bottom_at, c]
  exact max_eq_right bot_le

theorem spread_at (x : FVec Ideal S8x16x4096 .f32) (b : Fin 8) (h : Fin 16) (i : Fin 4096) (j : Fin 4352) :
    spread x (ix4 b h i j) = x (ix3 b h i) := by
  pointwise [spread]

theorem expo_at (s : FVec Ideal S8x16x4096x4352 .f32) (b : Fin 8) (h : Fin 16) (i : Fin 4096) (j : Fin 4352) :
    expo s (ix4 b h i j) = Ideal.exp (s (ix4 b h i j) - rowMax s (ix3 b h i)) := by
  rw [← spread_at (rowMax s) b h i j]
  rfl

theorem rowSum_at (e : FVec Ideal S8x16x4096x4352 .f32) (b : Fin 8) (h : Fin 16) (i : Fin 4096) :
    rowSum e (ix3 b h i) = ∑ j : Fin 4352, e (ix4 b h i j) := by
  pointwise [rowSum]

theorem weights_at (s : FVec Ideal S8x16x4096x4352 .f32) (b : Fin 8) (h : Fin 16) (i : Fin 4096) (j : Fin 4352) :
    weights s (ix4 b h i j) = Ideal.div (expo s (ix4 b h i j)) (∑ j' : Fin 4352, expo s (ix4 b h i j')) := by
  rw [← rowSum_at, ← spread_at (rowSum (expo s)) b h i j]
  rfl

theorem mixed_at (v : FVec Ideal S8x4352x16x64 .f32) (w : FVec Ideal S8x16x4096x4352 .f32) (b : Fin 8) (h : Fin 16) (l : Fin 64) (i : Fin 4096) :
    mixed v w (ix4 b h l i) = ∑ j : Fin 4352, v (ix4 b j h l) * w (ix4 b h i j) := by
  pointwise [mixed]

theorem layout_at (o : FVec Ideal S8x16x64x4096 .f32) (p : Fin 8) (s : Fin 32768) (l : Fin 128) :
    layout o (ix3 p s l) = o (ix4 ⟨s.val / 4096, by omega⟩ ⟨p.val * 2 + l.val / 64, by omega⟩ ⟨l.val % 64, by omega⟩ ⟨s.val % 4096, by omega⟩) := by
  pointwise [layout]

end Cert.MlaRefIdeal.Soft

end
-- ==== Proof.MlaValue.lean ====
/- The latent attention kernel's result equals the reference's softmax, entry by entry, where queries and keys are real. -/
module

public import proofs.«01_k».proof.Proof.MlaBlocks
public import proofs.«01_k».proof.Proof.MlaRef
public import proofs.«01_k».proof.Proof.GqaValue

@[expose] public section

set_option maxRecDepth 16384

noncomputable section

namespace Cert.MlaIdeal.Steps

open Cert.MlaIdeal Cert.MlaIdeal.Gen Idealize.ShloMosaic Idealize.ShloMosaic.TcCoe Idealize.SL.Sem Cert.Flash
open Cert.GqaIdeal.Steps (O O_at IsReal)
open Cert.MlaRefIdeal.Soft (cat cat_at catR catR_at plain plain_at rotated rotated_at scores scores_at rowMax rowMax_at weights weights_at expo expo_at
  mixed mixed_at layout layout_at REF)

/-- The factor of the queries. -/
abbrev qs : EReal := Named.named (F := Ideal) (φ := .f32) κ "qscale" 0x3E16C740#32

/-- The same as a real number: the scale over the natural logarithm of two. -/
def qsR : ℝ := (3424635 / 33554432) * (Real.log 2)⁻¹

theorem qs_eq : qs = ((qsR : ℝ) : EReal) := IdealRules.named_const.ideal_named_scalar _ _ _ _ rfl

theorem qsR_log : qsR * Real.log 2 = 3424635 / 33554432 := by
  have h : Real.log 2 ≠ 0 := (Real.log_pos (by norm_num)).ne'
  unfold qsR
  field_simp

theorem Q_at (x : Vec Ideal S8x1024x128 .f32) (h : Fin 8) (r : Fin 1024) (d : Fin 128) : Q x h (ix2 r d) = x (ix3 h r d) * qs := by
  pointwise [Q, k0_pay2, slabQ]

/-- A score: the sum over a head's 128 lanes is the sum over its two parts. -/
theorem score_eq (x y : Fin 128 → EReal) (a k : Fin 64 → ℝ) (ar kr : Fin 32 → ℝ) (hn : ∀ e, x (nl e) = ((a e : ℝ) : EReal))
    (hr : ∀ e, x (rl e) = ((ar e : ℝ) : EReal)) (hz : ∀ l : Fin 128, 48 ≤ l.val % 64 → x l = 0) (yn : ∀ e, y (nl e) = ((k e : ℝ) : EReal))
    (yr : ∀ e, y (rl e) = ((kr e : ℝ) : EReal)) :
    ∑ d, x d * qs * y d = ((∑ e, a e * qsR * k e + ∑ e, ar e * qsR * kr e : ℝ) : EReal) := by
  rw [sum_lanes _ fun l hl => by rw [hz l hl, zero_mul, zero_mul], EReal.coe_add, ← coe_sum, ← coe_sum]
  congr 1
  · exact Finset.sum_congr rfl fun e _ => by rw [hn, yn, qs_eq, EReal.coe_mul, EReal.coe_mul]
  · exact Finset.sum_congr rfl fun e _ => by rw [hr, yr, qs_eq, EReal.coe_mul, EReal.coe_mul]

/-- The reference at an entry, its scores real numbers and its maximum some real number. -/
theorem soft_at (v : FVec Ideal Cert.MlaRefIdeal.S8x4352x16x64 .f32) (S : FVec Ideal Cert.MlaRefIdeal.S8x16x4096x4352 .f32) (b : Fin 8) (h : Fin 16)
    (i : Fin 4096) (l : Fin 64) (s : ℕ → ℝ) (ω : ℕ → EReal) (hs : ∀ j : Fin 4352, S (ix4 b h i j) = ((s j : ℝ) : EReal))
    (hω : ∀ j : Fin 4352, v (ix4 b j h l) = ω j) :
    ∃ M : ℝ, mixed v (weights S) (ix4 b h l i)
      = ∑ k : Fin 4352, Ideal.div (Ideal.exp (((s k : ℝ) : EReal) - (M : EReal)))
          (∑ k : Fin 4352, Ideal.exp (((s k : ℝ) : EReal) - (M : EReal))) * ω k := by
  obtain ⟨M, hM⟩ := exists_fold_max (n := 4352) (by norm_num) fun k => s k
  have he : ∀ j : Fin 4352, expo S (ix4 b h i j) = Ideal.exp (((s j : ℝ) : EReal) - (M : EReal)) := by
    intro j
    rw [expo_at, rowMax_at, hs j, ← hM]
    simp only [hs]
  refine ⟨M, ?_⟩
  rw [mixed_at]
  refine Finset.sum_congr rfl fun j _ => ?_
  rw [weights_at, he j, hω j, mul_comm]
  simp only [he]

section Rows

variable (q k v : FVec Ideal S8x4096x16x64 .f32) (qr : FVec Ideal S8x4096x16x32 .f32) (kc vc : FVec Ideal S8x256x16x64 .f32) (kr : FVec Ideal S8x4096x32 .f32)
  (krc : FVec Ideal S8x256x32 .f32)

/-- Key `j`'s part without rotation, key `j`'s rotated part and key `j`'s value: the context's rows before the latent ones. -/
def keyN (b : Fin 8) (h : Fin 16) (j : ℕ) (e : Fin 64) : ℝ := if hj : j < 4352 then (cat k kc (ix4 b ⟨j, hj⟩ h e)).toReal else 0
def keyR (b : Fin 8) (j : ℕ) (e : Fin 32) : ℝ := if hj : j < 4352 then (catR kr krc (ix3 b ⟨j, hj⟩ e)).toReal else 0
def val (b : Fin 8) (h : Fin 16) (l : Fin 64) (j : ℕ) : EReal := if hj : j < 4352 then cat v vc (ix4 b ⟨j, hj⟩ h l) else 0

theorem cat_ctx (b : Fin 8) (j : Fin 256) (h : Fin 16) (e : Fin 64) (hj : j.val < 4352) : cat k kc (ix4 b ⟨j.val, hj⟩ h e) = kc (ix4 b j h e) := by
  rw [cat_at, dif_pos j.isLt]

theorem cat_lat (b : Fin 8) (j : Fin 4096) (h : Fin 16) (e : Fin 64) (hj : 256 + j.val < 4352) : cat k kc (ix4 b ⟨256 + j.val, hj⟩ h e) = k (ix4 b j h e) := by
  rw [cat_at, dif_neg (by dsimp only; omega)]
  exact congrArg (fun z => k (ix4 b z h e)) (Fin.ext (by dsimp only; omega))

theorem catR_ctx (b : Fin 8) (j : Fin 256) (e : Fin 32) (hj : j.val < 4352) : catR kr krc (ix3 b ⟨j.val, hj⟩ e) = krc (ix3 b j e) := by
  rw [catR_at, dif_pos j.isLt]

theorem catR_lat (b : Fin 8) (j : Fin 4096) (e : Fin 32) (hj : 256 + j.val < 4352) : catR kr krc (ix3 b ⟨256 + j.val, hj⟩ e) = kr (ix3 b j e) := by
  rw [catR_at, dif_neg (by dsimp only; omega)]
  exact congrArg (fun z => kr (ix3 b z e)) (Fin.ext (by dsimp only; omega))

theorem keyN_eq (hk : IsReal k) (hkc : IsReal kc) (b : Fin 8) (h : Fin 16) (j : ℕ) (hj : j < 4352) (e : Fin 64) :
    cat k kc (ix4 b ⟨j, hj⟩ h e) = ((keyN k kc b h j e : ℝ) : EReal) := by
  rw [keyN, dif_pos hj, cat_at]
  split
  · exact hkc _
  · exact hk _

theorem keyR_eq (hk : IsReal kr) (hkc : IsReal krc) (b : Fin 8) (j : ℕ) (hj : j < 4352) (e : Fin 32) :
    catR kr krc (ix3 b ⟨j, hj⟩ e) = ((keyR kr krc b j e : ℝ) : EReal) := by
  rw [keyR, dif_pos hj, catR_at]
  split
  · exact hkc _
  · exact hk _

/-- One row of the kernel's accumulation is the reference at the row's entry. -/
theorem row_eq (hq : IsReal q) (hqr : IsReal qr) (hk : IsReal k) (hkc : IsReal kc) (hkr : IsReal kr) (hkrc : IsReal krc)
    (x0 : Vec Ideal S8x1024x128 .f32) (x1 : Vec Ideal S8x256x128 .bf16) (x2 : Vec Ideal S4x256x128 .bf16) (x3 : Vec Ideal S8x4096x128 .bf16)
    (x4 : Vec Ideal S4x4096x128 .bf16) (g : Fin 8) (p : Fin 4) (r : Fin 1024) (l : Fin 128) (b : Fin 8) (h : Fin 16) (i : Fin 4096) (l' : Fin 64)
    (h0n : ∀ e, x0 (ix3 g r (nl e)) = q (ix4 b i h e)) (h0r : ∀ e, x0 (ix3 g r (rl e)) = qr (ix4 b i h e))
    (h0z : ∀ l : Fin 128, 48 ≤ l.val % 64 → x0 (ix3 g r l) = 0)
    (h1n : ∀ (j : Fin 256) e, x1 (ix3 g j (nl e)) = kc (ix4 b j h e)) (h1r : ∀ (j : Fin 256) e, x1 (ix3 g j (rl e)) = krc (ix3 b j e))
    (h2 : ∀ j : Fin 256, x2 (ix3 p j l) = vc (ix4 b j h l'))
    (h3n : ∀ (j : Fin 4096) e, x3 (ix3 g j (nl e)) = k (ix4 b j h e)) (h3r : ∀ (j : Fin 4096) e, x3 (ix3 g j (rl e)) = kr (ix3 b j e))
    (h4 : ∀ j : Fin 4096, x4 (ix3 p j l) = v (ix4 b j h l')) :
    Oh x0 x1 x2 x3 x4 g p (ix2 r l) = mixed (cat v vc) (weights (scores q qr (cat k kc) (catR kr krc))) (ix4 b h l' i) := by
  let a : Fin 64 → ℝ := fun e => (q (ix4 b i h e)).toReal
  let ar : Fin 32 → ℝ := fun e => (qr (ix4 b i h e)).toReal
  let σ : ℕ → ℝ := fun j => ∑ e, a e * qsR * keyN k kc b h j e + ∑ e, ar e * qsR * keyR kr krc b j e
  let s : ℕ → ℝ := fun j => (∑ e, a e * keyN k kc b h j e + ∑ e, keyR kr krc b j e * ar e) * (3424635 / 33554432)
  have ha : ∀ e, q (ix4 b i h e) = ((a e : ℝ) : EReal) := fun e => hq _
  have har : ∀ e, qr (ix4 b i h e) = ((ar e : ℝ) : EReal) := fun e => hqr _
  have hσ : ∀ j, σ j * Real.log 2 = s j := by
    intro j
    simp only [σ, s, add_mul, Finset.sum_mul]
    congr 1
    · refine Finset.sum_congr rfl fun e _ => ?_
      rw [← qsR_log]
      ring
    · refine Finset.sum_congr rfl fun e _ => ?_
      rw [← qsR_log]
      ring
  have hs : ∀ j : Fin 4352, scores q qr (cat k kc) (catR kr krc) (ix4 b h i j) = ((s j : ℝ) : EReal) := by
    intro j
    rw [scores_at, plain_at, rotated_at, EReal.coe_mul, EReal.coe_add, ← coe_sum, ← coe_sum]
    refine congrArg (· * _) (congrArg₂ (· + ·) (Finset.sum_congr rfl fun e _ => ?_) (Finset.sum_congr rfl fun e _ => ?_))
    · rw [EReal.coe_mul, ha e]
      exact congrArg (_ * ·) (keyN_eq k kc hk hkc b h j j.isLt e)
    · rw [EReal.coe_mul, har e]
      exact congrArg (· * _) (keyR_eq kr krc hkr hkrc b j j.isLt e)
  obtain ⟨M', hM'⟩ := soft_at (cat v vc) (scores q qr (cat k kc) (catR kr krc)) b h i l' s (val v vc b h l') hs fun j => by rw [val, dif_pos j.isLt]
  have hx : ∀ y : Fin 128 → EReal, ∑ d, Q x0 g (ix2 r d) * y d = ∑ d, x0 (ix3 g r d) * qs * y d := fun y =>
    Finset.sum_congr rfl fun d _ => by rw [Q_at]
  obtain ⟨M, hM⟩ := O_at (Q x0 g) (slabC x1 g) (slabV x2 p) (slabK x3 g) (slabW x4 p) r l σ (val v vc b h l')
    (fun j => by
      have hj : j.val < 4352 := by omega
      rw [hx fun d => slabC x1 g (ix3 0 j d)]
      exact score_eq (fun d => x0 (ix3 g r d)) (fun d => x1 (ix3 g j d)) a _ ar _ (fun e => (h0n e).trans (ha e)) (fun e => (h0r e).trans (har e)) h0z
        (fun e => by rw [h1n, ← cat_ctx k kc b j h e hj, keyN_eq k kc hk hkc]) (fun e => by rw [h1r, ← catR_ctx kr krc b j e hj, keyR_eq kr krc hkr hkrc]))
    (fun j => by
      have hj : 256 + j.val < 4352 := by omega
      rw [hx fun d => slabK x3 g (ix3 0 j d)]
      exact score_eq (fun d => x0 (ix3 g r d)) (fun d => x3 (ix3 g j d)) a _ ar _ (fun e => (h0n e).trans (ha e)) (fun e => (h0r e).trans (har e)) h0z
        (fun e => by rw [h3n, ← cat_lat k kc b j h e hj, keyN_eq k kc hk hkc]) (fun e => by rw [h3r, ← catR_lat kr krc b j e hj, keyR_eq kr krc hkr hkrc]))
    (fun j => by
      have hj : j.val < 4352 := by omega
      rw [val, dif_pos hj, cat_ctx]
      exact h2 j)
    (fun j => by
      have hj : 256 + j.val < 4352 := by omega
      rw [val, dif_pos hj, cat_lat]
      exact h4 j)
  rw [hM']
  exact hM.trans (acc_quotient σ s hσ _ 4352 (by norm_num) M M')

end Rows

variable (m : (ℓ : Loc nD τ sig) → Buf (Elt Ideal) ℓ)

/-- The reference's array at the kernel's arguments. -/
def want (c : Dev nD) : FVec Ideal S8x32768x128 .bf16 :=
  REF (m ((c : Thread nD τ).loc main_arg0)) (m ((c : Thread nD τ).loc main_arg2)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- Queries and keys are real numbers. -/
def Finite (c : Dev nD) : Prop :=
  IsReal (m ((c : Thread nD τ).loc main_arg0)) ∧ IsReal (m ((c : Thread nD τ).loc main_arg2)) ∧ IsReal (m ((c : Thread nD τ).loc main_arg4))
    ∧ IsReal (m ((c : Thread nD τ).loc main_arg5)) ∧ IsReal (m ((c : Thread nD τ).loc main_arg6)) ∧ IsReal (m ((c : Thread nD τ).loc main_arg7))

theorem block_eq (c : Dev nD) (hf : Finite m c) (t : Fin cfg0.N) (p : Fin 4) (r : Fin 1024) (l : Fin 128) :
    outsAt0 m c t (ix3 p r l) = want m c ((win0_5.blk t).view.emb (ix3 p r l)) := by
  have ht := t_lt t
  obtain ⟨hq, hqr, hk, hkc, hkr, hkrc⟩ := hf
  let g : Fin 8 := ⟨2 * p.val + l.val / 64, by omega⟩
  have e1 : (⟨(1024 * (t.val / 8 * 4 + t.val % 4) + r.val) / 4096, by omega⟩ : Fin 8) = bO t := Fin.ext (by simp only [bO]; omega)
  have e2 : (⟨(4 * (t.val / 4 % 2) + p.val) * 2 + l.val / 64, by omega⟩ : Fin 16) = hO t g := Fin.ext (by simp only [hO, g]; omega)
  have e3 : (⟨(1024 * (t.val / 8 * 4 + t.val % 4) + r.val) % 4096, by omega⟩ : Fin 4096) = iO t r := Fin.ext (by simp only [iO]; omega)
  rw [emb5, want, REF, layout_at, e1, e2, e3]
  unfold outsAt0
  rw [out_at]
  change Oh _ _ _ _ _ g p (ix2 r l) = _
  exact row_eq _ _ _ _ _ _ _ _ hq hqr hk hkc hkr hkrc _ _ _ _ _ g p r l (bO t) (hO t g) (iO t r) ⟨l.val % 64, by omega⟩
    (blk0_nl m c t g r) (blk0_rl m c t g r) (blk0_zero m c t g r) (blk1_nl m c t g) (blk1_rl m c t g) (fun j => blk2 m c t p j l g rfl)
    (blk3_nl m c t g) (blk3_rl m c t g) (fun j => blk4 m c t p j l g rfl)

/-- What the kernel leaves in the result is the reference's array. -/
theorem final (c : Dev nD) (hf : Finite m c) : (dats m 0 c).arrAt 5 cfg0.N = want m c := by
  refine (dats m 0 c).arrAt_eq_of_covers 5 _ (by decide +kernel) fun t hf' y => ?_
  blk_simp
  rw [after0_5]
  have all : ∀ y : S4x1024x128.Idx, outsAt0 m c t y = want m c ((win0_5.blk t).view.emb y) := by
    intro y
    rw [eq_ix3 y]
    exact block_eq m c hf t _ _ _
  exact all y

end Cert.MlaIdeal.Steps

end
-- ==== Proof.MlaPre.lean ====
/- What the precondition of the latent attention says: queries and keys are real numbers. -/
module

public import proofs.«01_k».proof.Defs
public import proofs.«01_k».proof.Proof.GqaPre
public import proofs.«01_k».proof.Proof.MlaValue

@[expose] public section

noncomputable section

namespace Cert.MlaIdeal.Steps

open Idealize.ShloMosaic Idealize.ShloMosaic.TcCoe Idealize.SL.Sem

theorem pre_real [Cert.Pre_mla_finite.Facts] (m : (ℓ : Loc Cert.MlaIdeal.nD Cert.MlaIdeal.τ Cert.MlaIdeal.sig) → Buf (Elt Ideal) ℓ)
    (h : Cert.Pre_MlaIdeal_mla_finite m) (c : Dev Cert.MlaIdeal.nD) : Finite m c := by
  obtain ⟨h0, h2, h4, h5, h6, h7⟩ := h c
  refine ⟨fun i => ?_, fun i => ?_, fun i => ?_, fun i => ?_, fun i => ?_, fun i => ?_⟩
  · have e := congrFun h0 i
    pointwise [Cert.Pre_mla_finite.fn] at e
    exact Cert.GqaIdeal.Steps.real_of_abs_lt _ e
  · have e := congrFun h2 i
    pointwise [Cert.Pre_mla_finite.fn] at e
    exact Cert.GqaIdeal.Steps.real_of_abs_lt _ e
  · have e := congrFun h4 i
    pointwise [Cert.Pre_mla_finite.fn] at e
    exact Cert.GqaIdeal.Steps.real_of_abs_lt _ e
  · have e := congrFun h5 i
    pointwise [Cert.Pre_mla_finite.fn] at e
    exact Cert.GqaIdeal.Steps.real_of_abs_lt _ e
  · have e := congrFun h6 i
    pointwise [Cert.Pre_mla_finite.fn] at e
    exact Cert.GqaIdeal.Steps.real_of_abs_lt _ e
  · have e := congrFun h7 i
    pointwise [Cert.Pre_mla_finite.fn] at e
    exact Cert.GqaIdeal.Steps.real_of_abs_lt _ e

end Cert.MlaIdeal.Steps

end
-- ==== Proof.MlaClaim.lean ====
/- The claims about the latent attention call. -/
module

public import proofs.«01_k».proof.Proof.MlaPre
public import proofs.«01_k».proof.Proof.Gen.MlaIdeal.Value
public import proofs.«01_k».proof.Proof.Gen.MlaRefIdeal.Run
public import proofs.«01_k».proof.Proof.Gen.Mla.Frame
public import proofs.«01_k».proof.Proof.Gen.Pre_mla_finite
public import Idealize.ShloMosaic.Lib.Claim

@[expose] public section

noncomputable section

namespace Cert.Proof.Mla

open Idealize.ShloMosaic Idealize.SL.Sem

/-- The named factor of the queries is the scale over the natural logarithm of two. -/
theorem preserves : Cert.preserves_Mla_MlaIdeal := IdealRules.named_const.statement Cert.MlaIdeal.κ "qscale" .f32 0x3E16C740#32 _ rfl

/-- The kernel keeps its arguments and ends with every semaphore counter at zero. -/
theorem quiescent : Cert.quiescent_Mla := fun m ρ _ => Cert.Mla.Gen.frame m ρ

theorem quiescent_ideal : Cert.quiescent_MlaIdeal := fun m ρ _ => Cert.MlaIdeal.Gen.frame m ρ

theorem quiescent_ideal_pre : Cert.quiescent_MlaIdeal_pre_mla_finite := fun m ρ _ => Cert.MlaIdeal.Gen.frame m ρ

/-- The reference keeps its arguments; it declares no semaphore. -/
theorem quiescent_ref : Cert.quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

theorem quiescent_ref_pre : Cert.quiescent_MlaRefIdeal_pre_mla_finite := fun m ρ _ => quiescent_ref m ρ trivial

/-- Kernel and reference compute the same attention. -/
theorem algebraic : Cert.algebraic_MlaIdeal_MlaRefIdeal_pre_mla_finite := by
  pair_intro
  · run_from Cert.MlaIdeal.Gen.run_main m g
  · run_from Cert.MlaRefIdeal.Value.run m' g'
    obtain ⟨a0, a1, a2, a3, a4, a5, a6, a7, a8, a9⟩ := hagree c
    refine Eq.trans ?_ (Cert.MlaIdeal.Steps.final m c (Cert.MlaIdeal.Steps.pre_real m hpre c)).symm
    change Cert.MlaRefIdeal.Soft.REF _ (m' ((c.tc : Thread Cert.MlaRefIdeal.nD Cert.MlaRefIdeal.τ).loc Cert.MlaRefIdeal.main_arg2))
      (m' ((c.tc : Thread Cert.MlaRefIdeal.nD Cert.MlaRefIdeal.τ).loc Cert.MlaRefIdeal.main_arg4))
      (m' ((c.tc : Thread Cert.MlaRefIdeal.nD Cert.MlaRefIdeal.τ).loc Cert.MlaRefIdeal.main_arg5))
      (m' ((c.tc : Thread Cert.MlaRefIdeal.nD Cert.MlaRefIdeal.τ).loc Cert.MlaRefIdeal.main_arg6))
      (m' ((c.tc : Thread Cert.MlaRefIdeal.nD Cert.MlaRefIdeal.τ).loc Cert.MlaRefIdeal.main_arg7))
      (m' ((c.tc : Thread Cert.MlaRefIdeal.nD Cert.MlaRefIdeal.τ).loc Cert.MlaRefIdeal.main_arg8))
      (m' ((c.tc : Thread Cert.MlaRefIdeal.nD Cert.MlaRefIdeal.τ).loc Cert.MlaRefIdeal.main_arg9)) = _
    rw [a2, a4, a5, a6, a7, a8, a9]
    exact congrArg (fun z => Cert.MlaRefIdeal.Soft.REF z _ _ _ _ _ _ _) a0

end Cert.Proof.Mla

end
-- ==== Proof.lean ====
/- The proof of the certificate's claim. -/
module

public import proofs.«01_k».proof.Defs
public import proofs.«01_k».proof.Proof.GqaClaim
public import proofs.«01_k».proof.Proof.FfnLastClaim
public import proofs.«01_k».proof.Proof.FfnAClaim
public import proofs.«01_k».proof.Proof.FfnBClaim
public import proofs.«01_k».proof.Proof.FfnFirstClaim
public import proofs.«01_k».proof.Proof.MlaClaim

@[expose] public section

noncomputable section

namespace Cert.Proof

open Idealize.ShloMosaic Idealize.SL.Sem

theorem claim : Cert.Claim :=
  ⟨Cert.Gqa.Gen.facts, Cert.GqaIdeal.Gen.facts, Cert.GqaRefIdeal.Gen.facts,
    Cert.FfnLast.Gen.facts, Cert.FfnLastIdeal.Gen.facts, Cert.FfnLastRefIdeal.Gen.facts,
    Cert.FfnA.Gen.facts, Cert.FfnAIdeal.Gen.facts, Cert.FfnARefIdeal.Gen.facts,
    Cert.FfnB.Gen.facts, Cert.FfnBIdeal.Gen.facts, Cert.FfnBRefIdeal.Gen.facts,
    Cert.FfnFirst.Gen.facts, Cert.FfnFirstIdeal.Gen.facts, Cert.FfnFirstRefIdeal.Gen.facts,
    Cert.Mla.Gen.facts, Cert.MlaIdeal.Gen.facts, Cert.MlaRefIdeal.Gen.facts, Cert.Pre_gqa_finite.Gen.facts, Cert.Pre_mla_finite.Gen.facts,
    Gqa.quiescent, Gqa.quiescent_ideal, Gqa.quiescent_ideal_pre, Gqa.quiescent_ref, Gqa.quiescent_ref_pre,
    FfnLast.quiescent, FfnLast.quiescent_ideal, FfnLast.quiescent_ref, FfnA.quiescent, FfnA.quiescent_ideal, FfnA.quiescent_ref,
    FfnB.quiescent, FfnB.quiescent_ideal, FfnB.quiescent_ref, FfnFirst.quiescent, FfnFirst.quiescent_ideal, FfnFirst.quiescent_ref,
    Mla.quiescent, Mla.quiescent_ideal, Mla.quiescent_ideal_pre, Mla.quiescent_ref, Mla.quiescent_ref_pre,
    Gqa.preserves, Gqa.algebraic, FfnLast.preserves, FfnLast.algebraic, FfnA.preserves, FfnA.algebraic,
    FfnB.preserves, FfnB.algebraic, FfnFirst.preserves, FfnFirst.algebraic,
    Mla.preserves, Mla.algebraic⟩

end Cert.Proof

end
